-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_WgradGu (m : (ℓ : Loc Cert.WgradGu.nD Cert.WgradGu.τ Cert.WgradGu.sig) → Buf (Elt Bits) ℓ) : Prop :=
  True

def Pre_WgradGuIdeal (m : (ℓ : Loc Cert.WgradGuIdeal.nD Cert.WgradGuIdeal.τ Cert.WgradGuIdeal.sig) → Buf (Elt Ideal) ℓ) : Prop :=
  True

def Pre_WgradGuReferenceIdeal (m : (ℓ : Loc Cert.WgradGuReferenceIdeal.nD Cert.WgradGuReferenceIdeal.τ Cert.WgradGuReferenceIdeal.sig) → Buf (Elt Ideal) ℓ) : Prop :=
  True

def Pre_WgradDown (m : (ℓ : Loc Cert.WgradDown.nD Cert.WgradDown.τ Cert.WgradDown.sig) → Buf (Elt Bits) ℓ) : Prop :=
  True

def Pre_WgradDownIdeal (m : (ℓ : Loc Cert.WgradDownIdeal.nD Cert.WgradDownIdeal.τ Cert.WgradDownIdeal.sig) → Buf (Elt Ideal) ℓ) : Prop :=
  True

def Pre_WgradDownReferenceIdeal (m : (ℓ : Loc Cert.WgradDownReferenceIdeal.nD Cert.WgradDownReferenceIdeal.τ Cert.WgradDownReferenceIdeal.sig) → Buf (Elt Ideal) ℓ) : Prop :=
  True

def Pre_WgradIn (m : (ℓ : Loc Cert.WgradIn.nD Cert.WgradIn.τ Cert.WgradIn.sig) → Buf (Elt Bits) ℓ) : Prop :=
  True

def Pre_WgradInIdeal (m : (ℓ : Loc Cert.WgradInIdeal.nD Cert.WgradInIdeal.τ Cert.WgradInIdeal.sig) → Buf (Elt Ideal) ℓ) : Prop :=
  True

def Pre_WgradInReferenceIdeal (m : (ℓ : Loc Cert.WgradInReferenceIdeal.nD Cert.WgradInReferenceIdeal.τ Cert.WgradInReferenceIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutReferenceIdeal (m : (ℓ : Loc Cert.WgradOutReferenceIdeal.nD Cert.WgradOutReferenceIdeal.τ Cert.WgradOutReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixinBwd (m : (ℓ : Loc Cert.MixinBwd.nD Cert.MixinBwd.τ Cert.MixinBwd.sig) → Buf (Elt Bits) ℓ) : Prop :=
  True

def Pre_MixinBwdIdeal (m : (ℓ : Loc Cert.MixinBwdIdeal.nD Cert.MixinBwdIdeal.τ Cert.MixinBwdIdeal.sig) → Buf (Elt Ideal) ℓ) : Prop :=
  True

def Pre_MixinBwdReferenceIdeal (m : (ℓ : Loc Cert.MixinBwdReferenceIdeal.nD Cert.MixinBwdReferenceIdeal.τ Cert.MixinBwdReferenceIdeal.sig) → Buf (Elt Ideal) ℓ) : Prop :=
  True

def Pre_FfnHead (m : (ℓ : Loc Cert.FfnHead.nD Cert.FfnHead.τ Cert.FfnHead.sig) → Buf (Elt Bits) ℓ) : Prop :=
  True

def Pre_FfnHeadIdeal (m : (ℓ : Loc Cert.FfnHeadIdeal.nD Cert.FfnHeadIdeal.τ Cert.FfnHeadIdeal.sig) → Buf (Elt Ideal) ℓ) : Prop :=
  True

def Pre_FfnHeadReferenceIdeal (m : (ℓ : Loc Cert.FfnHeadReferenceIdeal.nD Cert.FfnHeadReferenceIdeal.τ Cert.FfnHeadReferenceIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdReferenceIdeal (m : (ℓ : Loc Cert.AdaFwdReferenceIdeal.nD Cert.AdaFwdReferenceIdeal.τ Cert.AdaFwdReferenceIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdReferenceIdeal (m : (ℓ : Loc Cert.AdaBwdReferenceIdeal.nD Cert.AdaBwdReferenceIdeal.τ Cert.AdaBwdReferenceIdeal.sig) → Buf (Elt Ideal) ℓ) : Prop :=
  True

def Pre_Colsum (m : (ℓ : Loc Cert.Colsum.nD Cert.Colsum.τ Cert.Colsum.sig) → Buf (Elt Bits) ℓ) : Prop :=
  True

def Pre_ColsumIdeal (m : (ℓ : Loc Cert.ColsumIdeal.nD Cert.ColsumIdeal.τ Cert.ColsumIdeal.sig) → Buf (Elt Ideal) ℓ) : Prop :=
  True

def Pre_ColsumReferenceIdeal (m : (ℓ : Loc Cert.ColsumReferenceIdeal.nD Cert.ColsumReferenceIdeal.τ Cert.ColsumReferenceIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_WgradGu [hWgradGu : Cert.WgradGu.Facts] : Prop :=
  ∀ (m : (ℓ : Loc Cert.WgradGu.nD Cert.WgradGu.τ Cert.WgradGu.sig) → Buf (Elt Bits) ℓ) (g : Dev Cert.WgradGu.nD → PrngReg), Pre_WgradGu m →
    θ_run (Cert.WgradGu.defs (F := Bits)) (onTc (τ := Cert.WgradGu.τ) (Cert.WgradGu.main (F := Bits))) ⟨m, fun _ => 0, g⟩ (fun r => (∀ c : Dev Cert.WgradGu.nD,
      r.2.mem ((c.tc : Thread Cert.WgradGu.nD Cert.WgradGu.τ).loc Cert.WgradGu.main_arg0) = m ((c.tc : Thread Cert.WgradGu.nD Cert.WgradGu.τ).loc Cert.WgradGu.main_arg0)
      ∧ r.2.mem ((c.tc : Thread Cert.WgradGu.nD Cert.WgradGu.τ).loc Cert.WgradGu.main_arg1) = m ((c.tc : Thread Cert.WgradGu.nD Cert.WgradGu.τ).loc Cert.WgradGu.main_arg1))
      ∧ r.2.sem = fun _ => 0)

def quiescent_WgradGuIdeal [hWgradGuIdeal : Cert.WgradGuIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg), Pre_WgradGuIdeal m →
    θ_run (Cert.WgradGuIdeal.defs (F := Ideal)) (onTc (τ := Cert.WgradGuIdeal.τ) (Cert.WgradGuIdeal.main (F := Ideal))) ⟨m, fun _ => 0, g⟩ (fun r => (∀ c : Dev Cert.WgradGuIdeal.nD,
      r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
      ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1))
      ∧ r.2.sem = fun _ => 0)

def quiescent_WgradGuReferenceIdeal [hWgradGuReferenceIdeal : Cert.WgradGuReferenceIdeal.Facts] : Prop :=
  ∀ (m : (ℓ : Loc Cert.WgradGuReferenceIdeal.nD Cert.WgradGuReferenceIdeal.τ Cert.WgradGuReferenceIdeal.sig) → Buf (Elt Ideal) ℓ) (g : Dev Cert.WgradGuReferenceIdeal.nD → PrngReg), Pre_WgradGuReferenceIdeal m →
    θ_run (Cert.WgradGuReferenceIdeal.defs (F := Ideal)) (onTc (τ := Cert.WgradGuReferenceIdeal.τ) (Cert.WgradGuReferenceIdeal.main (F := Ideal))) ⟨m, fun _ => 0, g⟩ (fun r => (∀ c : Dev Cert.WgradGuReferenceIdeal.nD,
      r.2.mem ((c.tc : Thread Cert.WgradGuReferenceIdeal.nD Cert.WgradGuReferenceIdeal.τ).loc Cert.WgradGuReferenceIdeal.main_arg0) = m ((c.tc : Thread Cert.WgradGuReferenceIdeal.nD Cert.WgradGuReferenceIdeal.τ).loc Cert.WgradGuReferenceIdeal.main_arg0)
      ∧ r.2.mem ((c.tc : Thread Cert.WgradGuReferenceIdeal.nD Cert.WgradGuReferenceIdeal.τ).loc Cert.WgradGuReferenceIdeal.main_arg1) = m ((c.tc : Thread Cert.WgradGuReferenceIdeal.nD Cert.WgradGuReferenceIdeal.τ).loc Cert.WgradGuReferenceIdeal.main_arg1))
      ∧ r.2.sem = fun _ => 0)

def quiescent_WgradDown [hWgradDown : Cert.WgradDown.Facts] : Prop :=
  ∀ (m : (ℓ : Loc Cert.WgradDown.nD Cert.WgradDown.τ Cert.WgradDown.sig) → Buf (Elt Bits) ℓ) (g : Dev Cert.WgradDown.nD → PrngReg), Pre_WgradDown m →
    θ_run (Cert.WgradDown.defs (F := Bits)) (onTc (τ := Cert.WgradDown.τ) (Cert.WgradDown.main (F := Bits))) ⟨m, fun _ => 0, g⟩ (fun r => (∀ c : Dev Cert.WgradDown.nD,
      r.2.mem ((c.tc : Thread Cert.WgradDown.nD Cert.WgradDown.τ).loc Cert.WgradDown.main_arg0) = m ((c.tc : Thread Cert.WgradDown.nD Cert.WgradDown.τ).loc Cert.WgradDown.main_arg0)
      ∧ r.2.mem ((c.tc : Thread Cert.WgradDown.nD Cert.WgradDown.τ).loc Cert.WgradDown.main_arg1) = m ((c.tc : Thread Cert.WgradDown.nD Cert.WgradDown.τ).loc Cert.WgradDown.main_arg1))
      ∧ r.2.sem = fun _ => 0)

def quiescent_WgradDownIdeal [hWgradDownIdeal : Cert.WgradDownIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg), Pre_WgradDownIdeal m →
    θ_run (Cert.WgradDownIdeal.defs (F := Ideal)) (onTc (τ := Cert.WgradDownIdeal.τ) (Cert.WgradDownIdeal.main (F := Ideal))) ⟨m, fun _ => 0, g⟩ (fun r => (∀ c : Dev Cert.WgradDownIdeal.nD,
      r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
      ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ r.2.sem = fun _ => 0)

def quiescent_WgradDownReferenceIdeal [hWgradDownReferenceIdeal : Cert.WgradDownReferenceIdeal.Facts] : Prop :=
  ∀ (m : (ℓ : Loc Cert.WgradDownReferenceIdeal.nD Cert.WgradDownReferenceIdeal.τ Cert.WgradDownReferenceIdeal.sig) → Buf (Elt Ideal) ℓ) (g : Dev Cert.WgradDownReferenceIdeal.nD → PrngReg), Pre_WgradDownReferenceIdeal m →
    θ_run (Cert.WgradDownReferenceIdeal.defs (F := Ideal)) (onTc (τ := Cert.WgradDownReferenceIdeal.τ) (Cert.WgradDownReferenceIdeal.main (F := Ideal))) ⟨m, fun _ => 0, g⟩ (fun r => (∀ c : Dev Cert.WgradDownReferenceIdeal.nD,
      r.2.mem ((c.tc : Thread Cert.WgradDownReferenceIdeal.nD Cert.WgradDownReferenceIdeal.τ).loc Cert.WgradDownReferenceIdeal.main_arg0) = m ((c.tc : Thread Cert.WgradDownReferenceIdeal.nD Cert.WgradDownReferenceIdeal.τ).loc Cert.WgradDownReferenceIdeal.main_arg0)
      ∧ r.2.mem ((c.tc : Thread Cert.WgradDownReferenceIdeal.nD Cert.WgradDownReferenceIdeal.τ).loc Cert.WgradDownReferenceIdeal.main_arg1) = m ((c.tc : Thread Cert.WgradDownReferenceIdeal.nD Cert.WgradDownReferenceIdeal.τ).loc Cert.WgradDownReferenceIdeal.main_arg1))
      ∧ r.2.sem = fun _ => 0)

def quiescent_WgradIn [hWgradIn : Cert.WgradIn.Facts] : Prop :=
  ∀ (m : (ℓ : Loc Cert.WgradIn.nD Cert.WgradIn.τ Cert.WgradIn.sig) → Buf (Elt Bits) ℓ) (g : Dev Cert.WgradIn.nD → PrngReg), Pre_WgradIn m →
    θ_run (Cert.WgradIn.defs (F := Bits)) (onTc (τ := Cert.WgradIn.τ) (Cert.WgradIn.main (F := Bits))) ⟨m, fun _ => 0, g⟩ (fun r => (∀ c : Dev Cert.WgradIn.nD,
      r.2.mem ((c.tc : Thread Cert.WgradIn.nD Cert.WgradIn.τ).loc Cert.WgradIn.main_arg0) = m ((c.tc : Thread Cert.WgradIn.nD Cert.WgradIn.τ).loc Cert.WgradIn.main_arg0)
      ∧ r.2.mem ((c.tc : Thread Cert.WgradIn.nD Cert.WgradIn.τ).loc Cert.WgradIn.main_arg1) = m ((c.tc : Thread Cert.WgradIn.nD Cert.WgradIn.τ).loc Cert.WgradIn.main_arg1))
      ∧ r.2.sem = fun _ => 0)

def quiescent_WgradInIdeal [hWgradInIdeal : Cert.WgradInIdeal.Facts] : Prop :=
  ∀ (m : (ℓ : Loc Cert.WgradInIdeal.nD Cert.WgradInIdeal.τ Cert.WgradInIdeal.sig) → Buf (Elt Ideal) ℓ) (g : Dev Cert.WgradInIdeal.nD → PrngReg), Pre_WgradInIdeal m →
    θ_run (Cert.WgradInIdeal.defs (F := Ideal)) (onTc (τ := Cert.WgradInIdeal.τ) (Cert.WgradInIdeal.main (F := Ideal))) ⟨m, fun _ => 0, g⟩ (fun r => (∀ c : Dev Cert.WgradInIdeal.nD,
      r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
      ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ r.2.sem = fun _ => 0)

def quiescent_WgradInReferenceIdeal [hWgradInReferenceIdeal : Cert.WgradInReferenceIdeal.Facts] : Prop :=
  ∀ (m : (ℓ : Loc Cert.WgradInReferenceIdeal.nD Cert.WgradInReferenceIdeal.τ Cert.WgradInReferenceIdeal.sig) → Buf (Elt Ideal) ℓ) (g : Dev Cert.WgradInReferenceIdeal.nD → PrngReg), Pre_WgradInReferenceIdeal m →
    θ_run (Cert.WgradInReferenceIdeal.defs (F := Ideal)) (onTc (τ := Cert.WgradInReferenceIdeal.τ) (Cert.WgradInReferenceIdeal.main (F := Ideal))) ⟨m, fun _ => 0, g⟩ (fun r => (∀ c : Dev Cert.WgradInReferenceIdeal.nD,
      r.2.mem ((c.tc : Thread Cert.WgradInReferenceIdeal.nD Cert.WgradInReferenceIdeal.τ).loc Cert.WgradInReferenceIdeal.main_arg0) = m ((c.tc : Thread Cert.WgradInReferenceIdeal.nD Cert.WgradInReferenceIdeal.τ).loc Cert.WgradInReferenceIdeal.main_arg0)
      ∧ r.2.mem ((c.tc : Thread Cert.WgradInReferenceIdeal.nD Cert.WgradInReferenceIdeal.τ).loc Cert.WgradInReferenceIdeal.main_arg1) = m ((c.tc : Thread Cert.WgradInReferenceIdeal.nD Cert.WgradInReferenceIdeal.τ).loc Cert.WgradInReferenceIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutReferenceIdeal [hWgradOutReferenceIdeal : Cert.WgradOutReferenceIdeal.Facts] : Prop :=
  ∀ (m : (ℓ : Loc Cert.WgradOutReferenceIdeal.nD Cert.WgradOutReferenceIdeal.τ Cert.WgradOutReferenceIdeal.sig) → Buf (Elt Ideal) ℓ) (g : Dev Cert.WgradOutReferenceIdeal.nD → PrngReg), Pre_WgradOutReferenceIdeal m →
    θ_run (Cert.WgradOutReferenceIdeal.defs (F := Ideal)) (onTc (τ := Cert.WgradOutReferenceIdeal.τ) (Cert.WgradOutReferenceIdeal.main (F := Ideal))) ⟨m, fun _ => 0, g⟩ (fun r => (∀ c : Dev Cert.WgradOutReferenceIdeal.nD,
      r.2.mem ((c.tc : Thread Cert.WgradOutReferenceIdeal.nD Cert.WgradOutReferenceIdeal.τ).loc Cert.WgradOutReferenceIdeal.main_arg0) = m ((c.tc : Thread Cert.WgradOutReferenceIdeal.nD Cert.WgradOutReferenceIdeal.τ).loc Cert.WgradOutReferenceIdeal.main_arg0)
      ∧ r.2.mem ((c.tc : Thread Cert.WgradOutReferenceIdeal.nD Cert.WgradOutReferenceIdeal.τ).loc Cert.WgradOutReferenceIdeal.main_arg1) = m ((c.tc : Thread Cert.WgradOutReferenceIdeal.nD Cert.WgradOutReferenceIdeal.τ).loc Cert.WgradOutReferenceIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5)
      ∧ r.2.mem ((c.tc : Thread Cert.FfnFwdReferenceIdeal.nD Cert.FfnFwdReferenceIdeal.τ).loc Cert.FfnFwdReferenceIdeal.main_arg6) = m ((c.tc : Thread Cert.FfnFwdReferenceIdeal.nD Cert.FfnFwdReferenceIdeal.τ).loc Cert.FfnFwdReferenceIdeal.main_arg6))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_MixinBwd [hMixinBwd : Cert.MixinBwd.Facts] : Prop :=
  ∀ (m : (ℓ : Loc Cert.MixinBwd.nD Cert.MixinBwd.τ Cert.MixinBwd.sig) → Buf (Elt Bits) ℓ) (g : Dev Cert.MixinBwd.nD → PrngReg), Pre_MixinBwd m →
    θ_run (Cert.MixinBwd.defs (F := Bits)) (onTc (τ := Cert.MixinBwd.τ) (Cert.MixinBwd.main (F := Bits))) ⟨m, fun _ => 0, g⟩ (fun r => (∀ c : Dev Cert.MixinBwd.nD,
      r.2.mem ((c.tc : Thread Cert.MixinBwd.nD Cert.MixinBwd.τ).loc Cert.MixinBwd.main_arg0) = m ((c.tc : Thread Cert.MixinBwd.nD Cert.MixinBwd.τ).loc Cert.MixinBwd.main_arg0)
      ∧ r.2.mem ((c.tc : Thread Cert.MixinBwd.nD Cert.MixinBwd.τ).loc Cert.MixinBwd.main_arg1) = m ((c.tc : Thread Cert.MixinBwd.nD Cert.MixinBwd.τ).loc Cert.MixinBwd.main_arg1)
      ∧ r.2.mem ((c.tc : Thread Cert.MixinBwd.nD Cert.MixinBwd.τ).loc Cert.MixinBwd.main_arg2) = m ((c.tc : Thread Cert.MixinBwd.nD Cert.MixinBwd.τ).loc Cert.MixinBwd.main_arg2)
      ∧ r.2.mem ((c.tc : Thread Cert.MixinBwd.nD Cert.MixinBwd.τ).loc Cert.MixinBwd.main_arg3) = m ((c.tc : Thread Cert.MixinBwd.nD Cert.MixinBwd.τ).loc Cert.MixinBwd.main_arg3)
      ∧ r.2.mem ((c.tc : Thread Cert.MixinBwd.nD Cert.MixinBwd.τ).loc Cert.MixinBwd.main_arg4) = m ((c.tc : Thread Cert.MixinBwd.nD Cert.MixinBwd.τ).loc Cert.MixinBwd.main_arg4)
      ∧ r.2.mem ((c.tc : Thread Cert.MixinBwd.nD Cert.MixinBwd.τ).loc Cert.MixinBwd.main_arg5) = m ((c.tc : Thread Cert.MixinBwd.nD Cert.MixinBwd.τ).loc Cert.MixinBwd.main_arg5)
      ∧ r.2.mem ((c.tc : Thread Cert.MixinBwd.nD Cert.MixinBwd.τ).loc Cert.MixinBwd.main_arg6) = m ((c.tc : Thread Cert.MixinBwd.nD Cert.MixinBwd.τ).loc Cert.MixinBwd.main_arg6))
      ∧ r.2.sem = fun _ => 0)

def quiescent_MixinBwdIdeal [hMixinBwdIdeal : Cert.MixinBwdIdeal.Facts] : Prop :=
  ∀ (m : (ℓ : Loc Cert.MixinBwdIdeal.nD Cert.MixinBwdIdeal.τ Cert.MixinBwdIdeal.sig) → Buf (Elt Ideal) ℓ) (g : Dev Cert.MixinBwdIdeal.nD → PrngReg), Pre_MixinBwdIdeal m →
    θ_run (Cert.MixinBwdIdeal.defs (F := Ideal)) (onTc (τ := Cert.MixinBwdIdeal.τ) (Cert.MixinBwdIdeal.main (F := Ideal))) ⟨m, fun _ => 0, g⟩ (fun r => (∀ c : Dev Cert.MixinBwdIdeal.nD,
      r.2.mem ((c.tc : Thread Cert.MixinBwdIdeal.nD Cert.MixinBwdIdeal.τ).loc Cert.MixinBwdIdeal.main_arg0) = m ((c.tc : Thread Cert.MixinBwdIdeal.nD Cert.MixinBwdIdeal.τ).loc Cert.MixinBwdIdeal.main_arg0)
      ∧ r.2.mem ((c.tc : Thread Cert.MixinBwdIdeal.nD Cert.MixinBwdIdeal.τ).loc Cert.MixinBwdIdeal.main_arg1) = m ((c.tc : Thread Cert.MixinBwdIdeal.nD Cert.MixinBwdIdeal.τ).loc Cert.MixinBwdIdeal.main_arg1)
      ∧ r.2.mem ((c.tc : Thread Cert.MixinBwdIdeal.nD Cert.MixinBwdIdeal.τ).loc Cert.MixinBwdIdeal.main_arg2) = m ((c.tc : Thread Cert.MixinBwdIdeal.nD Cert.MixinBwdIdeal.τ).loc Cert.MixinBwdIdeal.main_arg2)
      ∧ r.2.mem ((c.tc : Thread Cert.MixinBwdIdeal.nD Cert.MixinBwdIdeal.τ).loc Cert.MixinBwdIdeal.main_arg3) = m ((c.tc : Thread Cert.MixinBwdIdeal.nD Cert.MixinBwdIdeal.τ).loc Cert.MixinBwdIdeal.main_arg3)
      ∧ r.2.mem ((c.tc : Thread Cert.MixinBwdIdeal.nD Cert.MixinBwdIdeal.τ).loc Cert.MixinBwdIdeal.main_arg4) = m ((c.tc : Thread Cert.MixinBwdIdeal.nD Cert.MixinBwdIdeal.τ).loc Cert.MixinBwdIdeal.main_arg4)
      ∧ r.2.mem ((c.tc : Thread Cert.MixinBwdIdeal.nD Cert.MixinBwdIdeal.τ).loc Cert.MixinBwdIdeal.main_arg5) = m ((c.tc : Thread Cert.MixinBwdIdeal.nD Cert.MixinBwdIdeal.τ).loc Cert.MixinBwdIdeal.main_arg5)
      ∧ r.2.mem ((c.tc : Thread Cert.MixinBwdIdeal.nD Cert.MixinBwdIdeal.τ).loc Cert.MixinBwdIdeal.main_arg6) = m ((c.tc : Thread Cert.MixinBwdIdeal.nD Cert.MixinBwdIdeal.τ).loc Cert.MixinBwdIdeal.main_arg6))
      ∧ r.2.sem = fun _ => 0)

def quiescent_MixinBwdReferenceIdeal [hMixinBwdReferenceIdeal : Cert.MixinBwdReferenceIdeal.Facts] : Prop :=
  ∀ (m : (ℓ : Loc Cert.MixinBwdReferenceIdeal.nD Cert.MixinBwdReferenceIdeal.τ Cert.MixinBwdReferenceIdeal.sig) → Buf (Elt Ideal) ℓ) (g : Dev Cert.MixinBwdReferenceIdeal.nD → PrngReg), Pre_MixinBwdReferenceIdeal m →
    θ_run (Cert.MixinBwdReferenceIdeal.defs (F := Ideal)) (onTc (τ := Cert.MixinBwdReferenceIdeal.τ) (Cert.MixinBwdReferenceIdeal.main (F := Ideal))) ⟨m, fun _ => 0, g⟩ (fun r => (∀ c : Dev Cert.MixinBwdReferenceIdeal.nD,
      r.2.mem ((c.tc : Thread Cert.MixinBwdReferenceIdeal.nD Cert.MixinBwdReferenceIdeal.τ).loc Cert.MixinBwdReferenceIdeal.main_arg0) = m ((c.tc : Thread Cert.MixinBwdReferenceIdeal.nD Cert.MixinBwdReferenceIdeal.τ).loc Cert.MixinBwdReferenceIdeal.main_arg0)
      ∧ r.2.mem ((c.tc : Thread Cert.MixinBwdReferenceIdeal.nD Cert.MixinBwdReferenceIdeal.τ).loc Cert.MixinBwdReferenceIdeal.main_arg1) = m ((c.tc : Thread Cert.MixinBwdReferenceIdeal.nD Cert.MixinBwdReferenceIdeal.τ).loc Cert.MixinBwdReferenceIdeal.main_arg1)
      ∧ r.2.mem ((c.tc : Thread Cert.MixinBwdReferenceIdeal.nD Cert.MixinBwdReferenceIdeal.τ).loc Cert.MixinBwdReferenceIdeal.main_arg2) = m ((c.tc : Thread Cert.MixinBwdReferenceIdeal.nD Cert.MixinBwdReferenceIdeal.τ).loc Cert.MixinBwdReferenceIdeal.main_arg2)
      ∧ r.2.mem ((c.tc : Thread Cert.MixinBwdReferenceIdeal.nD Cert.MixinBwdReferenceIdeal.τ).loc Cert.MixinBwdReferenceIdeal.main_arg3) = m ((c.tc : Thread Cert.MixinBwdReferenceIdeal.nD Cert.MixinBwdReferenceIdeal.τ).loc Cert.MixinBwdReferenceIdeal.main_arg3)
      ∧ r.2.mem ((c.tc : Thread Cert.MixinBwdReferenceIdeal.nD Cert.MixinBwdReferenceIdeal.τ).loc Cert.MixinBwdReferenceIdeal.main_arg4) = m ((c.tc : Thread Cert.MixinBwdReferenceIdeal.nD Cert.MixinBwdReferenceIdeal.τ).loc Cert.MixinBwdReferenceIdeal.main_arg4)
      ∧ r.2.mem ((c.tc : Thread Cert.MixinBwdReferenceIdeal.nD Cert.MixinBwdReferenceIdeal.τ).loc Cert.MixinBwdReferenceIdeal.main_arg5) = m ((c.tc : Thread Cert.MixinBwdReferenceIdeal.nD Cert.MixinBwdReferenceIdeal.τ).loc Cert.MixinBwdReferenceIdeal.main_arg5)
      ∧ r.2.mem ((c.tc : Thread Cert.MixinBwdReferenceIdeal.nD Cert.MixinBwdReferenceIdeal.τ).loc Cert.MixinBwdReferenceIdeal.main_arg6) = m ((c.tc : Thread Cert.MixinBwdReferenceIdeal.nD Cert.MixinBwdReferenceIdeal.τ).loc Cert.MixinBwdReferenceIdeal.main_arg6))
      ∧ r.2.sem = fun _ => 0)

def quiescent_FfnHead [hFfnHead : Cert.FfnHead.Facts] : Prop :=
  ∀ (m : (ℓ : Loc Cert.FfnHead.nD Cert.FfnHead.τ Cert.FfnHead.sig) → Buf (Elt Bits) ℓ) (g : Dev Cert.FfnHead.nD → PrngReg), Pre_FfnHead m →
    θ_run (Cert.FfnHead.defs (F := Bits)) (onTc (τ := Cert.FfnHead.τ) (Cert.FfnHead.main (F := Bits))) ⟨m, fun _ => 0, g⟩ (fun r => (∀ c : Dev Cert.FfnHead.nD,
      r.2.mem ((c.tc : Thread Cert.FfnHead.nD Cert.FfnHead.τ).loc Cert.FfnHead.main_arg0) = m ((c.tc : Thread Cert.FfnHead.nD Cert.FfnHead.τ).loc Cert.FfnHead.main_arg0)
      ∧ r.2.mem ((c.tc : Thread Cert.FfnHead.nD Cert.FfnHead.τ).loc Cert.FfnHead.main_arg1) = m ((c.tc : Thread Cert.FfnHead.nD Cert.FfnHead.τ).loc Cert.FfnHead.main_arg1)
      ∧ r.2.mem ((c.tc : Thread Cert.FfnHead.nD Cert.FfnHead.τ).loc Cert.FfnHead.main_arg2) = m ((c.tc : Thread Cert.FfnHead.nD Cert.FfnHead.τ).loc Cert.FfnHead.main_arg2)
      ∧ r.2.mem ((c.tc : Thread Cert.FfnHead.nD Cert.FfnHead.τ).loc Cert.FfnHead.main_arg3) = m ((c.tc : Thread Cert.FfnHead.nD Cert.FfnHead.τ).loc Cert.FfnHead.main_arg3)
      ∧ r.2.mem ((c.tc : Thread Cert.FfnHead.nD Cert.FfnHead.τ).loc Cert.FfnHead.main_arg4) = m ((c.tc : Thread Cert.FfnHead.nD Cert.FfnHead.τ).loc Cert.FfnHead.main_arg4)
      ∧ r.2.mem ((c.tc : Thread Cert.FfnHead.nD Cert.FfnHead.τ).loc Cert.FfnHead.main_arg5) = m ((c.tc : Thread Cert.FfnHead.nD Cert.FfnHead.τ).loc Cert.FfnHead.main_arg5)
      ∧ r.2.mem ((c.tc : Thread Cert.FfnHead.nD Cert.FfnHead.τ).loc Cert.FfnHead.main_arg6) = m ((c.tc : Thread Cert.FfnHead.nD Cert.FfnHead.τ).loc Cert.FfnHead.main_arg6)
      ∧ r.2.mem ((c.tc : Thread Cert.FfnHead.nD Cert.FfnHead.τ).loc Cert.FfnHead.main_arg7) = m ((c.tc : Thread Cert.FfnHead.nD Cert.FfnHead.τ).loc Cert.FfnHead.main_arg7)
      ∧ r.2.mem ((c.tc : Thread Cert.FfnHead.nD Cert.FfnHead.τ).loc Cert.FfnHead.main_arg8) = m ((c.tc : Thread Cert.FfnHead.nD Cert.FfnHead.τ).loc Cert.FfnHead.main_arg8))
      ∧ r.2.sem = fun _ => 0)

def quiescent_FfnHeadIdeal [hFfnHeadIdeal : Cert.FfnHeadIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4)
      ∧ r.2.mem ((c.tc : Thread Cert.FfnHeadIdeal.nD Cert.FfnHeadIdeal.τ).loc Cert.FfnHeadIdeal.main_arg5) = m ((c.tc : Thread Cert.FfnHeadIdeal.nD Cert.FfnHeadIdeal.τ).loc Cert.FfnHeadIdeal.main_arg5)
      ∧ r.2.mem ((c.tc : Thread Cert.FfnHeadIdeal.nD Cert.FfnHeadIdeal.τ).loc Cert.FfnHeadIdeal.main_arg6) = m ((c.tc : Thread Cert.FfnHeadIdeal.nD Cert.FfnHeadIdeal.τ).loc Cert.FfnHeadIdeal.main_arg6)
      ∧ r.2.mem ((c.tc : Thread Cert.FfnHeadIdeal.nD Cert.FfnHeadIdeal.τ).loc Cert.FfnHeadIdeal.main_arg7) = m ((c.tc : Thread Cert.FfnHeadIdeal.nD Cert.FfnHeadIdeal.τ).loc Cert.FfnHeadIdeal.main_arg7)
      ∧ r.2.mem ((c.tc : Thread Cert.FfnHeadIdeal.nD Cert.FfnHeadIdeal.τ).loc Cert.FfnHeadIdeal.main_arg8) = m ((c.tc : Thread Cert.FfnHeadIdeal.nD Cert.FfnHeadIdeal.τ).loc Cert.FfnHeadIdeal.main_arg8))
      ∧ r.2.sem = fun _ => 0)

def quiescent_FfnHeadReferenceIdeal [hFfnHeadReferenceIdeal : Cert.FfnHeadReferenceIdeal.Facts] : Prop :=
  ∀ (m : (ℓ : Loc Cert.FfnHeadReferenceIdeal.nD Cert.FfnHeadReferenceIdeal.τ Cert.FfnHeadReferenceIdeal.sig) → Buf (Elt Ideal) ℓ) (g : Dev Cert.FfnHeadReferenceIdeal.nD → PrngReg), Pre_FfnHeadReferenceIdeal m →
    θ_run (Cert.FfnHeadReferenceIdeal.defs (F := Ideal)) (onTc (τ := Cert.FfnHeadReferenceIdeal.τ) (Cert.FfnHeadReferenceIdeal.main (F := Ideal))) ⟨m, fun _ => 0, g⟩ (fun r => (∀ c : Dev Cert.FfnHeadReferenceIdeal.nD,
      r.2.mem ((c.tc : Thread Cert.FfnHeadReferenceIdeal.nD Cert.FfnHeadReferenceIdeal.τ).loc Cert.FfnHeadReferenceIdeal.main_arg0) = m ((c.tc : Thread Cert.FfnHeadReferenceIdeal.nD Cert.FfnHeadReferenceIdeal.τ).loc Cert.FfnHeadReferenceIdeal.main_arg0)
      ∧ r.2.mem ((c.tc : Thread Cert.FfnHeadReferenceIdeal.nD Cert.FfnHeadReferenceIdeal.τ).loc Cert.FfnHeadReferenceIdeal.main_arg1) = m ((c.tc : Thread Cert.FfnHeadReferenceIdeal.nD Cert.FfnHeadReferenceIdeal.τ).loc Cert.FfnHeadReferenceIdeal.main_arg1)
      ∧ r.2.mem ((c.tc : Thread Cert.FfnHeadReferenceIdeal.nD Cert.FfnHeadReferenceIdeal.τ).loc Cert.FfnHeadReferenceIdeal.main_arg2) = m ((c.tc : Thread Cert.FfnHeadReferenceIdeal.nD Cert.FfnHeadReferenceIdeal.τ).loc Cert.FfnHeadReferenceIdeal.main_arg2)
      ∧ r.2.mem ((c.tc : Thread Cert.FfnHeadReferenceIdeal.nD Cert.FfnHeadReferenceIdeal.τ).loc Cert.FfnHeadReferenceIdeal.main_arg3) = m ((c.tc : Thread Cert.FfnHeadReferenceIdeal.nD Cert.FfnHeadReferenceIdeal.τ).loc Cert.FfnHeadReferenceIdeal.main_arg3)
      ∧ r.2.mem ((c.tc : Thread Cert.FfnHeadReferenceIdeal.nD Cert.FfnHeadReferenceIdeal.τ).loc Cert.FfnHeadReferenceIdeal.main_arg4) = m ((c.tc : Thread Cert.FfnHeadReferenceIdeal.nD Cert.FfnHeadReferenceIdeal.τ).loc Cert.FfnHeadReferenceIdeal.main_arg4)
      ∧ r.2.mem ((c.tc : Thread Cert.FfnHeadReferenceIdeal.nD Cert.FfnHeadReferenceIdeal.τ).loc Cert.FfnHeadReferenceIdeal.main_arg5) = m ((c.tc : Thread Cert.FfnHeadReferenceIdeal.nD Cert.FfnHeadReferenceIdeal.τ).loc Cert.FfnHeadReferenceIdeal.main_arg5)
      ∧ r.2.mem ((c.tc : Thread Cert.FfnHeadReferenceIdeal.nD Cert.FfnHeadReferenceIdeal.τ).loc Cert.FfnHeadReferenceIdeal.main_arg6) = m ((c.tc : Thread Cert.FfnHeadReferenceIdeal.nD Cert.FfnHeadReferenceIdeal.τ).loc Cert.FfnHeadReferenceIdeal.main_arg6)
      ∧ r.2.mem ((c.tc : Thread Cert.FfnHeadReferenceIdeal.nD Cert.FfnHeadReferenceIdeal.τ).loc Cert.FfnHeadReferenceIdeal.main_arg7) = m ((c.tc : Thread Cert.FfnHeadReferenceIdeal.nD Cert.FfnHeadReferenceIdeal.τ).loc Cert.FfnHeadReferenceIdeal.main_arg7)
      ∧ r.2.mem ((c.tc : Thread Cert.FfnHeadReferenceIdeal.nD Cert.FfnHeadReferenceIdeal.τ).loc Cert.FfnHeadReferenceIdeal.main_arg8) = m ((c.tc : Thread Cert.FfnHeadReferenceIdeal.nD Cert.FfnHeadReferenceIdeal.τ).loc Cert.FfnHeadReferenceIdeal.main_arg8))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdReferenceIdeal [hAdaFwdReferenceIdeal : Cert.AdaFwdReferenceIdeal.Facts] : Prop :=
  ∀ (m : (ℓ : Loc Cert.AdaFwdReferenceIdeal.nD Cert.AdaFwdReferenceIdeal.τ Cert.AdaFwdReferenceIdeal.sig) → Buf (Elt Ideal) ℓ) (g : Dev Cert.AdaFwdReferenceIdeal.nD → PrngReg), Pre_AdaFwdReferenceIdeal m →
    θ_run (Cert.AdaFwdReferenceIdeal.defs (F := Ideal)) (onTc (τ := Cert.AdaFwdReferenceIdeal.τ) (Cert.AdaFwdReferenceIdeal.main (F := Ideal))) ⟨m, fun _ => 0, g⟩ (fun r => (∀ c : Dev Cert.AdaFwdReferenceIdeal.nD,
      r.2.mem ((c.tc : Thread Cert.AdaFwdReferenceIdeal.nD Cert.AdaFwdReferenceIdeal.τ).loc Cert.AdaFwdReferenceIdeal.main_arg0) = m ((c.tc : Thread Cert.AdaFwdReferenceIdeal.nD Cert.AdaFwdReferenceIdeal.τ).loc Cert.AdaFwdReferenceIdeal.main_arg0)
      ∧ r.2.mem ((c.tc : Thread Cert.AdaFwdReferenceIdeal.nD Cert.AdaFwdReferenceIdeal.τ).loc Cert.AdaFwdReferenceIdeal.main_arg1) = m ((c.tc : Thread Cert.AdaFwdReferenceIdeal.nD Cert.AdaFwdReferenceIdeal.τ).loc Cert.AdaFwdReferenceIdeal.main_arg1)
      ∧ r.2.mem ((c.tc : Thread Cert.AdaFwdReferenceIdeal.nD Cert.AdaFwdReferenceIdeal.τ).loc Cert.AdaFwdReferenceIdeal.main_arg2) = m ((c.tc : Thread Cert.AdaFwdReferenceIdeal.nD Cert.AdaFwdReferenceIdeal.τ).loc Cert.AdaFwdReferenceIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdReferenceIdeal [hAdaBwdReferenceIdeal : Cert.AdaBwdReferenceIdeal.Facts] : Prop :=
  ∀ (m : (ℓ : Loc Cert.AdaBwdReferenceIdeal.nD Cert.AdaBwdReferenceIdeal.τ Cert.AdaBwdReferenceIdeal.sig) → Buf (Elt Ideal) ℓ) (g : Dev Cert.AdaBwdReferenceIdeal.nD → PrngReg), Pre_AdaBwdReferenceIdeal m →
    θ_run (Cert.AdaBwdReferenceIdeal.defs (F := Ideal)) (onTc (τ := Cert.AdaBwdReferenceIdeal.τ) (Cert.AdaBwdReferenceIdeal.main (F := Ideal))) ⟨m, fun _ => 0, g⟩ (fun r => (∀ c : Dev Cert.AdaBwdReferenceIdeal.nD,
      r.2.mem ((c.tc : Thread Cert.AdaBwdReferenceIdeal.nD Cert.AdaBwdReferenceIdeal.τ).loc Cert.AdaBwdReferenceIdeal.main_arg0) = m ((c.tc : Thread Cert.AdaBwdReferenceIdeal.nD Cert.AdaBwdReferenceIdeal.τ).loc Cert.AdaBwdReferenceIdeal.main_arg0)
      ∧ r.2.mem ((c.tc : Thread Cert.AdaBwdReferenceIdeal.nD Cert.AdaBwdReferenceIdeal.τ).loc Cert.AdaBwdReferenceIdeal.main_arg1) = m ((c.tc : Thread Cert.AdaBwdReferenceIdeal.nD Cert.AdaBwdReferenceIdeal.τ).loc Cert.AdaBwdReferenceIdeal.main_arg1))
      ∧ r.2.sem = fun _ => 0)

def quiescent_Colsum [hColsum : Cert.Colsum.Facts] : Prop :=
  ∀ (m : (ℓ : Loc Cert.Colsum.nD Cert.Colsum.τ Cert.Colsum.sig) → Buf (Elt Bits) ℓ) (g : Dev Cert.Colsum.nD → PrngReg), Pre_Colsum m →
    θ_run (Cert.Colsum.defs (F := Bits)) (onTc (τ := Cert.Colsum.τ) (Cert.Colsum.main (F := Bits))) ⟨m, fun _ => 0, g⟩ (fun r => (∀ c : Dev Cert.Colsum.nD,
      r.2.mem ((c.tc : Thread Cert.Colsum.nD Cert.Colsum.τ).loc Cert.Colsum.main_arg0) = m ((c.tc : Thread Cert.Colsum.nD Cert.Colsum.τ).loc Cert.Colsum.main_arg0))
      ∧ r.2.sem = fun _ => 0)

def quiescent_ColsumIdeal [hColsumIdeal : Cert.ColsumIdeal.Facts] : Prop :=
  ∀ (m : (ℓ : Loc Cert.ColsumIdeal.nD Cert.ColsumIdeal.τ Cert.ColsumIdeal.sig) → Buf (Elt Ideal) ℓ) (g : Dev Cert.ColsumIdeal.nD → PrngReg), Pre_ColsumIdeal m →
    θ_run (Cert.ColsumIdeal.defs (F := Ideal)) (onTc (τ := Cert.ColsumIdeal.τ) (Cert.ColsumIdeal.main (F := Ideal))) ⟨m, fun _ => 0, g⟩ (fun r => (∀ c : Dev Cert.ColsumIdeal.nD,
      r.2.mem ((c.tc : Thread Cert.ColsumIdeal.nD Cert.ColsumIdeal.τ).loc Cert.ColsumIdeal.main_arg0) = m ((c.tc : Thread Cert.ColsumIdeal.nD Cert.ColsumIdeal.τ).loc Cert.ColsumIdeal.main_arg0))
      ∧ r.2.sem = fun _ => 0)

def quiescent_ColsumReferenceIdeal [hColsumReferenceIdeal : Cert.ColsumReferenceIdeal.Facts] : Prop :=
  ∀ (m : (ℓ : Loc Cert.ColsumReferenceIdeal.nD Cert.ColsumReferenceIdeal.τ Cert.ColsumReferenceIdeal.sig) → Buf (Elt Ideal) ℓ) (g : Dev Cert.ColsumReferenceIdeal.nD → PrngReg), Pre_ColsumReferenceIdeal m →
    θ_run (Cert.ColsumReferenceIdeal.defs (F := Ideal)) (onTc (τ := Cert.ColsumReferenceIdeal.τ) (Cert.ColsumReferenceIdeal.main (F := Ideal))) ⟨m, fun _ => 0, g⟩ (fun r => (∀ c : Dev Cert.ColsumReferenceIdeal.nD,
      r.2.mem ((c.tc : Thread Cert.ColsumReferenceIdeal.nD Cert.ColsumReferenceIdeal.τ).loc Cert.ColsumReferenceIdeal.main_arg0) = m ((c.tc : Thread Cert.ColsumReferenceIdeal.nD Cert.ColsumReferenceIdeal.τ).loc Cert.ColsumReferenceIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)) (v5 : (c : Dev Cert.KernelIdeal.nD) → Buf (Elt Ideal) ((c.tc : Thread Cert.KernelIdeal.nD Cert.KernelIdeal.τ).loc Cert.KernelIdeal.main_v43_5)) (v6 : (c : Dev Cert.KernelIdeal.nD) → Buf (Elt Ideal) ((c.tc : Thread Cert.KernelIdeal.nD Cert.KernelIdeal.τ).loc Cert.KernelIdeal.main_v43_6)) (v7 : (c : Dev Cert.KernelIdeal.nD) → Buf (Elt Ideal) ((c.tc : Thread Cert.KernelIdeal.nD Cert.KernelIdeal.τ).loc Cert.KernelIdeal.main_v43_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_v43_4) = v4 c
          ∧ r.2.mem ((c.tc : Thread Cert.KernelIdeal.nD Cert.KernelIdeal.τ).loc Cert.KernelIdeal.main_v43_5) = v5 c
          ∧ r.2.mem ((c.tc : Thread Cert.KernelIdeal.nD Cert.KernelIdeal.τ).loc Cert.KernelIdeal.main_v43_6) = v6 c
          ∧ r.2.mem ((c.tc : Thread Cert.KernelIdeal.nD Cert.KernelIdeal.τ).loc Cert.KernelIdeal.main_v43_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v94) = v5 c
          ∧ r.2.mem ((c.tc : Thread Cert.ReferenceIdeal.nD Cert.ReferenceIdeal.τ).loc Cert.ReferenceIdeal.main_v95) = v6 c
          ∧ r.2.mem ((c.tc : Thread Cert.ReferenceIdeal.nD Cert.ReferenceIdeal.τ).loc Cert.ReferenceIdeal.main_v96) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_WgradGu_WgradGuIdeal : Prop :=
  True

def algebraic_WgradGuIdeal_WgradGuReferenceIdeal [hWgradGuIdeal : Cert.WgradGuIdeal.Facts] [hWgradGuReferenceIdeal : Cert.WgradGuReferenceIdeal.Facts] : Prop :=
  ∀ (m : (ℓ : Loc Cert.WgradGuIdeal.nD Cert.WgradGuIdeal.τ Cert.WgradGuIdeal.sig) → Buf (Elt Ideal) ℓ) (g : Dev Cert.WgradGuIdeal.nD → PrngReg)
    (m' : (ℓ : Loc Cert.WgradGuReferenceIdeal.nD Cert.WgradGuReferenceIdeal.τ Cert.WgradGuReferenceIdeal.sig) → Buf (Elt Ideal) ℓ) (g' : Dev Cert.WgradGuReferenceIdeal.nD → PrngReg), Pre_WgradGuIdeal m →
    (∀ c : Dev Cert.WgradGuIdeal.nD,
      m' ((c.tc : Thread Cert.WgradGuReferenceIdeal.nD Cert.WgradGuReferenceIdeal.τ).loc Cert.WgradGuReferenceIdeal.main_arg0) = m ((c.tc : Thread Cert.WgradGuIdeal.nD Cert.WgradGuIdeal.τ).loc Cert.WgradGuIdeal.main_arg0)
      ∧ m' ((c.tc : Thread Cert.WgradGuReferenceIdeal.nD Cert.WgradGuReferenceIdeal.τ).loc Cert.WgradGuReferenceIdeal.main_arg1) = m ((c.tc : Thread Cert.WgradGuIdeal.nD Cert.WgradGuIdeal.τ).loc Cert.WgradGuIdeal.main_arg1)) →
    ∃ (v0 : (c : Dev Cert.WgradGuIdeal.nD) → Buf (Elt Ideal) ((c.tc : Thread Cert.WgradGuIdeal.nD Cert.WgradGuIdeal.τ).loc Cert.WgradGuIdeal.main_v9)),
      θ_run (Cert.WgradGuIdeal.defs (F := Ideal)) (onTc (τ := Cert.WgradGuIdeal.τ) (Cert.WgradGuIdeal.main (F := Ideal))) ⟨m, fun _ => 0, g⟩ (fun r => ∀ c : Dev Cert.WgradGuIdeal.nD,
          r.2.mem ((c.tc : Thread Cert.WgradGuIdeal.nD Cert.WgradGuIdeal.τ).loc Cert.WgradGuIdeal.main_v9) = v0 c
          ∧ r.2.mem ((c.tc : Thread Cert.WgradGuIdeal.nD Cert.WgradGuIdeal.τ).loc Cert.WgradGuIdeal.main_arg0) = m ((c.tc : Thread Cert.WgradGuIdeal.nD Cert.WgradGuIdeal.τ).loc Cert.WgradGuIdeal.main_arg0)
          ∧ r.2.mem ((c.tc : Thread Cert.WgradGuIdeal.nD Cert.WgradGuIdeal.τ).loc Cert.WgradGuIdeal.main_arg1) = m ((c.tc : Thread Cert.WgradGuIdeal.nD Cert.WgradGuIdeal.τ).loc Cert.WgradGuIdeal.main_arg1))
      ∧ θ_run (Cert.WgradGuReferenceIdeal.defs (F := Ideal)) (onTc (τ := Cert.WgradGuReferenceIdeal.τ) (Cert.WgradGuReferenceIdeal.main (F := Ideal))) ⟨m', fun _ => 0, g'⟩ (fun r => ∀ c : Dev Cert.WgradGuReferenceIdeal.nD,
          r.2.mem ((c.tc : Thread Cert.WgradGuReferenceIdeal.nD Cert.WgradGuReferenceIdeal.τ).loc Cert.WgradGuReferenceIdeal.main_v5) = v0 c
          ∧ r.2.mem ((c.tc : Thread Cert.WgradGuReferenceIdeal.nD Cert.WgradGuReferenceIdeal.τ).loc Cert.WgradGuReferenceIdeal.main_arg0) = m' ((c.tc : Thread Cert.WgradGuReferenceIdeal.nD Cert.WgradGuReferenceIdeal.τ).loc Cert.WgradGuReferenceIdeal.main_arg0)
          ∧ r.2.mem ((c.tc : Thread Cert.WgradGuReferenceIdeal.nD Cert.WgradGuReferenceIdeal.τ).loc Cert.WgradGuReferenceIdeal.main_arg1) = m' ((c.tc : Thread Cert.WgradGuReferenceIdeal.nD Cert.WgradGuReferenceIdeal.τ).loc Cert.WgradGuReferenceIdeal.main_arg1))

def preserves_WgradDown_WgradDownIdeal : Prop :=
  True

def algebraic_WgradDownIdeal_WgradDownReferenceIdeal [hWgradDownIdeal : Cert.WgradDownIdeal.Facts] [hWgradDownReferenceIdeal : Cert.WgradDownReferenceIdeal.Facts] : Prop :=
  ∀ (m : (ℓ : Loc Cert.WgradDownIdeal.nD Cert.WgradDownIdeal.τ Cert.WgradDownIdeal.sig) → Buf (Elt Ideal) ℓ) (g : Dev Cert.WgradDownIdeal.nD → PrngReg)
    (m' : (ℓ : Loc Cert.WgradDownReferenceIdeal.nD Cert.WgradDownReferenceIdeal.τ Cert.WgradDownReferenceIdeal.sig) → Buf (Elt Ideal) ℓ) (g' : Dev Cert.WgradDownReferenceIdeal.nD → PrngReg), Pre_WgradDownIdeal m →
    (∀ c : Dev Cert.WgradDownIdeal.nD,
      m' ((c.tc : Thread Cert.WgradDownReferenceIdeal.nD Cert.WgradDownReferenceIdeal.τ).loc Cert.WgradDownReferenceIdeal.main_arg0) = m ((c.tc : Thread Cert.WgradDownIdeal.nD Cert.WgradDownIdeal.τ).loc Cert.WgradDownIdeal.main_arg0)
      ∧ m' ((c.tc : Thread Cert.WgradDownReferenceIdeal.nD Cert.WgradDownReferenceIdeal.τ).loc Cert.WgradDownReferenceIdeal.main_arg1) = m ((c.tc : Thread Cert.WgradDownIdeal.nD Cert.WgradDownIdeal.τ).loc Cert.WgradDownIdeal.main_arg1)) →
    ∃ (v0 : (c : Dev Cert.WgradDownIdeal.nD) → Buf (Elt Ideal) ((c.tc : Thread Cert.WgradDownIdeal.nD Cert.WgradDownIdeal.τ).loc Cert.WgradDownIdeal.main_v5)),
      θ_run (Cert.WgradDownIdeal.defs (F := Ideal)) (onTc (τ := Cert.WgradDownIdeal.τ) (Cert.WgradDownIdeal.main (F := Ideal))) ⟨m, fun _ => 0, g⟩ (fun r => ∀ c : Dev Cert.WgradDownIdeal.nD,
          r.2.mem ((c.tc : Thread Cert.WgradDownIdeal.nD Cert.WgradDownIdeal.τ).loc Cert.WgradDownIdeal.main_v5) = v0 c
          ∧ r.2.mem ((c.tc : Thread Cert.WgradDownIdeal.nD Cert.WgradDownIdeal.τ).loc Cert.WgradDownIdeal.main_arg0) = m ((c.tc : Thread Cert.WgradDownIdeal.nD Cert.WgradDownIdeal.τ).loc Cert.WgradDownIdeal.main_arg0)
          ∧ r.2.mem ((c.tc : Thread Cert.WgradDownIdeal.nD Cert.WgradDownIdeal.τ).loc Cert.WgradDownIdeal.main_arg1) = m ((c.tc : Thread Cert.WgradDownIdeal.nD Cert.WgradDownIdeal.τ).loc Cert.WgradDownIdeal.main_arg1))
      ∧ θ_run (Cert.WgradDownReferenceIdeal.defs (F := Ideal)) (onTc (τ := Cert.WgradDownReferenceIdeal.τ) (Cert.WgradDownReferenceIdeal.main (F := Ideal))) ⟨m', fun _ => 0, g'⟩ (fun r => ∀ c : Dev Cert.WgradDownReferenceIdeal.nD,
          r.2.mem ((c.tc : Thread Cert.WgradDownReferenceIdeal.nD Cert.WgradDownReferenceIdeal.τ).loc Cert.WgradDownReferenceIdeal.main_v4) = v0 c
          ∧ r.2.mem ((c.tc : Thread Cert.WgradDownReferenceIdeal.nD Cert.WgradDownReferenceIdeal.τ).loc Cert.WgradDownReferenceIdeal.main_arg0) = m' ((c.tc : Thread Cert.WgradDownReferenceIdeal.nD Cert.WgradDownReferenceIdeal.τ).loc Cert.WgradDownReferenceIdeal.main_arg0)
          ∧ r.2.mem ((c.tc : Thread Cert.WgradDownReferenceIdeal.nD Cert.WgradDownReferenceIdeal.τ).loc Cert.WgradDownReferenceIdeal.main_arg1) = m' ((c.tc : Thread Cert.WgradDownReferenceIdeal.nD Cert.WgradDownReferenceIdeal.τ).loc Cert.WgradDownReferenceIdeal.main_arg1))

def preserves_WgradIn_WgradInIdeal : Prop :=
  True

def algebraic_WgradInIdeal_WgradInReferenceIdeal [hWgradInIdeal : Cert.WgradInIdeal.Facts] [hWgradInReferenceIdeal : Cert.WgradInReferenceIdeal.Facts] : Prop :=
  ∀ (m : (ℓ : Loc Cert.WgradInIdeal.nD Cert.WgradInIdeal.τ Cert.WgradInIdeal.sig) → Buf (Elt Ideal) ℓ) (g : Dev Cert.WgradInIdeal.nD → PrngReg)
    (m' : (ℓ : Loc Cert.WgradInReferenceIdeal.nD Cert.WgradInReferenceIdeal.τ Cert.WgradInReferenceIdeal.sig) → Buf (Elt Ideal) ℓ) (g' : Dev Cert.WgradInReferenceIdeal.nD → PrngReg), Pre_WgradInIdeal m →
    (∀ c : Dev Cert.WgradInIdeal.nD,
      m' ((c.tc : Thread Cert.WgradInReferenceIdeal.nD Cert.WgradInReferenceIdeal.τ).loc Cert.WgradInReferenceIdeal.main_arg0) = m ((c.tc : Thread Cert.WgradInIdeal.nD Cert.WgradInIdeal.τ).loc Cert.WgradInIdeal.main_arg0)
      ∧ m' ((c.tc : Thread Cert.WgradInReferenceIdeal.nD Cert.WgradInReferenceIdeal.τ).loc Cert.WgradInReferenceIdeal.main_arg1) = m ((c.tc : Thread Cert.WgradInIdeal.nD Cert.WgradInIdeal.τ).loc Cert.WgradInIdeal.main_arg1)) →
    ∃ (v0 : (c : Dev Cert.WgradInIdeal.nD) → Buf (Elt Ideal) ((c.tc : Thread Cert.WgradInIdeal.nD Cert.WgradInIdeal.τ).loc Cert.WgradInIdeal.main_v5)),
      θ_run (Cert.WgradInIdeal.defs (F := Ideal)) (onTc (τ := Cert.WgradInIdeal.τ) (Cert.WgradInIdeal.main (F := Ideal))) ⟨m, fun _ => 0, g⟩ (fun r => ∀ c : Dev Cert.WgradInIdeal.nD,
          r.2.mem ((c.tc : Thread Cert.WgradInIdeal.nD Cert.WgradInIdeal.τ).loc Cert.WgradInIdeal.main_v5) = v0 c
          ∧ r.2.mem ((c.tc : Thread Cert.WgradInIdeal.nD Cert.WgradInIdeal.τ).loc Cert.WgradInIdeal.main_arg0) = m ((c.tc : Thread Cert.WgradInIdeal.nD Cert.WgradInIdeal.τ).loc Cert.WgradInIdeal.main_arg0)
          ∧ r.2.mem ((c.tc : Thread Cert.WgradInIdeal.nD Cert.WgradInIdeal.τ).loc Cert.WgradInIdeal.main_arg1) = m ((c.tc : Thread Cert.WgradInIdeal.nD Cert.WgradInIdeal.τ).loc Cert.WgradInIdeal.main_arg1))
      ∧ θ_run (Cert.WgradInReferenceIdeal.defs (F := Ideal)) (onTc (τ := Cert.WgradInReferenceIdeal.τ) (Cert.WgradInReferenceIdeal.main (F := Ideal))) ⟨m', fun _ => 0, g'⟩ (fun r => ∀ c : Dev Cert.WgradInReferenceIdeal.nD,
          r.2.mem ((c.tc : Thread Cert.WgradInReferenceIdeal.nD Cert.WgradInReferenceIdeal.τ).loc Cert.WgradInReferenceIdeal.main_v5) = v0 c
          ∧ r.2.mem ((c.tc : Thread Cert.WgradInReferenceIdeal.nD Cert.WgradInReferenceIdeal.τ).loc Cert.WgradInReferenceIdeal.main_arg0) = m' ((c.tc : Thread Cert.WgradInReferenceIdeal.nD Cert.WgradInReferenceIdeal.τ).loc Cert.WgradInReferenceIdeal.main_arg0)
          ∧ r.2.mem ((c.tc : Thread Cert.WgradInReferenceIdeal.nD Cert.WgradInReferenceIdeal.τ).loc Cert.WgradInReferenceIdeal.main_arg1) = m' ((c.tc : Thread Cert.WgradInReferenceIdeal.nD Cert.WgradInReferenceIdeal.τ).loc Cert.WgradInReferenceIdeal.main_arg1))

def preserves_WgradOut_WgradOutIdeal : Prop :=
  True

def algebraic_WgradOutIdeal_WgradOutReferenceIdeal [hWgradOutIdeal : Cert.WgradOutIdeal.Facts] [hWgradOutReferenceIdeal : Cert.WgradOutReferenceIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutReferenceIdeal.nD Cert.WgradOutReferenceIdeal.τ Cert.WgradOutReferenceIdeal.sig) → Buf (Elt Ideal) ℓ) (g' : Dev Cert.WgradOutReferenceIdeal.nD → PrngReg), Pre_WgradOutIdeal m →
    (∀ c : Dev Cert.WgradOutIdeal.nD,
      m' ((c.tc : Thread Cert.WgradOutReferenceIdeal.nD Cert.WgradOutReferenceIdeal.τ).loc Cert.WgradOutReferenceIdeal.main_arg0) = m ((c.tc : Thread Cert.WgradOutIdeal.nD Cert.WgradOutIdeal.τ).loc Cert.WgradOutIdeal.main_arg0)
      ∧ m' ((c.tc : Thread Cert.WgradOutReferenceIdeal.nD Cert.WgradOutReferenceIdeal.τ).loc Cert.WgradOutReferenceIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v5)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v5) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutReferenceIdeal.defs (F := Ideal)) (onTc (τ := Cert.WgradOutReferenceIdeal.τ) (Cert.WgradOutReferenceIdeal.main (F := Ideal))) ⟨m', fun _ => 0, g'⟩ (fun r => ∀ c : Dev Cert.WgradOutReferenceIdeal.nD,
          r.2.mem ((c.tc : Thread Cert.WgradOutReferenceIdeal.nD Cert.WgradOutReferenceIdeal.τ).loc Cert.WgradOutReferenceIdeal.main_v4) = v0 c
          ∧ r.2.mem ((c.tc : Thread Cert.WgradOutReferenceIdeal.nD Cert.WgradOutReferenceIdeal.τ).loc Cert.WgradOutReferenceIdeal.main_arg0) = m' ((c.tc : Thread Cert.WgradOutReferenceIdeal.nD Cert.WgradOutReferenceIdeal.τ).loc Cert.WgradOutReferenceIdeal.main_arg0)
          ∧ r.2.mem ((c.tc : Thread Cert.WgradOutReferenceIdeal.nD Cert.WgradOutReferenceIdeal.τ).loc Cert.WgradOutReferenceIdeal.main_arg1) = m' ((c.tc : Thread Cert.WgradOutReferenceIdeal.nD Cert.WgradOutReferenceIdeal.τ).loc Cert.WgradOutReferenceIdeal.main_arg1))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)
      ∧ m' ((c.tc : Thread Cert.FfnFwdReferenceIdeal.nD Cert.FfnFwdReferenceIdeal.τ).loc Cert.FfnFwdReferenceIdeal.main_arg5) = m ((c.tc : Thread Cert.FfnFwdIdeal.nD Cert.FfnFwdIdeal.τ).loc Cert.FfnFwdIdeal.main_arg5)
      ∧ m' ((c.tc : Thread Cert.FfnFwdReferenceIdeal.nD Cert.FfnFwdReferenceIdeal.τ).loc Cert.FfnFwdReferenceIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v7_0)) (v1 : (c : Dev Cert.FfnFwdIdeal.nD) → Buf (Elt Ideal) ((c.tc : Thread Cert.FfnFwdIdeal.nD Cert.FfnFwdIdeal.τ).loc Cert.FfnFwdIdeal.main_v7_1)) (v2 : (c : Dev Cert.FfnFwdIdeal.nD) → Buf (Elt Ideal) ((c.tc : Thread Cert.FfnFwdIdeal.nD Cert.FfnFwdIdeal.τ).loc Cert.FfnFwdIdeal.main_v7_2)) (v3 : (c : Dev Cert.FfnFwdIdeal.nD) → Buf (Elt Ideal) ((c.tc : Thread Cert.FfnFwdIdeal.nD Cert.FfnFwdIdeal.τ).loc Cert.FfnFwdIdeal.main_v7_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v7_0) = v0 c
          ∧ r.2.mem ((c.tc : Thread Cert.FfnFwdIdeal.nD Cert.FfnFwdIdeal.τ).loc Cert.FfnFwdIdeal.main_v7_1) = v1 c
          ∧ r.2.mem ((c.tc : Thread Cert.FfnFwdIdeal.nD Cert.FfnFwdIdeal.τ).loc Cert.FfnFwdIdeal.main_v7_2) = v2 c
          ∧ r.2.mem ((c.tc : Thread Cert.FfnFwdIdeal.nD Cert.FfnFwdIdeal.τ).loc Cert.FfnFwdIdeal.main_v7_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v33) = v0 c
          ∧ r.2.mem ((c.tc : Thread Cert.FfnFwdReferenceIdeal.nD Cert.FfnFwdReferenceIdeal.τ).loc Cert.FfnFwdReferenceIdeal.main_v38) = v1 c
          ∧ r.2.mem ((c.tc : Thread Cert.FfnFwdReferenceIdeal.nD Cert.FfnFwdReferenceIdeal.τ).loc Cert.FfnFwdReferenceIdeal.main_v40) = v2 c
          ∧ r.2.mem ((c.tc : Thread Cert.FfnFwdReferenceIdeal.nD Cert.FfnFwdReferenceIdeal.τ).loc Cert.FfnFwdReferenceIdeal.main_v42) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5)
          ∧ r.2.mem ((c.tc : Thread Cert.FfnFwdReferenceIdeal.nD Cert.FfnFwdReferenceIdeal.τ).loc Cert.FfnFwdReferenceIdeal.main_arg6) = m' ((c.tc : Thread Cert.FfnFwdReferenceIdeal.nD Cert.FfnFwdReferenceIdeal.τ).loc Cert.FfnFwdReferenceIdeal.main_arg6))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)
      ∧ m' ((c.tc : Thread Cert.FfnUpReferenceIdeal.nD Cert.FfnUpReferenceIdeal.τ).loc Cert.FfnUpReferenceIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v30) = v0 c
          ∧ r.2.mem ((c.tc : Thread Cert.FfnUpReferenceIdeal.nD Cert.FfnUpReferenceIdeal.τ).loc Cert.FfnUpReferenceIdeal.main_v32) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3)
          ∧ r.2.mem ((c.tc : Thread Cert.FfnUpReferenceIdeal.nD Cert.FfnUpReferenceIdeal.τ).loc Cert.FfnUpReferenceIdeal.main_arg4) = m' ((c.tc : Thread Cert.FfnUpReferenceIdeal.nD Cert.FfnUpReferenceIdeal.τ).loc Cert.FfnUpReferenceIdeal.main_arg4))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v5_0)) (v1 : (c : Dev Cert.FfnDownIdeal.nD) → Buf (Elt Ideal) ((c.tc : Thread Cert.FfnDownIdeal.nD Cert.FfnDownIdeal.τ).loc Cert.FfnDownIdeal.main_v5_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5_0) = v0 c
          ∧ r.2.mem ((c.tc : Thread Cert.FfnDownIdeal.nD Cert.FfnDownIdeal.τ).loc Cert.FfnDownIdeal.main_v5_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v7) = v0 c
          ∧ r.2.mem ((c.tc : Thread Cert.FfnDownReferenceIdeal.nD Cert.FfnDownReferenceIdeal.τ).loc Cert.FfnDownReferenceIdeal.main_v9) = v1 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_MixinBwd_MixinBwdIdeal : Prop :=
  True

def algebraic_MixinBwdIdeal_MixinBwdReferenceIdeal [hMixinBwdIdeal : Cert.MixinBwdIdeal.Facts] [hMixinBwdReferenceIdeal : Cert.MixinBwdReferenceIdeal.Facts] : Prop :=
  ∀ (m : (ℓ : Loc Cert.MixinBwdIdeal.nD Cert.MixinBwdIdeal.τ Cert.MixinBwdIdeal.sig) → Buf (Elt Ideal) ℓ) (g : Dev Cert.MixinBwdIdeal.nD → PrngReg)
    (m' : (ℓ : Loc Cert.MixinBwdReferenceIdeal.nD Cert.MixinBwdReferenceIdeal.τ Cert.MixinBwdReferenceIdeal.sig) → Buf (Elt Ideal) ℓ) (g' : Dev Cert.MixinBwdReferenceIdeal.nD → PrngReg), Pre_MixinBwdIdeal m →
    (∀ c : Dev Cert.MixinBwdIdeal.nD,
      m' ((c.tc : Thread Cert.MixinBwdReferenceIdeal.nD Cert.MixinBwdReferenceIdeal.τ).loc Cert.MixinBwdReferenceIdeal.main_arg0) = m ((c.tc : Thread Cert.MixinBwdIdeal.nD Cert.MixinBwdIdeal.τ).loc Cert.MixinBwdIdeal.main_arg0)
      ∧ m' ((c.tc : Thread Cert.MixinBwdReferenceIdeal.nD Cert.MixinBwdReferenceIdeal.τ).loc Cert.MixinBwdReferenceIdeal.main_arg1) = m ((c.tc : Thread Cert.MixinBwdIdeal.nD Cert.MixinBwdIdeal.τ).loc Cert.MixinBwdIdeal.main_arg1)
      ∧ m' ((c.tc : Thread Cert.MixinBwdReferenceIdeal.nD Cert.MixinBwdReferenceIdeal.τ).loc Cert.MixinBwdReferenceIdeal.main_arg2) = m ((c.tc : Thread Cert.MixinBwdIdeal.nD Cert.MixinBwdIdeal.τ).loc Cert.MixinBwdIdeal.main_arg2)
      ∧ m' ((c.tc : Thread Cert.MixinBwdReferenceIdeal.nD Cert.MixinBwdReferenceIdeal.τ).loc Cert.MixinBwdReferenceIdeal.main_arg3) = m ((c.tc : Thread Cert.MixinBwdIdeal.nD Cert.MixinBwdIdeal.τ).loc Cert.MixinBwdIdeal.main_arg3)
      ∧ m' ((c.tc : Thread Cert.MixinBwdReferenceIdeal.nD Cert.MixinBwdReferenceIdeal.τ).loc Cert.MixinBwdReferenceIdeal.main_arg4) = m ((c.tc : Thread Cert.MixinBwdIdeal.nD Cert.MixinBwdIdeal.τ).loc Cert.MixinBwdIdeal.main_arg4)
      ∧ m' ((c.tc : Thread Cert.MixinBwdReferenceIdeal.nD Cert.MixinBwdReferenceIdeal.τ).loc Cert.MixinBwdReferenceIdeal.main_arg5) = m ((c.tc : Thread Cert.MixinBwdIdeal.nD Cert.MixinBwdIdeal.τ).loc Cert.MixinBwdIdeal.main_arg5)
      ∧ m' ((c.tc : Thread Cert.MixinBwdReferenceIdeal.nD Cert.MixinBwdReferenceIdeal.τ).loc Cert.MixinBwdReferenceIdeal.main_arg6) = m ((c.tc : Thread Cert.MixinBwdIdeal.nD Cert.MixinBwdIdeal.τ).loc Cert.MixinBwdIdeal.main_arg6)) →
    ∃ (v0 : (c : Dev Cert.MixinBwdIdeal.nD) → Buf (Elt Ideal) ((c.tc : Thread Cert.MixinBwdIdeal.nD Cert.MixinBwdIdeal.τ).loc Cert.MixinBwdIdeal.main_v7_0)) (v1 : (c : Dev Cert.MixinBwdIdeal.nD) → Buf (Elt Ideal) ((c.tc : Thread Cert.MixinBwdIdeal.nD Cert.MixinBwdIdeal.τ).loc Cert.MixinBwdIdeal.main_v7_1)) (v2 : (c : Dev Cert.MixinBwdIdeal.nD) → Buf (Elt Ideal) ((c.tc : Thread Cert.MixinBwdIdeal.nD Cert.MixinBwdIdeal.τ).loc Cert.MixinBwdIdeal.main_v7_2)) (v3 : (c : Dev Cert.MixinBwdIdeal.nD) → Buf (Elt Ideal) ((c.tc : Thread Cert.MixinBwdIdeal.nD Cert.MixinBwdIdeal.τ).loc Cert.MixinBwdIdeal.main_v7_3)),
      θ_run (Cert.MixinBwdIdeal.defs (F := Ideal)) (onTc (τ := Cert.MixinBwdIdeal.τ) (Cert.MixinBwdIdeal.main (F := Ideal))) ⟨m, fun _ => 0, g⟩ (fun r => ∀ c : Dev Cert.MixinBwdIdeal.nD,
          r.2.mem ((c.tc : Thread Cert.MixinBwdIdeal.nD Cert.MixinBwdIdeal.τ).loc Cert.MixinBwdIdeal.main_v7_0) = v0 c
          ∧ r.2.mem ((c.tc : Thread Cert.MixinBwdIdeal.nD Cert.MixinBwdIdeal.τ).loc Cert.MixinBwdIdeal.main_v7_1) = v1 c
          ∧ r.2.mem ((c.tc : Thread Cert.MixinBwdIdeal.nD Cert.MixinBwdIdeal.τ).loc Cert.MixinBwdIdeal.main_v7_2) = v2 c
          ∧ r.2.mem ((c.tc : Thread Cert.MixinBwdIdeal.nD Cert.MixinBwdIdeal.τ).loc Cert.MixinBwdIdeal.main_v7_3) = v3 c
          ∧ r.2.mem ((c.tc : Thread Cert.MixinBwdIdeal.nD Cert.MixinBwdIdeal.τ).loc Cert.MixinBwdIdeal.main_arg0) = m ((c.tc : Thread Cert.MixinBwdIdeal.nD Cert.MixinBwdIdeal.τ).loc Cert.MixinBwdIdeal.main_arg0)
          ∧ r.2.mem ((c.tc : Thread Cert.MixinBwdIdeal.nD Cert.MixinBwdIdeal.τ).loc Cert.MixinBwdIdeal.main_arg1) = m ((c.tc : Thread Cert.MixinBwdIdeal.nD Cert.MixinBwdIdeal.τ).loc Cert.MixinBwdIdeal.main_arg1)
          ∧ r.2.mem ((c.tc : Thread Cert.MixinBwdIdeal.nD Cert.MixinBwdIdeal.τ).loc Cert.MixinBwdIdeal.main_arg2) = m ((c.tc : Thread Cert.MixinBwdIdeal.nD Cert.MixinBwdIdeal.τ).loc Cert.MixinBwdIdeal.main_arg2)
          ∧ r.2.mem ((c.tc : Thread Cert.MixinBwdIdeal.nD Cert.MixinBwdIdeal.τ).loc Cert.MixinBwdIdeal.main_arg3) = m ((c.tc : Thread Cert.MixinBwdIdeal.nD Cert.MixinBwdIdeal.τ).loc Cert.MixinBwdIdeal.main_arg3)
          ∧ r.2.mem ((c.tc : Thread Cert.MixinBwdIdeal.nD Cert.MixinBwdIdeal.τ).loc Cert.MixinBwdIdeal.main_arg4) = m ((c.tc : Thread Cert.MixinBwdIdeal.nD Cert.MixinBwdIdeal.τ).loc Cert.MixinBwdIdeal.main_arg4)
          ∧ r.2.mem ((c.tc : Thread Cert.MixinBwdIdeal.nD Cert.MixinBwdIdeal.τ).loc Cert.MixinBwdIdeal.main_arg5) = m ((c.tc : Thread Cert.MixinBwdIdeal.nD Cert.MixinBwdIdeal.τ).loc Cert.MixinBwdIdeal.main_arg5)
          ∧ r.2.mem ((c.tc : Thread Cert.MixinBwdIdeal.nD Cert.MixinBwdIdeal.τ).loc Cert.MixinBwdIdeal.main_arg6) = m ((c.tc : Thread Cert.MixinBwdIdeal.nD Cert.MixinBwdIdeal.τ).loc Cert.MixinBwdIdeal.main_arg6))
      ∧ θ_run (Cert.MixinBwdReferenceIdeal.defs (F := Ideal)) (onTc (τ := Cert.MixinBwdReferenceIdeal.τ) (Cert.MixinBwdReferenceIdeal.main (F := Ideal))) ⟨m', fun _ => 0, g'⟩ (fun r => ∀ c : Dev Cert.MixinBwdReferenceIdeal.nD,
          r.2.mem ((c.tc : Thread Cert.MixinBwdReferenceIdeal.nD Cert.MixinBwdReferenceIdeal.τ).loc Cert.MixinBwdReferenceIdeal.main_v56) = v0 c
          ∧ r.2.mem ((c.tc : Thread Cert.MixinBwdReferenceIdeal.nD Cert.MixinBwdReferenceIdeal.τ).loc Cert.MixinBwdReferenceIdeal.main_v57) = v1 c
          ∧ r.2.mem ((c.tc : Thread Cert.MixinBwdReferenceIdeal.nD Cert.MixinBwdReferenceIdeal.τ).loc Cert.MixinBwdReferenceIdeal.main_v58) = v2 c
          ∧ r.2.mem ((c.tc : Thread Cert.MixinBwdReferenceIdeal.nD Cert.MixinBwdReferenceIdeal.τ).loc Cert.MixinBwdReferenceIdeal.main_v59) = v3 c
          ∧ r.2.mem ((c.tc : Thread Cert.MixinBwdReferenceIdeal.nD Cert.MixinBwdReferenceIdeal.τ).loc Cert.MixinBwdReferenceIdeal.main_arg0) = m' ((c.tc : Thread Cert.MixinBwdReferenceIdeal.nD Cert.MixinBwdReferenceIdeal.τ).loc Cert.MixinBwdReferenceIdeal.main_arg0)
          ∧ r.2.mem ((c.tc : Thread Cert.MixinBwdReferenceIdeal.nD Cert.MixinBwdReferenceIdeal.τ).loc Cert.MixinBwdReferenceIdeal.main_arg1) = m' ((c.tc : Thread Cert.MixinBwdReferenceIdeal.nD Cert.MixinBwdReferenceIdeal.τ).loc Cert.MixinBwdReferenceIdeal.main_arg1)
          ∧ r.2.mem ((c.tc : Thread Cert.MixinBwdReferenceIdeal.nD Cert.MixinBwdReferenceIdeal.τ).loc Cert.MixinBwdReferenceIdeal.main_arg2) = m' ((c.tc : Thread Cert.MixinBwdReferenceIdeal.nD Cert.MixinBwdReferenceIdeal.τ).loc Cert.MixinBwdReferenceIdeal.main_arg2)
          ∧ r.2.mem ((c.tc : Thread Cert.MixinBwdReferenceIdeal.nD Cert.MixinBwdReferenceIdeal.τ).loc Cert.MixinBwdReferenceIdeal.main_arg3) = m' ((c.tc : Thread Cert.MixinBwdReferenceIdeal.nD Cert.MixinBwdReferenceIdeal.τ).loc Cert.MixinBwdReferenceIdeal.main_arg3)
          ∧ r.2.mem ((c.tc : Thread Cert.MixinBwdReferenceIdeal.nD Cert.MixinBwdReferenceIdeal.τ).loc Cert.MixinBwdReferenceIdeal.main_arg4) = m' ((c.tc : Thread Cert.MixinBwdReferenceIdeal.nD Cert.MixinBwdReferenceIdeal.τ).loc Cert.MixinBwdReferenceIdeal.main_arg4)
          ∧ r.2.mem ((c.tc : Thread Cert.MixinBwdReferenceIdeal.nD Cert.MixinBwdReferenceIdeal.τ).loc Cert.MixinBwdReferenceIdeal.main_arg5) = m' ((c.tc : Thread Cert.MixinBwdReferenceIdeal.nD Cert.MixinBwdReferenceIdeal.τ).loc Cert.MixinBwdReferenceIdeal.main_arg5)
          ∧ r.2.mem ((c.tc : Thread Cert.MixinBwdReferenceIdeal.nD Cert.MixinBwdReferenceIdeal.τ).loc Cert.MixinBwdReferenceIdeal.main_arg6) = m' ((c.tc : Thread Cert.MixinBwdReferenceIdeal.nD Cert.MixinBwdReferenceIdeal.τ).loc Cert.MixinBwdReferenceIdeal.main_arg6))

def preserves_FfnHead_FfnHeadIdeal : Prop :=
  True

def algebraic_FfnHeadIdeal_FfnHeadReferenceIdeal [hFfnHeadIdeal : Cert.FfnHeadIdeal.Facts] [hFfnHeadReferenceIdeal : Cert.FfnHeadReferenceIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg)
    (m' : (ℓ : Loc Cert.FfnHeadReferenceIdeal.nD Cert.FfnHeadReferenceIdeal.τ Cert.FfnHeadReferenceIdeal.sig) → Buf (Elt Ideal) ℓ) (g' : Dev Cert.FfnHeadReferenceIdeal.nD → PrngReg), Pre_FfnHeadIdeal m →
    (∀ c : Dev Cert.FfnHeadIdeal.nD,
      m' ((c.tc : Thread Cert.FfnHeadReferenceIdeal.nD Cert.FfnHeadReferenceIdeal.τ).loc Cert.FfnHeadReferenceIdeal.main_arg0) = m ((c.tc : Thread Cert.FfnHeadIdeal.nD Cert.FfnHeadIdeal.τ).loc Cert.FfnHeadIdeal.main_arg0)
      ∧ m' ((c.tc : Thread Cert.FfnHeadReferenceIdeal.nD Cert.FfnHeadReferenceIdeal.τ).loc Cert.FfnHeadReferenceIdeal.main_arg1) = m ((c.tc : Thread Cert.FfnHeadIdeal.nD Cert.FfnHeadIdeal.τ).loc Cert.FfnHeadIdeal.main_arg1)
      ∧ m' ((c.tc : Thread Cert.FfnHeadReferenceIdeal.nD Cert.FfnHeadReferenceIdeal.τ).loc Cert.FfnHeadReferenceIdeal.main_arg2) = m ((c.tc : Thread Cert.FfnHeadIdeal.nD Cert.FfnHeadIdeal.τ).loc Cert.FfnHeadIdeal.main_arg2)
      ∧ m' ((c.tc : Thread Cert.FfnHeadReferenceIdeal.nD Cert.FfnHeadReferenceIdeal.τ).loc Cert.FfnHeadReferenceIdeal.main_arg3) = m ((c.tc : Thread Cert.FfnHeadIdeal.nD Cert.FfnHeadIdeal.τ).loc Cert.FfnHeadIdeal.main_arg3)
      ∧ m' ((c.tc : Thread Cert.FfnHeadReferenceIdeal.nD Cert.FfnHeadReferenceIdeal.τ).loc Cert.FfnHeadReferenceIdeal.main_arg4) = m ((c.tc : Thread Cert.FfnHeadIdeal.nD Cert.FfnHeadIdeal.τ).loc Cert.FfnHeadIdeal.main_arg4)
      ∧ m' ((c.tc : Thread Cert.FfnHeadReferenceIdeal.nD Cert.FfnHeadReferenceIdeal.τ).loc Cert.FfnHeadReferenceIdeal.main_arg5) = m ((c.tc : Thread Cert.FfnHeadIdeal.nD Cert.FfnHeadIdeal.τ).loc Cert.FfnHeadIdeal.main_arg5)
      ∧ m' ((c.tc : Thread Cert.FfnHeadReferenceIdeal.nD Cert.FfnHeadReferenceIdeal.τ).loc Cert.FfnHeadReferenceIdeal.main_arg6) = m ((c.tc : Thread Cert.FfnHeadIdeal.nD Cert.FfnHeadIdeal.τ).loc Cert.FfnHeadIdeal.main_arg6)
      ∧ m' ((c.tc : Thread Cert.FfnHeadReferenceIdeal.nD Cert.FfnHeadReferenceIdeal.τ).loc Cert.FfnHeadReferenceIdeal.main_arg7) = m ((c.tc : Thread Cert.FfnHeadIdeal.nD Cert.FfnHeadIdeal.τ).loc Cert.FfnHeadIdeal.main_arg7)
      ∧ m' ((c.tc : Thread Cert.FfnHeadReferenceIdeal.nD Cert.FfnHeadReferenceIdeal.τ).loc Cert.FfnHeadReferenceIdeal.main_arg8) = m ((c.tc : Thread Cert.FfnHeadIdeal.nD Cert.FfnHeadIdeal.τ).loc Cert.FfnHeadIdeal.main_arg8)) →
    ∃ (v0 : (c : Dev Cert.FfnHeadIdeal.nD) → Buf (Elt Ideal) ((c.tc : Thread Cert.FfnHeadIdeal.nD Cert.FfnHeadIdeal.τ).loc Cert.FfnHeadIdeal.main_v9_0)) (v1 : (c : Dev Cert.FfnHeadIdeal.nD) → Buf (Elt Ideal) ((c.tc : Thread Cert.FfnHeadIdeal.nD Cert.FfnHeadIdeal.τ).loc Cert.FfnHeadIdeal.main_v9_1)) (v2 : (c : Dev Cert.FfnHeadIdeal.nD) → Buf (Elt Ideal) ((c.tc : Thread Cert.FfnHeadIdeal.nD Cert.FfnHeadIdeal.τ).loc Cert.FfnHeadIdeal.main_v9_2)) (v3 : (c : Dev Cert.FfnHeadIdeal.nD) → Buf (Elt Ideal) ((c.tc : Thread Cert.FfnHeadIdeal.nD Cert.FfnHeadIdeal.τ).loc Cert.FfnHeadIdeal.main_v9_3)) (v4 : (c : Dev Cert.FfnHeadIdeal.nD) → Buf (Elt Ideal) ((c.tc : Thread Cert.FfnHeadIdeal.nD Cert.FfnHeadIdeal.τ).loc Cert.FfnHeadIdeal.main_v9_4)) (v5 : (c : Dev Cert.FfnHeadIdeal.nD) → Buf (Elt Ideal) ((c.tc : Thread Cert.FfnHeadIdeal.nD Cert.FfnHeadIdeal.τ).loc Cert.FfnHeadIdeal.main_v9_5)),
      θ_run (Cert.FfnHeadIdeal.defs (F := Ideal)) (onTc (τ := Cert.FfnHeadIdeal.τ) (Cert.FfnHeadIdeal.main (F := Ideal))) ⟨m, fun _ => 0, g⟩ (fun r => ∀ c : Dev Cert.FfnHeadIdeal.nD,
          r.2.mem ((c.tc : Thread Cert.FfnHeadIdeal.nD Cert.FfnHeadIdeal.τ).loc Cert.FfnHeadIdeal.main_v9_0) = v0 c
          ∧ r.2.mem ((c.tc : Thread Cert.FfnHeadIdeal.nD Cert.FfnHeadIdeal.τ).loc Cert.FfnHeadIdeal.main_v9_1) = v1 c
          ∧ r.2.mem ((c.tc : Thread Cert.FfnHeadIdeal.nD Cert.FfnHeadIdeal.τ).loc Cert.FfnHeadIdeal.main_v9_2) = v2 c
          ∧ r.2.mem ((c.tc : Thread Cert.FfnHeadIdeal.nD Cert.FfnHeadIdeal.τ).loc Cert.FfnHeadIdeal.main_v9_3) = v3 c
          ∧ r.2.mem ((c.tc : Thread Cert.FfnHeadIdeal.nD Cert.FfnHeadIdeal.τ).loc Cert.FfnHeadIdeal.main_v9_4) = v4 c
          ∧ r.2.mem ((c.tc : Thread Cert.FfnHeadIdeal.nD Cert.FfnHeadIdeal.τ).loc Cert.FfnHeadIdeal.main_v9_5) = v5 c
          ∧ r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
          ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
          ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
          ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
          ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4)
          ∧ r.2.mem ((c.tc : Thread Cert.FfnHeadIdeal.nD Cert.FfnHeadIdeal.τ).loc Cert.FfnHeadIdeal.main_arg5) = m ((c.tc : Thread Cert.FfnHeadIdeal.nD Cert.FfnHeadIdeal.τ).loc Cert.FfnHeadIdeal.main_arg5)
          ∧ r.2.mem ((c.tc : Thread Cert.FfnHeadIdeal.nD Cert.FfnHeadIdeal.τ).loc Cert.FfnHeadIdeal.main_arg6) = m ((c.tc : Thread Cert.FfnHeadIdeal.nD Cert.FfnHeadIdeal.τ).loc Cert.FfnHeadIdeal.main_arg6)
          ∧ r.2.mem ((c.tc : Thread Cert.FfnHeadIdeal.nD Cert.FfnHeadIdeal.τ).loc Cert.FfnHeadIdeal.main_arg7) = m ((c.tc : Thread Cert.FfnHeadIdeal.nD Cert.FfnHeadIdeal.τ).loc Cert.FfnHeadIdeal.main_arg7)
          ∧ r.2.mem ((c.tc : Thread Cert.FfnHeadIdeal.nD Cert.FfnHeadIdeal.τ).loc Cert.FfnHeadIdeal.main_arg8) = m ((c.tc : Thread Cert.FfnHeadIdeal.nD Cert.FfnHeadIdeal.τ).loc Cert.FfnHeadIdeal.main_arg8))
      ∧ θ_run (Cert.FfnHeadReferenceIdeal.defs (F := Ideal)) (onTc (τ := Cert.FfnHeadReferenceIdeal.τ) (Cert.FfnHeadReferenceIdeal.main (F := Ideal))) ⟨m', fun _ => 0, g'⟩ (fun r => ∀ c : Dev Cert.FfnHeadReferenceIdeal.nD,
          r.2.mem ((c.tc : Thread Cert.FfnHeadReferenceIdeal.nD Cert.FfnHeadReferenceIdeal.τ).loc Cert.FfnHeadReferenceIdeal.main_v84) = v0 c
          ∧ r.2.mem ((c.tc : Thread Cert.FfnHeadReferenceIdeal.nD Cert.FfnHeadReferenceIdeal.τ).loc Cert.FfnHeadReferenceIdeal.main_v89) = v1 c
          ∧ r.2.mem ((c.tc : Thread Cert.FfnHeadReferenceIdeal.nD Cert.FfnHeadReferenceIdeal.τ).loc Cert.FfnHeadReferenceIdeal.main_v91) = v2 c
          ∧ r.2.mem ((c.tc : Thread Cert.FfnHeadReferenceIdeal.nD Cert.FfnHeadReferenceIdeal.τ).loc Cert.FfnHeadReferenceIdeal.main_v93) = v3 c
          ∧ r.2.mem ((c.tc : Thread Cert.FfnHeadReferenceIdeal.nD Cert.FfnHeadReferenceIdeal.τ).loc Cert.FfnHeadReferenceIdeal.main_v94) = v4 c
          ∧ r.2.mem ((c.tc : Thread Cert.FfnHeadReferenceIdeal.nD Cert.FfnHeadReferenceIdeal.τ).loc Cert.FfnHeadReferenceIdeal.main_v95) = v5 c
          ∧ r.2.mem ((c.tc : Thread Cert.FfnHeadReferenceIdeal.nD Cert.FfnHeadReferenceIdeal.τ).loc Cert.FfnHeadReferenceIdeal.main_arg0) = m' ((c.tc : Thread Cert.FfnHeadReferenceIdeal.nD Cert.FfnHeadReferenceIdeal.τ).loc Cert.FfnHeadReferenceIdeal.main_arg0)
          ∧ r.2.mem ((c.tc : Thread Cert.FfnHeadReferenceIdeal.nD Cert.FfnHeadReferenceIdeal.τ).loc Cert.FfnHeadReferenceIdeal.main_arg1) = m' ((c.tc : Thread Cert.FfnHeadReferenceIdeal.nD Cert.FfnHeadReferenceIdeal.τ).loc Cert.FfnHeadReferenceIdeal.main_arg1)
          ∧ r.2.mem ((c.tc : Thread Cert.FfnHeadReferenceIdeal.nD Cert.FfnHeadReferenceIdeal.τ).loc Cert.FfnHeadReferenceIdeal.main_arg2) = m' ((c.tc : Thread Cert.FfnHeadReferenceIdeal.nD Cert.FfnHeadReferenceIdeal.τ).loc Cert.FfnHeadReferenceIdeal.main_arg2)
          ∧ r.2.mem ((c.tc : Thread Cert.FfnHeadReferenceIdeal.nD Cert.FfnHeadReferenceIdeal.τ).loc Cert.FfnHeadReferenceIdeal.main_arg3) = m' ((c.tc : Thread Cert.FfnHeadReferenceIdeal.nD Cert.FfnHeadReferenceIdeal.τ).loc Cert.FfnHeadReferenceIdeal.main_arg3)
          ∧ r.2.mem ((c.tc : Thread Cert.FfnHeadReferenceIdeal.nD Cert.FfnHeadReferenceIdeal.τ).loc Cert.FfnHeadReferenceIdeal.main_arg4) = m' ((c.tc : Thread Cert.FfnHeadReferenceIdeal.nD Cert.FfnHeadReferenceIdeal.τ).loc Cert.FfnHeadReferenceIdeal.main_arg4)
          ∧ r.2.mem ((c.tc : Thread Cert.FfnHeadReferenceIdeal.nD Cert.FfnHeadReferenceIdeal.τ).loc Cert.FfnHeadReferenceIdeal.main_arg5) = m' ((c.tc : Thread Cert.FfnHeadReferenceIdeal.nD Cert.FfnHeadReferenceIdeal.τ).loc Cert.FfnHeadReferenceIdeal.main_arg5)
          ∧ r.2.mem ((c.tc : Thread Cert.FfnHeadReferenceIdeal.nD Cert.FfnHeadReferenceIdeal.τ).loc Cert.FfnHeadReferenceIdeal.main_arg6) = m' ((c.tc : Thread Cert.FfnHeadReferenceIdeal.nD Cert.FfnHeadReferenceIdeal.τ).loc Cert.FfnHeadReferenceIdeal.main_arg6)
          ∧ r.2.mem ((c.tc : Thread Cert.FfnHeadReferenceIdeal.nD Cert.FfnHeadReferenceIdeal.τ).loc Cert.FfnHeadReferenceIdeal.main_arg7) = m' ((c.tc : Thread Cert.FfnHeadReferenceIdeal.nD Cert.FfnHeadReferenceIdeal.τ).loc Cert.FfnHeadReferenceIdeal.main_arg7)
          ∧ r.2.mem ((c.tc : Thread Cert.FfnHeadReferenceIdeal.nD Cert.FfnHeadReferenceIdeal.τ).loc Cert.FfnHeadReferenceIdeal.main_arg8) = m' ((c.tc : Thread Cert.FfnHeadReferenceIdeal.nD Cert.FfnHeadReferenceIdeal.τ).loc Cert.FfnHeadReferenceIdeal.main_arg8))

def preserves_AdaFwd_AdaFwdIdeal : Prop :=
  True

def algebraic_AdaFwdIdeal_AdaFwdReferenceIdeal [hAdaFwdIdeal : Cert.AdaFwdIdeal.Facts] [hAdaFwdReferenceIdeal : Cert.AdaFwdReferenceIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdReferenceIdeal.nD Cert.AdaFwdReferenceIdeal.τ Cert.AdaFwdReferenceIdeal.sig) → Buf (Elt Ideal) ℓ) (g' : Dev Cert.AdaFwdReferenceIdeal.nD → PrngReg), Pre_AdaFwdIdeal m →
    (∀ c : Dev Cert.AdaFwdIdeal.nD,
      m' ((c.tc : Thread Cert.AdaFwdReferenceIdeal.nD Cert.AdaFwdReferenceIdeal.τ).loc Cert.AdaFwdReferenceIdeal.main_arg0) = m ((c.tc : Thread Cert.AdaFwdIdeal.nD Cert.AdaFwdIdeal.τ).loc Cert.AdaFwdIdeal.main_arg0)
      ∧ m' ((c.tc : Thread Cert.AdaFwdReferenceIdeal.nD Cert.AdaFwdReferenceIdeal.τ).loc Cert.AdaFwdReferenceIdeal.main_arg1) = m ((c.tc : Thread Cert.AdaFwdIdeal.nD Cert.AdaFwdIdeal.τ).loc Cert.AdaFwdIdeal.main_arg1)
      ∧ m' ((c.tc : Thread Cert.AdaFwdReferenceIdeal.nD Cert.AdaFwdReferenceIdeal.τ).loc Cert.AdaFwdReferenceIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1_0)) (v1 : (c : Dev Cert.AdaFwdIdeal.nD) → Buf (Elt Ideal) ((c.tc : Thread Cert.AdaFwdIdeal.nD Cert.AdaFwdIdeal.τ).loc Cert.AdaFwdIdeal.main_v1_1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1_0) = v0 c
          ∧ r.2.mem ((c.tc : Thread Cert.AdaFwdIdeal.nD Cert.AdaFwdIdeal.τ).loc Cert.AdaFwdIdeal.main_v1_1) = v1 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdReferenceIdeal.defs (F := Ideal)) (onTc (τ := Cert.AdaFwdReferenceIdeal.τ) (Cert.AdaFwdReferenceIdeal.main (F := Ideal))) ⟨m', fun _ => 0, g'⟩ (fun r => ∀ c : Dev Cert.AdaFwdReferenceIdeal.nD,
          r.2.mem ((c.tc : Thread Cert.AdaFwdReferenceIdeal.nD Cert.AdaFwdReferenceIdeal.τ).loc Cert.AdaFwdReferenceIdeal.main_v1) = v0 c
          ∧ r.2.mem ((c.tc : Thread Cert.AdaFwdReferenceIdeal.nD Cert.AdaFwdReferenceIdeal.τ).loc Cert.AdaFwdReferenceIdeal.main_v6) = v1 c
          ∧ r.2.mem ((c.tc : Thread Cert.AdaFwdReferenceIdeal.nD Cert.AdaFwdReferenceIdeal.τ).loc Cert.AdaFwdReferenceIdeal.main_arg0) = m' ((c.tc : Thread Cert.AdaFwdReferenceIdeal.nD Cert.AdaFwdReferenceIdeal.τ).loc Cert.AdaFwdReferenceIdeal.main_arg0)
          ∧ r.2.mem ((c.tc : Thread Cert.AdaFwdReferenceIdeal.nD Cert.AdaFwdReferenceIdeal.τ).loc Cert.AdaFwdReferenceIdeal.main_arg1) = m' ((c.tc : Thread Cert.AdaFwdReferenceIdeal.nD Cert.AdaFwdReferenceIdeal.τ).loc Cert.AdaFwdReferenceIdeal.main_arg1)
          ∧ r.2.mem ((c.tc : Thread Cert.AdaFwdReferenceIdeal.nD Cert.AdaFwdReferenceIdeal.τ).loc Cert.AdaFwdReferenceIdeal.main_arg2) = m' ((c.tc : Thread Cert.AdaFwdReferenceIdeal.nD Cert.AdaFwdReferenceIdeal.τ).loc Cert.AdaFwdReferenceIdeal.main_arg2))

def preserves_AdaBwd_AdaBwdIdeal : Prop :=
  True

def algebraic_AdaBwdIdeal_AdaBwdReferenceIdeal [hAdaBwdIdeal : Cert.AdaBwdIdeal.Facts] [hAdaBwdReferenceIdeal : Cert.AdaBwdReferenceIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdReferenceIdeal.nD Cert.AdaBwdReferenceIdeal.τ Cert.AdaBwdReferenceIdeal.sig) → Buf (Elt Ideal) ℓ) (g' : Dev Cert.AdaBwdReferenceIdeal.nD → PrngReg), Pre_AdaBwdIdeal m →
    (∀ c : Dev Cert.AdaBwdIdeal.nD,
      m' ((c.tc : Thread Cert.AdaBwdReferenceIdeal.nD Cert.AdaBwdReferenceIdeal.τ).loc Cert.AdaBwdReferenceIdeal.main_arg0) = m ((c.tc : Thread Cert.AdaBwdIdeal.nD Cert.AdaBwdIdeal.τ).loc Cert.AdaBwdIdeal.main_arg0)
      ∧ m' ((c.tc : Thread Cert.AdaBwdReferenceIdeal.nD Cert.AdaBwdReferenceIdeal.τ).loc Cert.AdaBwdReferenceIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v2)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v2) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdReferenceIdeal.defs (F := Ideal)) (onTc (τ := Cert.AdaBwdReferenceIdeal.τ) (Cert.AdaBwdReferenceIdeal.main (F := Ideal))) ⟨m', fun _ => 0, g'⟩ (fun r => ∀ c : Dev Cert.AdaBwdReferenceIdeal.nD,
          r.2.mem ((c.tc : Thread Cert.AdaBwdReferenceIdeal.nD Cert.AdaBwdReferenceIdeal.τ).loc Cert.AdaBwdReferenceIdeal.main_v5) = v0 c
          ∧ r.2.mem ((c.tc : Thread Cert.AdaBwdReferenceIdeal.nD Cert.AdaBwdReferenceIdeal.τ).loc Cert.AdaBwdReferenceIdeal.main_arg0) = m' ((c.tc : Thread Cert.AdaBwdReferenceIdeal.nD Cert.AdaBwdReferenceIdeal.τ).loc Cert.AdaBwdReferenceIdeal.main_arg0)
          ∧ r.2.mem ((c.tc : Thread Cert.AdaBwdReferenceIdeal.nD Cert.AdaBwdReferenceIdeal.τ).loc Cert.AdaBwdReferenceIdeal.main_arg1) = m' ((c.tc : Thread Cert.AdaBwdReferenceIdeal.nD Cert.AdaBwdReferenceIdeal.τ).loc Cert.AdaBwdReferenceIdeal.main_arg1))

def preserves_Colsum_ColsumIdeal : Prop :=
  True

def algebraic_ColsumIdeal_ColsumReferenceIdeal [hColsumIdeal : Cert.ColsumIdeal.Facts] [hColsumReferenceIdeal : Cert.ColsumReferenceIdeal.Facts] : Prop :=
  ∀ (m : (ℓ : Loc Cert.ColsumIdeal.nD Cert.ColsumIdeal.τ Cert.ColsumIdeal.sig) → Buf (Elt Ideal) ℓ) (g : Dev Cert.ColsumIdeal.nD → PrngReg)
    (m' : (ℓ : Loc Cert.ColsumReferenceIdeal.nD Cert.ColsumReferenceIdeal.τ Cert.ColsumReferenceIdeal.sig) → Buf (Elt Ideal) ℓ) (g' : Dev Cert.ColsumReferenceIdeal.nD → PrngReg), Pre_ColsumIdeal m →
    (∀ c : Dev Cert.ColsumIdeal.nD,
      m' ((c.tc : Thread Cert.ColsumReferenceIdeal.nD Cert.ColsumReferenceIdeal.τ).loc Cert.ColsumReferenceIdeal.main_arg0) = m ((c.tc : Thread Cert.ColsumIdeal.nD Cert.ColsumIdeal.τ).loc Cert.ColsumIdeal.main_arg0)) →
    ∃ (v0 : (c : Dev Cert.ColsumIdeal.nD) → Buf (Elt Ideal) ((c.tc : Thread Cert.ColsumIdeal.nD Cert.ColsumIdeal.τ).loc Cert.ColsumIdeal.main_v0)),
      θ_run (Cert.ColsumIdeal.defs (F := Ideal)) (onTc (τ := Cert.ColsumIdeal.τ) (Cert.ColsumIdeal.main (F := Ideal))) ⟨m, fun _ => 0, g⟩ (fun r => ∀ c : Dev Cert.ColsumIdeal.nD,
          r.2.mem ((c.tc : Thread Cert.ColsumIdeal.nD Cert.ColsumIdeal.τ).loc Cert.ColsumIdeal.main_v0) = v0 c
          ∧ r.2.mem ((c.tc : Thread Cert.ColsumIdeal.nD Cert.ColsumIdeal.τ).loc Cert.ColsumIdeal.main_arg0) = m ((c.tc : Thread Cert.ColsumIdeal.nD Cert.ColsumIdeal.τ).loc Cert.ColsumIdeal.main_arg0))
      ∧ θ_run (Cert.ColsumReferenceIdeal.defs (F := Ideal)) (onTc (τ := Cert.ColsumReferenceIdeal.τ) (Cert.ColsumReferenceIdeal.main (F := Ideal))) ⟨m', fun _ => 0, g'⟩ (fun r => ∀ c : Dev Cert.ColsumReferenceIdeal.nD,
          r.2.mem ((c.tc : Thread Cert.ColsumReferenceIdeal.nD Cert.ColsumReferenceIdeal.τ).loc Cert.ColsumReferenceIdeal.main_v3) = v0 c
          ∧ r.2.mem ((c.tc : Thread Cert.ColsumReferenceIdeal.nD Cert.ColsumReferenceIdeal.τ).loc Cert.ColsumReferenceIdeal.main_arg0) = m' ((c.tc : Thread Cert.ColsumReferenceIdeal.nD Cert.ColsumReferenceIdeal.τ).loc Cert.ColsumReferenceIdeal.main_arg0))

def preserves_Adamw_AdamwIdeal : Prop :=
  True

def algebraic_AdamwIdeal_AdamwReferenceIdeal [hAdamwIdeal : Cert.AdamwIdeal.Facts] [hAdamwReferenceIdeal : Cert.AdamwReferenceIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwIdeal m →
    (∀ c : Dev Cert.AdamwIdeal.nD,
      m' ((c.tc : Thread Cert.AdamwReferenceIdeal.nD Cert.AdamwReferenceIdeal.τ).loc Cert.AdamwReferenceIdeal.main_arg0) = m ((c.tc : Thread Cert.AdamwIdeal.nD Cert.AdamwIdeal.τ).loc Cert.AdamwIdeal.main_arg0)
      ∧ m' ((c.tc : Thread Cert.AdamwReferenceIdeal.nD Cert.AdamwReferenceIdeal.τ).loc Cert.AdamwReferenceIdeal.main_arg1) = m ((c.tc : Thread Cert.AdamwIdeal.nD Cert.AdamwIdeal.τ).loc Cert.AdamwIdeal.main_arg1)
      ∧ m' ((c.tc : Thread Cert.AdamwReferenceIdeal.nD Cert.AdamwReferenceIdeal.τ).loc Cert.AdamwReferenceIdeal.main_arg2) = m ((c.tc : Thread Cert.AdamwIdeal.nD Cert.AdamwIdeal.τ).loc Cert.AdamwIdeal.main_arg2)
      ∧ m' ((c.tc : Thread Cert.AdamwReferenceIdeal.nD Cert.AdamwReferenceIdeal.τ).loc Cert.AdamwReferenceIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg1) = v3 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def Claim : Prop :=
  ∃ (hKernel : Cert.Kernel.Facts) (hKernelIdeal : Cert.KernelIdeal.Facts) (hReferenceIdeal : Cert.ReferenceIdeal.Facts) (hWgradGu : Cert.WgradGu.Facts) (hWgradGuIdeal : Cert.WgradGuIdeal.Facts) (hWgradGuReferenceIdeal : Cert.WgradGuReferenceIdeal.Facts) (hWgradDown : Cert.WgradDown.Facts) (hWgradDownIdeal : Cert.WgradDownIdeal.Facts) (hWgradDownReferenceIdeal : Cert.WgradDownReferenceIdeal.Facts) (hWgradIn : Cert.WgradIn.Facts) (hWgradInIdeal : Cert.WgradInIdeal.Facts) (hWgradInReferenceIdeal : Cert.WgradInReferenceIdeal.Facts) (hWgradOut : Cert.WgradOut.Facts) (hWgradOutIdeal : Cert.WgradOutIdeal.Facts) (hWgradOutReferenceIdeal : Cert.WgradOutReferenceIdeal.Facts) (hFfnFwd : Cert.FfnFwd.Facts) (hFfnFwdIdeal : Cert.FfnFwdIdeal.Facts) (hFfnFwdReferenceIdeal : Cert.FfnFwdReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMixinBwd : Cert.MixinBwd.Facts) (hMixinBwdIdeal : Cert.MixinBwdIdeal.Facts) (hMixinBwdReferenceIdeal : Cert.MixinBwdReferenceIdeal.Facts) (hFfnHead : Cert.FfnHead.Facts) (hFfnHeadIdeal : Cert.FfnHeadIdeal.Facts) (hFfnHeadReferenceIdeal : Cert.FfnHeadReferenceIdeal.Facts) (hAdaFwd : Cert.AdaFwd.Facts) (hAdaFwdIdeal : Cert.AdaFwdIdeal.Facts) (hAdaFwdReferenceIdeal : Cert.AdaFwdReferenceIdeal.Facts) (hAdaBwd : Cert.AdaBwd.Facts) (hAdaBwdIdeal : Cert.AdaBwdIdeal.Facts) (hAdaBwdReferenceIdeal : Cert.AdaBwdReferenceIdeal.Facts) (hColsum : Cert.Colsum.Facts) (hColsumIdeal : Cert.ColsumIdeal.Facts) (hColsumReferenceIdeal : Cert.ColsumReferenceIdeal.Facts) (hAdamw : Cert.Adamw.Facts) (hAdamwIdeal : Cert.AdamwIdeal.Facts) (hAdamwReferenceIdeal : Cert.AdamwReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WgradGu (hWgradGu := hWgradGu)
    ∧ quiescent_WgradGuIdeal (hWgradGuIdeal := hWgradGuIdeal)
    ∧ quiescent_WgradGuReferenceIdeal (hWgradGuReferenceIdeal := hWgradGuReferenceIdeal)
    ∧ quiescent_WgradDown (hWgradDown := hWgradDown)
    ∧ quiescent_WgradDownIdeal (hWgradDownIdeal := hWgradDownIdeal)
    ∧ quiescent_WgradDownReferenceIdeal (hWgradDownReferenceIdeal := hWgradDownReferenceIdeal)
    ∧ quiescent_WgradIn (hWgradIn := hWgradIn)
    ∧ quiescent_WgradInIdeal (hWgradInIdeal := hWgradInIdeal)
    ∧ quiescent_WgradInReferenceIdeal (hWgradInReferenceIdeal := hWgradInReferenceIdeal)
    ∧ quiescent_WgradOut (hWgradOut := hWgradOut)
    ∧ quiescent_WgradOutIdeal (hWgradOutIdeal := hWgradOutIdeal)
    ∧ quiescent_WgradOutReferenceIdeal (hWgradOutReferenceIdeal := hWgradOutReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixinBwd (hMixinBwd := hMixinBwd)
    ∧ quiescent_MixinBwdIdeal (hMixinBwdIdeal := hMixinBwdIdeal)
    ∧ quiescent_MixinBwdReferenceIdeal (hMixinBwdReferenceIdeal := hMixinBwdReferenceIdeal)
    ∧ quiescent_FfnHead (hFfnHead := hFfnHead)
    ∧ quiescent_FfnHeadIdeal (hFfnHeadIdeal := hFfnHeadIdeal)
    ∧ quiescent_FfnHeadReferenceIdeal (hFfnHeadReferenceIdeal := hFfnHeadReferenceIdeal)
    ∧ quiescent_AdaFwd (hAdaFwd := hAdaFwd)
    ∧ quiescent_AdaFwdIdeal (hAdaFwdIdeal := hAdaFwdIdeal)
    ∧ quiescent_AdaFwdReferenceIdeal (hAdaFwdReferenceIdeal := hAdaFwdReferenceIdeal)
    ∧ quiescent_AdaBwd (hAdaBwd := hAdaBwd)
    ∧ quiescent_AdaBwdIdeal (hAdaBwdIdeal := hAdaBwdIdeal)
    ∧ quiescent_AdaBwdReferenceIdeal (hAdaBwdReferenceIdeal := hAdaBwdReferenceIdeal)
    ∧ quiescent_Colsum (hColsum := hColsum)
    ∧ quiescent_ColsumIdeal (hColsumIdeal := hColsumIdeal)
    ∧ quiescent_ColsumReferenceIdeal (hColsumReferenceIdeal := hColsumReferenceIdeal)
    ∧ quiescent_Adamw (hAdamw := hAdamw)
    ∧ quiescent_AdamwIdeal (hAdamwIdeal := hAdamwIdeal)
    ∧ quiescent_AdamwReferenceIdeal (hAdamwReferenceIdeal := hAdamwReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WgradGu_WgradGuIdeal
    ∧ algebraic_WgradGuIdeal_WgradGuReferenceIdeal (hWgradGuIdeal := hWgradGuIdeal) (hWgradGuReferenceIdeal := hWgradGuReferenceIdeal)
    ∧ preserves_WgradDown_WgradDownIdeal
    ∧ algebraic_WgradDownIdeal_WgradDownReferenceIdeal (hWgradDownIdeal := hWgradDownIdeal) (hWgradDownReferenceIdeal := hWgradDownReferenceIdeal)
    ∧ preserves_WgradIn_WgradInIdeal
    ∧ algebraic_WgradInIdeal_WgradInReferenceIdeal (hWgradInIdeal := hWgradInIdeal) (hWgradInReferenceIdeal := hWgradInReferenceIdeal)
    ∧ preserves_WgradOut_WgradOutIdeal
    ∧ algebraic_WgradOutIdeal_WgradOutReferenceIdeal (hWgradOutIdeal := hWgradOutIdeal) (hWgradOutReferenceIdeal := hWgradOutReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixinBwd_MixinBwdIdeal
    ∧ algebraic_MixinBwdIdeal_MixinBwdReferenceIdeal (hMixinBwdIdeal := hMixinBwdIdeal) (hMixinBwdReferenceIdeal := hMixinBwdReferenceIdeal)
    ∧ preserves_FfnHead_FfnHeadIdeal
    ∧ algebraic_FfnHeadIdeal_FfnHeadReferenceIdeal (hFfnHeadIdeal := hFfnHeadIdeal) (hFfnHeadReferenceIdeal := hFfnHeadReferenceIdeal)
    ∧ preserves_AdaFwd_AdaFwdIdeal
    ∧ algebraic_AdaFwdIdeal_AdaFwdReferenceIdeal (hAdaFwdIdeal := hAdaFwdIdeal) (hAdaFwdReferenceIdeal := hAdaFwdReferenceIdeal)
    ∧ preserves_AdaBwd_AdaBwdIdeal
    ∧ algebraic_AdaBwdIdeal_AdaBwdReferenceIdeal (hAdaBwdIdeal := hAdaBwdIdeal) (hAdaBwdReferenceIdeal := hAdaBwdReferenceIdeal)
    ∧ preserves_Colsum_ColsumIdeal
    ∧ algebraic_ColsumIdeal_ColsumReferenceIdeal (hColsumIdeal := hColsumIdeal) (hColsumReferenceIdeal := hColsumReferenceIdeal)
    ∧ preserves_Adamw_AdamwIdeal
    ∧ algebraic_AdamwIdeal_AdamwReferenceIdeal (hAdamwIdeal := hAdamwIdeal) (hAdamwReferenceIdeal := hAdamwReferenceIdeal)
-- ==== Pre_finite.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S4x1024 : S_.BroadcastsInDim S4x1024 (![] : Fin 0 → Fin S4x1024.rank)
  reducesTo_S4x1024_S_d0_1 : S4x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S4x2048x1024 .f32) (main_v33 : IVec S_ 1) : IVec S_ 1 :=
  let main_v34 : FVec F S4x2048x1024 .f32 := Host.absf main_arg7
  let main_cst_12 : FVec F S_ .f32 := constant S_ .f32 0x7F800000#32
  let main_v35 : FVec F S4x2048x1024 .f32 := broadcastInDim S4x2048x1024 ![] bcast_S_S4x2048x1024 main_cst_12
  let main_v36 : IVec S4x2048x1024 1 := cmpf .olt main_v34 main_v35
  let main_c_13 : IVec S_ 1 := constantI S_ 1 1#1
  let main_v37 : IVec S_ 1 := (fun x v => Host.reduce IntOp.andi x v reducesTo_S4x2048x1024_S_d0_1_2 h_S_) main_v36 main_c_13
  let main_v38 : IVec S_ 1 := andi main_v33 main_v37
  main_v38

def fn_part1 {F : FTy → Type} [FloatOps F] (main_arg4 : FVec F S4x1024 .f32) (main_arg5 : FVec F S1024x5632 .f32) (main_arg6 : FVec F S2816x1024 .f32) (main_arg7 : FVec F S4x2048x1024 .f32) (main_v13 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S1024 .f32) (main_arg2 : FVec F S4x1024 .f32) (main_arg3 : FVec F S4x1024 .f32) (main_arg4 : FVec F S4x1024 .f32) (main_arg5 : FVec F S1024x5632 .f32) (main_arg6 : FVec F S2816x1024 .f32) (main_arg7 : FVec F S4x2048x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S4x1024 .f32 := Host.absf main_arg3
  let main_cst_4 : FVec F S_ .f32 := constant S_ .f32 0x7F800000#32
  let main_v15 : FVec F S4x1024 .f32 := broadcastInDim S4x1024 ![] bcast_S_S4x1024 main_cst_4
  let main_v16 : IVec S4x1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8192x1024 : Shape := ⟨2, ![8192, 1024]⟩
abbrev S1x1024 : Shape := ⟨2, ![1, 1024]⟩
abbrev S256x1024 : Shape := ⟨2, ![256, 1024]⟩
abbrev S2x256x2816 : Shape := ⟨3, ![2, 256, 2816]⟩
abbrev S768x1024 : Shape := ⟨2, ![768, 1024]⟩
abbrev S256x768 : Shape := ⟨2, ![256, 768]⟩
abbrev S1x256x768 : Shape := ⟨3, ![1, 256, 768]⟩
abbrev S512x1024 : Shape := ⟨2, ![512, 1024]⟩
abbrev S256x512 : Shape := ⟨2, ![256, 512]⟩
abbrev S1x256x512 : Shape := ⟨3, ![1, 256, 512]⟩
abbrev S1x256x2816 : Shape := ⟨3, ![1, 256, 2816]⟩
abbrev S256x2816 : Shape := ⟨2, ![256, 2816]⟩
abbrev S1024x2816 : Shape := ⟨2, ![1024, 2816]⟩
abbrev S256 : Shape := ⟨1, ![256]⟩
abbrev S256x1 : Shape := ⟨2, ![256, 1]⟩

abbrev nBuf : Space → Nat
  | .hbm => 71
  | .vmem => 32
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x5632, .f32⟩
  | .hbm, ⟨6, _⟩ => ⟨S2816x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x5632, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S4x2048x1024, .f32⟩
  | .hbm, ⟨47, _⟩ => ⟨S8192x2816, .f32⟩
  | .hbm, ⟨48, _⟩ => ⟨S8192x2816, .f32⟩
  | .hbm, ⟨49, _⟩ => ⟨S1x8192x2816, .f32⟩
  | .hbm, ⟨50, _⟩ => ⟨S1x8192x2816, .f32⟩
  | .hbm, ⟨51, _⟩ => ⟨S2x8192x2816, .f32⟩
  | .hbm, ⟨52, _⟩ => ⟨S2x8192x2816, .bf16⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S1x1024, .f32⟩
  | .hbm, ⟨58, _⟩ => ⟨S4x1x1024, .f32⟩
  | .hbm, ⟨59, _⟩ => ⟨S4x1x1024, .f32⟩
  | .hbm, ⟨60, _⟩ => ⟨S4x1x1024, .f32⟩
  | .hbm, ⟨61, _⟩ => ⟨S1024x5632, .bf16⟩
  | .hbm, ⟨62, _⟩ => ⟨S2816x1024, .bf16⟩
  | .hbm, ⟨63, _⟩ => ⟨S8192x1024, .f32⟩
  | .hbm, ⟨64, _⟩ => ⟨S2x8192x2816, .bf16⟩
  | .hbm, ⟨65, _⟩ => ⟨S8192x1024, .bf16⟩
  | .hbm, ⟨66, _⟩ => ⟨S8192x1024, .bf16⟩
  | .hbm, ⟨67, _⟩ => ⟨S4x1x1024, .f32⟩
  | .hbm, ⟨68, _⟩ => ⟨S4x1x1024, .f32⟩
  | .hbm, ⟨69, _⟩ => ⟨S1x1024, .f32⟩
  | .hbm, ⟨70, _⟩ => ⟨S4x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2x256x2816, .bf16⟩
  | .local _ .vmem, ⟨5, _⟩ => ⟨S2x256x2816, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x5632, .bf16⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | .local _ .vmem, ⟨19, _⟩ => ⟨S2x256x2816, .bf16⟩
  | .local _ .vmem, ⟨20, _⟩ => ⟨S2x256x2816, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1024, .f32⟩
  | .local _ .vmem, ⟨30, _⟩ => ⟨S1x1x1024, .f32⟩
  | .local _ .vmem, ⟨31, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_v43_2 : Ref sig .tc := ⟨.hbm, 65, rfl⟩
abbrev main_v43_3 : Ref sig .tc := ⟨.hbm, 66, rfl⟩
abbrev main_v43_4 : Ref sig .tc := ⟨.hbm, 67, rfl⟩
abbrev main_v43_5 : Ref sig .tc := ⟨.hbm, 68, rfl⟩
abbrev main_v43_6 : Ref sig .tc := ⟨.hbm, 69, rfl⟩
abbrev main_v43_7 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v210 : BitVec 32 := Scalar.extui v10
  let c0_i32_117 : BitVec 32 := 0#32
  let v211 : BitVec 1 := Scalar.cmpi .ne v210 c0_i32_117
  v211

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v212 : BitVec 1 := Scalar.xori v10 v_true
  let v213 : BitVec 32 := Scalar.extui v212
  let c0_i32_119 : BitVec 32 := 0#32
  let v214 : BitVec 1 := Scalar.cmpi .ne v213 c0_i32_119
  v214

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v215 : BitVec 32 := Scalar.extui v10
  let c0_i32_121 : BitVec 32 := 0#32
  let v216 : BitVec 1 := Scalar.cmpi .ne v215 c0_i32_121
  v216

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_122 : BitVec 1 := 1#1
  let v217 : BitVec 1 := Scalar.xori v10 true_122
  let v218 : BitVec 32 := Scalar.extui v217
  let c0_i32_124 : BitVec 32 := 0#32
  let v219 : BitVec 1 := Scalar.cmpi .ne v218 c0_i32_124
  v219

def k0_cond5 (i : grid0.Coords) : BitVec 1 :=
  let arg0 : BitVec 32 := BitVec.ofNat 32 (i 0).val
  let c0_i32_125 : BitVec 32 := 0#32
  let v220 : BitVec 1 := Scalar.cmpi .eq arg0 c0_i32_125
  let v221 : BitVec 32 := Scalar.extui v220
  let c0_i32_126 : BitVec 32 := 0#32
  let v222 : BitVec 1 := Scalar.cmpi .ne v221 c0_i32_126
  v222

def k0_cond6 (i : grid0.Coords) : BitVec 1 :=
  let arg0 : BitVec 32 := BitVec.ofNat 32 (i 0).val
  let c0_i32_125 : BitVec 32 := 0#32
  let v220 : BitVec 1 := Scalar.cmpi .eq arg0 c0_i32_125
  let true_127 : BitVec 1 := 1#1
  let v223 : BitVec 1 := Scalar.xori v220 true_127
  let v224 : BitVec 32 := Scalar.extui v223
  let c0_i32_128 : BitVec 32 := 0#32
  let v225 : BitVec 1 := Scalar.cmpi .ne v224 c0_i32_128
  v225

def k0_cond7 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v234 : BitVec 32 := Scalar.extui v10
  let c0_i32_134 : BitVec 32 := 0#32
  let v235 : BitVec 1 := Scalar.cmpi .ne v234 c0_i32_134
  v235

def k0_cond8 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_135 : BitVec 1 := 1#1
  let v236 : BitVec 1 := Scalar.xori v10 true_135
  let v237 : BitVec 32 := Scalar.extui v236
  let c0_i32_137 : BitVec 32 := 0#32
  let v238 : BitVec 1 := Scalar.cmpi .ne v237 c0_i32_137
  v238

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8192x1024 : Shape := ⟨2, ![8192, 1024]⟩
abbrev S1x1024 : Shape := ⟨2, ![1, 1024]⟩

abbrev nBuf : Space → Nat
  | .hbm => 138
  | .vmem => 0
  | .smem => 0
  | _ => 0

abbrev hbmTy0_0 (i : Nat) : BufTy := match i % 128 with
  | 0 => ⟨S4x2048x1024, .f32⟩
  | 1 => ⟨S1024, .f32⟩
  | 2 => ⟨S4x1024, .f32⟩
  | 3 => ⟨S4x1024, .f32⟩
  | 4 => ⟨S4x1024, .f32⟩
  | 5 => ⟨S1024x5632, .f32⟩
  | 6 => ⟨S2816x1024, .f32⟩
  | 7 => ⟨S4x2048x1024, .f32⟩
  | 8 => ⟨S4x2048x1024, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x1, .f32⟩
  | 20 => ⟨S_, .f32⟩
  | 21 => ⟨S4x2048x1, .f32⟩
  | 22 => ⟨S4x2048x1, .f32⟩
  | 23 => ⟨S4x2048x1024, .f32⟩
  | 24 => ⟨S4x2048x1024, .f32⟩
  | 25 => ⟨S1x1x1024, .f32⟩
  | 26 => ⟨S4x2048x1024, .f32⟩
  | 27 => ⟨S4x2048x1024, .f32⟩
  | 28 => ⟨S4x1x1024, .f32⟩
  | 29 => ⟨S_, .f32⟩
  | 30 => ⟨S4x1x1024, .f32⟩
  | 31 => ⟨S4x1x1024, .f32⟩
  | 32 => ⟨S4x2048x1024, .f32⟩
  | 33 => ⟨S4x2048x1024, .f32⟩
  | 34 => ⟨S4x1x1024, .f32⟩
  | 35 => ⟨S4x2048x1024, .f32⟩
  | 36 => ⟨S4x2048x1024, .f32⟩
  | 37 => ⟨S4x2048x5632, .f32⟩
  | 38 => ⟨S4x2048x2816, .f32⟩
  | 39 => ⟨S4x2048x2816, .f32⟩
  | 40 => ⟨S4x2048x2816, .f32⟩
  | 41 => ⟨S4x2048x2816, .f32⟩
  | 42 => ⟨S_, .f32⟩
  | 43 => ⟨S4x2048x2816, .f32⟩
  | 44 => ⟨S4x2048x2816, .f32⟩
  | 45 => ⟨S_, .f32⟩
  | 46 => ⟨S4x2048x2816, .f32⟩
  | 47 => ⟨S4x2048x2816, .f32⟩
  | 48 => ⟨S_, .f32⟩
  | 49 => ⟨S4x2048x2816, .f32⟩
  | 50 => ⟨S4x2048x2816, .f32⟩
  | 51 => ⟨S4x2048x2816, .f32⟩
  | 52 => ⟨S4x2048x2816, .f32⟩
  | 53 => ⟨S4x2048x2816, .f32⟩
  | 54 => ⟨S4x2048x1024, .f32⟩
  | 55 => ⟨S4x1x1024, .f32⟩
  | 56 => ⟨S_, .f32⟩
  | 57 => ⟨S4x1x1024, .f32⟩
  | 58 => ⟨S4x1x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S4x1024, .f32⟩
  | 68 => ⟨S4x1x1024, .f32⟩
  | 69 => ⟨S_, .f32⟩
  | 70 => ⟨S4x1x1024, .f32⟩
  | 71 => ⟨S4x1x1024, .f32⟩
  | 72 => ⟨S_, .f32⟩
  | 73 => ⟨S4x1024, .f32⟩
  | 74 => ⟨S4x2048x2816, .f32⟩
  | 75 => ⟨S4x2048x2816, .f32⟩
  | 76 => ⟨S4x2048x2816, .f32⟩
  | 77 => ⟨S4x2048x2816, .f32⟩
  | 78 => ⟨S4x2048x2816, .f32⟩
  | 79 => ⟨S4x2048x2816, .f32⟩
  | 80 => ⟨S4x2048x2816, .f32⟩
  | 81 => ⟨S4x2048x5632, .f32⟩
  | 82 => ⟨S4x2048x1024, .f32⟩
  | 83 => ⟨S_, .f32⟩
  | 84 => ⟨S4x1024, .f32⟩
  | 85 => ⟨S4x1x1024, .f32⟩
  | 86 => ⟨S_, .f32⟩
  | 87 => ⟨S4x1024, .f32⟩
  | 88 => ⟨S4x2048x1024, .f32⟩
  | 89 => ⟨S_, .f32⟩
  | 90 => ⟨S4x1024, .f32⟩
  | 91 => ⟨S4x1x1024, .f32⟩
  | 92 => ⟨S4x2048x1024, .f32⟩
  | 93 => ⟨S4x2048x1024, .f32⟩
  | 94 => ⟨S_, .f32⟩
  | 95 => ⟨S4x1024, .f32⟩
  | 96 => ⟨S4x2048x1024, .f32⟩
  | 97 => ⟨S_, .f32⟩
  | 98 => ⟨S1024, .f32⟩
  | 99 => ⟨S1x1x1024, .f32⟩
  | 100 => ⟨S4x2048x1024, .f32⟩
  | 101 => ⟨S4x2048x1024, .f32⟩
  | 102 => ⟨S_, .f32⟩
  | 103 => ⟨S1024, .f32⟩
  | 104 => ⟨S4x2048x1024, .f32⟩
  | 105 => ⟨S_, .f32⟩
  | 106 => ⟨S4x2048, .f32⟩
  | 107 => ⟨S4x2048x1, .f32⟩
  | 108 => ⟨S4x2048x1024, .f32⟩
  | 109 => ⟨S4x2048x1024, .f32⟩
  | 110 => ⟨S4x2048x1, .f32⟩
  | 111 => ⟨S_, .f32⟩
  | 112 => ⟨S4x2048x1, .f32⟩
  | 113 => ⟨S4x2048x1, .f32⟩
  | 114 => ⟨S_, .f32⟩
  | 115 => ⟨S4x2048, .f32⟩
  | 116 => ⟨S4x2048x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S8192x5632, .f32⟩
  | 122 => ⟨S8192x2816, .f32⟩
  | 123 => ⟨S8192x2816, .f32⟩
  | 124 => ⟨S1x8192x2816, .f32⟩
  | 125 => ⟨S1x8192x2816, .f32⟩
  | 126 => ⟨S2x8192x2816, .f32⟩
  | 127 => ⟨S4x2048x1024, .f32⟩
  | _ => ⟨S4x2048x1024, .f32⟩

abbrev hbmTy0_1 (i : Nat) : BufTy := match i % 128 with
  | 0 => ⟨S8192x1024, .f32⟩
  | 1 => ⟨S2x8192x2816, .bf16⟩
  | 2 => ⟨S8192x1024, .f32⟩
  | 3 => ⟨S8192x1024, .bf16⟩
  | 4 => ⟨S8192x1024, .f32⟩
  | 5 => ⟨S8192x1024, .bf16⟩
  | 6 => ⟨S4x1x1024, .f32⟩
  | 7 => ⟨S4x1x1024, .f32⟩
  | 8 => ⟨S1x1024, .f32⟩
  | 9 => ⟨S4x1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v27_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v27_1 : Ref sig .tc := ⟨.hbm, 51, rfl⟩
abbrev main_v27_0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]
-- ==== WgradGu.lean ====
abbrev S4x2048x1024 : Shape := ⟨3, ![4, 2048, 1024]⟩
abbrev S4x2048x5632 : Shape := ⟨3, ![4, 2048, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S8192x1024 : Shape := ⟨2, ![8192, 1024]⟩
abbrev S4x2x512x1408 : Shape := ⟨4, ![4, 2, 512, 1408]⟩
abbrev S1024x1024 : Shape := ⟨2, ![1024, 1024]⟩
abbrev S1x1024x2816 : Shape := ⟨3, ![1, 1024, 2816]⟩
abbrev S2x2x512x1408 : Shape := ⟨4, ![2, 2, 512, 1408]⟩
abbrev S1024x2816 : Shape := ⟨2, ![1024, 2816]⟩
abbrev S1x1x512x1408 : Shape := ⟨4, ![1, 1, 512, 1408]⟩
abbrev S512x1408 : Shape := ⟨2, ![512, 1408]⟩

abbrev nBuf : Space → Nat
  | .hbm => 12
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S1x8192x2816, .f32⟩
  | .hbm, ⟨6, _⟩ => ⟨S1x8192x2816, .f32⟩
  | .hbm, ⟨7, _⟩ => ⟨S2x8192x2816, .f32⟩
  | .hbm, ⟨8, _⟩ => ⟨S8192x1024, .f32⟩
  | .hbm, ⟨9, _⟩ => ⟨S8192x1024, .bf16⟩
  | .hbm, ⟨10, _⟩ => ⟨S2x8192x2816, .bf16⟩
  | .hbm, ⟨11, _⟩ => ⟨S4x2x512x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S2x2x512x1408, .f32⟩
  | .local _ .vmem, ⟨5, _⟩ => ⟨S2x2x512x1408, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== WgradGuReferenceIdeal.lean ====
abbrev S4x2048x1024 : Shape := ⟨3, ![4, 2048, 1024]⟩
abbrev S4x2048x5632 : Shape := ⟨3, ![4, 2048, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x5632, .f32⟩
  | .hbm, ⟨2, _⟩ => ⟨S_, .f32⟩
  | .hbm, ⟨3, _⟩ => ⟨S1024x5632, .f32⟩
  | .hbm, ⟨4, _⟩ => ⟨S4x2048x5632, .f32⟩
  | .hbm, ⟨5, _⟩ => ⟨S5632x1024, .f32⟩
  | .hbm, ⟨6, _⟩ => ⟨S1024x5632, .f32⟩
  | .hbm, ⟨7, _⟩ => ⟨S2x512x4x1408, .f32⟩
  | .hbm, ⟨8, _⟩ => ⟨S4x2x512x1408, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradDown.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S1x8192x1024 : Shape := ⟨3, ![1, 8192, 1024]⟩
abbrev S2x1408x1024 : Shape := ⟨3, ![2, 1408, 1024]⟩
abbrev S2048x1408 : Shape := ⟨2, ![2048, 1408]⟩
abbrev S1x2048x1024 : Shape := ⟨3, ![1, 2048, 1024]⟩
abbrev S1x1408x1024 : Shape := ⟨3, ![1, 1408, 1024]⟩
abbrev S1408x1024 : Shape := ⟨2, ![1408, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S8192x1024, .bf16⟩
  | .hbm, ⟨6, _⟩ => ⟨S1x8192x1024, .bf16⟩
  | .hbm, ⟨7, _⟩ => ⟨S2x1408x1024, .f32⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1408x1024, .f32⟩
  | .local _ .vmem, ⟨5, _⟩ => ⟨S1x1408x1024, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradDownReferenceIdeal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x1024, .f32⟩
  | .hbm, ⟨5, _⟩ => ⟨S1024x2816, .f32⟩
  | .hbm, ⟨6, _⟩ => ⟨S2816x1024, .f32⟩
  | .hbm, ⟨7, _⟩ => ⟨S2x1408x1024, .f32⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgradIn.lean ====
abbrev S4x2048x1024 : Shape := ⟨3, ![4, 2048, 1024]⟩
abbrev S4x2048x2560 : Shape := ⟨3, ![4, 2048, 2560]⟩
abbrev S8192x1024 : Shape := ⟨2, ![8192, 1024]⟩
abbrev S8192x2560 : Shape := ⟨2, ![8192, 2560]⟩
abbrev S1x8192x2560 : Shape := ⟨3, ![1, 8192, 2560]⟩
abbrev S4x2x512x640 : Shape := ⟨4, ![4, 2, 512, 640]⟩
abbrev S2048x1024 : Shape := ⟨2, ![2048, 1024]⟩
abbrev S1x2048x1280 : Shape := ⟨3, ![1, 2048, 1280]⟩
abbrev S2x2x512x640 : Shape := ⟨4, ![2, 2, 512, 640]⟩
abbrev S2048x1280 : Shape := ⟨2, ![2048, 1280]⟩
abbrev S1024x1280 : Shape := ⟨2, ![1024, 1280]⟩
abbrev S1x1x512x640 : Shape := ⟨4, ![1, 1, 512, 640]⟩
abbrev S512x640 : Shape := ⟨2, ![512, 640]⟩

abbrev nBuf : Space → Nat
  | .hbm => 8
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2560, .f32⟩
  | .hbm, ⟨2, _⟩ => ⟨S8192x1024, .f32⟩
  | .hbm, ⟨3, _⟩ => ⟨S8192x1024, .bf16⟩
  | .hbm, ⟨4, _⟩ => ⟨S8192x2560, .f32⟩
  | .hbm, ⟨5, _⟩ => ⟨S8192x2560, .bf16⟩
  | .hbm, ⟨6, _⟩ => ⟨S1x8192x2560, .bf16⟩
  | .hbm, ⟨7, _⟩ => ⟨S4x2x512x640, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S2x2x512x640, .f32⟩
  | .local _ .vmem, ⟨5, _⟩ => ⟨S2x2x512x640, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x2x512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== WgradInReferenceIdeal.lean ====
abbrev S4x2048x1024 : Shape := ⟨3, ![4, 2048, 1024]⟩
abbrev S4x2048x2560 : Shape := ⟨3, ![4, 2048, 2560]⟩
abbrev S_ : Shape := ⟨0, ![]⟩
abbrev S1024x2560 : Shape := ⟨2, ![1024, 2560]⟩
abbrev S2560x1024 : Shape := ⟨2, ![2560, 1024]⟩
abbrev S2x512x4x640 : Shape := ⟨4, ![2, 512, 4, 640]⟩
abbrev S4x2x512x640 : Shape := ⟨4, ![4, 2, 512, 640]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2560, .f32⟩
  | .hbm, ⟨2, _⟩ => ⟨S_, .f32⟩
  | .hbm, ⟨3, _⟩ => ⟨S1024x2560, .f32⟩
  | .hbm, ⟨4, _⟩ => ⟨S4x2048x2560, .f32⟩
  | .hbm, ⟨5, _⟩ => ⟨S2560x1024, .f32⟩
  | .hbm, ⟨6, _⟩ => ⟨S1024x2560, .f32⟩
  | .hbm, ⟨7, _⟩ => ⟨S2x512x4x640, .f32⟩
  | .hbm, ⟨8, _⟩ => ⟨S4x2x512x640, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgradOut.lean ====
abbrev S4x2048x1024 : Shape := ⟨3, ![4, 2048, 1024]⟩
abbrev S8192x1024 : Shape := ⟨2, ![8192, 1024]⟩
abbrev S1x8192x1024 : Shape := ⟨3, ![1, 8192, 1024]⟩
abbrev S1x1024x1024 : Shape := ⟨3, ![1, 1024, 1024]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S8192x1024, .f32⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S1x8192x1024, .bf16⟩
  | .hbm, ⟨7, _⟩ => ⟨S1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradOutReferenceIdeal.lean ====
abbrev S4x2048x1024 : Shape := ⟨3, ![4, 2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnFwd.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S4x1x1024 : Shape := ⟨3, ![4, 1, 1024]⟩
abbrev S2x8192x2816 : Shape := ⟨3, ![2, 8192, 2816]⟩
abbrev S8192x2816 : Shape := ⟨2, ![8192, 2816]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 18
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S1024x5632, .bf16⟩
  | .hbm, ⟨13, _⟩ => ⟨S2816x1024, .bf16⟩
  | .hbm, ⟨14, _⟩ => ⟨S8192x1024, .f32⟩
  | .hbm, ⟨15, _⟩ => ⟨S2x8192x2816, .bf16⟩
  | .hbm, ⟨16, _⟩ => ⟨S8192x2816, .bf16⟩
  | .hbm, ⟨17, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S2x512x2816, .bf16⟩
  | .local _ .vmem, ⟨14, _⟩ => ⟨S2x512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .bf16⟩
  | .local _ .vmem, ⟨18, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnFwdReferenceIdeal.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S1x4x2048x2816 : Shape := ⟨4, ![1, 4, 2048, 2816]⟩
abbrev S2x4x2048x2816 : Shape := ⟨4, ![2, 4, 2048, 2816]⟩
abbrev S2x8192x2816 : Shape := ⟨3, ![2, 8192, 2816]⟩
abbrev S8192x2816 : Shape := ⟨2, ![8192, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x5632, .f32⟩
  | .hbm, ⟨6, _⟩ => ⟨S2816x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x1x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S4x2048x1024, .f32⟩
  | .hbm, ⟨31, _⟩ => ⟨S4x2048x1024, .f32⟩
  | .hbm, ⟨32, _⟩ => ⟨S4x2048x5632, .f32⟩
  | .hbm, ⟨33, _⟩ => ⟨S4x2048x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S_, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x1024, .f32⟩
  | .hbm, ⟨46, _⟩ => ⟨S4x1x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S8192x1024, .f32⟩
  | .hbm, ⟨54, _⟩ => ⟨S1x4x2048x2816, .f32⟩
  | .hbm, ⟨55, _⟩ => ⟨S1x4x2048x2816, .f32⟩
  | .hbm, ⟨56, _⟩ => ⟨S2x4x2048x2816, .f32⟩
  | .hbm, ⟨57, _⟩ => ⟨S2x8192x2816, .f32⟩
  | .hbm, ⟨58, _⟩ => ⟨S2x8192x2816, .bf16⟩
  | .hbm, ⟨59, _⟩ => ⟨S8192x2816, .f32⟩
  | .hbm, ⟨60, _⟩ => ⟨S8192x2816, .bf16⟩
  | .hbm, ⟨61, _⟩ => ⟨S8192x1024, .f32⟩
  | .hbm, ⟨62, _⟩ => ⟨S8192x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== FfnUp.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S8192x1024 : Shape := ⟨2, ![8192, 1024]⟩
abbrev S1x1024 : Shape := ⟨2, ![1, 1024]⟩
abbrev S4x1x1024 : Shape := ⟨3, ![4, 1, 1024]⟩
abbrev S2x8192x2816 : Shape := ⟨3, ![2, 8192, 2816]⟩
abbrev S8192x2816 : Shape := ⟨2, ![8192, 2816]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x5632, .f32⟩
  | .hbm, ⟨5, _⟩ => ⟨S8192x1024, .f32⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S1024x5632, .bf16⟩
  | .hbm, ⟨10, _⟩ => ⟨S2x8192x2816, .bf16⟩
  | .hbm, ⟨11, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x5632, .bf16⟩
  | .local _ .vmem, ⟨8, _⟩ => ⟨S2x512x2816, .bf16⟩
  | .local _ .vmem, ⟨9, _⟩ => ⟨S2x512x2816, .bf16⟩
  | .local _ .vmem, ⟨10, _⟩ => ⟨S512x2816, .bf16⟩
  | .local _ .vmem, ⟨11, _⟩ => ⟨S512x2816, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnUpReferenceIdeal.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S1x4x2048x2816 : Shape := ⟨4, ![1, 4, 2048, 2816]⟩
abbrev S2x4x2048x2816 : Shape := ⟨4, ![2, 4, 2048, 2816]⟩
abbrev S2x8192x2816 : Shape := ⟨3, ![2, 8192, 2816]⟩
abbrev S8192x2816 : Shape := ⟨2, ![8192, 2816]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x5632, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x5632, .f32⟩
  | .hbm, ⟨31, _⟩ => ⟨S4x2048x2816, .f32⟩
  | .hbm, ⟨32, _⟩ => ⟨S4x2048x2816, .f32⟩
  | .hbm, ⟨33, _⟩ => ⟨S4x2048x2816, .f32⟩
  | .hbm, ⟨34, _⟩ => ⟨S4x2048x2816, .f32⟩
  | .hbm, ⟨35, _⟩ => ⟨S_, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S1x4x2048x2816, .f32⟩
  | .hbm, ⟨44, _⟩ => ⟨S1x4x2048x2816, .f32⟩
  | .hbm, ⟨45, _⟩ => ⟨S2x4x2048x2816, .f32⟩
  | .hbm, ⟨46, _⟩ => ⟨S2x8192x2816, .f32⟩
  | .hbm, ⟨47, _⟩ => ⟨S2x8192x2816, .bf16⟩
  | .hbm, ⟨48, _⟩ => ⟨S8192x2816, .f32⟩
  | .hbm, ⟨49, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== FfnDown.lean ====
abbrev S4x2048x2816 : Shape := ⟨3, ![4, 2048, 2816]⟩
abbrev S4x2048x1024 : Shape := ⟨3, ![4, 2048, 1024]⟩
abbrev S4x1024 : Shape := ⟨2, ![4, 1024]⟩
abbrev S2816x1024 : Shape := ⟨2, ![2816, 1024]⟩
abbrev S8192x2816 : Shape := ⟨2, ![8192, 2816]⟩
abbrev S8192x1024 : Shape := ⟨2, ![8192, 1024]⟩
abbrev S4x1x1024 : Shape := ⟨3, ![4, 1, 1024]⟩
abbrev S1024x2816 : Shape := ⟨2, ![1024, 2816]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S4x1024, .f32⟩
  | .hbm, ⟨3, _⟩ => ⟨S2816x1024, .f32⟩
  | .hbm, ⟨4, _⟩ => ⟨S8192x2816, .f32⟩
  | .hbm, ⟨5, _⟩ => ⟨S8192x2816, .bf16⟩
  | .hbm, ⟨6, _⟩ => ⟨S8192x1024, .f32⟩
  | .hbm, ⟨7, _⟩ => ⟨S4x1x1024, .f32⟩
  | .hbm, ⟨8, _⟩ => ⟨S2816x1024, .bf16⟩
  | .hbm, ⟨9, _⟩ => ⟨S8192x1024, .f32⟩
  | .hbm, ⟨10, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownReferenceIdeal.lean ====
abbrev S4x2048x2816 : Shape := ⟨3, ![4, 2048, 2816]⟩
abbrev S4x2048x1024 : Shape := ⟨3, ![4, 2048, 1024]⟩
abbrev S4x1024 : Shape := ⟨2, ![4, 1024]⟩
abbrev S2816x1024 : Shape := ⟨2, ![2816, 1024]⟩
abbrev S4x1x1024 : Shape := ⟨3, ![4, 1, 1024]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2816, .f32⟩
  | .hbm, ⟨1, _⟩ => ⟨S4x2048x1024, .f32⟩
  | .hbm, ⟨2, _⟩ => ⟨S4x1024, .f32⟩
  | .hbm, ⟨3, _⟩ => ⟨S2816x1024, .f32⟩
  | .hbm, ⟨4, _⟩ => ⟨S4x2048x1024, .f32⟩
  | .hbm, ⟨5, _⟩ => ⟨S4x1x1024, .f32⟩
  | .hbm, ⟨6, _⟩ => ⟨S_, .f32⟩
  | .hbm, ⟨7, _⟩ => ⟨S4x1x1024, .f32⟩
  | .hbm, ⟨8, _⟩ => ⟨S4x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MixinBwd.lean ====
abbrev S4x2048x1024 : Shape := ⟨3, ![4, 2048, 1024]⟩
abbrev S1024 : Shape := ⟨1, ![1024]⟩
abbrev S4x1024 : Shape := ⟨2, ![4, 1024]⟩
abbrev S1024x2560 : Shape := ⟨2, ![1024, 2560]⟩
abbrev S4x2048x2560 : Shape := ⟨3, ![4, 2048, 2560]⟩
abbrev S8192x1024 : Shape := ⟨2, ![8192, 1024]⟩
abbrev S8192x2560 : Shape := ⟨2, ![8192, 2560]⟩
abbrev S1x1024 : Shape := ⟨2, ![1, 1024]⟩
abbrev S4x1x1024 : Shape := ⟨3, ![4, 1, 1024]⟩
abbrev S512x1024 : Shape := ⟨2, ![512, 1024]⟩
abbrev S512x2560 : Shape := ⟨2, ![512, 2560]⟩
abbrev S1x1x1024 : Shape := ⟨3, ![1, 1, 1024]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2560, .f32⟩
  | .hbm, ⟨5, _⟩ => ⟨S4x2048x2560, .f32⟩
  | .hbm, ⟨6, _⟩ => ⟨S4x2048x1024, .f32⟩
  | .hbm, ⟨7, _⟩ => ⟨S8192x1024, .f32⟩
  | .hbm, ⟨8, _⟩ => ⟨S8192x1024, .f32⟩
  | .hbm, ⟨9, _⟩ => ⟨S8192x2560, .f32⟩
  | .hbm, ⟨10, _⟩ => ⟨S8192x2560, .bf16⟩
  | .hbm, ⟨11, _⟩ => ⟨S1x1024, .f32⟩
  | .hbm, ⟨12, _⟩ => ⟨S4x1x1024, .f32⟩
  | .hbm, ⟨13, _⟩ => ⟨S1024x2560, .bf16⟩
  | .hbm, ⟨14, _⟩ => ⟨S8192x1024, .f32⟩
  | .hbm, ⟨15, _⟩ => ⟨S4x1x1024, .f32⟩
  | .hbm, ⟨16, _⟩ => ⟨S4x1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2560, .bf16⟩
  | .local _ .vmem, ⟨5, _⟩ => ⟨S512x2560, .bf16⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2560, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v116 : BitVec 32 := Scalar.extui v10
  let c0_i32_52 : BitVec 32 := 0#32
  let v117 : BitVec 1 := Scalar.cmpi .ne v116 c0_i32_52
  v117

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v118 : BitVec 1 := Scalar.xori v10 v_true
  let v119 : BitVec 32 := Scalar.extui v118
  let c0_i32_54 : BitVec 32 := 0#32
  let v120 : BitVec 1 := Scalar.cmpi .ne v119 c0_i32_54
  v120

def k0_cond3 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v121 : BitVec 32 := Scalar.extui v10
  let c0_i32_56 : BitVec 32 := 0#32
  let v122 : BitVec 1 := Scalar.cmpi .ne v121 c0_i32_56
  v122

def k0_cond4 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_57 : BitVec 1 := 1#1
  let v123 : BitVec 1 := Scalar.xori v10 true_57
  let v124 : BitVec 32 := Scalar.extui v123
  let c0_i32_59 : BitVec 32 := 0#32
  let v125 : BitVec 1 := Scalar.cmpi .ne v124 c0_i32_59
  v125

def k0_cond5 (i : grid0.Coords) : BitVec 1 :=
  let arg0 : BitVec 32 := BitVec.ofNat 32 (i 0).val
  let c0_i32_60 : BitVec 32 := 0#32
  let v126 : BitVec 1 := Scalar.cmpi .eq arg0 c0_i32_60
  let v127 : BitVec 32 := Scalar.extui v126
  let c0_i32_61 : BitVec 32 := 0#32
  let v128 : BitVec 1 := Scalar.cmpi .ne v127 c0_i32_61
  v128

def k0_cond6 (i : grid0.Coords) : BitVec 1 :=
  let arg0 : BitVec 32 := BitVec.ofNat 32 (i 0).val
  let c0_i32_60 : BitVec 32 := 0#32
  let v126 : BitVec 1 := Scalar.cmpi .eq arg0 c0_i32_60
  let true_62 : BitVec 1 := 1#1
  let v129 : BitVec 1 := Scalar.xori v126 true_62
  let v130 : BitVec 32 := Scalar.extui v129
  let c0_i32_63 : BitVec 32 := 0#32
  let v131 : BitVec 1 := Scalar.cmpi .ne v130 c0_i32_63
  v131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixinBwdReferenceIdeal.lean ====
abbrev S4x2048x1024 : Shape := ⟨3, ![4, 2048, 1024]⟩
abbrev S1024 : Shape := ⟨1, ![1024]⟩
abbrev S4x1024 : Shape := ⟨2, ![4, 1024]⟩
abbrev S1024x2560 : Shape := ⟨2, ![1024, 2560]⟩
abbrev S4x2048x2560 : Shape := ⟨3, ![4, 2048, 2560]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S8192x1024 : Shape := ⟨2, ![8192, 1024]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2560, .f32⟩
  | .hbm, ⟨5, _⟩ => ⟨S4x2048x2560, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x2560, .f32⟩
  | .hbm, ⟨37, _⟩ => ⟨S4x2048x1024, .f32⟩
  | .hbm, ⟨38, _⟩ => ⟨S_, .f32⟩
  | .hbm, ⟨39, _⟩ => ⟨S4x1024, .f32⟩
  | .hbm, ⟨40, _⟩ => ⟨S4x1x1024, .f32⟩
  | .hbm, ⟨41, _⟩ => ⟨S_, .f32⟩
  | .hbm, ⟨42, _⟩ => ⟨S4x1024, .f32⟩
  | .hbm, ⟨43, _⟩ => ⟨S4x2048x1024, .f32⟩
  | .hbm, ⟨44, _⟩ => ⟨S_, .f32⟩
  | .hbm, ⟨45, _⟩ => ⟨S4x1024, .f32⟩
  | .hbm, ⟨46, _⟩ => ⟨S4x1x1024, .f32⟩
  | .hbm, ⟨47, _⟩ => ⟨S4x2048x1024, .f32⟩
  | .hbm, ⟨48, _⟩ => ⟨S4x2048x1024, .f32⟩
  | .hbm, ⟨49, _⟩ => ⟨S_, .f32⟩
  | .hbm, ⟨50, _⟩ => ⟨S4x1024, .f32⟩
  | .hbm, ⟨51, _⟩ => ⟨S4x2048x1024, .f32⟩
  | .hbm, ⟨52, _⟩ => ⟨S_, .f32⟩
  | .hbm, ⟨53, _⟩ => ⟨S1024, .f32⟩
  | .hbm, ⟨54, _⟩ => ⟨S1x1x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S4x2048x1024, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S4x2048x1, .f32⟩
  | .hbm, ⟨66, _⟩ => ⟨S_, .f32⟩
  | .hbm, ⟨67, _⟩ => ⟨S4x2048x1, .f32⟩
  | .hbm, ⟨68, _⟩ => ⟨S4x2048x1, .f32⟩
  | .hbm, ⟨69, _⟩ => ⟨S_, .f32⟩
  | .hbm, ⟨70, _⟩ => ⟨S4x2048, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S8192x1024, .f32⟩
  | .hbm, ⟨78, _⟩ => ⟨S4x1x1024, .f32⟩
  | .hbm, ⟨79, _⟩ => ⟨S4x1x1024, .f32⟩
  | .hbm, ⟨80, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== FfnHead.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S4x1x1024 : Shape := ⟨3, ![4, 1, 1024]⟩
abbrev S2x8192x2816 : Shape := ⟨3, ![2, 8192, 2816]⟩
abbrev S8192x2816 : Shape := ⟨2, ![8192, 2816]⟩
abbrev S8x128 : Shape := ⟨2, ![8, 128]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x512x768 : Shape := ⟨3, ![1, 512, 768]⟩
abbrev S1024x512 : Shape := ⟨2, ![1024, 512]⟩
abbrev S512x512 : Shape := ⟨2, ![512, 512]⟩
abbrev S1x512x512 : Shape := ⟨3, ![1, 512, 512]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 24
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S1024x5632, .f32⟩
  | .hbm, ⟨6, _⟩ => ⟨S2816x1024, .f32⟩
  | .hbm, ⟨7, _⟩ => ⟨S4x2048x1024, .f32⟩
  | .hbm, ⟨8, _⟩ => ⟨S1024, .f32⟩
  | .hbm, ⟨9, _⟩ => ⟨S8192x1024, .f32⟩
  | .hbm, ⟨10, _⟩ => ⟨S1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S1024x5632, .bf16⟩
  | .hbm, ⟨15, _⟩ => ⟨S2816x1024, .bf16⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S2x8192x2816, .bf16⟩
  | .hbm, ⟨20, _⟩ => ⟨S8192x2816, .bf16⟩
  | .hbm, ⟨21, _⟩ => ⟨S8192x1024, .bf16⟩
  | .hbm, ⟨22, _⟩ => ⟨S8x128, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S2x512x2816, .bf16⟩
  | .local _ .vmem, ⟨17, _⟩ => ⟨S2x512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x1024, .bf16⟩
  | .local _ .vmem, ⟨21, _⟩ => ⟨S512x1024, .bf16⟩
  | .local _ .vmem, ⟨22, _⟩ => ⟨S8x128, .f32⟩
  | .local _ .vmem, ⟨23, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v141 : BitVec 1 := Scalar.cmpi .eq arg0 c0_i32
  let v169 : BitVec 32 := Scalar.extui v141
  let c0_i32_94 : BitVec 32 := 0#32
  let v170 : BitVec 1 := Scalar.cmpi .ne v169 c0_i32_94
  v170

def k0_cond2 (i : grid0.Coords) : BitVec 1 :=
  let arg0 : BitVec 32 := BitVec.ofNat 32 (i 0).val
  let c0_i32 : BitVec 32 := 0#32
  let v141 : BitVec 1 := Scalar.cmpi .eq arg0 c0_i32
  let v_true : BitVec 1 := 1#1
  let v171 : BitVec 1 := Scalar.xori v141 v_true
  let v172 : BitVec 32 := Scalar.extui v171
  let c0_i32_95 : BitVec 32 := 0#32
  let v173 : BitVec 1 := Scalar.cmpi .ne v172 c0_i32_95
  v173

def k0_cond3 (i : grid0.Coords) : BitVec 1 :=
  let arg0 : BitVec 32 := BitVec.ofNat 32 (i 0).val
  let c0_i32 : BitVec 32 := 0#32
  let v141 : BitVec 1 := Scalar.cmpi .eq arg0 c0_i32
  let v179 : BitVec 32 := Scalar.extui v141
  let c0_i32_98 : BitVec 32 := 0#32
  let v180 : BitVec 1 := Scalar.cmpi .ne v179 c0_i32_98
  v180

def k0_cond4 (i : grid0.Coords) : BitVec 1 :=
  let arg0 : BitVec 32 := BitVec.ofNat 32 (i 0).val
  let c0_i32 : BitVec 32 := 0#32
  let v141 : BitVec 1 := Scalar.cmpi .eq arg0 c0_i32
  let true_99 : BitVec 1 := 1#1
  let v181 : BitVec 1 := Scalar.xori v141 true_99
  let v182 : BitVec 32 := Scalar.extui v181
  let c0_i32_100 : BitVec 32 := 0#32
  let v183 : BitVec 1 := Scalar.cmpi .ne v182 c0_i32_100
  v183

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnHeadReferenceIdeal.lean ====
abbrev S4x2048x1024 : Shape := ⟨3, ![4, 2048, 1024]⟩
abbrev S1024 : Shape := ⟨1, ![1024]⟩
abbrev S4x1024 : Shape := ⟨2, ![4, 1024]⟩
abbrev S1024x5632 : Shape := ⟨2, ![1024, 5632]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x5632 : Shape := ⟨3, ![4, 2048, 5632]⟩
abbrev S4x2048x2816 : Shape := ⟨3, ![4, 2048, 2816]⟩
abbrev S8192x1024 : Shape := ⟨2, ![8192, 1024]⟩
abbrev S1x4x2048x2816 : Shape := ⟨4, ![1, 4, 2048, 2816]⟩
abbrev S2x4x2048x2816 : Shape := ⟨4, ![2, 4, 2048, 2816]⟩
abbrev S2x8192x2816 : Shape := ⟨3, ![2, 8192, 2816]⟩
abbrev S8192x2816 : Shape := ⟨2, ![8192, 2816]⟩
abbrev S8x128 : Shape := ⟨2, ![8, 128]⟩
abbrev S1x1024 : Shape := ⟨2, ![1, 1024]⟩

abbrev nBuf : Space → Nat
  | .hbm => 135
  | .vmem => 0
  | .smem => 0
  | _ => 0

abbrev hbmTy0_0 (i : Nat) : BufTy := match i % 128 with
  | 0 => ⟨S4x2048x1024, .f32⟩
  | 1 => ⟨S1024, .f32⟩
  | 2 => ⟨S4x1024, .f32⟩
  | 3 => ⟨S4x1024, .f32⟩
  | 4 => ⟨S4x1024, .f32⟩
  | 5 => ⟨S1024x5632, .f32⟩
  | 6 => ⟨S2816x1024, .f32⟩
  | 7 => ⟨S4x2048x1024, .f32⟩
  | 8 => ⟨S1024, .f32⟩
  | 9 => ⟨S4x2048x1024, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .f32⟩
  | 17 => ⟨S4x2048x1, .f32⟩
  | 18 => ⟨S4x2048x1, .f32⟩
  | 19 => ⟨S4x2048x1, .f32⟩
  | 20 => ⟨S4x2048x1024, .f32⟩
  | 21 => ⟨S4x2048x1024, .f32⟩
  | 22 => ⟨S1x1x1024, .f32⟩
  | 23 => ⟨S4x2048x1024, .f32⟩
  | 24 => ⟨S4x2048x1024, .f32⟩
  | 25 => ⟨S4x1x1024, .f32⟩
  | 26 => ⟨S_, .f32⟩
  | 27 => ⟨S4x1x1024, .f32⟩
  | 28 => ⟨S4x1x1024, .f32⟩
  | 29 => ⟨S4x2048x1024, .f32⟩
  | 30 => ⟨S4x2048x1024, .f32⟩
  | 31 => ⟨S4x1x1024, .f32⟩
  | 32 => ⟨S4x2048x1024, .f32⟩
  | 33 => ⟨S4x2048x1024, .f32⟩
  | 34 => ⟨S4x2048x5632, .f32⟩
  | 35 => ⟨S4x2048x2816, .f32⟩
  | 36 => ⟨S4x2048x2816, .f32⟩
  | 37 => ⟨S4x2048x2816, .f32⟩
  | 38 => ⟨S4x2048x2816, .f32⟩
  | 39 => ⟨S_, .f32⟩
  | 40 => ⟨S4x2048x2816, .f32⟩
  | 41 => ⟨S4x2048x2816, .f32⟩
  | 42 => ⟨S_, .f32⟩
  | 43 => ⟨S4x2048x2816, .f32⟩
  | 44 => ⟨S4x2048x2816, .f32⟩
  | 45 => ⟨S4x2048x2816, .f32⟩
  | 46 => ⟨S4x2048x2816, .f32⟩
  | 47 => ⟨S4x2048x1024, .f32⟩
  | 48 => ⟨S4x1x1024, .f32⟩
  | 49 => ⟨S_, .f32⟩
  | 50 => ⟨S4x1x1024, .f32⟩
  | 51 => ⟨S4x1x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S_, .f32⟩
  | 57 => ⟨S4x2048, .f32⟩
  | 58 => ⟨S4x2048x1, .f32⟩
  | 59 => ⟨S_, .f32⟩
  | 60 => ⟨S4x2048x1, .f32⟩
  | 61 => ⟨S4x2048x1, .f32⟩
  | 62 => ⟨S_, .f32⟩
  | 63 => ⟨S4x2048x1, .f32⟩
  | 64 => ⟨S4x2048x1, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1024, .f32⟩
  | 71 => ⟨S4x2048x1024, .f32⟩
  | 72 => ⟨S1x1x1024, .f32⟩
  | 73 => ⟨S4x2048x1024, .f32⟩
  | 74 => ⟨S4x2048x1024, .f32⟩
  | 75 => ⟨S4x2048x1024, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048, .f32⟩
  | 82 => ⟨S_, .f32⟩
  | 83 => ⟨S4x2048, .f32⟩
  | 84 => ⟨S4x2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4x2048, .f32⟩
  | 93 => ⟨S_, .f32⟩
  | 94 => ⟨S4x2048, .f32⟩
  | 95 => ⟨S4x2048, .f32⟩
  | 96 => ⟨S4x2048x1024, .f32⟩
  | 97 => ⟨S4x2048x1024, .f32⟩
  | 98 => ⟨S4x2048x1024, .f32⟩
  | 99 => ⟨S_, .f32⟩
  | 100 => ⟨S1024, .f32⟩
  | 101 => ⟨S1x1x1024, .f32⟩
  | 102 => ⟨S4x2048x1024, .f32⟩
  | 103 => ⟨S4x2048x1024, .f32⟩
  | 104 => ⟨S_, .f32⟩
  | 105 => ⟨S1024, .f32⟩
  | 106 => ⟨S4x2048x1024, .f32⟩
  | 107 => ⟨S_, .f32⟩
  | 108 => ⟨S4x2048, .f32⟩
  | 109 => ⟨S4x2048x1, .f32⟩
  | 110 => ⟨S4x2048x1024, .f32⟩
  | 111 => ⟨S4x2048x1024, .f32⟩
  | 112 => ⟨S4x2048x1, .f32⟩
  | 113 => ⟨S_, .f32⟩
  | 114 => ⟨S4x2048x1, .f32⟩
  | 115 => ⟨S4x2048x1, .f32⟩
  | 116 => ⟨S_, .f32⟩
  | 117 => ⟨S4x2048, .f32⟩
  | 118 => ⟨S4x2048x1024, .f32⟩
  | 119 => ⟨S4x2048x1024, .f32⟩
  | 120 => ⟨S4x2048x1024, .f32⟩
  | 121 => ⟨S4x2048x1024, .f32⟩
  | 122 => ⟨S4x2048x1024, .f32⟩
  | 123 => ⟨S8192x1024, .f32⟩
  | 124 => ⟨S1x4x2048x2816, .f32⟩
  | 125 => ⟨S1x4x2048x2816, .f32⟩
  | 126 => ⟨S2x4x2048x2816, .f32⟩
  | 127 => ⟨S2x8192x2816, .f32⟩
  | _ => ⟨S4x2048x1024, .f32⟩

abbrev hbmTy0_1 (i : Nat) : BufTy := match i % 128 with
  | 0 => ⟨S2x8192x2816, .bf16⟩
  | 1 => ⟨S8192x2816, .f32⟩
  | 2 => ⟨S8192x2816, .bf16⟩
  | 3 => ⟨S8192x1024, .f32⟩
  | 4 => ⟨S8192x1024, .bf16⟩
  | 5 => ⟨S8x128, .f32⟩
  | 6 => ⟨S1x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_cst_13 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_17 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_19 : Ref sig .tc := ⟨.hbm, 113, rfl⟩
abbrev main_v76 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== AdaFwd.lean ====
abbrev S32x1024 : Shape := ⟨2, ![32, 1024]⟩
abbrev S2x1024x2304 : Shape := ⟨3, ![2, 1024, 2304]⟩
abbrev S2x2304 : Shape := ⟨2, ![2, 2304]⟩
abbrev S2x1x2304 : Shape := ⟨3, ![2, 1, 2304]⟩
abbrev S2x32x2304 : Shape := ⟨3, ![2, 32, 2304]⟩
abbrev S1x1024x768 : Shape := ⟨3, ![1, 1024, 768]⟩
abbrev S1x1x768 : Shape := ⟨3, ![1, 1, 768]⟩
abbrev S1x32x768 : Shape := ⟨3, ![1, 32, 768]⟩
abbrev S1024x768 : Shape := ⟨2, ![1024, 768]⟩
abbrev S32x768 : Shape := ⟨2, ![32, 768]⟩
abbrev S1x768 : Shape := ⟨2, ![1, 768]⟩

abbrev nBuf : Space → Nat
  | .hbm => 6
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S2x1024x2304, .f32⟩
  | .hbm, ⟨2, _⟩ => ⟨S2x2304, .f32⟩
  | .hbm, ⟨3, _⟩ => ⟨S2x1x2304, .f32⟩
  | .hbm, ⟨4, _⟩ => ⟨S32x1024, .bf16⟩
  | .hbm, ⟨5, _⟩ => ⟨S2x32x2304, .f32⟩
  | .local _ .vmem, ⟨0, _⟩ => ⟨S32x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S32x1024, .bf16⟩
  | .local _ .vmem, ⟨6, _⟩ => ⟨S1x32x768, .f32⟩
  | .local _ .vmem, ⟨7, _⟩ => ⟨S1x32x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AdaFwdReferenceIdeal.lean ====
abbrev S32x1024 : Shape := ⟨2, ![32, 1024]⟩
abbrev S2x1024x2304 : Shape := ⟨3, ![2, 1024, 2304]⟩
abbrev S2x2304 : Shape := ⟨2, ![2, 2304]⟩
abbrev S_ : Shape := ⟨0, ![]⟩
abbrev S2x2304x32 : Shape := ⟨3, ![2, 2304, 32]⟩
abbrev S2x32x2304 : Shape := ⟨3, ![2, 32, 2304]⟩
abbrev S2x1x2304 : Shape := ⟨3, ![2, 1, 2304]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x2304, .f32⟩
  | .hbm, ⟨2, _⟩ => ⟨S2x2304, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x1024, .bf16⟩
  | .hbm, ⟨13, _⟩ => ⟨S2x2304x32, .f32⟩
  | .hbm, ⟨14, _⟩ => ⟨S2x32x2304, .f32⟩
  | .hbm, ⟨15, _⟩ => ⟨S2x1x2304, .f32⟩
  | .hbm, ⟨16, _⟩ => ⟨S2x32x2304, .f32⟩
  | .hbm, ⟨17, _⟩ => ⟨S2x32x2304, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AdaBwd.lean ====
abbrev S32x1024 : Shape := ⟨2, ![32, 1024]⟩
abbrev S2x32x2304 : Shape := ⟨3, ![2, 32, 2304]⟩
abbrev S2x1024x2304 : Shape := ⟨3, ![2, 1024, 2304]⟩
abbrev S1x32x768 : Shape := ⟨3, ![1, 32, 768]⟩
abbrev S1x1024x768 : Shape := ⟨3, ![1, 1024, 768]⟩
abbrev S32x768 : Shape := ⟨2, ![32, 768]⟩
abbrev S1024x768 : Shape := ⟨2, ![1024, 768]⟩

abbrev nBuf : Space → Nat
  | .hbm => 5
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S2x32x2304, .f32⟩
  | .hbm, ⟨2, _⟩ => ⟨S32x1024, .bf16⟩
  | .hbm, ⟨3, _⟩ => ⟨S2x32x2304, .bf16⟩
  | .hbm, ⟨4, _⟩ => ⟨S2x1024x2304, .f32⟩
  | .local _ .vmem, ⟨0, _⟩ => ⟨S32x1024, .bf16⟩
  | .local _ .vmem, ⟨1, _⟩ => ⟨S1x32x768, .bf16⟩
  | .local _ .vmem, ⟨2, _⟩ => ⟨S1x32x768, .bf16⟩
  | .local _ .vmem, ⟨3, _⟩ => ⟨S1x1024x768, .f32⟩
  | .local _ .vmem, ⟨4, _⟩ => ⟨S1x1024x768, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaBwdReferenceIdeal.lean ====
abbrev S32x1024 : Shape := ⟨2, ![32, 1024]⟩
abbrev S2x32x2304 : Shape := ⟨3, ![2, 32, 2304]⟩
abbrev S_ : Shape := ⟨0, ![]⟩
abbrev S2x1024x2304 : Shape := ⟨3, ![2, 1024, 2304]⟩
abbrev S2x2304x32 : Shape := ⟨3, ![2, 2304, 32]⟩
abbrev S2x2304x1024 : Shape := ⟨3, ![2, 2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x2304, .f32⟩
  | .hbm, ⟨2, _⟩ => ⟨S_, .f32⟩
  | .hbm, ⟨3, _⟩ => ⟨S2x1024x2304, .f32⟩
  | .hbm, ⟨4, _⟩ => ⟨S2x2304x32, .f32⟩
  | .hbm, ⟨5, _⟩ => ⟨S2x32x2304, .f32⟩
  | .hbm, ⟨6, _⟩ => ⟨S2x2304x32, .f32⟩
  | .hbm, ⟨7, _⟩ => ⟨S2x2304x1024, .f32⟩
  | .hbm, ⟨8, _⟩ => ⟨S2x1024x2304, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Colsum.lean ====
abbrev S2x32x9216 : Shape := ⟨3, ![2, 32, 9216]⟩
abbrev S2x1x9216 : Shape := ⟨3, ![2, 1, 9216]⟩
abbrev S1x32x9216 : Shape := ⟨3, ![1, 32, 9216]⟩
abbrev S1x1x9216 : Shape := ⟨3, ![1, 1, 9216]⟩
abbrev S32x9216 : Shape := ⟨2, ![32, 9216]⟩
abbrev S9216 : Shape := ⟨1, ![9216]⟩
abbrev S1x9216 : Shape := ⟨2, ![1, 9216]⟩

abbrev nBuf : Space → Nat
  | .hbm => 2
  | .vmem => 4
  | .smem => 0
  | _ => 0

abbrev bufTy : (tb : Table) → Fin (tcTables nBuf tb) → BufTy
  | .hbm, ⟨0, _⟩ => ⟨S2x32x9216, .f32⟩
  | .hbm, ⟨1, _⟩ => ⟨S2x1x9216, .f32⟩
  | .local _ .vmem, ⟨0, _⟩ => ⟨S1x32x9216, .f32⟩
  | .local _ .vmem, ⟨1, _⟩ => ⟨S1x32x9216, .f32⟩
  | .local _ .vmem, ⟨2, _⟩ => ⟨S1x1x9216, .f32⟩
  | .local _ .vmem, ⟨3, _⟩ => ⟨S1x1x9216, .f32⟩
  | _, _ => ⟨S2x32x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ColsumReferenceIdeal.lean ====
abbrev S2x32x9216 : Shape := ⟨3, ![2, 32, 9216]⟩
abbrev S_ : Shape := ⟨0, ![]⟩
abbrev S2x1x9216 : Shape := ⟨3, ![2, 1, 9216]⟩
abbrev S2x9216 : Shape := ⟨2, ![2, 9216]⟩

abbrev nBuf : Space → Nat
  | .hbm => 7
  | .vmem => 0
  | .smem => 0
  | _ => 0

abbrev bufTy : (tb : Table) → Fin (tcTables nBuf tb) → BufTy
  | .hbm, ⟨0, _⟩ => ⟨S2x32x9216, .f32⟩
  | .hbm, ⟨1, _⟩ => ⟨S_, .f32⟩
  | .hbm, ⟨2, _⟩ => ⟨S2x1x9216, .f32⟩
  | .hbm, ⟨3, _⟩ => ⟨S2x32x9216, .f32⟩
  | .hbm, ⟨4, _⟩ => ⟨S_, .f32⟩
  | .hbm, ⟨5, _⟩ => ⟨S2x9216, .f32⟩
  | .hbm, ⟨6, _⟩ => ⟨S2x1x9216, .f32⟩
  | _, _ => ⟨S2x32x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adamw.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwReferenceIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Lift.lean ====
/- Arrays of extended reals that hold real numbers, and the operations of both programs on them. -/
module

public import Idealize.ShloMosaic.Lib.Pointwise
public import Idealize.ShloMosaic.Lib.Pipeline.ValueKit

@[expose] public section

noncomputable section

namespace Cert.Lift

open Idealize.ShloMosaic

variable {n0 n1 n2 n3 n4 n5 : ℕ}

/-- A vector of real numbers, read as extended reals. -/
def up1 (n0 : ℕ) (f : ℕ → ℝ) : (⟨1, ![n0]⟩ : Shape).Idx → EReal := fun i => ((f (i 0).val : ℝ) : EReal)

/-- A matrix of real numbers. -/
def up2 (n0 n1 : ℕ) (f : ℕ → ℕ → ℝ) : (⟨2, ![n0, n1]⟩ : Shape).Idx → EReal :=
  fun i => ((f (i 0).val (i 1).val : ℝ) : EReal)

/-- A real array with three axes. -/
def up3 (n0 n1 n2 : ℕ) (f : ℕ → ℕ → ℕ → ℝ) : (⟨3, ![n0, n1, n2]⟩ : Shape).Idx → EReal :=
  fun i => ((f (i 0).val (i 1).val (i 2).val : ℝ) : EReal)

/-- A real array with four axes. -/
def up4 (n0 n1 n2 n3 : ℕ) (f : ℕ → ℕ → ℕ → ℕ → ℝ) : (⟨4, ![n0, n1, n2, n3]⟩ : Shape).Idx → EReal :=
  fun i => ((f (i 0).val (i 1).val (i 2).val (i 3).val : ℝ) : EReal)

/-- A real array with five axes. -/
def up5 (n0 n1 n2 n3 n4 : ℕ) (f : ℕ → ℕ → ℕ → ℕ → ℕ → ℝ) : (⟨5, ![n0, n1, n2, n3, n4]⟩ : Shape).Idx → EReal :=
  fun i => ((f (i 0).val (i 1).val (i 2).val (i 3).val (i 4).val : ℝ) : EReal)

@[pointwise] theorem up1_apply (f : ℕ → ℝ) (a : Fin n0) : up1 n0 f (ix1 a) = ((f a.val : ℝ) : EReal) := rfl
@[pointwise] theorem up2_apply (f : ℕ → ℕ → ℝ) (a : Fin n0) (b : Fin n1) :
    up2 n0 n1 f (ix2 a b) = ((f a.val b.val : ℝ) : EReal) := rfl
@[pointwise] theorem up3_apply (f : ℕ → ℕ → ℕ → ℝ) (a : Fin n0) (b : Fin n1) (c : Fin n2) :
    up3 n0 n1 n2 f (ix3 a b c) = ((f a.val b.val c.val : ℝ) : EReal) := rfl
@[pointwise] theorem up4_apply (f : ℕ → ℕ → ℕ → ℕ → ℝ) (a : Fin n0) (b : Fin n1) (c : Fin n2) (d : Fin n3) :
    up4 n0 n1 n2 n3 f (ix4 a b c d) = ((f a.val b.val c.val d.val : ℝ) : EReal) := rfl
@[pointwise] theorem up5_apply (f : ℕ → ℕ → ℕ → ℕ → ℕ → ℝ) (a : Fin n0) (b : Fin n1) (c : Fin n2) (d : Fin n3) (e : Fin n4) :
    up5 n0 n1 n2 n3 n4 f (ix5 a b c d e) = ((f a.val b.val c.val d.val e.val : ℝ) : EReal) := rfl

theorem up1_congr {f g : ℕ → ℝ} (h : ∀ a < n0, f a = g a) : up1 n0 f = up1 n0 g :=
  funext fun i => congrArg _ (h _ (i 0).isLt)
theorem up2_congr {f g : ℕ → ℕ → ℝ} (h : ∀ a < n0, ∀ b < n1, f a b = g a b) : up2 n0 n1 f = up2 n0 n1 g :=
  funext fun i => congrArg _ (h _ (i 0).isLt _ (i 1).isLt)
theorem up3_congr {f g : ℕ → ℕ → ℕ → ℝ} (h : ∀ a < n0, ∀ b < n1, ∀ c < n2, f a b c = g a b c) :
    up3 n0 n1 n2 f = up3 n0 n1 n2 g :=
  funext fun i => congrArg _ (h _ (i 0).isLt _ (i 1).isLt _ (i 2).isLt)

/-! ### Arithmetic of real numbers inside the extended reals, from the inside out -/

@[pointwise] theorem coe_zero' : (0 : EReal) = ((0 : ℝ) : EReal) := EReal.coe_zero.symm
@[pointwise] theorem coe_one' : (1 : EReal) = ((1 : ℝ) : EReal) := EReal.coe_one.symm
@[pointwise] theorem coe_mul' (a b : ℝ) : ((a : ℝ) : EReal) * ((b : ℝ) : EReal) = ((a * b : ℝ) : EReal) := (EReal.coe_mul a b).symm
@[pointwise] theorem coe_add' (a b : ℝ) : ((a : ℝ) : EReal) + ((b : ℝ) : EReal) = ((a + b : ℝ) : EReal) := (EReal.coe_add a b).symm
@[pointwise] theorem coe_sub' (a b : ℝ) : ((a : ℝ) : EReal) - ((b : ℝ) : EReal) = ((a - b : ℝ) : EReal) := (EReal.coe_sub a b).symm
@[pointwise] theorem coe_neg' (a : ℝ) : -((a : ℝ) : EReal) = ((-a : ℝ) : EReal) := (EReal.coe_neg a).symm
@[pointwise] theorem coe_sum' {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
@[pointwise] theorem coe_ite' (p : Prop) [Decidable p] (a b : ℝ) :
    (if p then ((a : ℝ) : EReal) else ((b : ℝ) : EReal)) = ((if p then a else b : ℝ) : EReal) := by split <;> rfl
@[pointwise] theorem coe_dite' (p : Prop) [Decidable p] (a : p → ℝ) (b : ¬p → ℝ) :
    (if h : p then ((a h : ℝ) : EReal) else ((b h : ℝ) : EReal)) = ((if h : p then a h else b h : ℝ) : EReal) := by split <;> rfl
@[pointwise] theorem coe_select' (c : BitVec 1) (a b : ℝ) :
    Scalar.select c ((a : ℝ) : EReal) ((b : ℝ) : EReal) = ((Scalar.select c a b : ℝ) : EReal) := by
  unfold Scalar.select; split <;> rfl
@[pointwise] theorem coe_exp' (a : ℝ) : Ideal.exp ((a : ℝ) : EReal) = ((Real.exp a : ℝ) : EReal) := rfl

/-- The error function on the reals. -/
def erfR (x : ℝ) : ℝ := 2 / Real.sqrt Real.pi * ∫ t in (0 : ℝ)..x, Real.exp (-(t ^ 2))
@[pointwise] theorem coe_erfc' (a : ℝ) : Ideal.erfc ((a : ℝ) : EReal) = ((1 - erfR a : ℝ) : EReal) := by
  rw [Ideal.erfc, Ideal.erf_coe, EReal.coe_sub]; rfl

theorem div_coe' (a b : ℝ) (h : b ≠ 0) : Ideal.div ((a : ℝ) : EReal) ((b : ℝ) : EReal) = ((a / b : ℝ) : EReal) := by
  rw [Ideal.div_coe h, ← EReal.coe_mul]; congr 1; field_simp
theorem rsqrt_coe' (a : ℝ) (h : 0 < a) : Ideal.rsqrt ((a : ℝ) : EReal) = (((Real.sqrt a)⁻¹ : ℝ) : EReal) := by
  rw [Ideal.rsqrt_coe, if_neg (not_lt.mpr h.le), if_neg h.ne']
theorem sqrt_coe' (a : ℝ) (h : 0 ≤ a) : Ideal.sqrt ((a : ℝ) : EReal) = ((Real.sqrt a : ℝ) : EReal) := by
  rw [Ideal.sqrt_coe, if_neg (not_lt.mpr h)]

end Cert.Lift

end
-- ==== Proof.Spec.lean ====
/- The backward pass of the half-step feed-forward as functions of real numbers, in the order of the kernel: what each
   intermediate value of both programs is at an index (batch `b`, position `s`, channel `e` or hidden channel `f`). -/
module

public import proofs.«01_k».proof.Proof.Lift

@[expose] public section

noncomputable section

namespace Cert.Spec

open Idealize.ShloMosaic Cert.Lift

/-- The small constant under the square root: the f32 value nearest to `1e-6`. -/
def EPS : ℝ := 8796093 / 8796093022208

theorem EPS_pos : 0 < EPS := by unfold EPS; norm_num

/-- The argument arrays as functions of indices. -/
structure Inp where
  /-- input of the block: batch, position, channel -/
  X : ℕ → ℕ → ℕ → ℝ
  /-- gain of the normalisation -/
  gn : ℕ → ℝ
  /-- shift: batch, channel -/
  sh : ℕ → ℕ → ℝ
  /-- scale: batch, channel -/
  sc : ℕ → ℕ → ℝ
  /-- gate of the residual branch: batch, channel -/
  gt : ℕ → ℕ → ℝ
  /-- weights into the hidden layer: channel, hidden channel (2816 of the gate, then 2816 of the value) -/
  wu : ℕ → ℕ → ℝ
  /-- weights out of the hidden layer: hidden channel, channel -/
  wd : ℕ → ℕ → ℝ
  /-- cotangent of the block's output: batch, position, channel -/
  ct : ℕ → ℕ → ℕ → ℝ

/-- The logistic function. -/
def logi (x : ℝ) : ℝ := 1 / (1 + Real.exp (-x))

namespace Inp

variable (I : Inp)

/-- mean square of a row, plus the small constant -/
def M (b s : ℕ) : ℝ := (∑ k : Fin 1024, I.X b s k.val * I.X b s k.val) / 1024 + EPS
def r (b s : ℕ) : ℝ := (Real.sqrt (I.M b s))⁻¹
def xh (b s e : ℕ) : ℝ := I.X b s e * I.r b s
def h (b s e : ℕ) : ℝ := I.xh b s e * I.gn e * (1 + I.sc b e) + I.sh b e
def gu (b s f : ℕ) : ℝ := ∑ k : Fin 1024, I.h b s k.val * I.wu k.val f
def g (b s f : ℕ) : ℝ := I.gu b s f
def u (b s f : ℕ) : ℝ := I.gu b s (2816 + f)
def sg (b s f : ℕ) : ℝ := logi (I.g b s f)
def t (b s f : ℕ) : ℝ := I.g b s f * I.sg b s f
def a (b s f : ℕ) : ℝ := I.t b s f * I.u b s f
def f (b s e : ℕ) : ℝ := ∑ k : Fin 2816, I.a b s k.val * I.wd k.val e
def df (b s e : ℕ) : ℝ := 1 / 2 * I.gt b e * I.ct b s e
def da (b s f : ℕ) : ℝ := ∑ k : Fin 1024, I.df b s k.val * I.wd f k.val
def dU (b s f : ℕ) : ℝ := I.da b s f * I.t b s f
def dG (b s f : ℕ) : ℝ := I.da b s f * I.u b s f * (I.sg b s f + I.t b s f - I.t b s f * I.sg b s f)
/-- the gradient of the two hidden arrays, the first for index 0 -/
def dgu (k b s f : ℕ) : ℝ := if k < 1 then I.dG b s f else I.dU b s f
def dh (b s e : ℕ) : ℝ :=
  (∑ k : Fin 2816, I.dG b s k.val * I.wu e k.val) + ∑ k : Fin 2816, I.dU b s k.val * I.wu e (2816 + k.val)
/-- a row's share of the scale's gradient -/
def tsc (b s e : ℕ) : ℝ := I.dh b s e * (I.xh b s e * I.gn e)
def dn (b s e : ℕ) : ℝ := I.dh b s e * (1 + I.sc b e)
/-- a row's share of the gain's gradient -/
def tgn (b s e : ℕ) : ℝ := I.dn b s e * I.xh b s e
def dy (b s e : ℕ) : ℝ := I.dn b s e * I.gn e
def mdy (b s : ℕ) : ℝ := (∑ k : Fin 1024, I.dy b s k.val * I.xh b s k.val) / 1024
def dx (b s e : ℕ) : ℝ := I.ct b s e + I.r b s * (I.dy b s e - I.xh b s e * I.mdy b s)
/-- a row's share of the gate's gradient, before the half -/
def tgt (b s e : ℕ) : ℝ := I.ct b s e * I.f b s e

theorem M_pos (b s : ℕ) : 0 < I.M b s :=
  add_pos_of_nonneg_of_pos (div_nonneg (Finset.sum_nonneg fun _ _ => mul_self_nonneg _) (by norm_num)) EPS_pos

end Inp

/-- A tile of 256 positions, number `q` of batch `b`. -/
def tile (n : ℕ) (f : ℕ → ℕ → ℕ → ℝ) (b q : ℕ) : (⟨2, ![256, n]⟩ : Shape).Idx → EReal :=
  up2 256 n fun r e => f b (q * 256 + r) e
/-- The same for one number per row. -/
def col (f : ℕ → ℕ → ℝ) (b q : ℕ) : (⟨2, ![256, 1]⟩ : Shape).Idx → EReal := up2 256 1 fun r _ => f b (q * 256 + r)
/-- A single row. -/
def row (n : ℕ) (f : ℕ → ℝ) : (⟨2, ![1, n]⟩ : Shape).Idx → EReal := up2 1 n fun _ e => f e
/-- A tile with a leading axis of length one, from channel `o` on. -/
def tile3 (n : ℕ) (f : ℕ → ℕ → ℕ → ℝ) (b q o : ℕ) : (⟨3, ![1, 256, n]⟩ : Shape).Idx → EReal :=
  up3 1 256 n fun _ r e => f b (q * 256 + r) (o + e)
/-- A tile from channel `o` on. -/
def tileo (n : ℕ) (f : ℕ → ℕ → ℕ → ℝ) (b q o : ℕ) : (⟨2, ![256, n]⟩ : Shape).Idx → EReal :=
  up2 256 n fun r e => f b (q * 256 + r) (o + e)
/-- A single row with two leading axes of length one. -/
def row3 (n : ℕ) (f : ℕ → ℝ) : (⟨3, ![1, 1, n]⟩ : Shape).Idx → EReal := up3 1 1 n fun _ _ e => f e

/-- The sum of a tile's rows. -/
def part (f : ℕ → ℕ → ℕ → ℝ) (b q e : ℕ) : ℝ := ∑ r : Fin 256, f b (q * 256 + r.val) e

@[pointwise] theorem tile_apply (n : ℕ) (f : ℕ → ℕ → ℕ → ℝ) (b q : ℕ) (r : Fin 256) (e : Fin n) :
    tile n f b q (ix2 r e) = ((f b (q * 256 + r.val) e.val : ℝ) : EReal) := rfl
@[pointwise] theorem col_apply (f : ℕ → ℕ → ℝ) (b q : ℕ) (r : Fin 256) (e : Fin 1) :
    col f b q (ix2 r e) = ((f b (q * 256 + r.val) : ℝ) : EReal) := rfl
@[pointwise] theorem row_apply (n : ℕ) (f : ℕ → ℝ) (r : Fin 1) (e : Fin n) : row n f (ix2 r e) = ((f e.val : ℝ) : EReal) := rfl
@[pointwise] theorem tile3_apply (n : ℕ) (f : ℕ → ℕ → ℕ → ℝ) (b q o : ℕ) (z : Fin 1) (r : Fin 256) (e : Fin n) :
    tile3 n f b q o (ix3 z r e) = ((f b (q * 256 + r.val) (o + e.val) : ℝ) : EReal) := rfl
@[pointwise] theorem tileo_apply (n : ℕ) (f : ℕ → ℕ → ℕ → ℝ) (b q o : ℕ) (r : Fin 256) (e : Fin n) :
    tileo n f b q o (ix2 r e) = ((f b (q * 256 + r.val) (o + e.val) : ℝ) : EReal) := rfl
@[pointwise] theorem row3_apply (n : ℕ) (f : ℕ → ℝ) (y z : Fin 1) (e : Fin n) :
    row3 n f (ix3 y z e) = ((f e.val : ℝ) : EReal) := rfl

/-! ### The literals of both programs, and the operations that need a side condition -/

@[pointwise] theorem c_zero : Ideal.ofBits .f32 0x00000000#32 = ((0 : ℝ) : EReal) := by
  simp [Ideal.ofBits, Ideal.ieee, -EReal.coe_mul]
@[pointwise] theorem c_zero16 : Ideal.ofBits .bf16 0x0000#16 = ((0 : ℝ) : EReal) := by
  simp [Ideal.ofBits, Ideal.ieee, -EReal.coe_mul]
@[pointwise] theorem c_one16 : Ideal.ofBits .bf16 0x3F80#16 = ((1 : ℝ) : EReal) := by
  simp [Ideal.ofBits, Ideal.ieee, -EReal.coe_mul]; norm_num
@[pointwise] theorem c_1024 : Ideal.ofBits .f32 0x44800000#32 = ((1024 : ℝ) : EReal) := by
  simp [Ideal.ofBits, Ideal.ieee, -EReal.coe_mul]; norm_num
@[pointwise] theorem c_eps : Ideal.ofBits .f32 0x358637BD#32 = ((EPS : ℝ) : EReal) := by
  simp [Ideal.ofBits, Ideal.ieee, -EReal.coe_mul, EPS]; norm_num
@[pointwise] theorem c_mhalf : Ideal.ofBits .f32 0xBF000000#32 = ((-(1 / 2) : ℝ) : EReal) := by
  simp [Ideal.ofBits, Ideal.ieee, -EReal.coe_mul]; norm_num
@[pointwise] theorem c_half : Ideal.ofBits .f32 0x3F000000#32 = ((1 / 2 : ℝ) : EReal) := by
  simp [Ideal.ofBits, Ideal.ieee, -EReal.coe_mul]; norm_num
@[pointwise] theorem c_one : Ideal.ofBits .f32 0x3F800000#32 = ((1 : ℝ) : EReal) := by
  simp [Ideal.ofBits, Ideal.ieee, -EReal.coe_mul]; norm_num
@[pointwise] theorem div_1024 (a : ℝ) : Ideal.div ((a : ℝ) : EReal) ((1024 : ℝ) : EReal) = ((a / 1024 : ℝ) : EReal) :=
  div_coe' a 1024 (by norm_num)
@[pointwise] theorem div_one_exp (a x : ℝ) : Ideal.div ((a : ℝ) : EReal) ((1 + Real.exp x : ℝ) : EReal)
    = ((a / (1 + Real.exp x) : ℝ) : EReal) := div_coe' a _ (by positivity)
@[pointwise] theorem rsqrt_M (I : Inp) (b s : ℕ) :
    Ideal.rsqrt (((∑ k : Fin 1024, I.X b s k.val * I.X b s k.val) / 1024 + EPS : ℝ) : EReal) = ((I.r b s : ℝ) : EReal) :=
  rsqrt_coe' _ (I.M_pos b s)
@[pointwise] theorem div_M (I : Inp) (a : ℝ) (b s : ℕ) :
    Ideal.div ((a : ℝ) : EReal) (((∑ k : Fin 1024, I.X b s k.val * I.X b s k.val) / 1024 + EPS : ℝ) : EReal)
      = ((a / I.M b s : ℝ) : EReal) := div_coe' _ _ (I.M_pos b s).ne'
@[pointwise] theorem div_M' (I : Inp) (a : ℝ) (b s : ℕ) :
    Ideal.div ((a : ℝ) : EReal) ((I.M b s : ℝ) : EReal) = ((a / I.M b s : ℝ) : EReal) := div_coe' _ _ (I.M_pos b s).ne'

/-- A sum along the two leading axes of three. -/
@[pointwise] theorem hostReduceAdd_01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  have hf : ∀ i : (⟨3, ![n0, n1, n2]⟩ : Shape).Idx, h.drop i = ix1 j ↔ ∃ k : Fin n0 × Fin n1, ix3 k.1 k.2 j = i := by
    intro i
    constructor
    · intro e
      have e2 : i 2 = j := Fin.ext (congrArg Fin.val (congrFun e 0))
      exact ⟨(i 0, i 1), by rw [← e2]; exact ix3_eta i⟩
    · rintro ⟨k, rfl⟩
      funext c
      match c with
      | ⟨0, _⟩ => rfl
  refine congrArg (init + ·) ?_
  refine (Finset.sum_filter_eq_sum_of_fiber _ (fun k : Fin n0 × Fin n1 => ix3 k.1 k.2 j)
    (fun _ _ e => Prod.ext (congrFun e 0) (congrFun e 1)) hf v).trans ?_
  simp only [Fintype.sum_prod_type]

end Cert.Spec

end
-- ==== Proof.Finite.lean ====
/- The precondition `finite`: arguments that satisfy it are arrays of real numbers. -/
module

public import proofs.«01_k».proof.Proof.Spec
public import proofs.«01_k».proof.Pre_finite
public import Idealize.ShloMosaic.Lib.ReduceAll

@[expose] public section

noncomputable section

namespace Cert.Finite

open Idealize.ShloMosaic Cert.Lift Cert.Spec

/-- The side conditions of the predicate's operations. -/
theorem facts : Cert.Pre_finite.Facts where
  bcast_S_S4x2048x1024 := by decide
  reducesTo_S4x2048x1024_S_d0_1_2 := by decide
  h_S_ := by decide
  bcast_S_S1024 := by decide
  reducesTo_S1024_S_d0 := by decide
  bcast_S_S4x1024 := by decide
  reducesTo_S4x1024_S_d0_1 := by decide
  bcast_S_S1024x5632 := by decide
  reducesTo_S1024x5632_S_d0_1 := by decide
  bcast_S_S2816x1024 := by decide
  reducesTo_S2816x1024_S_d0_1 := by decide

attribute [local instance] facts

theorem c_inf : Ideal.ofBits .f32 0x7F800000#32 = ⊤ := by
  simp [Ideal.ofBits, Ideal.ieee]

/-- An extended real whose absolute value is below infinity is real. -/
theorem real_of_abs (x : EReal) (h : max x (-x) < ⊤) : ∃ r : ℝ, x = (r : EReal) := by
  induction x with
  | bot => simp at h
  | top => simp at h
  | coe r => exact ⟨r, rfl⟩

instance : Subsingleton Cert.Pre_finite.S_.Idx := ⟨fun _ _ => funext fun i => i.elim0⟩

/-- One argument's part of the predicate. -/
theorem real_of {s : Shape} (x : FVec Ideal s .f32) {axes : List (Fin s.rank)} (hb : Cert.Pre_finite.S_.BroadcastsInDim s ![])
    (h : s.ReducesTo axes Cert.Pre_finite.S_) (hu : 0 < Cert.Pre_finite.S_.numel) (init : IVec Cert.Pre_finite.S_ 1) (j : Cert.Pre_finite.S_.Idx)
    (e : Host.reduce IntOp.andi (cmpf .olt (Host.absf x) (broadcastInDim s ![] hb (constant (F := Ideal) Cert.Pre_finite.S_ .f32 0x7F800000#32)))
      init h hu j = 1#1) (i : s.Idx) : ∃ r : ℝ, x i = (r : EReal) := by
  have h1 := Host.reduce_andi_all _ init h hu j e i
  have h2 : BitVec.ofBool (decide (max (x i) (-(x i)) < Ideal.ofBits .f32 0x7F800000#32)) = 1#1 := h1
  rw [c_inf] at h2
  refine real_of_abs _ ?_
  by_contra hc
  simp [hc] at h2

variable {n0 n1 n2 : ℕ}

theorem exists_up1 (v : (⟨1, ![n0]⟩ : Shape).Idx → EReal) (h : ∀ i, ∃ r : ℝ, v i = (r : EReal)) : ∃ f, v = up1 n0 f := by
  choose g hg using h
  refine ⟨fun a => if h : a < n0 then g (ix1 ⟨a, h⟩) else 0, funext fun i => ?_⟩
  obtain ⟨a, rfl⟩ : ∃ (a : Fin n0), i = ix1 a := ⟨i 0, eq_ix1 i⟩
  rw [hg, up1_apply, dif_pos a.isLt]
theorem exists_up2 (v : (⟨2, ![n0, n1]⟩ : Shape).Idx → EReal) (h : ∀ i, ∃ r : ℝ, v i = (r : EReal)) : ∃ f, v = up2 n0 n1 f := by
  choose g hg using h
  refine ⟨fun a b => if h : a < n0 ∧ b < n1 then g (ix2 ⟨a, h.1⟩ ⟨b, h.2⟩) else 0, funext fun i => ?_⟩
  obtain ⟨a, b, rfl⟩ : ∃ (a : Fin n0) (b : Fin n1), i = ix2 a b := ⟨i 0, i 1, eq_ix2 i⟩
  rw [hg, up2_apply, dif_pos ⟨a.isLt, b.isLt⟩]
theorem exists_up3 (v : (⟨3, ![n0, n1, n2]⟩ : Shape).Idx → EReal) (h : ∀ i, ∃ r : ℝ, v i = (r : EReal)) : ∃ f, v = up3 n0 n1 n2 f := by
  choose g hg using h
  refine ⟨fun a b c => if h : a < n0 ∧ b < n1 ∧ c < n2 then g (ix3 ⟨a, h.1⟩ ⟨b, h.2.1⟩ ⟨c, h.2.2⟩) else 0, funext fun i => ?_⟩
  obtain ⟨a, b, c, rfl⟩ : ∃ (a : Fin n0) (b : Fin n1) (c : Fin n2), i = ix3 a b c := ⟨i 0, i 1, i 2, eq_ix3 i⟩
  rw [hg, up3_apply, dif_pos ⟨a.isLt, b.isLt, c.isLt⟩]

/-- Arguments that satisfy the predicate are real arrays. -/
theorem reals (x0 : FVec Ideal Cert.Pre_finite.S4x2048x1024 .f32) (x1 : FVec Ideal Cert.Pre_finite.S1024 .f32)
    (x2 x3 x4 : FVec Ideal Cert.Pre_finite.S4x1024 .f32) (x5 : FVec Ideal Cert.Pre_finite.S1024x5632 .f32)
    (x6 : FVec Ideal Cert.Pre_finite.S2816x1024 .f32) (x7 : FVec Ideal Cert.Pre_finite.S4x2048x1024 .f32)
    (h : Cert.Pre_finite.fn (F := Ideal) x0 x1 x2 x3 x4 x5 x6 x7 = fun _ => 1#1) :
    ∃ I : Inp, x0 = up3 4 2048 1024 I.X ∧ x1 = up1 1024 I.gn ∧ x2 = up2 4 1024 I.sh ∧ x3 = up2 4 1024 I.sc ∧ x4 = up2 4 1024 I.gt
      ∧ x5 = up2 1024 5632 I.wu ∧ x6 = up2 2816 1024 I.wd ∧ x7 = up3 4 2048 1024 I.ct := by
  have h := congrFun h ix0
  rw [Cert.Pre_finite.fn, Cert.Pre_finite.fn_part1, Cert.Pre_finite.fn_part2] at h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  obtain ⟨X, hX⟩ := exists_up3 x0 (real_of x0 _ _ _ _ _ e0)
  obtain ⟨gn, hgn⟩ := exists_up1 x1 (real_of x1 _ _ _ _ _ e1)
  obtain ⟨sh, hsh⟩ := exists_up2 x2 (real_of x2 _ _ _ _ _ e2)
  obtain ⟨sc, hsc⟩ := exists_up2 x3 (real_of x3 _ _ _ _ _ e3)
  obtain ⟨gt, hgt⟩ := exists_up2 x4 (real_of x4 _ _ _ _ _ e4)
  obtain ⟨wu, hwu⟩ := exists_up2 x5 (real_of x5 _ _ _ _ _ e5)
  obtain ⟨wd, hwd⟩ := exists_up2 x6 (real_of x6 _ _ _ _ _ e6)
  obtain ⟨ct, hct⟩ := exists_up3 x7 (real_of x7 _ _ _ _ _ e7)
  exact ⟨⟨X, gn, sh, sc, gt, wu, wd, ct⟩, hX, hgn, hsh, hsc, hgt, hwu, hwd, hct⟩

end Cert.Finite

end
-- ==== Proof.Frames.lean ====
/- The frames of the three programs. -/
module

public import proofs.«01_k».proof.Defs
public import proofs.«01_k».proof.Proof.Finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import Idealize.ShloMosaic.Adequacy
public import Idealize.ShloMosaic.Init

@[expose] public section

noncomputable section

namespace Cert.Proof

open Idealize.ShloMosaic Idealize.SL.Sem Idealize.ShloMosaic.TcCoe

attribute [local instance] Cert.Finite.facts

theorem kernel_frame : Cert.quiescent_Kernel := fun m ρ _ => Cert.Kernel.Gen.frame m ρ
theorem kernelIdeal_frame : Cert.quiescent_KernelIdeal := fun m ρ _ => Cert.KernelIdeal.Gen.frame m ρ
theorem kernelIdeal_frame_finite : Cert.quiescent_KernelIdeal_pre_finite := fun m ρ _ => Cert.KernelIdeal.Gen.frame m ρ
theorem referenceIdeal_frame : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)
theorem referenceIdeal_frame_finite : Cert.quiescent_ReferenceIdeal_pre_finite := fun m ρ _ => referenceIdeal_frame m ρ trivial

end Cert.Proof

end
-- ==== Proof.Entry.lean ====
/- The arrays that the kernel's windows read, as the host lines leave them, on real arguments. -/
module

public import proofs.«01_k».proof.Proof.Gen.KernelIdeal.Value
public import proofs.«01_k».proof.Proof.Spec
public import Idealize.ShloMosaic.Lib.Pipeline.ValueKit

@[expose] public section

set_option maxRecDepth 16384

noncomputable section

namespace Cert.Entry

open Idealize.ShloMosaic Idealize.ShloMosaic.TcCoe Idealize.SL.Sem Cert.Lift Cert.Spec Cert.KernelIdeal Cert.KernelIdeal.Gen

variable (m : (ℓ : Loc nD τ sig) → Buf (Elt Ideal) ℓ) (c : Dev nD) (I : Inp)

/-- The argument arrays of device `c` hold the real numbers `I`. -/
structure Args : Prop where
  a0 : m ((c : Thread nD τ).loc main_arg0) = up3 4 2048 1024 I.X
  a1 : m ((c : Thread nD τ).loc main_arg1) = up1 1024 I.gn
  a2 : m ((c : Thread nD τ).loc main_arg2) = up2 4 1024 I.sh
  a3 : m ((c : Thread nD τ).loc main_arg3) = up2 4 1024 I.sc
  a4 : m ((c : Thread nD τ).loc main_arg4) = up2 4 1024 I.gt
  a5 : m ((c : Thread nD τ).loc main_arg5) = up2 1024 5632 I.wu
  a6 : m ((c : Thread nD τ).loc main_arg6) = up2 2816 1024 I.wd
  a7 : m ((c : Thread nD τ).loc main_arg7) = up3 4 2048 1024 I.ct

variable {m c I}

/-- The contents at the kernel's start, stretch by stretch: the lines before the call of silu, the call, the lines after. -/
abbrev σ1 (m : (ℓ : Loc nD τ sig) → Buf (Elt Ideal) ℓ) (c : Dev nD) : Valuation τ sig (Elt Ideal) :=
  StableHlo.after (hostOps0 (F := Ideal)) fun b => m (c, b)

theorem V_eq (b : Ref sig .tc) : V m c b
    = StableHlo.after (hostOps0_2 (F := Ideal)) (StableHlo.after (hostOps0_1 (F := Ideal)) (σ1 m c)) (Proc.tc.devRef b) := by
  show StableHlo.after _ _ _ = _
  simp only [List.flatten_cons, List.flatten_nil, List.append_nil, StableHlo.after_append]

theorem s22 (h : Args m c I) : σ1 m c (Proc.tc.devRef main_v22) = up3 4 2048 2816 I.g := by
  unfold σ1; entry_read; rw [h.a0, h.a1, h.a2, h.a3, h.a5]; funext j; idx_vars j; pointwise []; rfl
theorem s23 (h : Args m c I) : σ1 m c (Proc.tc.devRef main_v23) = up3 4 2048 2816 I.u := by
  unfold σ1; entry_read; rw [h.a0, h.a1, h.a2, h.a3, h.a5]; funext j; idx_vars j; pointwise []; rfl
theorem s6 (h : Args m c I) : σ1 m c (Proc.tc.devRef main_arg6) = up2 2816 1024 I.wd := by
  unfold σ1; entry_read; exact h.a6

/-- silu of the first hidden array -/
theorem silu (σ : Valuation τ sig (Elt Ideal)) (h : σ (Proc.tc.devRef main_v22) = up3 4 2048 2816 I.g) :
    StableHlo.after (hostOps0_1 (F := Ideal)) σ (Proc.tc.devRef main_v24) = up3 4 2048 2816 I.t := by
  entry_read; rw [h]
  show mulf (F := Ideal) (φ := .f32) (up3 4 2048 2816 I.g) (Host.divf (broadcastInDim S4x2048x2816 ![] bcast_S_S4x2048x2816
    (constant S_ FTy.f32 1065353216#32)) (addf (broadcastInDim S4x2048x2816 ![] bcast_S_S4x2048x2816
    (constant S_ FTy.f32 1065353216#32)) (Host.exp (Host.negf (up3 4 2048 2816 I.g))))) = _
  funext j; idx_vars j; pointwise []; rfl

theorem t22 (σ : Valuation τ sig (Elt Ideal)) :
    StableHlo.after (hostOps0_1 (F := Ideal)) σ (Proc.tc.devRef main_v22) = σ (Proc.tc.devRef main_v22) := by
  entry_read; rfl
theorem t23 (σ : Valuation τ sig (Elt Ideal)) :
    StableHlo.after (hostOps0_1 (F := Ideal)) σ (Proc.tc.devRef main_v23) = σ (Proc.tc.devRef main_v23) := by
  entry_read; rfl
theorem t6 (σ : Valuation τ sig (Elt Ideal)) :
    StableHlo.after (hostOps0_1 (F := Ideal)) σ (Proc.tc.devRef main_arg6) = σ (Proc.tc.devRef main_arg6) := by
  entry_read; rfl

theorem e32 (h : Args m c I) : V m c main_v32
    = up3 2 8192 2816 fun k n f => if k < 1 then I.g (n / 2048) (n % 2048) f else I.u (n / 2048) (n % 2048) f := by
  rw [V_eq]
  generalize hσ : StableHlo.after (hostOps0_1 (F := Ideal)) (σ1 m c) = σ
  entry_read
  rw [← hσ, t22, t23, s22 h, s23 h]; funext j; idx_vars j; pointwise []; rfl
theorem e36 (h : Args m c I) : V m c main_v36 = up2 8192 1024 fun n e => I.f (n / 2048) (n % 2048) e := by
  rw [V_eq]
  generalize hσ : StableHlo.after (hostOps0_1 (F := Ideal)) (σ1 m c) = σ
  entry_read
  rw [← hσ, silu _ (s22 h), t23, t6, s23 h, s6 h]; funext j; idx_vars j; pointwise []; rfl

theorem e33 (h : Args m c I) : V m c main_v33 = up2 8192 1024 fun n e => I.ct (n / 2048) (n % 2048) e := by
  rw [V_eq]; entry_read
  rw [show m (c, Proc.tc.devRef main_arg7) = _ from h.a7]; funext j; idx_vars j; pointwise []
theorem e34 (h : Args m c I) : V m c main_v34 = up2 8192 1024 fun n e => I.X (n / 2048) (n % 2048) e := by
  rw [V_eq]; entry_read
  rw [show m (c, Proc.tc.devRef main_arg0) = _ from h.a0]; funext j; idx_vars j; pointwise []
theorem e37 (h : Args m c I) : V m c main_v37 = up2 1 1024 fun _ e => I.gn e := by
  rw [V_eq]; entry_read
  rw [show m (c, Proc.tc.devRef main_arg1) = _ from h.a1]; funext j; idx_vars j; pointwise []
theorem e38 (h : Args m c I) : V m c main_v38 = up3 4 1 1024 fun b _ e => I.sh b e := by
  rw [V_eq]; entry_read
  rw [show m (c, Proc.tc.devRef main_arg2) = _ from h.a2]; funext j; idx_vars j; pointwise []
theorem e39 (h : Args m c I) : V m c main_v39 = up3 4 1 1024 fun b _ e => I.sc b e := by
  rw [V_eq]; entry_read
  rw [show m (c, Proc.tc.devRef main_arg3) = _ from h.a3]; funext j; idx_vars j; pointwise []
theorem e40 (h : Args m c I) : V m c main_v40 = up3 4 1 1024 fun b _ e => I.gt b e := by
  rw [V_eq]; entry_read
  rw [show m (c, Proc.tc.devRef main_arg4) = _ from h.a4]; funext j; idx_vars j; pointwise []
theorem e41 (h : Args m c I) : V m c main_v41 = up2 1024 5632 I.wu := by
  rw [V_eq]; entry_read
  rw [show m (c, Proc.tc.devRef main_arg5) = _ from h.a5]; funext j; idx_vars j; pointwise []
theorem e42 (h : Args m c I) : V m c main_v42 = up2 2816 1024 I.wd := by
  rw [V_eq]; entry_read
  rw [show m (c, Proc.tc.devRef main_arg6) = _ from h.a6]; funext j; idx_vars j; pointwise []

end Cert.Entry

end
-- ==== Proof.Pay.lean ====
/- The kernel's body on one tile of 256 positions: what each of its values is, as real numbers. -/
module

public import proofs.«01_k».proof.Proof.Gen.KernelIdeal.Skeleton
public import proofs.«01_k».proof.Proof.Spec

@[expose] public section

set_option maxRecDepth 16384

noncomputable section

namespace Cert.Pay

open Idealize.ShloMosaic Cert.Lift Cert.Spec Cert.KernelIdeal Cert.KernelIdeal.Gen

variable (I : Inp) (b q : ℕ)

/-! ### Copies of a block under another shape -/

theorem pay7 (f : ℕ → ℝ) : k0_pay7 (F := Ideal) (row 1024 f) = row 1024 f := by
  funext j; idx_vars j; pointwise [k0_pay7]
theorem pay8 (f : ℕ → ℝ) : k0_pay8 (F := Ideal) (row3 1024 f) = row 1024 f := by
  funext j; idx_vars j; pointwise [k0_pay8]
theorem pay9 (f : ℕ → ℕ → ℕ → ℝ) : k0_pay9 (F := Ideal) (tile 1024 f b q) = tile 1024 f b q := by
  funext j; idx_vars j; pointwise [k0_pay9]
theorem pay10 (f : ℕ → ℕ → ℕ → ℝ) : k0_pay10 (F := Ideal) (tile 1024 f b q) = tile 1024 f b q := by
  funext j; idx_vars j; pointwise [k0_pay10]

/-! ### The hidden layer, in slabs of channels -/

theorem pay11 : k0_pay11 (F := Ideal) (tile 1024 I.ct b q) (row3 1024 (I.gt b)) = tile 1024 I.df b q := by
  rw [k0_pay11, pay9]; funext j; idx_vars j; pointwise []; rfl
theorem pay12 : k0_pay12 (F := Ideal) (tile 1024 I.ct b q) (row3 1024 (I.gt b)) (up2 768 1024 I.wd) = tileo 768 I.da b q 0 := by
  rw [k0_pay12, pay11]; funext j; idx_vars j; pointwise []; simp [Inp.da]
theorem pay13 : k0_pay13 (F := Ideal) (tile 1024 I.df b q) (up2 768 1024 fun k e => I.wd (768 + k) e) = tileo 768 I.da b q 768 := by
  funext j; idx_vars j; pointwise [k0_pay13]; rfl
theorem pay20 : k0_pay20 (F := Ideal) (tile 1024 I.df b q) (up2 768 1024 fun k e => I.wd (1536 + k) e) = tileo 768 I.da b q 1536 := by
  funext j; idx_vars j; pointwise [k0_pay20]; rfl
theorem pay28 : k0_pay28 (F := Ideal) (tile 1024 I.df b q) (up2 512 1024 fun k e => I.wd (2304 + k) e) = tileo 512 I.da b q 2304 := by
  funext j; idx_vars j; pointwise [k0_pay28]; rfl

variable (o : ℕ)

theorem pay14 (f : ℕ → ℕ → ℕ → ℝ) : k0_pay14 (F := Ideal) (tile3 768 f b q o) = tileo 768 f b q o := by
  funext j; idx_vars j; pointwise [k0_pay14]
theorem pay15 : k0_pay15 (F := Ideal) (tile3 768 I.g b q o) = tileo 768 I.sg b q o := by
  rw [k0_pay15, pay14]; funext j; idx_vars j; pointwise []; simp [Inp.sg, logi]
theorem pay16 : k0_pay16 (F := Ideal) (tile3 768 I.g b q o) = tileo 768 I.t b q o := by
  rw [k0_pay16, pay14, pay15]; funext j; idx_vars j; pointwise []; rfl
theorem pay18 : k0_pay18 (F := Ideal) (tileo 768 I.da b q o) (tile3 768 I.g b q o) = tile3 768 I.dU b q o := by
  rw [k0_pay18, pay16]; funext j; idx_vars j; pointwise [k0_pay17]; rfl
theorem pay19 : k0_pay19 (F := Ideal) (tileo 768 I.da b q o) (tile3 768 I.g b q o) (tile3 768 I.u b q o) = tile3 768 I.dG b q o := by
  rw [k0_pay19, pay16, pay15]; funext j; idx_vars j; pointwise [k0_pay17]; rfl
theorem pay21 (f : ℕ → ℕ → ℕ → ℝ) : k0_pay21 (F := Ideal) (tile3 768 f b q o) = tileo 768 f b q o := by
  funext j; idx_vars j; pointwise [k0_pay21]
theorem pay22 : k0_pay22 (F := Ideal) (tile3 768 I.g b q o) = tileo 768 (fun b s f => Real.exp (-I.g b s f)) b q o := by
  rw [k0_pay22, pay21]; funext j; idx_vars j; pointwise []; simp
theorem pay23 : k0_pay23 (F := Ideal) (tileo 768 (fun b s f => Real.exp (-I.g b s f)) b q o) = tileo 768 I.sg b q o := by
  funext j; idx_vars j; pointwise [k0_pay23]; rfl
theorem pay24 : k0_pay24 (F := Ideal) (tileo 768 I.g b q o) (tileo 768 (fun b s f => Real.exp (-I.g b s f)) b q o)
    = tileo 768 I.t b q o := by
  rw [k0_pay24, pay23]; funext j; idx_vars j; pointwise []; rfl
theorem pay26 : k0_pay26 (F := Ideal) (tileo 768 I.da b q o) (tileo 768 I.g b q o)
    (tileo 768 (fun b s f => Real.exp (-I.g b s f)) b q o) = tile3 768 I.dU b q o := by
  rw [k0_pay26, pay24]; funext j; idx_vars j; pointwise [k0_pay25]; rfl
theorem pay27 : k0_pay27 (F := Ideal) (tileo 768 I.da b q o) (tileo 768 I.g b q o)
    (tileo 768 (fun b s f => Real.exp (-I.g b s f)) b q o) (tile3 768 I.u b q o) = tile3 768 I.dG b q o := by
  rw [k0_pay27, pay24, pay23]; funext j; idx_vars j; pointwise [k0_pay25]; rfl
theorem pay29 (f : ℕ → ℕ → ℕ → ℝ) : k0_pay29 (F := Ideal) (tile3 768 f b q o) = tileo 768 f b q o := by
  funext j; idx_vars j; pointwise [k0_pay29]
theorem pay30 : k0_pay30 (F := Ideal) (tile3 768 I.g b q o) = tileo 768 I.sg b q o := by
  rw [k0_pay30, pay29]; funext j; idx_vars j; pointwise []; simp [Inp.sg, logi]
theorem pay31 : k0_pay31 (F := Ideal) (tile3 768 I.g b q o) = tileo 768 I.t b q o := by
  rw [k0_pay31, pay29, pay30]; funext j; idx_vars j; pointwise []; rfl
theorem pay32 (f : ℕ → ℕ → ℕ → ℝ) : k0_pay32 (F := Ideal) (tileo 768 f b q o) = tileo 768 f b q o := by
  funext j; idx_vars j; pointwise [k0_pay32]
theorem pay33 : k0_pay33 (F := Ideal) (tileo 768 I.da b q o) (tile3 768 I.g b q o) = tileo 768 I.dU b q o := by
  rw [k0_pay33, pay31, pay32]; funext j; idx_vars j; pointwise []; rfl
theorem pay34 (f : ℕ → ℕ → ℕ → ℝ) : k0_pay34 (F := Ideal) (tileo 768 f b q o) = tile3 768 f b q o := by
  funext j; idx_vars j; pointwise [k0_pay34]
theorem pay35 : k0_pay35 (F := Ideal) (tileo 768 I.sg b q o) (tileo 768 I.t b q o) (tileo 768 I.da b q o) (tile3 768 I.u b q o)
    = tile3 768 I.dG b q o := by
  funext j; idx_vars j; pointwise [k0_pay35]; rfl
theorem pay36 (f : ℕ → ℕ → ℕ → ℝ) : k0_pay36 (F := Ideal) (tile3 512 f b q o) = tileo 512 f b q o := by
  funext j; idx_vars j; pointwise [k0_pay36]
theorem pay37 : k0_pay37 (F := Ideal) (tile3 512 I.g b q o) = tileo 512 I.sg b q o := by
  rw [k0_pay37, pay36]; funext j; idx_vars j; pointwise []; simp [Inp.sg, logi]
theorem pay38 : k0_pay38 (F := Ideal) (tile3 512 I.g b q o) = tileo 512 I.t b q o := by
  rw [k0_pay38, pay36, pay37]; funext j; idx_vars j; pointwise []; rfl
theorem pay40 : k0_pay40 (F := Ideal) (tileo 512 I.da b q o) (tile3 512 I.g b q o) = tile3 512 I.dU b q o := by
  rw [k0_pay40, pay38]; funext j; idx_vars j; pointwise [k0_pay39]; rfl
theorem pay41 : k0_pay41 (F := Ideal) (tileo 512 I.da b q o) (tile3 512 I.g b q o) (tile3 512 I.u b q o) = tileo 512 I.dG b q o := by
  rw [k0_pay41, pay38, pay37]; funext j; idx_vars j; pointwise [k0_pay39]; rfl
theorem pay42 (f : ℕ → ℕ → ℕ → ℝ) : k0_pay42 (F := Ideal) (tileo 512 f b q o) = tile3 512 f b q o := by
  funext j; idx_vars j; pointwise [k0_pay42]

/-! ### Back through the first product and the normalisation -/

/-- The two halves of the weights into the hidden layer. -/
def wuG : (⟨2, ![1024, 2816]⟩ : Shape).Idx → EReal := up2 1024 2816 I.wu
def wuU : (⟨2, ![1024, 2816]⟩ : Shape).Idx → EReal := up2 1024 2816 fun e f => I.wu e (2816 + f)
@[pointwise] theorem wuG_apply (e : Fin 1024) (f : Fin 2816) : wuG I (ix2 e f) = ((I.wu e.val f.val : ℝ) : EReal) := rfl
@[pointwise] theorem wuU_apply (e : Fin 1024) (f : Fin 2816) : wuU I (ix2 e f) = ((I.wu e.val (2816 + f.val) : ℝ) : EReal) := rfl

theorem pay43 : k0_pay43 (F := Ideal) (tile3 2816 I.dG b q 0) (wuG I) (tile3 2816 I.dU b q 0) (wuU I) = tile 1024 I.dh b q := by
  funext j; idx_vars j; pointwise [k0_pay43]; simp [Inp.dh]
theorem pay44 : k0_pay44 (F := Ideal) (tile 1024 I.X b q) = col I.r b q := by
  funext j; idx_vars j; pointwise [k0_pay44]
theorem pay45 : k0_pay45 (F := Ideal) (tile 1024 I.X b q) = tile 1024 I.xh b q := by
  rw [k0_pay45, pay44]; funext j; idx_vars j; pointwise []; rfl
theorem pay46 : k0_pay46 (F := Ideal) (row 1024 I.gn) (tile 1024 I.X b q) (tile3 2816 I.dG b q 0) (wuG I) (tile3 2816 I.dU b q 0) (wuU I)
    = row 1024 (part I.tsc b q) := by
  rw [k0_pay46, pay45, pay43]; funext j; idx_vars j; pointwise []; simp [part, Inp.tsc]
theorem pay47 : k0_pay47 (F := Ideal) (tile3 2816 I.dG b q 0) (wuG I) (tile3 2816 I.dU b q 0) (wuU I) = row 1024 (part I.dh b q) := by
  rw [k0_pay47, pay43]; funext j; idx_vars j; pointwise []; simp [part]
theorem pay48 : k0_pay48 (F := Ideal) (row 1024 (I.sc b)) (tile3 2816 I.dG b q 0) (wuG I) (tile3 2816 I.dU b q 0) (wuU I)
    = tile 1024 I.dn b q := by
  rw [k0_pay48, pay43]; funext j; idx_vars j; pointwise []; rfl
theorem pay49 : k0_pay49 (F := Ideal) (row 1024 (I.sc b)) (tile 1024 I.X b q) (tile3 2816 I.dG b q 0) (wuG I) (tile3 2816 I.dU b q 0) (wuU I)
    = row 1024 (part I.tgn b q) := by
  rw [k0_pay49, pay48, pay45]; funext j; idx_vars j; pointwise []; simp [part, Inp.tgn]
theorem pay50 : k0_pay50 (F := Ideal) (row 1024 I.gn) (row 1024 (I.sc b)) (tile3 2816 I.dG b q 0) (wuG I) (tile3 2816 I.dU b q 0) (wuU I)
    = tile 1024 I.dy b q := by
  rw [k0_pay50, pay48]; funext j; idx_vars j; pointwise []; rfl
theorem pay51 : k0_pay51 (F := Ideal) (row 1024 I.gn) (row 1024 (I.sc b)) (tile 1024 I.X b q) (tile3 2816 I.dG b q 0) (wuG I)
    (tile3 2816 I.dU b q 0) (wuU I) = tile 1024 (fun b s e => I.dy b s e * I.xh b s e) b q := by
  rw [k0_pay51, pay50, pay45]; funext j; idx_vars j; pointwise []
theorem pay52 : k0_pay52 (F := Ideal) (tile 1024 I.ct b q) (col I.r b q) (tile 1024 I.xh b q) (tile 1024 I.dy b q)
    (tile 1024 (fun b s e => I.dy b s e * I.xh b s e) b q) = tile 1024 I.dx b q := by
  funext j; idx_vars j; pointwise [k0_pay52]; simp [Inp.dx, Inp.mdy]
theorem pay53 : k0_pay53 (F := Ideal) (row 1024 I.gn) (row 1024 (I.sc b)) (tile 1024 I.X b q) (row3 1024 (I.sh b)) = tile 1024 I.h b q := by
  funext j; idx_vars j; pointwise [k0_pay53]; rfl
theorem pay4 : k0_pay4 (F := Ideal) (tile 1024 I.ct b q) (tile 1024 I.f b q) = row 1024 fun e => 1 / 2 * part I.tgt b q e := by
  funext j; idx_vars j; pointwise [k0_pay4]; simp [part, Inp.tgt]

/-! ### The running sums over tiles -/

theorem pay1 (f : ℕ → ℝ) : k0_pay1 (F := Ideal) (row 1024 f) = row3 1024 f := by
  funext j; idx_vars j; pointwise [k0_pay1]
theorem pay2 (f p : ℕ → ℝ) : k0_pay2 (F := Ideal) (row 1024 f) (row3 1024 p) = row3 1024 fun e => p e + f e := by
  funext j; idx_vars j; pointwise [k0_pay2]
theorem pay3 (f p : ℕ → ℝ) : k0_pay3 (F := Ideal) (row 1024 f) (row 1024 p) = row 1024 fun e => p e + f e := by
  funext j; idx_vars j; pointwise [k0_pay3]
theorem pay5 : k0_pay5 (F := Ideal) (tile 1024 I.ct b q) (tile 1024 I.f b q) = row3 1024 fun e => 1 / 2 * part I.tgt b q e := by
  rw [k0_pay5, pay4]; funext j; idx_vars j; pointwise []
theorem pay6 (p : ℕ → ℝ) : k0_pay6 (F := Ideal) (tile 1024 I.ct b q) (tile 1024 I.f b q) (row3 1024 p)
    = row3 1024 fun e => p e + 1 / 2 * part I.tgt b q e := by
  rw [k0_pay6, pay4]; funext j; idx_vars j; pointwise []
theorem pay54 (f : ℕ → ℝ) : k0_pay54 (F := Ideal) (row 1024 f) = row3 1024 f := by
  funext j; idx_vars j; pointwise [k0_pay54]
theorem pay55 (f p : ℕ → ℝ) : k0_pay55 (F := Ideal) (row 1024 f) (row3 1024 p) = row3 1024 fun e => p e + f e := by
  funext j; idx_vars j; pointwise [k0_pay55]

end Cert.Pay

end
-- ==== Proof.Blk.lean ====
/- The kernel's input blocks at a grid point, on real arguments: point `t` reads tile `t % 8` of batch `t / 8`. -/
module

public import proofs.«01_k».proof.Proof.Entry
public import proofs.«01_k».proof.Proof.Pay

@[expose] public section

set_option maxRecDepth 16384

noncomputable section

namespace Cert.Blk

open Idealize.ShloMosaic Idealize.ShloMosaic.TcCoe Idealize.SL.Sem Cert.Lift Cert.Spec Cert.Pay Cert.KernelIdeal Cert.KernelIdeal.Gen Cert.Entry

theorem idx_tile : ∀ t : Fin cfg0.N, win0_0.index t = ![t.val, 0] ∧ win0_1.index t = ![t.val, 0] ∧ win0_3.index t = ![t.val, 0]
    ∧ win0_10.index t = ![t.val, 0] ∧ win0_12.index t = ![t.val, 0] ∧ win0_13.index t = ![t.val, 0] :=
  (by decide +kernel : ∀ t : Fin grid0.N, win0_0.index t = ![t.val, 0] ∧ win0_1.index t = ![t.val, 0] ∧ win0_3.index t = ![t.val, 0]
    ∧ win0_10.index t = ![t.val, 0] ∧ win0_12.index t = ![t.val, 0] ∧ win0_13.index t = ![t.val, 0])
theorem idx_pair : ∀ t : Fin cfg0.N, win0_2.index t = ![0, t.val, 0] ∧ win0_11.index t = ![0, t.val, 0] :=
  (by decide +kernel : ∀ t : Fin grid0.N, win0_2.index t = ![0, t.val, 0] ∧ win0_11.index t = ![0, t.val, 0])
theorem idx_whole : ∀ t : Fin cfg0.N, win0_4.index t = ![0, 0] ∧ win0_8.index t = ![0, 0] ∧ win0_9.index t = ![0, 0]
    ∧ win0_16.index t = ![0, 0] :=
  (by decide +kernel : ∀ t : Fin grid0.N, win0_4.index t = ![0, 0] ∧ win0_8.index t = ![0, 0] ∧ win0_9.index t = ![0, 0]
    ∧ win0_16.index t = ![0, 0])
theorem idx_batch : ∀ t : Fin cfg0.N, win0_5.index t = ![t.val / 8, 0, 0] ∧ win0_6.index t = ![t.val / 8, 0, 0]
    ∧ win0_7.index t = ![t.val / 8, 0, 0] ∧ win0_14.index t = ![t.val / 8, 0, 0] ∧ win0_15.index t = ![t.val / 8, 0, 0]
    ∧ win0_17.index t = ![t.val / 8, 0, 0] :=
  (by decide +kernel : ∀ t : Fin grid0.N, win0_5.index t = ![t.val / 8, 0, 0] ∧ win0_6.index t = ![t.val / 8, 0, 0]
    ∧ win0_7.index t = ![t.val / 8, 0, 0] ∧ win0_14.index t = ![t.val / 8, 0, 0] ∧ win0_15.index t = ![t.val / 8, 0, 0]
    ∧ win0_17.index t = ![t.val / 8, 0, 0])

variable {m : (ℓ : Loc nD τ sig) → Buf (Elt Ideal) ℓ} {c : Dev nD} {I : Inp}

/-- The two hidden arrays' tile. -/
def guT (I : Inp) (b q : ℕ) : (⟨3, ![2, 256, 2816]⟩ : Shape).Idx → EReal :=
  up3 2 256 2816 fun k r f => if k < 1 then I.g b (q * 256 + r) f else I.u b (q * 256 + r) f

/-- The batch and the position of row `r` of tile `t`. -/
theorem pos_eq (F : ℕ → ℕ → ℕ → ℝ) (t : Fin cfg0.N) (r : ℕ) (hr : r < 256) {p e e' : ℕ} (hp : p = t.val * 256 + r) (he : e = e') :
    ((F (p / 2048) (p % 2048) e : ℝ) : EReal) = ((F (t.val / 8) (t.val % 8 * 256 + r) e' : ℝ) : EReal) := by
  subst hp he
  rw [show (t.val * 256 + r) / 2048 = t.val / 8 by omega, show (t.val * 256 + r) % 2048 = t.val % 8 * 256 + r by omega]
theorem whole_eq (F : ℕ → ℕ → ℝ) {a a' b b' : ℕ} (ha : a = a') (hb : b = b') : ((F a b : ℝ) : EReal) = ((F a' b' : ℝ) : EReal) := by
  subst ha hb; rfl

theorem b0 (h : Args m c I) (t : Fin cfg0.N) : iblk m c 0 t = tile 1024 I.ct (t.val / 8) (t.val % 8) := by
  funext y; unfold iblk; idx_vars y; blk_simp; rw [show V m c (Pipeline.arrRef spec0 0) = _ from e33 h]
  exact pos_eq I.ct t y0.val y0.isLt (by blk_simp [(idx_tile t).1]) (by blk_simp [(idx_tile t).1])
theorem b1 (h : Args m c I) (t : Fin cfg0.N) : iblk m c 1 t = tile 1024 I.X (t.val / 8) (t.val % 8) := by
  funext y; unfold iblk; idx_vars y; blk_simp; rw [show V m c (Pipeline.arrRef spec0 1) = _ from e34 h]
  exact pos_eq I.X t y0.val y0.isLt (by blk_simp [(idx_tile t).2.1]) (by blk_simp [(idx_tile t).2.1])
theorem b3 (h : Args m c I) (t : Fin cfg0.N) : iblk m c 3 t = tile 1024 I.f (t.val / 8) (t.val % 8) := by
  funext y; unfold iblk; idx_vars y; blk_simp; rw [show V m c (Pipeline.arrRef spec0 3) = _ from e36 h]
  exact pos_eq I.f t y0.val y0.isLt (by blk_simp [(idx_tile t).2.2.1]) (by blk_simp [(idx_tile t).2.2.1])
theorem b4 (h : Args m c I) (t : Fin cfg0.N) : iblk m c 4 t = row 1024 I.gn := by
  funext y; unfold iblk; idx_vars y; blk_simp; rw [show V m c (Pipeline.arrRef spec0 4) = _ from e37 h]
  exact whole_eq (fun _ e => I.gn e) (rfl : y0.val = y0.val) (by blk_simp [(idx_whole t).1])
theorem b8 (h : Args m c I) (t : Fin cfg0.N) : iblk m c 8 t = up2 1024 5632 I.wu := by
  funext y; unfold iblk; idx_vars y; blk_simp; rw [show V m c (Pipeline.arrRef spec0 8) = _ from e41 h]
  exact whole_eq (I.wu) (by blk_simp [(idx_whole t).2.1]) (by blk_simp [(idx_whole t).2.1])
theorem b9 (h : Args m c I) (t : Fin cfg0.N) : iblk m c 9 t = up2 2816 1024 I.wd := by
  funext y; unfold iblk; idx_vars y; blk_simp; rw [show V m c (Pipeline.arrRef spec0 9) = _ from e42 h]
  exact whole_eq (I.wd) (by blk_simp [(idx_whole t).2.2.1]) (by blk_simp [(idx_whole t).2.2.1])
theorem b5 (h : Args m c I) (t : Fin cfg0.N) : iblk m c 5 t = row3 1024 (I.sh (t.val / 8)) := by
  funext y; unfold iblk; idx_vars y; blk_simp; rw [show V m c (Pipeline.arrRef spec0 5) = _ from e38 h]
  exact whole_eq I.sh (by have := y0.isLt; blk_simp [(idx_batch t).1]) (by blk_simp [(idx_batch t).1])
theorem b6 (h : Args m c I) (t : Fin cfg0.N) : iblk m c 6 t = row3 1024 (I.sc (t.val / 8)) := by
  funext y; unfold iblk; idx_vars y; blk_simp; rw [show V m c (Pipeline.arrRef spec0 6) = _ from e39 h]
  exact whole_eq I.sc (by have := y0.isLt; blk_simp [(idx_batch t).2.1]) (by blk_simp [(idx_batch t).2.1])
theorem b7 (h : Args m c I) (t : Fin cfg0.N) : iblk m c 7 t = row3 1024 (I.gt (t.val / 8)) := by
  funext y; unfold iblk; idx_vars y; blk_simp; rw [show V m c (Pipeline.arrRef spec0 7) = _ from e40 h]
  exact whole_eq I.gt (by have := y0.isLt; blk_simp [(idx_batch t).2.2.1]) (by blk_simp [(idx_batch t).2.2.1])
theorem b2 (h : Args m c I) (t : Fin cfg0.N) : iblk m c 2 t = guT I (t.val / 8) (t.val % 8) := by
  funext y; unfold iblk; idx_vars y; blk_simp; rw [show V m c (Pipeline.arrRef spec0 2) = _ from e32 h]
  have e0 : ((win0_2.blk t).view.emb (ix3 y0 y1 y2) 0).val = y0.val := by blk_simp [(idx_pair t).1]
  refine Eq.trans ?_ (pos_eq (fun b s f => if y0.val < 1 then I.g b s f else I.u b s f) t y1.val y1.isLt
    (p := ((win0_2.blk t).view.emb (ix3 y0 y1 y2) 1).val) (e := ((win0_2.blk t).view.emb (ix3 y0 y1 y2) 2).val)
    (by blk_simp [(idx_pair t).1]) (by blk_simp [(idx_pair t).1]))
  rw [← e0]; rfl

/-! ### Parts of a block, as the body loads them -/

variable (I) (b q : ℕ)

theorem ld0_0 : View.ld (Val := Elt Ideal) (S := S2x256x2816) (e' := .bf16) (guT I b q) (Rect.unit ![0, 0, 0] ![1, 256, 768] inb_S2x256x2816_S1x256x768_0_0_0)
    = tile3 768 I.g b q 0 := by
  rw [guT]; funext y; idx_vars y; pointwise
theorem ld1_0 : View.ld (Val := Elt Ideal) (S := S2x256x2816) (e' := .bf16) (guT I b q) (Rect.unit ![1, 0, 0] ![1, 256, 768] inb_S2x256x2816_S1x256x768_1_0_0)
    = tile3 768 I.u b q 0 := by
  rw [guT]; funext y; idx_vars y; pointwise
theorem ldw_0 : View.ld (Val := Elt Ideal) (S := S2816x1024) (e' := .bf16) (up2 2816 1024 I.wd) (Rect.unit ![0, 0] ![768, 1024] inb_S2816x1024_S768x1024_0_0)
    = up2 768 1024 I.wd := by
  funext y; idx_vars y; pointwise
theorem ld0_768 : View.ld (Val := Elt Ideal) (S := S2x256x2816) (e' := .bf16) (guT I b q) (Rect.unit ![0, 0, 768] ![1, 256, 768] inb_S2x256x2816_S1x256x768_0_0_768)
    = tile3 768 I.g b q 768 := by
  rw [guT]; funext y; idx_vars y; pointwise
theorem ld1_768 : View.ld (Val := Elt Ideal) (S := S2x256x2816) (e' := .bf16) (guT I b q) (Rect.unit ![1, 0, 768] ![1, 256, 768] inb_S2x256x2816_S1x256x768_1_0_768)
    = tile3 768 I.u b q 768 := by
  rw [guT]; funext y; idx_vars y; pointwise
theorem ldw_768 : View.ld (Val := Elt Ideal) (S := S2816x1024) (e' := .bf16) (up2 2816 1024 I.wd) (Rect.unit ![768, 0] ![768, 1024] inb_S2816x1024_S768x1024_768_0)
    = up2 768 1024 (fun k e => I.wd (768 + k) e) := by
  funext y; idx_vars y; pointwise
theorem ld0_1536 : View.ld (Val := Elt Ideal) (S := S2x256x2816) (e' := .bf16) (guT I b q) (Rect.unit ![0, 0, 1536] ![1, 256, 768] inb_S2x256x2816_S1x256x768_0_0_1536)
    = tile3 768 I.g b q 1536 := by
  rw [guT]; funext y; idx_vars y; pointwise
theorem ld1_1536 : View.ld (Val := Elt Ideal) (S := S2x256x2816) (e' := .bf16) (guT I b q) (Rect.unit ![1, 0, 1536] ![1, 256, 768] inb_S2x256x2816_S1x256x768_1_0_1536)
    = tile3 768 I.u b q 1536 := by
  rw [guT]; funext y; idx_vars y; pointwise
theorem ldw_1536 : View.ld (Val := Elt Ideal) (S := S2816x1024) (e' := .bf16) (up2 2816 1024 I.wd) (Rect.unit ![1536, 0] ![768, 1024] inb_S2816x1024_S768x1024_1536_0)
    = up2 768 1024 (fun k e => I.wd (1536 + k) e) := by
  funext y; idx_vars y; pointwise
theorem ld0_2304 : View.ld (Val := Elt Ideal) (S := S2x256x2816) (e' := .bf16) (guT I b q) (Rect.unit ![0, 0, 2304] ![1, 256, 512] inb_S2x256x2816_S1x256x512_0_0_2304)
    = tile3 512 I.g b q 2304 := by
  rw [guT]; funext y; idx_vars y; pointwise
theorem ld1_2304 : View.ld (Val := Elt Ideal) (S := S2x256x2816) (e' := .bf16) (guT I b q) (Rect.unit ![1, 0, 2304] ![1, 256, 512] inb_S2x256x2816_S1x256x512_1_0_2304)
    = tile3 512 I.u b q 2304 := by
  rw [guT]; funext y; idx_vars y; pointwise
theorem ldw_2304 : View.ld (Val := Elt Ideal) (S := S2816x1024) (e' := .bf16) (up2 2816 1024 I.wd) (Rect.unit ![2304, 0] ![512, 1024] inb_S2816x1024_S512x1024_2304_0)
    = up2 512 1024 (fun k e => I.wd (2304 + k) e) := by
  funext y; idx_vars y; pointwise
theorem ldu_0 : View.ld (Val := Elt Ideal) (S := S1024x5632) (e' := .bf16) (up2 1024 5632 I.wu) (Rect.unit ![0, 0] ![1024, 2816] inb_S1024x5632_S1024x2816_0_0)
    = wuG I := by
  rw [wuG]; funext y; idx_vars y; pointwise
theorem ldu_2816 : View.ld (Val := Elt Ideal) (S := S1024x5632) (e' := .bf16) (up2 1024 5632 I.wu) (Rect.unit ![0, 2816] ![1024, 2816] inb_S1024x5632_S1024x2816_0_2816)
    = wuU I := by
  rw [wuU]; funext y; idx_vars y; pointwise

/-- The eight pieces in which the body stores the hidden arrays' gradient. -/
abbrev L8 : List (View.Piece (Elt Ideal) S2x256x2816 .bf16) :=
  [⟨Rect.unit ![0, 0, 2304] ![1, 256, 512] inb_S2x256x2816_S1x256x512_0_0_2304, tile3 512 I.dG b q 2304⟩,
   ⟨Rect.unit ![1, 0, 2304] ![1, 256, 512] inb_S2x256x2816_S1x256x512_1_0_2304, tile3 512 I.dU b q 2304⟩,
   ⟨Rect.unit ![0, 0, 1536] ![1, 256, 768] inb_S2x256x2816_S1x256x768_0_0_1536, tile3 768 I.dG b q 1536⟩,
   ⟨Rect.unit ![1, 0, 1536] ![1, 256, 768] inb_S2x256x2816_S1x256x768_1_0_1536, tile3 768 I.dU b q 1536⟩,
   ⟨Rect.unit ![0, 0, 768] ![1, 256, 768] inb_S2x256x2816_S1x256x768_0_0_768, tile3 768 I.dG b q 768⟩,
   ⟨Rect.unit ![1, 0, 768] ![1, 256, 768] inb_S2x256x2816_S1x256x768_1_0_768, tile3 768 I.dU b q 768⟩,
   ⟨Rect.unit ![0, 0, 0] ![1, 256, 768] inb_S2x256x2816_S1x256x768_0_0_0, tile3 768 I.dG b q 0⟩,
   ⟨Rect.unit ![1, 0, 0] ![1, 256, 768] inb_S2x256x2816_S1x256x768_1_0_0, tile3 768 I.dU b q 0⟩]

theorem cover8 (y : S2x256x2816.Idx) : ∃ p ∈ L8 I b q, y ∈ p.1.set := by
  have h0 : (y 0).val < 2 := (y 0).isLt
  have h1 : (y 1).val < 256 := (y 1).isLt
  have h2 : (y 2).val < 2816 := (y 2).isLt
  simp only [L8, List.mem_cons, List.not_mem_nil, or_false, exists_eq_or_imp, exists_eq_left, Rect.mem_set_unit, Fin.forall_fin_succ]
  simp
  omega

theorem canon8 : View.canon (L8 I b q) = up3 2 256 2816 fun k r f => I.dgu k b (q * 256 + r) f := by
  funext y; unfold L8; canon_tiles x h using cover8 I b q y
  all_goals (
    idx_vars x
    simp only [tile3_apply]
    show _ = ((I.dgu (y 0).val b (q * 256 + (y 1).val) (y 2).val : ℝ) : EReal)
    rw [h0, h1, h2]
    have hx : x0.val = 0 := by omega
    simp [Inp.dgu, hx])

theorem rd0 (v : View sig .tc .vmem S2x256x2816 .bf16) :
    v.readCov (L8 I b q) (Rect.unit ![0, 0, 0] ![1, 256, 2816] inb_S2x256x2816_S1x256x2816_0_0_0).toLoadRect = tile3 2816 I.dG b q 0 := by
  rw [View.readCov_eq_canon', canon8]; funext y; idx_vars y; pointwise; simp [Inp.dgu]
theorem rd1 (v : View sig .tc .vmem S2x256x2816 .bf16) :
    v.readCov (L8 I b q) (Rect.unit ![1, 0, 0] ![1, 256, 2816] inb_S2x256x2816_S1x256x2816_1_0_0).toLoadRect = tile3 2816 I.dU b q 0 := by
  rw [View.readCov_eq_canon', canon8]; funext y; idx_vars y; pointwise; simp [Inp.dgu]

end Cert.Blk

end
-- ==== Proof.Outs.lean ====
/- What the body leaves in the eight output blocks at each grid point, on real arguments. The four running sums are
   restarted at the first tile of a batch (the gain's at the first point alone) and added to at every other point. -/
module

public import proofs.«01_k».proof.Proof.Blk

@[expose] public section

set_option maxRecDepth 16384

noncomputable section

namespace Cert.Outs

open Idealize.ShloMosaic Idealize.ShloMosaic.TcCoe Idealize.SL.Sem Cert.Lift Cert.Spec Cert.Pay Cert.KernelIdeal Cert.KernelIdeal.Gen Cert.Entry
  Cert.Blk

/-- The eight output blocks of tile `q` of batch `b`, the running sums given. -/
abbrev outs (I : Inp) (b q : ℕ) (ps pt pg pd : ℕ → ℝ) :=
  ((tile 1024 I.dx b q : S256x1024.Idx → Elt Ideal .f32),
    (up3 2 256 2816 (fun k r f => I.dgu k b (q * 256 + r) f) : S2x256x2816.Idx → Elt Ideal .bf16),
    (tile 1024 I.h b q : S256x1024.Idx → Elt Ideal .bf16), (tile 1024 I.df b q : S256x1024.Idx → Elt Ideal .bf16),
    (row3 1024 ps : S1x1x1024.Idx → Elt Ideal .f32), (row3 1024 pt : S1x1x1024.Idx → Elt Ideal .f32),
    (row 1024 pg : S1x1024.Idx → Elt Ideal .f32), (row3 1024 pd : S1x1x1024.Idx → Elt Ideal .f32))

variable {m : (ℓ : Loc nD τ sig) → Buf (Elt Ideal) ℓ} {c : Dev nD} {I : Inp}

theorem outA (h : Args m c I) (t : Fin cfg0.N) (h0 : t.val % 8 = 0) (h1 : ¬¬(t.val % 8 = 0)) (h2 : t.val % 8 = 0) (h3 : ¬¬(t.val % 8 = 0)) (h4 : t.val % 32 = 0) (h5 : ¬1 ≤ t.val) (h6 : t.val % 8 = 0) (h7 : ¬¬(t.val % 8 = 0)) :
    outsAt0 m c t.val t.isLt = outs I (t.val / 8) (t.val % 8) (part I.tsc (t.val / 8) (t.val % 8)) (part I.dh (t.val / 8) (t.val % 8)) (part I.tgn (t.val / 8) (t.val % 8)) (fun e => 1 / 2 * part I.tgt (t.val / 8) (t.val % 8) e) := by
  rw [outsAt0_A m c t h0 h1 h2 h3 h4 h5 h6 h7]
  refine Prod.ext ?_ (Prod.ext ?_ (Prod.ext ?_ (Prod.ext ?_ (Prod.ext ?_ (Prod.ext ?_ (Prod.ext ?_ ?_))))))
  all_goals
    dsimp only
    frame_out
    simp only [b0 h, b1 h, b2 h, b3 h, b4 h, b5 h, b6 h, b7 h, b8 h, b9 h, ld0_0, ld0_768, ld0_1536, ld0_2304, ld1_0, ld1_768, ld1_1536,
      ld1_2304, ldw_0, ldw_768, ldw_1536, ldw_2304, ldu_0, ldu_2816, canon8, rd0, rd1,
      pay7, pay8, pay9, pay10, pay11, pay12, pay13, pay20, pay28, pay14, pay15, pay16, pay18, pay19, pay21, pay22, pay23, pay24, pay26, pay27, pay29, pay30, pay31, pay32, pay33, pay34, pay35, pay36, pay37, pay38, pay40, pay41, pay42, pay43, pay44, pay45, pay46, pay47, pay48, pay49, pay50, pay51, pay52, pay53, pay4, pay1, pay2, pay3, pay5, pay6, pay54, pay55]

theorem outB (h : Args m c I) (t : Fin cfg0.N) (h0 : ¬t.val % 8 = 0) (h1 : ¬(t.val % 8 = 0)) (h2 : ¬t.val % 8 = 0) (h3 : ¬(t.val % 8 = 0)) (h4 : ¬t.val % 32 = 0) (h5 : 1 ≤ t.val) (h6 : ¬t.val % 8 = 0) (h7 : ¬(t.val % 8 = 0)) {ps pt pg pd : ℕ → ℝ}
    (eps : (outsAt0 m c (t.val - 1) (Nat.lt_of_le_of_lt (Nat.sub_le _ _) t.isLt)).2.2.2.2.1 = row3 1024 ps)
    (ept : (outsAt0 m c (t.val - 1) (Nat.lt_of_le_of_lt (Nat.sub_le _ _) t.isLt)).2.2.2.2.2.1 = row3 1024 pt)
    (epg : (outsAt0 m c (t.val - 1) (Nat.lt_of_le_of_lt (Nat.sub_le _ _) t.isLt)).2.2.2.2.2.2.1 = row 1024 pg)
    (epd : (outsAt0 m c (t.val - 1) (Nat.lt_of_le_of_lt (Nat.sub_le _ _) t.isLt)).2.2.2.2.2.2.2 = row3 1024 pd) :
    outsAt0 m c t.val t.isLt = outs I (t.val / 8) (t.val % 8) (fun e => ps e + part I.tsc (t.val / 8) (t.val % 8) e) (fun e => pt e + part I.dh (t.val / 8) (t.val % 8) e) (fun e => pg e + part I.tgn (t.val / 8) (t.val % 8) e) (fun e => pd e + 1 / 2 * part I.tgt (t.val / 8) (t.val % 8) e) := by
  rw [outsAt0_B m c t h0 h1 h2 h3 h4 h5 h6 h7]
  refine Prod.ext ?_ (Prod.ext ?_ (Prod.ext ?_ (Prod.ext ?_ (Prod.ext ?_ (Prod.ext ?_ (Prod.ext ?_ ?_))))))
  all_goals
    dsimp only
    frame_out
    simp only [b0 h, b1 h, b2 h, b3 h, b4 h, b5 h, b6 h, b7 h, b8 h, b9 h, ld0_0, ld0_768, ld0_1536, ld0_2304, ld1_0, ld1_768, ld1_1536,
      ld1_2304, ldw_0, ldw_768, ldw_1536, ldw_2304, ldu_0, ldu_2816, canon8, rd0, rd1, eps, ept, epg, epd,
      pay7, pay8, pay9, pay10, pay11, pay12, pay13, pay20, pay28, pay14, pay15, pay16, pay18, pay19, pay21, pay22, pay23, pay24, pay26, pay27, pay29, pay30, pay31, pay32, pay33, pay34, pay35, pay36, pay37, pay38, pay40, pay41, pay42, pay43, pay44, pay45, pay46, pay47, pay48, pay49, pay50, pay51, pay52, pay53, pay4, pay1, pay2, pay3, pay5, pay6, pay54, pay55]

theorem outC (h : Args m c I) (t : Fin cfg0.N) (h0 : t.val % 8 = 0) (h1 : ¬¬(t.val % 8 = 0)) (h2 : t.val % 8 = 0) (h3 : ¬¬(t.val % 8 = 0)) (h4 : ¬t.val % 32 = 0) (h5 : 1 ≤ t.val) (h6 : t.val % 8 = 0) (h7 : ¬¬(t.val % 8 = 0)) {pg : ℕ → ℝ}
    (epg : (outsAt0 m c (t.val - 1) (Nat.lt_of_le_of_lt (Nat.sub_le _ _) t.isLt)).2.2.2.2.2.2.1 = row 1024 pg) :
    outsAt0 m c t.val t.isLt = outs I (t.val / 8) (t.val % 8) (part I.tsc (t.val / 8) (t.val % 8)) (part I.dh (t.val / 8) (t.val % 8)) (fun e => pg e + part I.tgn (t.val / 8) (t.val % 8) e) (fun e => 1 / 2 * part I.tgt (t.val / 8) (t.val % 8) e) := by
  rw [outsAt0_C m c t h0 h1 h2 h3 h4 h5 h6 h7]
  refine Prod.ext ?_ (Prod.ext ?_ (Prod.ext ?_ (Prod.ext ?_ (Prod.ext ?_ (Prod.ext ?_ (Prod.ext ?_ ?_))))))
  all_goals
    dsimp only
    frame_out
    simp only [b0 h, b1 h, b2 h, b3 h, b4 h, b5 h, b6 h, b7 h, b8 h, b9 h, ld0_0, ld0_768, ld0_1536, ld0_2304, ld1_0, ld1_768, ld1_1536,
      ld1_2304, ldw_0, ldw_768, ldw_1536, ldw_2304, ldu_0, ldu_2816, canon8, rd0, rd1, epg,
      pay7, pay8, pay9, pay10, pay11, pay12, pay13, pay20, pay28, pay14, pay15, pay16, pay18, pay19, pay21, pay22, pay23, pay24, pay26, pay27, pay29, pay30, pay31, pay32, pay33, pay34, pay35, pay36, pay37, pay38, pay40, pay41, pay42, pay43, pay44, pay45, pay46, pay47, pay48, pay49, pay50, pay51, pay52, pay53, pay4, pay1, pay2, pay3, pay5, pay6, pay54, pay55]

end Cert.Outs

end
-- ==== Proof.Final.lean ====
/- The eight result arrays after the run, on real arguments, in the form in which the reference's results stand. -/
module

public import proofs.«01_k».proof.Proof.Outs

@[expose] public section

set_option maxRecDepth 16384

noncomputable section

namespace Cert.Final

open Idealize.ShloMosaic Idealize.ShloMosaic.TcCoe Idealize.SL.Sem Cert.Lift Cert.Spec Cert.KernelIdeal Cert.KernelIdeal.Gen Cert.Entry
  Cert.Blk Cert.Outs

open Finset (range sum_range_succ)

variable {m : (ℓ : Loc nD τ sig) → Buf (Elt Ideal) ℓ} {c : Dev nD} {I : Inp}

/-- The output blocks at a point: each running sum goes over the tiles so far. -/
abbrev outsT (I : Inp) (n : ℕ) :=
  outs I (n / 8) (n % 8) (fun e => ∑ k ∈ range (n % 8 + 1), part I.tsc (n / 8) k e) (fun e => ∑ k ∈ range (n % 8 + 1), part I.dh (n / 8) k e)
    (fun e => ∑ j ∈ range (n + 1), part I.tgn (j / 8) (j % 8) e) (fun e => ∑ k ∈ range (n % 8 + 1), 1 / 2 * part I.tgt (n / 8) k e)

theorem outs_eq (h : Args m c I) : ∀ (n : ℕ) (hn : n < cfg0.N), outsAt0 m c n hn = outsT I n := by
  intro n
  induction n with
  | zero =>
    intro hn
    refine (outA h ⟨0, hn⟩ (Nat.zero_mod 8) (not_not.mpr (Nat.zero_mod 8)) (Nat.zero_mod 8) (not_not.mpr (Nat.zero_mod 8))
      (Nat.zero_mod 32) (by simp) (Nat.zero_mod 8) (not_not.mpr (Nat.zero_mod 8))).trans ?_
    simp
  | succ n ih =>
    intro hn
    have ih := ih (Nat.lt_of_succ_lt hn)
    have hN : n + 1 < 32 := hn
    rcases eq_or_ne ((n + 1) % 8) 0 with h8 | h8
    · refine (outC h ⟨n + 1, hn⟩ h8 (not_not.mpr h8) h8 (not_not.mpr h8) (show ¬(n + 1) % 32 = 0 by omega) (Nat.le_add_left 1 n) h8 (not_not.mpr h8)
        (pg := fun e => ∑ j ∈ range (n + 1), part I.tgn (j / 8) (j % 8) e) (congrArg (fun x => x.2.2.2.2.2.2.1) ih)).trans ?_
      simp [h8, sum_range_succ _ (n + 1)]
    · refine (outB h ⟨n + 1, hn⟩ h8 h8 h8 h8 (show ¬(n + 1) % 32 = 0 by omega) (Nat.le_add_left 1 n) h8 h8
        (ps := fun e => ∑ k ∈ range (n % 8 + 1), part I.tsc (n / 8) k e) (pt := fun e => ∑ k ∈ range (n % 8 + 1), part I.dh (n / 8) k e)
        (pg := fun e => ∑ j ∈ range (n + 1), part I.tgn (j / 8) (j % 8) e)
        (pd := fun e => ∑ k ∈ range (n % 8 + 1), 1 / 2 * part I.tgt (n / 8) k e)
        (congrArg (fun x => x.2.2.2.2.1) ih) (congrArg (fun x => x.2.2.2.2.2.1) ih)
        (congrArg (fun x => x.2.2.2.2.2.2.1) ih) (congrArg (fun x => x.2.2.2.2.2.2.2) ih)).trans ?_
      have hq : (n + 1) % 8 = n % 8 + 1 := by omega
      have hb : (n + 1) / 8 = n / 8 := by omega
      simp only [outsT, hq, hb, sum_range_succ _ (n % 8 + 1), sum_range_succ _ (n + 1)]

/-- A sum over the tiles of a batch and their rows is the sum over its positions. -/
theorem sum_part (f : ℕ → ℕ → ℕ → ℝ) (b e : ℕ) : ∑ k ∈ range 8, part f b k e = ∑ s : Fin 2048, f b s.val e := by
  rw [← Fin.sum_univ_eq_sum_range (fun k => part f b k e)]
  exact Fin.sum_univ_univ_mul_add 8 256 fun s => f b s e

/-- The same over all tiles of all batches. -/
theorem sum_parts (f : ℕ → ℕ → ℕ → ℝ) (e : ℕ) :
    ∑ j ∈ range 32, part f (j / 8) (j % 8) e = ∑ b : Fin 4, ∑ s : Fin 2048, f b.val s.val e := by
  rw [show (32 : ℕ) = 4 * 8 from rfl, Finset.sum_range_mul_divmod 4 8 (fun a k => part f a k e), ← Fin.sum_univ_eq_sum_range (fun a => ∑ k ∈ range 8, part f a k e)]
  exact Finset.sum_congr rfl fun b _ => sum_part f b.val e

theorem a10 (h : Args m c I) : (dats m 0 c).arrAt 10 cfg0.N = up2 8192 1024 fun n e => I.dx (n / 2048) (n % 2048) e := by
  refine (dats m 0 c).arrAt_eq_of_covers 10 _ (by decide +kernel) fun t hf y => ?_
  blk_simp
  rw [after0_10, outs_eq h]
  idx_vars y
  refine Eq.symm (pos_eq I.dx t y0.val y0.isLt ?_ ?_) <;> blk_simp [(idx_tile t).2.2.2.1]
theorem a12 (h : Args m c I) : (dats m 0 c).arrAt 12 cfg0.N = up2 8192 1024 fun n e => I.h (n / 2048) (n % 2048) e := by
  refine (dats m 0 c).arrAt_eq_of_covers 12 _ (by decide +kernel) fun t hf y => ?_
  blk_simp
  rw [after0_12, outs_eq h]
  idx_vars y
  refine Eq.symm (pos_eq I.h t y0.val y0.isLt ?_ ?_) <;> blk_simp [(idx_tile t).2.2.2.2.1]
theorem a13 (h : Args m c I) : (dats m 0 c).arrAt 13 cfg0.N = up2 8192 1024 fun n e => I.df (n / 2048) (n % 2048) e := by
  refine (dats m 0 c).arrAt_eq_of_covers 13 _ (by decide +kernel) fun t hf y => ?_
  blk_simp
  rw [after0_13, outs_eq h]
  idx_vars y
  refine Eq.symm (pos_eq I.df t y0.val y0.isLt ?_ ?_) <;> blk_simp [(idx_tile t).2.2.2.2.2]
theorem a11 (h : Args m c I) : (dats m 0 c).arrAt 11 cfg0.N = up3 2 8192 2816 fun k n f => I.dgu k (n / 2048) (n % 2048) f := by
  refine (dats m 0 c).arrAt_eq_of_covers 11 _ (by decide +kernel) fun t hf y => ?_
  blk_simp
  rw [after0_11, outs_eq h]
  idx_vars y
  have e0 : ((win0_11.blk t).view.emb (ix3 y0 y1 y2) 0).val = y0.val := by blk_simp [(idx_pair t).2]
  refine Eq.symm (Eq.trans ?_ (pos_eq (I.dgu y0.val) t y1.val y1.isLt
    (p := ((win0_11.blk t).view.emb (ix3 y0 y1 y2) 1).val) (e := ((win0_11.blk t).view.emb (ix3 y0 y1 y2) 2).val)
    (by blk_simp [(idx_pair t).2]) (by blk_simp [(idx_pair t).2])))
  rw [← e0]; rfl
theorem a14 (h : Args m c I) : (dats m 0 c).arrAt 14 cfg0.N = up3 4 1 1024 fun b _ e => ∑ s : Fin 2048, I.tsc b s.val e := by
  refine (dats m 0 c).arrAt_eq_of_covers 14 _ (by decide +kernel) fun t hf y => ?_
  have hf := (flush0_14 t).mp hf
  blk_simp
  rw [after0_14, outs_eq h]
  idx_vars y
  refine Eq.symm (Eq.trans (whole_eq (fun b e => ∑ s : Fin 2048, I.tsc b s.val e) (a' := t.val / 8) (b' := y2.val) ?_ ?_) ?_)
  · have := y0.isLt; blk_simp [(idx_batch t).2.2.2.1]
  · blk_simp [(idx_batch t).2.2.2.1]
  · rw [row3_apply, hf]; exact congrArg _ (sum_part _ _ _).symm
theorem a15 (h : Args m c I) : (dats m 0 c).arrAt 15 cfg0.N = up3 4 1 1024 fun b _ e => ∑ s : Fin 2048, I.dh b s.val e := by
  refine (dats m 0 c).arrAt_eq_of_covers 15 _ (by decide +kernel) fun t hf y => ?_
  have hf := (flush0_15 t).mp hf
  blk_simp
  rw [after0_15, outs_eq h]
  idx_vars y
  refine Eq.symm (Eq.trans (whole_eq (fun b e => ∑ s : Fin 2048, I.dh b s.val e) (a' := t.val / 8) (b' := y2.val) ?_ ?_) ?_)
  · have := y0.isLt; blk_simp [(idx_batch t).2.2.2.2.1]
  · blk_simp [(idx_batch t).2.2.2.2.1]
  · rw [row3_apply, hf]; exact congrArg _ (sum_part _ _ _).symm
theorem a17 (h : Args m c I) : (dats m 0 c).arrAt 17 cfg0.N = up3 4 1 1024 fun b _ e => 1 / 2 * ∑ s : Fin 2048, I.tgt b s.val e := by
  refine (dats m 0 c).arrAt_eq_of_covers 17 _ (by decide +kernel) fun t hf y => ?_
  have hf := (flush0_17 t).mp hf
  blk_simp
  rw [after0_17, outs_eq h]
  idx_vars y
  refine Eq.symm (Eq.trans (whole_eq (fun b e => 1 / 2 * ∑ s : Fin 2048, I.tgt b s.val e) (a' := t.val / 8) (b' := y2.val) ?_ ?_) ?_)
  · have := y0.isLt; blk_simp [(idx_batch t).2.2.2.2.2]
  · blk_simp [(idx_batch t).2.2.2.2.2]
  · rw [row3_apply, hf]; rw [← Finset.mul_sum]; exact congrArg (fun x : ℝ => ((1 / 2 * x : ℝ) : EReal)) (sum_part _ _ _).symm
theorem a16 (h : Args m c I) : (dats m 0 c).arrAt 16 cfg0.N = up2 1 1024 fun _ e => ∑ b : Fin 4, ∑ s : Fin 2048, I.tgn b.val s.val e := by
  refine (dats m 0 c).arrAt_eq_of_covers 16 _ (by decide +kernel) fun t hf y => ?_
  have hf := (flush0_16 t).mp hf
  have ht : t.val = 31 := by have : t.val < 32 := t.isLt; omega
  blk_simp
  rw [after0_16, outs_eq h]
  idx_vars y
  refine Eq.symm (Eq.trans (whole_eq (fun _ e => ∑ b : Fin 4, ∑ s : Fin 2048, I.tgn b.val s.val e) (rfl : 0 = 0) (b' := y1.val) ?_) ?_)
  · blk_simp [(idx_whole t).2.2.2]
  · rw [row_apply, ht]; exact congrArg _ (sum_parts _ _).symm

end Cert.Final

end
-- ==== Proof.RefVal.lean ====
/- The reference, array by array, on real arguments. -/
module

public import proofs.«01_k».proof.Proof.Gen.ReferenceIdeal.Read
public import proofs.«01_k».proof.Proof.Spec

@[expose] public section

set_option maxRecDepth 16384

noncomputable section

namespace Cert.RefVal

open Idealize.ShloMosaic Cert.Lift Cert.Spec Cert.ReferenceIdeal Cert.ReferenceIdeal.Read

variable (I : Inp)

/-- The reference differentiates the mean square; the kernel subtracts the mean of the products. The two agree since the
    reciprocal root squared is the reciprocal. -/
theorem dx_eq (b s e : ℕ) :
    I.dy b s e * I.r b s
        + I.X b s e * ((∑ k : Fin 1024, I.X b s k.val * I.dy b s k.val) * (-(1 / 2) * (I.r b s / I.M b s)) / 1024)
        + (∑ k : Fin 1024, I.X b s k.val * I.dy b s k.val) * (-(1 / 2) * (I.r b s / I.M b s)) / 1024 * I.X b s e
      = I.dx b s e - I.ct b s e := by
  have hr : I.r b s / I.M b s = I.r b s * (I.r b s * I.r b s) := by
    have h : I.r b s * I.r b s = (I.M b s)⁻¹ := by
      rw [Inp.r, ← mul_inv, Real.mul_self_sqrt (I.M_pos b s).le]
    rw [h, div_eq_mul_inv]
  have hm : I.mdy b s = (∑ k : Fin 1024, I.X b s k.val * I.dy b s k.val) * I.r b s / 1024 := by
    rw [Inp.mdy, Finset.sum_mul]
    exact congrArg (· / 1024) (Finset.sum_congr rfl fun k _ => by rw [Inp.xh]; ring)
  rw [Inp.dx, hm, hr, Inp.xh]; ring

theorem v6 : val_main_v6 (F := Ideal) (up3 4 2048 1024 I.X) = up3 4 2048 1 fun b s _ => I.M b s := by
  funext j; idx_vars j; pointwise [val_main_v6, val_main_v5, val_main_v4, val_main_v3, val_main_v2, val_main_v1, val_main_v0, val_main_cst, val_main_cst_0, val_main_cst_1]; simp [Inp.M]
theorem v7 : val_main_v7 (F := Ideal) (up3 4 2048 1024 I.X) = up3 4 2048 1 fun b s _ => I.r b s := by
  rw [val_main_v7, v6]; funext j; idx_vars j; pointwise []
  exact rsqrt_coe' _ (I.M_pos _ _)
theorem v12 : val_main_v12 (F := Ideal) (up3 4 2048 1024 I.X) = up3 4 2048 1024 I.xh := by
  rw [val_main_v12, val_main_v11, v7]; funext j; idx_vars j; pointwise []; rfl
theorem v15 : val_main_v15 (F := Ideal) (up3 4 2048 1024 I.X) (up1 1024 I.gn) = up3 4 2048 1024 fun b s e => I.xh b s e *
    I.gn e := by
  rw [val_main_v15, v12]; funext j; idx_vars j; pointwise [val_main_v14, val_main_v13]
theorem v18 : val_main_v18 (F := Ideal) (up2 4 1024 I.sc) = up3 4 1 1024 fun b _ e => 1 + I.sc b e := by
  funext j; idx_vars j; pointwise [val_main_v18, val_main_v17, val_main_v16, val_main_cst_3]
theorem v23 : val_main_v23 (F := Ideal) (up3 4 2048 1024 I.X) (up1 1024 I.gn) (up2 4 1024 I.sh) (up2 4 1024 I.sc) = up3 4
    2048 1024 I.h := by
  rw [val_main_v23, val_main_v20, val_main_v19, v15, v18]; funext j; idx_vars j; pointwise [val_main_v22, val_main_v21]; rfl
theorem v24 : val_main_v24 (F := Ideal) (up3 4 2048 1024 I.X) (up1 1024 I.gn) (up2 4 1024 I.sh) (up2 4 1024 I.sc) (up2 1024
    5632 I.wu) = up3 4 2048 5632 I.gu := by
  rw [val_main_v24, v23]; funext j; idx_vars j; pointwise []; rfl
theorem v25 : val_main_v25 (F := Ideal) (up3 4 2048 1024 I.X) (up1 1024 I.gn) (up2 4 1024 I.sh) (up2 4 1024 I.sc) (up2 1024
    5632 I.wu) = up3 4 2048 2816 I.g := by
  rw [val_main_v25, v24]; funext j; idx_vars j; pointwise []; simp [Inp.g]
theorem v26 : val_main_v26 (F := Ideal) (up3 4 2048 1024 I.X) (up1 1024 I.gn) (up2 4 1024 I.sh) (up2 4 1024 I.sc) (up2 1024
    5632 I.wu) = up3 4 2048 2816 I.u := by
  rw [val_main_v26, v24]; funext j; idx_vars j; pointwise []; simp [Inp.u]
theorem v27_2 : val_main_v27_2 (F := Ideal) (up3 4 2048 1024 I.X) (up1 1024 I.gn) (up2 4 1024 I.sh) (up2 4 1024 I.sc) (up2
    1024 5632 I.wu) = up3 4 2048 2816 I.sg := by
  rw [val_main_v27_2, val_main_call0_v3, val_main_call0_v1, val_main_call0_v0, v25]; funext j; idx_vars j; pointwise [val_main_call0_v4, val_main_call0_cst_0, val_main_call0_v2, val_main_call0_cst]; rfl
theorem v27_0 : val_main_v27_0 (F := Ideal) (up3 4 2048 1024 I.X) (up1 1024 I.gn) (up2 4 1024 I.sh) (up2 4 1024 I.sc) (up2
    1024 5632 I.wu) = up3 4 2048 2816 I.t := by
  rw [val_main_v27_0, v25, v27_2]; funext j; idx_vars j; pointwise []; rfl
theorem v27_1 : val_main_v27_1 (F := Ideal) (up3 4 2048 1024 I.X) (up1 1024 I.gn) (up2 4 1024 I.sh) (up2 4 1024 I.sc) (up2
    1024 5632 I.wu) = up3 4 2048 2816 fun b s f => I.sg b s f * (1 - I.sg b s f) := by
  rw [val_main_v27_1, val_main_call0_v7, v27_2]; funext j; idx_vars j; pointwise [val_main_call0_v6, val_main_call0_cst_1]
theorem v28 : val_main_v28 (F := Ideal) (up3 4 2048 1024 I.X) (up1 1024 I.gn) (up2 4 1024 I.sh) (up2 4 1024 I.sc) (up2 1024
    5632 I.wu) = up3 4 2048 2816 I.a := by
  rw [val_main_v28, v27_0, v26]; funext j; idx_vars j; pointwise []; rfl
theorem v29 : val_main_v29 (F := Ideal) (up3 4 2048 1024 I.X) (up1 1024 I.gn) (up2 4 1024 I.sh) (up2 4 1024 I.sc) (up2 1024
    5632 I.wu) (up2 2816 1024 I.wd) = up3 4 2048 1024 I.f := by
  rw [val_main_v29, v28]; funext j; idx_vars j; pointwise []; rfl
theorem v38 : val_main_v38 (F := Ideal) (up2 4 1024 I.gt) (up3 4 2048 1024 I.ct) = up3 4 2048 1024 I.df := by
  funext j; idx_vars j; pointwise [val_main_v38, val_main_v37, val_main_v36, val_main_v32, val_main_v31, val_main_v30, val_main_cst_4]; rfl
theorem v45 : val_main_v45 (F := Ideal) (up2 4 1024 I.gt) (up2 2816 1024 I.wd) (up3 4 2048 1024 I.ct) = up3 4 2048 2816 I.da
    := by
  rw [val_main_v45, v38]; funext j; idx_vars j; pointwise []; rfl
theorem v46 : val_main_v46 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 2816 I.dU := by
  rw [val_main_v46, v27_0, v45]; funext j; idx_vars j; pointwise []; exact congrArg _ (mul_comm _ _)
theorem v48 : val_main_v48 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 2816 I.dG := by
  rw [val_main_v48, val_main_call1_v1, val_main_call1_v2, val_main_call1_v0, val_main_v47, v45, v26, v25, v27_1, v27_2]; funext j; idx_vars j; pointwise []
  simp only [Inp.dG, Inp.t]; exact congrArg _ (by ring)
theorem v49 : val_main_v49 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 5632 fun b s f => if f < 2816
    then I.dG b s f else I.dU b s (f - 2816) := by
  rw [val_main_v49, v48, v46]; funext j; idx_vars j; pointwise []; rfl
theorem v50 : val_main_v50 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 1024 I.dh := by
  rw [val_main_v50, v49]; funext j; idx_vars j; pointwise []; rfl
theorem v44 : val_main_v44 (F := Ideal) (up3 4 2048 1024 I.X) (up1 1024 I.gn) (up2 4 1024 I.sh) (up2 4 1024 I.sc) (up2 1024
    5632 I.wu) (up2 2816 1024 I.wd) (up3 4 2048 1024 I.ct) = up2 4 1024 fun b e => 1 / 2 * ∑ s : Fin 2048, I.tgt b s.val e
    := by
  rw [val_main_v44, val_main_v43, val_main_v41, val_main_v40, val_main_v39, v29]; funext j; idx_vars j; pointwise [val_main_v36, val_main_v42, val_main_cst_5, val_main_cst_6, val_main_cst_7]; simp [Inp.tgt]
theorem v53 : val_main_v53 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up2 4 1024 fun b e => ∑ s : Fin 2048, I.dh
    b s.val e := by
  rw [val_main_v53, val_main_v52, val_main_v51, v50]; funext j; idx_vars j; pointwise [val_main_cst_8, val_main_cst_9]; simp
theorem v59 : val_main_v59 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up2 4 1024 fun b e => ∑ s : Fin 2048,
    I.tsc b s.val e := by
  rw [val_main_v59, val_main_v56, val_main_v55, val_main_v54, v50, v15]; funext j; idx_vars j; pointwise [val_main_cst_10, val_main_cst_11]
  simp [Inp.tsc, mul_comm]
theorem v58 : val_main_v58 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 1024 I.dn := by
  rw [val_main_v58, val_main_v57, v50, v18]; funext j; idx_vars j; pointwise []; rfl
theorem v65 : val_main_v65 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up1 1024 fun e => ∑ b : Fin 4, ∑ s : Fin
    2048, I.tgn b.val s.val e := by
  rw [val_main_v65, val_main_v62, val_main_v61, val_main_v60, v58, v12]; funext j; idx_vars j; pointwise [val_main_cst_12, val_main_cst_13]
  simp [Inp.tgn, mul_comm]
theorem v64 : val_main_v64 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 1024 I.dy := by
  rw [val_main_v64, v58]; funext j; idx_vars j; pointwise [val_main_v63, val_main_v13]; rfl
theorem v79 : val_main_v79 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 2048 1024 fun b s e => I.dx b s e -
    I.ct b s e := by
  rw [val_main_v79, val_main_v78, val_main_v77, val_main_v76, val_main_v70, val_main_v75, val_main_v74, val_main_v73, val_main_v71, val_main_v68, val_main_v67, val_main_v66, val_main_v69, val_main_v10, val_main_v8, v64, v7, v6]; funext j; idx_vars j; pointwise [val_main_v9, val_main_cst_2, val_main_v72, val_main_cst_15, val_main_cst_14, val_main_cst_16]
  rw [Fin.sum_univ_one]; exact congrArg _ (dx_eq I _ _ _)
theorem v87 : val_main_v87 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up2 8192 1024 fun n e => I.dx (n / 2048)
    (n % 2048) e := by
  rw [val_main_v87, val_main_v86, v79]; funext j; idx_vars j; pointwise []; exact congrArg _ (by ring)
theorem v88 : val_main_v88 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 2 8192 2816 fun k n f => I.dgu k (n /
    2048) (n % 2048) f := by
  rw [val_main_v88, val_main_v85, val_main_v84, val_main_v83, val_main_v82, val_main_v81, val_main_v80, v49]; funext j; idx_vars j; pointwise []; rfl
theorem v90 : val_main_v90 (F := Ideal) (up3 4 2048 1024 I.X) (up1 1024 I.gn) (up2 4 1024 I.sh) (up2 4 1024 I.sc) = up2 8192
    1024 fun n e => I.h (n / 2048) (n % 2048) e := by
  rw [val_main_v90, val_main_v89, v23]; funext j; idx_vars j; pointwise []
theorem v92 : val_main_v92 (F := Ideal) (up2 4 1024 I.gt) (up3 4 2048 1024 I.ct) = up2 8192 1024 fun n e => I.df (n / 2048)
    (n % 2048) e := by
  rw [val_main_v92, val_main_v91, v38]; funext j; idx_vars j; pointwise []
theorem v93 : val_main_v93 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 1 1024 fun b _ e => ∑ s : Fin 2048,
    I.tsc b s.val e := by
  rw [val_main_v93, v59]; funext j; idx_vars j; pointwise []
theorem v94 : val_main_v94 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up3 4 1 1024 fun b _ e => ∑ s : Fin 2048,
    I.dh b s.val e := by
  rw [val_main_v94, v53]; funext j; idx_vars j; pointwise []
theorem v95 : val_main_v95 (F := Ideal) (up3 4 2048 1024 I.X) (up1 1024 I.gn) (up2 4 1024 I.sh) (up2 4 1024 I.sc) (up2 4
    1024 I.gt) (up2 1024 5632 I.wu) (up2 2816 1024 I.wd) (up3 4 2048 1024 I.ct) = up2 1 1024 fun _ e => ∑ b : Fin 4, ∑ s :
    Fin 2048, I.tgn b.val s.val e := by
  rw [val_main_v95, v65]; funext j; idx_vars j; pointwise []
theorem v96 : val_main_v96 (F := Ideal) (up3 4 2048 1024 I.X) (up1 1024 I.gn) (up2 4 1024 I.sh) (up2 4 1024 I.sc) (up2 1024
    5632 I.wu) (up2 2816 1024 I.wd) (up3 4 2048 1024 I.ct) = up3 4 1 1024 fun b _ e => 1 / 2 * ∑ s : Fin 2048, I.tgt b s.val
    e := by
  rw [val_main_v96, v44]; funext j; idx_vars j; pointwise []

end Cert.RefVal

end
-- ==== Proof.Algebraic.lean ====
/- The kernel's results are the reference's, at exact arithmetic. -/
module

public import proofs.«01_k».proof.Proof.Frames
public import proofs.«01_k».proof.Proof.Final
public import proofs.«01_k».proof.Proof.RefVal

@[expose] public section

set_option maxRecDepth 16384

noncomputable section

namespace Cert.Proof

open Idealize.ShloMosaic Idealize.SL.Sem Idealize.ShloMosaic.TcCoe Cert.Lift Cert.Spec

attribute [local instance] Cert.Finite.facts

/-- Real arguments, out of the precondition. -/
theorem args_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : ∃ I : Inp, Cert.Entry.Args m c I := by
  obtain ⟨I, h0, h1, h2, h3, h4, h5, h6, h7⟩ := Cert.Finite.reals _ _ _ _ _ _ _ _ (h c)
  exact ⟨I, ⟨h0, h1, h2, h3, h4, h5, h6, h7⟩⟩

section Reference

open Cert.ReferenceIdeal Cert.ReferenceIdeal.Value Cert.ReferenceIdeal.Read

/-- The reference's arguments on device `c` are the real arrays `I`. -/
structure RefArgs (m : (ℓ : Loc nD τ sig) → Buf (Elt Ideal) ℓ) (c : Dev nD) (I : Inp) : Prop where
  a0 : m ((c.tc : Thread nD τ).loc main_arg0) = up3 4 2048 1024 I.X
  a1 : m ((c.tc : Thread nD τ).loc main_arg1) = up1 1024 I.gn
  a2 : m ((c.tc : Thread nD τ).loc main_arg2) = up2 4 1024 I.sh
  a3 : m ((c.tc : Thread nD τ).loc main_arg3) = up2 4 1024 I.sc
  a4 : m ((c.tc : Thread nD τ).loc main_arg4) = up2 4 1024 I.gt
  a5 : m ((c.tc : Thread nD τ).loc main_arg5) = up2 1024 5632 I.wu
  a6 : m ((c.tc : Thread nD τ).loc main_arg6) = up2 2816 1024 I.wd
  a7 : m ((c.tc : Thread nD τ).loc main_arg7) = up3 4 2048 1024 I.ct

variable {m : (ℓ : Loc nD τ sig) → Buf (Elt Ideal) ℓ} {c : Dev nD} {I : Inp}

/-- The reference's eight results on real arguments, and its arguments kept. -/
structure RefPost (m' : (ℓ : Loc nD τ sig) → Buf (Elt Ideal) ℓ) (c : Dev nD) (I : Inp) : Prop where
  r87 : m' ((c.tc : Thread nD τ).loc main_v87) = up2 8192 1024 fun n e => I.dx (n / 2048) (n % 2048) e
  r88 : m' ((c.tc : Thread nD τ).loc main_v88) = up3 2 8192 2816 fun k n f => I.dgu k (n / 2048) (n % 2048) f
  r90 : m' ((c.tc : Thread nD τ).loc main_v90) = up2 8192 1024 fun n e => I.h (n / 2048) (n % 2048) e
  r92 : m' ((c.tc : Thread nD τ).loc main_v92) = up2 8192 1024 fun n e => I.df (n / 2048) (n % 2048) e
  r93 : m' ((c.tc : Thread nD τ).loc main_v93) = up3 4 1 1024 fun b _ e => ∑ s : Fin 2048, I.tsc b s.val e
  r94 : m' ((c.tc : Thread nD τ).loc main_v94) = up3 4 1 1024 fun b _ e => ∑ s : Fin 2048, I.dh b s.val e
  r95 : m' ((c.tc : Thread nD τ).loc main_v95) = up2 1 1024 fun _ e => ∑ b : Fin 4, ∑ s : Fin 2048, I.tgn b.val s.val e
  r96 : m' ((c.tc : Thread nD τ).loc main_v96) = up3 4 1 1024 fun b _ e => 1 / 2 * ∑ s : Fin 2048, I.tgt b s.val e

theorem res87 (h : RefArgs m c I) : res_main_v87 m c = up2 8192 1024 fun n e => I.dx (n / 2048) (n % 2048) e := by
  rw [val_main_v87_eq, h.a0, h.a1, h.a2, h.a3, h.a4, h.a5, h.a6, h.a7]; exact Cert.RefVal.v87 I
theorem res88 (h : RefArgs m c I) : res_main_v88 m c = up3 2 8192 2816 fun k n f => I.dgu k (n / 2048) (n % 2048) f := by
  rw [val_main_v88_eq, h.a0, h.a1, h.a2, h.a3, h.a4, h.a5, h.a6, h.a7]; exact Cert.RefVal.v88 I
theorem res90 (h : RefArgs m c I) : val_main_v90 (F := Ideal) (m ((c.tc : Thread nD τ).loc main_arg0)) (m ((c.tc : Thread nD τ).loc main_arg1)) (m ((c.tc : Thread nD τ).loc main_arg2)) (m ((c.tc : Thread nD τ).loc main_arg3))
    = up2 8192 1024 fun n e => I.h (n / 2048) (n % 2048) e := by
  rw [h.a0, h.a1, h.a2, h.a3]; exact Cert.RefVal.v90 I
theorem res92 (h : RefArgs m c I) : val_main_v92 (F := Ideal) (m ((c.tc : Thread nD τ).loc main_arg4)) (m ((c.tc : Thread nD τ).loc main_arg7))
    = up2 8192 1024 fun n e => I.df (n / 2048) (n % 2048) e := by
  rw [h.a4, h.a7]; exact Cert.RefVal.v92 I
theorem res93 (h : RefArgs m c I) : res_main_v93 m c = up3 4 1 1024 fun b _ e => ∑ s : Fin 2048, I.tsc b s.val e := by
  rw [val_main_v93_eq, h.a0, h.a1, h.a2, h.a3, h.a4, h.a5, h.a6, h.a7]; exact Cert.RefVal.v93 I
theorem res94 (h : RefArgs m c I) : res_main_v94 m c = up3 4 1 1024 fun b _ e => ∑ s : Fin 2048, I.dh b s.val e := by
  rw [val_main_v94_eq, h.a0, h.a1, h.a2, h.a3, h.a4, h.a5, h.a6, h.a7]; exact Cert.RefVal.v94 I
theorem res95 (h : RefArgs m c I) : res_main_v95 m c = up2 1 1024 fun _ e => ∑ b : Fin 4, ∑ s : Fin 2048, I.tgn b.val s.val e := by
  rw [val_main_v95_eq, h.a0, h.a1, h.a2, h.a3, h.a4, h.a5, h.a6, h.a7]; exact Cert.RefVal.v95 I
theorem res96 (h : RefArgs m c I) : res_main_v96 m c = up3 4 1 1024 fun b _ e => 1 / 2 * ∑ s : Fin 2048, I.tgt b s.val e := by
  rw [val_main_v96_eq, h.a0, h.a1, h.a2, h.a3, h.a5, h.a6, h.a7]; exact Cert.RefVal.v96 I

theorem ref_run (ρ : Dev nD → PrngReg) (J : Dev nD → Inp) (h : ∀ c, RefArgs m c (J c)) :
    θ_run (defs (F := Ideal)) (onTc (τ := τ) (main (F := Ideal))) ⟨m, fun _ => 0, ρ⟩ fun r => ∀ c, RefPost r.2.mem c (J c)
      ∧ (
r.2.mem ((c.tc : Thread nD τ).loc main_arg0) = m ((c.tc : Thread nD τ).loc main_arg0)      ∧ r.2.mem ((c.tc : Thread nD τ).loc main_arg1) = m ((c.tc : Thread nD τ).loc main_arg1)      ∧ r.2.mem ((c.tc : Thread nD τ).loc main_arg2) = m ((c.tc : Thread nD τ).loc main_arg2)      ∧ r.2.mem ((c.tc : Thread nD τ).loc main_arg3) = m ((c.tc : Thread nD τ).loc main_arg3)      ∧ r.2.mem ((c.tc : Thread nD τ).loc main_arg4) = m ((c.tc : Thread nD τ).loc main_arg4)      ∧ r.2.mem ((c.tc : Thread nD τ).loc main_arg5) = m ((c.tc : Thread nD τ).loc main_arg5)      ∧ r.2.mem ((c.tc : Thread nD τ).loc main_arg6) = m ((c.tc : Thread nD τ).loc main_arg6)      ∧ r.2.mem ((c.tc : Thread nD τ).loc main_arg7) = m ((c.tc : Thread nD τ).loc main_arg7)) :=
  (θ_run defs _ _).mono (fun r hr c => by
    obtain ⟨r0, r1, r2, r3, r4, r5, r6, r7, hk⟩ := hr c
    exact ⟨⟨r0.trans (res87 (h c)), r1.trans (res88 (h c)), r2.trans (res90 (h c)), r3.trans (res92 (h c)), r4.trans (res93 (h c)),
      r5.trans (res94 (h c)), r6.trans (res95 (h c)), r7.trans (res96 (h c))⟩, hk⟩) (Value.run (F := Ideal) m ρ)

end Reference

theorem algebraic : Cert.algebraic_KernelIdeal_ReferenceIdeal_pre_finite := by
  intro m g m' g' hpre hargs
  choose J hJ using args_of_finite m hpre
  have hR : ∀ c, RefArgs m' c (J c) := fun c => by
    obtain ⟨a0, a1, a2, a3, a4, a5, a6, a7⟩ := hargs c
    have h := hJ c
    exact ⟨a0.trans h.a0, a1.trans h.a1, a2.trans h.a2, a3.trans h.a3, a4.trans h.a4, a5.trans h.a5, a6.trans h.a6, a7.trans h.a7⟩
  refine ⟨fun c => up2 8192 1024 fun n e => (J c).dx (n / 2048) (n % 2048) e,
    fun c => up3 2 8192 2816 fun k n f => (J c).dgu k (n / 2048) (n % 2048) f,
    fun c => up2 8192 1024 fun n e => (J c).h (n / 2048) (n % 2048) e,
    fun c => up2 8192 1024 fun n e => (J c).df (n / 2048) (n % 2048) e,
    fun c => up3 4 1 1024 fun b _ e => ∑ s : Fin 2048, (J c).tsc b s.val e,
    fun c => up3 4 1 1024 fun b _ e => ∑ s : Fin 2048, (J c).dh b s.val e,
    fun c => up2 1 1024 fun _ e => ∑ b : Fin 4, ∑ s : Fin 2048, (J c).tgn b.val s.val e,
    fun c => up3 4 1 1024 fun b _ e => 1 / 2 * ∑ s : Fin 2048, (J c).tgt b s.val e,
    (θ_run Cert.KernelIdeal.defs _ _).mono (fun r h c => ?_) (Cert.KernelIdeal.Value.run_blocks (F := Ideal) m g),
    (θ_run Cert.ReferenceIdeal.defs _ _).mono (fun r h c => ?_) (ref_run (m := m') g' J hR)⟩
  · obtain ⟨r0, r1, r2, r3, r4, r5, r6, r7, hk⟩ := h c
    exact ⟨r0.trans (Cert.Final.a10 (hJ c)), r1.trans (Cert.Final.a11 (hJ c)), r2.trans (Cert.Final.a12 (hJ c)), r3.trans (Cert.Final.a13 (hJ c)), r4.trans (Cert.Final.a14 (hJ c)), r5.trans (Cert.Final.a15 (hJ c)), r6.trans (Cert.Final.a16 (hJ c)), r7.trans (Cert.Final.a17 (hJ c)), hk⟩
  · obtain ⟨h, hk⟩ := h c
    exact ⟨h.r87, h.r88, h.r90, h.r92, h.r93, h.r94, h.r95, h.r96, hk⟩

end Cert.Proof

end
-- ==== Proof.Ext.lean ====
/- Arrays of extended reals written index by index, and sums over the tiles of all positions. -/
module

public import Idealize.ShloMosaic.Lib.Pointwise
public import Idealize.ShloMosaic.Lib.Pipeline.ValueKit

@[expose] public section

noncomputable section

namespace Cert.Ext

open Idealize.ShloMosaic
open Finset (range)

variable {n0 n1 n2 n3 : ℕ}

/-- A vector of extended reals. -/
def ex1 (n0 : ℕ) (f : ℕ → EReal) : (⟨1, ![n0]⟩ : Shape).Idx → EReal := fun i => f (i 0).val

/-- A matrix of extended reals. -/
def ex2 (n0 n1 : ℕ) (f : ℕ → ℕ → EReal) : (⟨2, ![n0, n1]⟩ : Shape).Idx → EReal := fun i => f (i 0).val (i 1).val

/-- An array with three axes. -/
def ex3 (n0 n1 n2 : ℕ) (f : ℕ → ℕ → ℕ → EReal) : (⟨3, ![n0, n1, n2]⟩ : Shape).Idx → EReal :=
  fun i => f (i 0).val (i 1).val (i 2).val

/-- An array with four axes. -/
def ex4 (n0 n1 n2 n3 : ℕ) (f : ℕ → ℕ → ℕ → ℕ → EReal) : (⟨4, ![n0, n1, n2, n3]⟩ : Shape).Idx → EReal :=
  fun i => f (i 0).val (i 1).val (i 2).val (i 3).val

@[pointwise] theorem ex1_apply (f : ℕ → EReal) (a : Fin n0) : ex1 n0 f (ix1 a) = f a.val := rfl
@[pointwise] theorem ex2_apply (f : ℕ → ℕ → EReal) (a : Fin n0) (b : Fin n1) : ex2 n0 n1 f (ix2 a b) = f a.val b.val := rfl
@[pointwise] theorem ex3_apply (f : ℕ → ℕ → ℕ → EReal) (a : Fin n0) (b : Fin n1) (c : Fin n2) :
    ex3 n0 n1 n2 f (ix3 a b c) = f a.val b.val c.val := rfl
@[pointwise] theorem ex4_apply (f : ℕ → ℕ → ℕ → ℕ → EReal) (a : Fin n0) (b : Fin n1) (c : Fin n2) (d : Fin n3) :
    ex4 n0 n1 n2 n3 f (ix4 a b c d) = f a.val b.val c.val d.val := rfl

/-- Every vector is written so. -/
theorem exists_ex1 (x : (⟨1, ![n0]⟩ : Shape).Idx → EReal) : ∃ f, x = ex1 n0 f := by
  refine ⟨fun a => if h : a < n0 then x (ix1 ⟨a, h⟩) else 0, funext fun i => ?_⟩
  obtain ⟨a, rfl⟩ : ∃ a, i = ix1 a := ⟨i 0, eq_ix1 i⟩
  rw [ex1_apply, dif_pos a.isLt]

/-- Every matrix is written so. -/
theorem exists_ex2 (x : (⟨2, ![n0, n1]⟩ : Shape).Idx → EReal) : ∃ f, x = ex2 n0 n1 f := by
  refine ⟨fun a b => if h : a < n0 ∧ b < n1 then x (ix2 ⟨a, h.1⟩ ⟨b, h.2⟩) else 0, funext fun i => ?_⟩
  obtain ⟨a, b, rfl⟩ : ∃ a b, i = ix2 a b := ⟨i 0, i 1, eq_ix2 i⟩
  rw [ex2_apply, dif_pos ⟨a.isLt, b.isLt⟩]

/-- Every array with three axes is written so. -/
theorem exists_ex3 (x : (⟨3, ![n0, n1, n2]⟩ : Shape).Idx → EReal) : ∃ f, x = ex3 n0 n1 n2 f := by
  refine ⟨fun a b c => if h : a < n0 ∧ b < n1 ∧ c < n2 then x (ix3 ⟨a, h.1⟩ ⟨b, h.2.1⟩ ⟨c, h.2.2⟩) else 0, funext fun i => ?_⟩
  obtain ⟨a, b, c, rfl⟩ : ∃ a b c, i = ix3 a b c := ⟨i 0, i 1, i 2, eq_ix3 i⟩
  rw [ex3_apply, dif_pos ⟨a.isLt, b.isLt, c.isLt⟩]

/-- The term of a weight gradient at position `n` of all 8192: position `n % 2048` of sequence `n / 2048`. -/
def term (A G : ℕ → ℕ → ℕ → EReal) (d e n : ℕ) : EReal := A (n / 2048) (n % 2048) d * G (n / 2048) (n % 2048) e

/-- The weight gradient's entry: the sum over all positions of all sequences. -/
def wg (A G : ℕ → ℕ → ℕ → EReal) (d e : ℕ) : EReal := ∑ b : Fin 4, ∑ s : Fin 2048, A b.val s.val d * G b.val s.val e

/-- The part of a sum that belongs to tile `k` of `w` positions. -/
def part (w : ℕ) (f : ℕ → EReal) (k : ℕ) : EReal := ∑ r : Fin w, f (k * w + r.val)

theorem sum_part (K w : ℕ) (f : ℕ → EReal) : ∑ k ∈ range K, part w f k = ∑ n ∈ range (K * w), f n := by
  rw [← Fin.sum_univ_eq_sum_range (part w f), ← Fin.sum_univ_eq_sum_range f]
  exact Fin.sum_univ_univ_mul_add K w f

theorem wg_eq (A G : ℕ → ℕ → ℕ → EReal) (d e : ℕ) : wg A G d e = ∑ n ∈ range (4 * 2048), term A G d e n := by
  rw [← sum_part, ← Fin.sum_univ_eq_sum_range (part 2048 (term A G d e))]
  refine Finset.sum_congr rfl fun b _ => Finset.sum_congr rfl fun s _ => ?_
  have hs := s.isLt
  rw [term, show (b.val * 2048 + s.val) / 2048 = b.val by omega, show (b.val * 2048 + s.val) % 2048 = s.val by omega]

/-- The tiles of 1024 positions together. -/
theorem sum_tiles8 (A G : ℕ → ℕ → ℕ → EReal) (d e : ℕ) : ∑ k ∈ range 8, part 1024 (term A G d e) k = wg A G d e := by
  rw [sum_part, wg_eq]
/-- The tiles of 2048 positions together. -/
theorem sum_tiles4 (A G : ℕ → ℕ → ℕ → EReal) (d e : ℕ) : ∑ k ∈ range 4, part 2048 (term A G d e) k = wg A G d e := by
  rw [sum_part, wg_eq]

end Cert.Ext

end
-- ==== Proof.WgradGu.Frames.lean ====
/- The frames of the weight gradient's three programs. -/
module

public import proofs.«01_k».proof.Defs
public import proofs.«01_k».proof.Proof.Gen.WgradGu.Frame
public import proofs.«01_k».proof.Proof.Gen.WgradGuIdeal.Frame
public import proofs.«01_k».proof.Proof.Gen.WgradGuIdeal.Value
public import proofs.«01_k».proof.Proof.Gen.WgradGuReferenceIdeal.Run
public import proofs.«01_k».proof.Proof.Gen.WgradGuReferenceIdeal.Read
public import proofs.«01_k».proof.Proof.Gen.WgradGuReferenceIdeal
public import Idealize.ShloMosaic.Adequacy
public import Idealize.ShloMosaic.Init

@[expose] public section

noncomputable section

namespace Cert.Proof.WgradGu

open Idealize.ShloMosaic Idealize.SL.Sem Idealize.ShloMosaic.TcCoe

theorem kernel_frame : Cert.quiescent_WgradGu := fun m ρ _ => Cert.WgradGu.Gen.frame m ρ
theorem kernelIdeal_frame : Cert.quiescent_WgradGuIdeal := fun m ρ _ => Cert.WgradGuIdeal.Gen.frame m ρ
theorem referenceIdeal_frame : Cert.quiescent_WgradGuReferenceIdeal := fun m ρ _ =>
  (θ_run Cert.WgradGuReferenceIdeal.defs _ _).mono (fun r h => ⟨fun c => (h c).2, sem_eq_zero_of_no_sems (by decide) r.2⟩)
    (Cert.WgradGuReferenceIdeal.Value.run (F := Ideal) m ρ)

end Cert.Proof.WgradGu

end
-- ==== Proof.WgradGu.Value.lean ====
/- The gate and up projections's weight gradient: the kernel's result array and the reference's, index by index. -/
module

public import Idealize.ShloMosaic.Lib.Pipeline.ReadBack
public import proofs.«01_k».proof.Proof.Ext
public import proofs.«01_k».proof.Proof.WgradGu.Frames

@[expose] public section

set_option maxRecDepth 16384

noncomputable section

namespace Cert.Proof.WgradGu

open Idealize.ShloMosaic Idealize.ShloMosaic.TcCoe Idealize.SL.Sem Cert.Ext
open Finset (range sum_range_succ)

section Kernel

open Cert.WgradGuIdeal Cert.WgradGuIdeal.Gen

/-! ### The body's values -/

/-- A part of the result block: 512 rows of one of its 1408-column groups. -/
abbrev piece (f : ℕ → ℕ → EReal) : S1x1x512x1408.Idx → Elt Ideal .f32 := ex4 1 1 512 1408 fun _ _ p q => f p q

/-- The result block with entry `O d e` for row `d` and column `e`: its column groups, each cut into two halves of 512 rows. -/
abbrev blk (O : ℕ → ℕ → EReal) : S2x2x512x1408.Idx → Elt Ideal .f32 := ex4 2 2 512 1408 fun s h p q => O (h * 512 + p) (s * 1408 + q)

/-- A tile's product. -/
def dot (f g : ℕ → ℕ → EReal) (d e : ℕ) : EReal := ∑ r : Fin 1024, f r.val d * g r.val e

variable (f g acc S : ℕ → ℕ → EReal)

theorem pay1 : k0_pay1 (F := Ideal) (ex2 512 1408 acc) = piece acc := by
  funext j; idx_vars j; pointwise [k0_pay1]
theorem pay2 : k0_pay2 (F := Ideal) (ex2 1024 2816 S) (piece acc) = piece fun p q => acc p q + S (512 + p) (1408 + q) := by
  funext j; idx_vars j; pointwise [k0_pay2]
theorem pay3 : k0_pay3 (F := Ideal) = blk fun _ _ => 0 := by
  funext j; idx_vars j; pointwise [k0_pay3]
theorem pay4 : k0_pay4 (F := Ideal) (ex2 1024 1024 f) (ex3 1 1024 2816 fun _ => g) = ex2 1024 2816 (dot f g) := by
  funext j; idx_vars j; pointwise [k0_pay4]; rfl
theorem pay5 : k0_pay5 (F := Ideal) (ex2 1024 1024 f) (ex3 1 1024 2816 fun _ => g) (piece acc) = piece fun p q => acc p q + dot f g p q := by
  rw [k0_pay5, pay4]; funext j; idx_vars j; pointwise []
theorem pay6 : k0_pay6 (F := Ideal) (ex2 1024 1024 f) (ex3 1 1024 2816 fun _ => g) (piece acc)
    = piece fun p q => acc p q + dot f g (512 + p) q := by
  rw [k0_pay6, pay4]; funext j; idx_vars j; pointwise []
theorem pay7 : k0_pay7 (F := Ideal) (ex2 1024 1024 f) (ex3 1 1024 2816 fun _ => g) (piece acc)
    = ex2 512 1408 fun p q => acc p q + dot f g p (1408 + q) := by
  rw [k0_pay7, pay4]; funext j; idx_vars j; pointwise []

/-! ### Loads of the result block's four parts, and the four stores together -/

variable (O : ℕ → ℕ → EReal)

theorem ld00 : View.ld (Val := Elt Ideal) (S := S2x2x512x1408) (e' := .f32) (blk O) (Rect.unit ![0, 0, 0, 0] ![1, 1, 512, 1408] inb_S2x2x512x1408_S1x1x512x1408_0_0_0_0)
    = piece O := by
  funext y; idx_vars y; pointwise
theorem ld01 : View.ld (Val := Elt Ideal) (S := S2x2x512x1408) (e' := .f32) (blk O) (Rect.unit ![0, 1, 0, 0] ![1, 1, 512, 1408] inb_S2x2x512x1408_S1x1x512x1408_0_1_0_0)
    = piece fun p q => O (512 + p) q := by
  funext y; idx_vars y; pointwise
theorem ld10 : View.ld (Val := Elt Ideal) (S := S2x2x512x1408) (e' := .f32) (blk O) (Rect.unit ![1, 0, 0, 0] ![1, 1, 512, 1408] inb_S2x2x512x1408_S1x1x512x1408_1_0_0_0)
    = piece fun p q => O p (1408 + q) := by
  funext y; idx_vars y; pointwise
theorem ld11 : View.ld (Val := Elt Ideal) (S := S2x2x512x1408) (e' := .f32) (blk O) (Rect.unit ![1, 1, 0, 0] ![1, 1, 512, 1408] inb_S2x2x512x1408_S1x1x512x1408_1_1_0_0)
    = piece fun p q => O (512 + p) (1408 + q) := by
  funext y; idx_vars y; pointwise

/-- The four stores of the body. -/
abbrev L4 : List (View.Piece (Elt Ideal) S2x2x512x1408 .f32) :=
  [⟨Rect.unit ![1, 1, 0, 0] ![1, 1, 512, 1408] inb_S2x2x512x1408_S1x1x512x1408_1_1_0_0, piece fun p q => O (512 + p) (1408 + q)⟩,
   ⟨Rect.unit ![1, 0, 0, 0] ![1, 1, 512, 1408] inb_S2x2x512x1408_S1x1x512x1408_1_0_0_0, piece fun p q => O p (1408 + q)⟩,
   ⟨Rect.unit ![0, 1, 0, 0] ![1, 1, 512, 1408] inb_S2x2x512x1408_S1x1x512x1408_0_1_0_0, piece fun p q => O (512 + p) q⟩,
   ⟨Rect.unit ![0, 0, 0, 0] ![1, 1, 512, 1408] inb_S2x2x512x1408_S1x1x512x1408_0_0_0_0, piece O⟩]

theorem cover4 (y : S2x2x512x1408.Idx) : ∃ p ∈ L4 O, y ∈ p.1.set := by
  have h0 : (y 0).val < 2 := (y 0).isLt
  have h1 : (y 1).val < 2 := (y 1).isLt
  have h2 : (y 2).val < 512 := (y 2).isLt
  have h3 : (y 3).val < 1408 := (y 3).isLt
  simp only [L4, List.mem_cons, List.not_mem_nil, or_false, exists_eq_or_imp, exists_eq_left, Rect.mem_set_unit, Fin.forall_fin_succ]
  simp
  omega

/-- Whatever the block held before, the four stores leave the whole of it. -/
theorem canon4 (L : List (View.Piece (Elt Ideal) S2x2x512x1408 .f32)) : View.canon (L4 O ++ L) = blk O := by
  funext y
  refine View.canon_append_of_piecesOf (blk O) L (L4 O) ⟨fun x => ?_, fun x => ?_, fun x => ?_, fun x => ?_, trivial⟩ y (cover4 O y)
  · exact (congrFun (ld11 O) x).symm
  · exact (congrFun (ld10 O) x).symm
  · exact (congrFun (ld01 O) x).symm
  · exact (congrFun (ld00 O) x).symm

/-! ### The blocks that a grid point reads -/

variable (m : (ℓ : Loc nD τ sig) → Buf (Elt Ideal) ℓ) (c : Dev nD) (A G : ℕ → ℕ → ℕ → EReal)

/-- The argument arrays of device `c`. -/
structure Args : Prop where
  a0 : m ((c : Thread nD τ).loc main_arg0) = ex3 4 2048 1024 A
  a1 : m ((c : Thread nD τ).loc main_arg1) = ex3 4 2048 5632 G

variable {m c A G}

theorem flat_eq (F : ℕ → ℕ → ℕ → EReal) {n n' e e' : ℕ} (hn : n = n') (he : e = e') :
    F (n / 2048) (n % 2048) e = F (n' / 2048) (n' % 2048) e' := by subst hn he; rfl

theorem e0 (h : Args m c A G) : V m c main_v7 = ex2 8192 1024 fun n d => A (n / 2048) (n % 2048) d := by
  entry_read; rw [show m (c, Proc.tc.devRef main_arg0) = _ from h.a0]; funext j; idx_vars j; pointwise []
theorem e1 (h : Args m c A G) : V m c main_v8 = ex3 2 8192 2816 fun k n e => G (n / 2048) (n % 2048) (k * 2816 + e) := by
  entry_read; rw [show m (c, Proc.tc.devRef main_arg1) = _ from h.a1]; funext j; idx_vars j; pointwise []
  have hj := j0.isLt
  split
  · rw [show j0.val = 0 by omega, Nat.zero_mul, Nat.zero_add]
  · rw [show j0.val = 1 by omega]

theorem idx : ∀ t : Fin cfg0.N, win0_0.index t = ![t.val % 8, 0] ∧ win0_1.index t = ![t.val / 8, t.val % 8, 0]
    ∧ win0_2.index t = ![t.val / 8, 0, 0, 0] :=
  (by decide +kernel : ∀ t : Fin grid0.N, win0_0.index t = ![t.val % 8, 0] ∧ win0_1.index t = ![t.val / 8, t.val % 8, 0]
    ∧ win0_2.index t = ![t.val / 8, 0, 0, 0])

/-- Point `t` reads tile `t % 8` of the positions and block `t / 8` of the second array's channels. -/
theorem b0 (h : Args m c A G) (t : Fin cfg0.N) : iblk m c 0 t
    = ex2 1024 1024 fun r d => A ((t.val % 8 * 1024 + r) / 2048) ((t.val % 8 * 1024 + r) % 2048) d := by
  funext y; unfold iblk; idx_vars y; blk_simp; rw [show V m c (Pipeline.arrRef spec0 0) = _ from e0 h]
  exact flat_eq A (by blk_simp [(idx t).1]) (by blk_simp [(idx t).1])
theorem b1 (h : Args m c A G) (t : Fin cfg0.N) : iblk m c 1 t
    = ex3 1 1024 2816 fun _ r q => G ((t.val % 8 * 1024 + r) / 2048) ((t.val % 8 * 1024 + r) % 2048) (t.val / 8 * 2816 + q) := by
  funext y; unfold iblk; idx_vars y; blk_simp; rw [show V m c (Pipeline.arrRef spec0 1) = _ from e1 h]
  have := y0.isLt
  exact flat_eq G (by blk_simp [(idx t).2.1]) (by blk_simp [(idx t).2.1])

/-! ### The running sum -/

theorem outA (t : Fin cfg0.N) (h0 : t.val % 8 = 0) (e0 : iblk m c 0 t = ex2 1024 1024 f) (e1 : iblk m c 1 t = ex3 1 1024 2816 fun _ => g) :
    outsAt0 m c t.val t.isLt = blk (dot f g) := by
  rw [outsAt0_A m c t h0]
  frame_out
  simp (decide := true) only [e0, e1, ↓View.readCov_skip, ↓View.readCov_fill (s := S2x2x512x1408) (off := ![0, 0, 0, 0]) _ _ _ _ _ (by decide), pay3, ld00, ld01, ld10, ld11, pay1, pay2, pay4, pay5, pay6, pay7, zero_add]
  exact canon4 (dot f g) [_]
theorem outB (t : Fin cfg0.N) (h0 : ¬t.val % 8 = 0) (e0 : iblk m c 0 t = ex2 1024 1024 f) (e1 : iblk m c 1 t = ex3 1 1024 2816 fun _ => g)
    (ep : outsAt0 m c (t.val - 1) (Nat.lt_of_le_of_lt (Nat.sub_le _ _) t.isLt) = blk O) :
    outsAt0 m c t.val t.isLt = blk fun d e => O d e + dot f g d e := by
  rw [outsAt0_B m c t h0]
  frame_out
  simp only [e0, e1, ep, ld00, ld01, ld10, ld11, pay1, pay2, pay4, pay5, pay6, pay7]
  exact canon4 (fun d e => O d e + dot f g d e) []

/-- The output block after a point: the sum over the tiles so far. -/
abbrev out (A G : ℕ → ℕ → ℕ → EReal) (n : ℕ) : S2x2x512x1408.Idx → Elt Ideal .f32 :=
  blk fun d e => ∑ k ∈ range (n % 8 + 1), part 1024 (term A G d (n / 8 * 2816 + e)) k

theorem out_eq (h : Args m c A G) : ∀ (n : ℕ) (hn : n < cfg0.N), outsAt0 m c n hn = out A G n := by
  have first : ∀ (n : ℕ) (hn : n < cfg0.N), n % 8 = 0 → outsAt0 m c n hn = out A G n := by
    intro n hn h0
    refine (outA _ _ ⟨n, hn⟩ h0 (b0 h _) (b1 h _)).trans ?_
    simp only [out, h0, zero_add, Finset.sum_range_one]; rfl
  intro n
  induction n with
  | zero => exact fun hn => first 0 hn rfl
  | succ n ih =>
    intro hn
    have ih := ih (Nat.lt_of_succ_lt hn)
    rcases eq_or_ne ((n + 1) % 8) 0 with h4 | h4
    · exact first _ hn h4
    · refine (outB _ _ (fun d e => ∑ k ∈ range (n % 8 + 1), part 1024 (term A G d (n / 8 * 2816 + e)) k) ⟨n + 1, hn⟩ h4 (b0 h _) (b1 h _) ih).trans ?_
      have hq : (n + 1) % 8 = n % 8 + 1 := by omega
      have hb : (n + 1) / 8 = n / 8 := by omega
      simp only [out, hq, hb, sum_range_succ _ (n % 8 + 1)]; rfl

/-- The result array after the run. -/
theorem final (h : Args m c A G) :
    (dats m 0 c).arrAt 2 cfg0.N = ex4 4 2 512 1408 fun i k p q => wg A G (k * 512 + p) (i * 1408 + q) := by
  refine (dats m 0 c).arrAt_eq_of_covers 2 _ (by decide +kernel) fun t hf y => ?_
  have hf := (flush0_2 t).mp hf
  blk_simp
  rw [after0_2, out_eq h]
  idx_vars y
  refine Eq.trans (b := wg A G (y1.val * 512 + y2.val) (t.val / 8 * 2816 + (y0.val * 1408 + y3.val))) ?_ ?_
  · rw [← sum_tiles8]; simp only [out, hf]; rfl
  · refine congrArg₂ (wg A G) ?_ ?_ <;> blk_simp [(idx t).2.2]
    omega

end Kernel

section Reference

open Cert.WgradGuReferenceIdeal Cert.WgradGuReferenceIdeal.Read

theorem ref (A G : ℕ → ℕ → ℕ → EReal) : val_main_v5 (F := Ideal) (ex3 4 2048 1024 A) (ex3 4 2048 5632 G)
    = ex4 4 2 512 1408 fun i k p q => wg A G (k * 512 + p) (i * 1408 + q) := by
  funext j; idx_vars j; pointwise [val_main_v5, val_main_v4, val_main_v3, val_main_v2]
  exact Finset.sum_congr rfl fun _ _ => Finset.sum_congr rfl fun _ _ => mul_comm _ _

end Reference

theorem algebraic : Cert.algebraic_WgradGuIdeal_WgradGuReferenceIdeal := by
  intro m g m' g' _ hargs
  choose A hA using fun c : Dev Cert.WgradGuIdeal.nD => exists_ex3 (n0 := 4) (n1 := 2048) (n2 := 1024) (m (((c : Dev Cert.WgradGuIdeal.nD).tc : Thread Cert.WgradGuIdeal.nD Cert.WgradGuIdeal.τ).loc Cert.WgradGuIdeal.main_arg0))
  choose G hG using fun c : Dev Cert.WgradGuIdeal.nD => exists_ex3 (n0 := 4) (n1 := 2048) (n2 := 5632) (m (((c : Dev Cert.WgradGuIdeal.nD).tc : Thread Cert.WgradGuIdeal.nD Cert.WgradGuIdeal.τ).loc Cert.WgradGuIdeal.main_arg1))
  refine ⟨fun c => ex4 4 2 512 1408 fun i k p q => wg (A c) (G c) (k * 512 + p) (i * 1408 + q),
    (θ_run Cert.WgradGuIdeal.defs _ _).mono (fun r h c => ?_) (Cert.WgradGuIdeal.Value.run_blocks (F := Ideal) m g),
    (θ_run Cert.WgradGuReferenceIdeal.defs _ _).mono (fun r h c => ?_) (Cert.WgradGuReferenceIdeal.Value.run (F := Ideal) m' g')⟩
  · obtain ⟨r0, hk⟩ := h c
    exact ⟨r0.trans (final ⟨hA c, hG c⟩), hk⟩
  · obtain ⟨r0, hk⟩ := h c
    refine ⟨r0.trans ?_, hk⟩
    rw [Cert.WgradGuReferenceIdeal.Read.val_main_v5_eq, (hargs c).1, (hargs c).2, hA c, hG c]
    exact ref (A c) (G c)

end Cert.Proof.WgradGu

end
-- ==== Proof.WgradDown.Frames.lean ====
/- The frames of the weight gradient's three programs. -/
module

public import proofs.«01_k».proof.Defs
public import proofs.«01_k».proof.Proof.Gen.WgradDown.Frame
public import proofs.«01_k».proof.Proof.Gen.WgradDownIdeal.Frame
public import proofs.«01_k».proof.Proof.Gen.WgradDownIdeal.Value
public import proofs.«01_k».proof.Proof.Gen.WgradDownReferenceIdeal.Run
public import proofs.«01_k».proof.Proof.Gen.WgradDownReferenceIdeal.Read
public import proofs.«01_k».proof.Proof.Gen.WgradDownReferenceIdeal
public import Idealize.ShloMosaic.Adequacy
public import Idealize.ShloMosaic.Init

@[expose] public section

noncomputable section

namespace Cert.Proof.WgradDown

open Idealize.ShloMosaic Idealize.SL.Sem Idealize.ShloMosaic.TcCoe

theorem kernel_frame : Cert.quiescent_WgradDown := fun m ρ _ => Cert.WgradDown.Gen.frame m ρ
theorem kernelIdeal_frame : Cert.quiescent_WgradDownIdeal := fun m ρ _ => Cert.WgradDownIdeal.Gen.frame m ρ
theorem referenceIdeal_frame : Cert.quiescent_WgradDownReferenceIdeal := fun m ρ _ =>
  (θ_run Cert.WgradDownReferenceIdeal.defs _ _).mono (fun r h => ⟨fun c => (h c).2, sem_eq_zero_of_no_sems (by decide) r.2⟩)
    (Cert.WgradDownReferenceIdeal.Value.run (F := Ideal) m ρ)

end Cert.Proof.WgradDown

end
-- ==== Proof.WgradDown.Value.lean ====
/- The down projection's weight gradient: the kernel's result array and the reference's, index by index. -/
module

public import proofs.«01_k».proof.Proof.Ext
public import proofs.«01_k».proof.Proof.WgradDown.Frames

@[expose] public section

set_option maxRecDepth 16384

noncomputable section

namespace Cert.Proof.WgradDown

open Idealize.ShloMosaic Idealize.ShloMosaic.TcCoe Idealize.SL.Sem Cert.Ext
open Finset (range sum_range_succ)

section Kernel

open Cert.WgradDownIdeal Cert.WgradDownIdeal.Gen

theorem pay1 : k0_pay1 (F := Ideal) = ex3 1 1408 1024 fun _ _ _ => 0 := by
  funext j; idx_vars j; pointwise [k0_pay1]
theorem pay2 (f g acc : ℕ → ℕ → EReal) :
    k0_pay2 (F := Ideal) (ex2 2048 1408 f) (ex3 1 2048 1024 fun _ => g) (ex3 1 1408 1024 fun _ => acc)
      = ex3 1 1408 1024 fun _ p q => acc p q + ∑ r : Fin 2048, f r.val p * g r.val q := by
  funext j; idx_vars j; pointwise [k0_pay2]

variable (m : (ℓ : Loc nD τ sig) → Buf (Elt Ideal) ℓ) (c : Dev nD) (A G : ℕ → ℕ → ℕ → EReal)

/-- The argument arrays of device `c`. -/
structure Args : Prop where
  a0 : m ((c : Thread nD τ).loc main_arg0) = ex3 4 2048 2816 A
  a1 : m ((c : Thread nD τ).loc main_arg1) = ex3 4 2048 1024 G

variable {m c A G}

theorem e0 (h : Args m c A G) : V m c main_v1 = ex2 8192 2816 fun n d => A (n / 2048) (n % 2048) d := by
  entry_read; rw [show m (c, Proc.tc.devRef main_arg0) = _ from h.a0]; funext j; idx_vars j; pointwise []
theorem e1 (h : Args m c A G) : V m c main_v4 = ex3 1 8192 1024 fun _ n e => G (n / 2048) (n % 2048) e := by
  entry_read; rw [show m (c, Proc.tc.devRef main_arg1) = _ from h.a1]; funext j; idx_vars j; pointwise []

theorem idx : ∀ t : Fin cfg0.N, win0_0.index t = ![t.val % 4, t.val / 4] ∧ win0_1.index t = ![0, t.val % 4, 0]
    ∧ win0_2.index t = ![t.val / 4, 0, 0] :=
  (by decide +kernel : ∀ t : Fin grid0.N, win0_0.index t = ![t.val % 4, t.val / 4] ∧ win0_1.index t = ![0, t.val % 4, 0]
    ∧ win0_2.index t = ![t.val / 4, 0, 0])

theorem flat_eq (F : ℕ → ℕ → ℕ → EReal) {n n' e e' : ℕ} (hn : n = n') (he : e = e') :
    F (n / 2048) (n % 2048) e = F (n' / 2048) (n' % 2048) e' := by subst hn he; rfl

/-- Point `t` reads tile `t % 4` of the positions and block `t / 4` of the first array's channels. -/
theorem b0 (h : Args m c A G) (t : Fin cfg0.N) : iblk m c 0 t
    = ex2 2048 1408 fun r p => A ((t.val % 4 * 2048 + r) / 2048) ((t.val % 4 * 2048 + r) % 2048) (t.val / 4 * 1408 + p) := by
  funext y; unfold iblk; idx_vars y; blk_simp; rw [show V m c (Pipeline.arrRef spec0 0) = _ from e0 h]
  exact flat_eq A (by blk_simp [(idx t).1]) (by blk_simp [(idx t).1])
theorem b1 (h : Args m c A G) (t : Fin cfg0.N) : iblk m c 1 t
    = ex3 1 2048 1024 fun _ r q => G ((t.val % 4 * 2048 + r) / 2048) ((t.val % 4 * 2048 + r) % 2048) q := by
  funext y; unfold iblk; idx_vars y; blk_simp; rw [show V m c (Pipeline.arrRef spec0 1) = _ from e1 h]
  exact flat_eq G (by blk_simp [(idx t).2.1]) (by blk_simp [(idx t).2.1])

/-- The output block after a point: the sum over the tiles so far. -/
abbrev out (A G : ℕ → ℕ → ℕ → EReal) (n : ℕ) : S1x1408x1024.Idx → Elt Ideal .f32 :=
  ex3 1 1408 1024 fun _ p q => ∑ k ∈ range (n % 4 + 1), part 2048 (term A G (n / 4 * 1408 + p) q) k

theorem out_eq (h : Args m c A G) : ∀ (n : ℕ) (hn : n < cfg0.N), outsAt0 m c n hn = out A G n := by
  have first : ∀ (n : ℕ) (hn : n < cfg0.N), n % 4 = 0 → outsAt0 m c n hn = out A G n := by
    intro n hn h0
    rw [outsAt0_A m c ⟨n, hn⟩ h0, Value.out_A_2_eq, b0 h, b1 h, pay1]
    refine (pay2 _ _ (fun _ _ => 0)).trans ?_
    simp only [out, h0, zero_add, Finset.sum_range_one]; rfl
  intro n
  induction n with
  | zero => exact fun hn => first 0 hn rfl
  | succ n ih =>
    intro hn
    have ih := ih (Nat.lt_of_succ_lt hn)
    rcases eq_or_ne ((n + 1) % 4) 0 with h4 | h4
    · exact first _ hn h4
    · rw [outsAt0_B m c ⟨n + 1, hn⟩ h4, Value.out_B_2_eq, b0 h, b1 h]
      have ih' : outsAt0 m c (n + 1 - 1) (Nat.lt_of_le_of_lt (Nat.sub_le _ _) hn) = out A G n := ih
      rw [ih']
      refine (pay2 _ _ _).trans ?_
      have hq : (n + 1) % 4 = n % 4 + 1 := by omega
      have hb : (n + 1) / 4 = n / 4 := by omega
      simp only [out, hq, hb, sum_range_succ _ (n % 4 + 1)]; rfl

/-- The result array after the run. -/
theorem final (h : Args m c A G) :
    (dats m 0 c).arrAt 2 cfg0.N = ex3 2 1408 1024 fun i p q => wg A G (i * 1408 + p) q := by
  refine (dats m 0 c).arrAt_eq_of_covers 2 _ (by decide +kernel) fun t hf y => ?_
  have hf := (flush0_2 t).mp hf
  blk_simp
  rw [after0_2, out_eq h]
  idx_vars y
  refine Eq.trans (b := wg A G (t.val / 4 * 1408 + y1.val) y2.val) ?_ ?_
  · rw [← sum_tiles4]; simp only [out, hf]; rfl
  · refine congrArg₂ (wg A G) ?_ ?_ <;> have := y0.isLt <;> blk_simp [(idx t).2.2]

end Kernel

section Reference

open Cert.WgradDownReferenceIdeal Cert.WgradDownReferenceIdeal.Read

theorem ref (A G : ℕ → ℕ → ℕ → EReal) : val_main_v4 (F := Ideal) (ex3 4 2048 2816 A) (ex3 4 2048 1024 G)
    = ex3 2 1408 1024 fun i p q => wg A G (i * 1408 + p) q := by
  funext j; idx_vars j; pointwise [val_main_v4, val_main_v3, val_main_v2]

  exact Finset.sum_congr rfl fun _ _ => Finset.sum_congr rfl fun _ _ => mul_comm _ _

end Reference

theorem algebraic : Cert.algebraic_WgradDownIdeal_WgradDownReferenceIdeal := by
  intro m g m' g' _ hargs
  choose A hA using fun c : Dev Cert.WgradDownIdeal.nD => exists_ex3 (n0 := 4) (n1 := 2048) (n2 := 2816) (m (((c : Dev Cert.WgradDownIdeal.nD).tc : Thread Cert.WgradDownIdeal.nD Cert.WgradDownIdeal.τ).loc Cert.WgradDownIdeal.main_arg0))
  choose G hG using fun c : Dev Cert.WgradDownIdeal.nD => exists_ex3 (n0 := 4) (n1 := 2048) (n2 := 1024) (m (((c : Dev Cert.WgradDownIdeal.nD).tc : Thread Cert.WgradDownIdeal.nD Cert.WgradDownIdeal.τ).loc Cert.WgradDownIdeal.main_arg1))
  refine ⟨fun c => ex3 2 1408 1024 fun i p q => wg (A c) (G c) (i * 1408 + p) q,
    (θ_run Cert.WgradDownIdeal.defs _ _).mono (fun r h c => ?_) (Cert.WgradDownIdeal.Value.run_blocks (F := Ideal) m g),
    (θ_run Cert.WgradDownReferenceIdeal.defs _ _).mono (fun r h c => ?_) (Cert.WgradDownReferenceIdeal.Value.run (F := Ideal) m' g')⟩
  · obtain ⟨r0, hk⟩ := h c
    exact ⟨r0.trans (final ⟨hA c, hG c⟩), hk⟩
  · obtain ⟨r0, hk⟩ := h c
    refine ⟨r0.trans ?_, hk⟩
    rw [Cert.WgradDownReferenceIdeal.Read.val_main_v4_eq, (hargs c).1, (hargs c).2, hA c, hG c]
    exact ref (A c) (G c)

end Cert.Proof.WgradDown

end
-- ==== Proof.WgradIn.Frames.lean ====
/- The frames of the weight gradient's three programs. -/
module

public import proofs.«01_k».proof.Defs
public import proofs.«01_k».proof.Proof.Gen.WgradIn.Frame
public import proofs.«01_k».proof.Proof.Gen.WgradInIdeal.Frame
public import proofs.«01_k».proof.Proof.Gen.WgradInIdeal.Value
public import proofs.«01_k».proof.Proof.Gen.WgradInReferenceIdeal.Run
public import proofs.«01_k».proof.Proof.Gen.WgradInReferenceIdeal.Read
public import proofs.«01_k».proof.Proof.Gen.WgradInReferenceIdeal
public import Idealize.ShloMosaic.Adequacy
public import Idealize.ShloMosaic.Init

@[expose] public section

noncomputable section

namespace Cert.Proof.WgradIn

open Idealize.ShloMosaic Idealize.SL.Sem Idealize.ShloMosaic.TcCoe

theorem kernel_frame : Cert.quiescent_WgradIn := fun m ρ _ => Cert.WgradIn.Gen.frame m ρ
theorem kernelIdeal_frame : Cert.quiescent_WgradInIdeal := fun m ρ _ => Cert.WgradInIdeal.Gen.frame m ρ
theorem referenceIdeal_frame : Cert.quiescent_WgradInReferenceIdeal := fun m ρ _ =>
  (θ_run Cert.WgradInReferenceIdeal.defs _ _).mono (fun r h => ⟨fun c => (h c).2, sem_eq_zero_of_no_sems (by decide) r.2⟩)
    (Cert.WgradInReferenceIdeal.Value.run (F := Ideal) m ρ)

end Cert.Proof.WgradIn

end
-- ==== Proof.WgradIn.Value.lean ====
/- The input projection's weight gradient: the kernel's result array and the reference's, index by index. -/
module

public import Idealize.ShloMosaic.Lib.Pipeline.ReadBack
public import proofs.«01_k».proof.Proof.Ext
public import proofs.«01_k».proof.Proof.WgradIn.Frames

@[expose] public section

set_option maxRecDepth 16384

noncomputable section

namespace Cert.Proof.WgradIn

open Idealize.ShloMosaic Idealize.ShloMosaic.TcCoe Idealize.SL.Sem Cert.Ext
open Finset (range sum_range_succ)

section Kernel

open Cert.WgradInIdeal Cert.WgradInIdeal.Gen

/-! ### The body's values -/

/-- A part of the result block: 512 rows of one of its 640-column groups. -/
abbrev piece (f : ℕ → ℕ → EReal) : S1x1x512x640.Idx → Elt Ideal .f32 := ex4 1 1 512 640 fun _ _ p q => f p q

/-- The result block with entry `O d e` for row `d` and column `e`: its column groups, each cut into two halves of 512 rows. -/
abbrev blk (O : ℕ → ℕ → EReal) : S2x2x512x640.Idx → Elt Ideal .f32 := ex4 2 2 512 640 fun s h p q => O (h * 512 + p) (s * 640 + q)

/-- A tile's product. -/
def dot (f g : ℕ → ℕ → EReal) (d e : ℕ) : EReal := ∑ r : Fin 2048, f r.val d * g r.val e

variable (f g acc S : ℕ → ℕ → EReal)

theorem pay1 : k0_pay1 (F := Ideal) (ex2 512 640 acc) = piece acc := by
  funext j; idx_vars j; pointwise [k0_pay1]
theorem pay2 : k0_pay2 (F := Ideal) (ex2 1024 1280 S) (piece acc) = piece fun p q => acc p q + S (512 + p) (640 + q) := by
  funext j; idx_vars j; pointwise [k0_pay2]
theorem pay3 : k0_pay3 (F := Ideal) = blk fun _ _ => 0 := by
  funext j; idx_vars j; pointwise [k0_pay3]
theorem pay4 : k0_pay4 (F := Ideal) (ex2 2048 1024 f) (ex3 1 2048 1280 fun _ => g) = ex2 1024 1280 (dot f g) := by
  funext j; idx_vars j; pointwise [k0_pay4]; rfl
theorem pay5 : k0_pay5 (F := Ideal) (ex2 2048 1024 f) (ex3 1 2048 1280 fun _ => g) (piece acc) = piece fun p q => acc p q + dot f g p q := by
  rw [k0_pay5, pay4]; funext j; idx_vars j; pointwise []
theorem pay6 : k0_pay6 (F := Ideal) (ex2 2048 1024 f) (ex3 1 2048 1280 fun _ => g) (piece acc)
    = piece fun p q => acc p q + dot f g (512 + p) q := by
  rw [k0_pay6, pay4]; funext j; idx_vars j; pointwise []
theorem pay7 : k0_pay7 (F := Ideal) (ex2 2048 1024 f) (ex3 1 2048 1280 fun _ => g) (piece acc)
    = ex2 512 640 fun p q => acc p q + dot f g p (640 + q) := by
  rw [k0_pay7, pay4]; funext j; idx_vars j; pointwise []

/-! ### Loads of the result block's four parts, and the four stores together -/

variable (O : ℕ → ℕ → EReal)

theorem ld00 : View.ld (Val := Elt Ideal) (S := S2x2x512x640) (e' := .f32) (blk O) (Rect.unit ![0, 0, 0, 0] ![1, 1, 512, 640] inb_S2x2x512x640_S1x1x512x640_0_0_0_0)
    = piece O := by
  funext y; idx_vars y; pointwise
theorem ld01 : View.ld (Val := Elt Ideal) (S := S2x2x512x640) (e' := .f32) (blk O) (Rect.unit ![0, 1, 0, 0] ![1, 1, 512, 640] inb_S2x2x512x640_S1x1x512x640_0_1_0_0)
    = piece fun p q => O (512 + p) q := by
  funext y; idx_vars y; pointwise
theorem ld10 : View.ld (Val := Elt Ideal) (S := S2x2x512x640) (e' := .f32) (blk O) (Rect.unit ![1, 0, 0, 0] ![1, 1, 512, 640] inb_S2x2x512x640_S1x1x512x640_1_0_0_0)
    = piece fun p q => O p (640 + q) := by
  funext y; idx_vars y; pointwise
theorem ld11 : View.ld (Val := Elt Ideal) (S := S2x2x512x640) (e' := .f32) (blk O) (Rect.unit ![1, 1, 0, 0] ![1, 1, 512, 640] inb_S2x2x512x640_S1x1x512x640_1_1_0_0)
    = piece fun p q => O (512 + p) (640 + q) := by
  funext y; idx_vars y; pointwise

/-- The four stores of the body. -/
abbrev L4 : List (View.Piece (Elt Ideal) S2x2x512x640 .f32) :=
  [⟨Rect.unit ![1, 1, 0, 0] ![1, 1, 512, 640] inb_S2x2x512x640_S1x1x512x640_1_1_0_0, piece fun p q => O (512 + p) (640 + q)⟩,
   ⟨Rect.unit ![1, 0, 0, 0] ![1, 1, 512, 640] inb_S2x2x512x640_S1x1x512x640_1_0_0_0, piece fun p q => O p (640 + q)⟩,
   ⟨Rect.unit ![0, 1, 0, 0] ![1, 1, 512, 640] inb_S2x2x512x640_S1x1x512x640_0_1_0_0, piece fun p q => O (512 + p) q⟩,
   ⟨Rect.unit ![0, 0, 0, 0] ![1, 1, 512, 640] inb_S2x2x512x640_S1x1x512x640_0_0_0_0, piece O⟩]

theorem cover4 (y : S2x2x512x640.Idx) : ∃ p ∈ L4 O, y ∈ p.1.set := by
  have h0 : (y 0).val < 2 := (y 0).isLt
  have h1 : (y 1).val < 2 := (y 1).isLt
  have h2 : (y 2).val < 512 := (y 2).isLt
  have h3 : (y 3).val < 640 := (y 3).isLt
  simp only [L4, List.mem_cons, List.not_mem_nil, or_false, exists_eq_or_imp, exists_eq_left, Rect.mem_set_unit, Fin.forall_fin_succ]
  simp
  omega

/-- Whatever the block held before, the four stores leave the whole of it. -/
theorem canon4 (L : List (View.Piece (Elt Ideal) S2x2x512x640 .f32)) : View.canon (L4 O ++ L) = blk O := by
  funext y
  refine View.canon_append_of_piecesOf (blk O) L (L4 O) ⟨fun x => ?_, fun x => ?_, fun x => ?_, fun x => ?_, trivial⟩ y (cover4 O y)
  · exact (congrFun (ld11 O) x).symm
  · exact (congrFun (ld10 O) x).symm
  · exact (congrFun (ld01 O) x).symm
  · exact (congrFun (ld00 O) x).symm

/-! ### The blocks that a grid point reads -/

variable (m : (ℓ : Loc nD τ sig) → Buf (Elt Ideal) ℓ) (c : Dev nD) (A G : ℕ → ℕ → ℕ → EReal)

/-- The argument arrays of device `c`. -/
structure Args : Prop where
  a0 : m ((c : Thread nD τ).loc main_arg0) = ex3 4 2048 1024 A
  a1 : m ((c : Thread nD τ).loc main_arg1) = ex3 4 2048 2560 G

variable {m c A G}

theorem flat_eq (F : ℕ → ℕ → ℕ → EReal) {n n' e e' : ℕ} (hn : n = n') (he : e = e') :
    F (n / 2048) (n % 2048) e = F (n' / 2048) (n' % 2048) e' := by subst hn he; rfl

theorem e0 (h : Args m c A G) : V m c main_v1 = ex2 8192 1024 fun n d => A (n / 2048) (n % 2048) d := by
  entry_read; rw [show m (c, Proc.tc.devRef main_arg0) = _ from h.a0]; funext j; idx_vars j; pointwise []
theorem e1 (h : Args m c A G) : V m c main_v4 = ex3 1 8192 2560 fun _ n e => G (n / 2048) (n % 2048) e := by
  entry_read; rw [show m (c, Proc.tc.devRef main_arg1) = _ from h.a1]; funext j; idx_vars j; pointwise []

theorem idx : ∀ t : Fin cfg0.N, win0_0.index t = ![t.val % 4, 0] ∧ win0_1.index t = ![0, t.val % 4, t.val / 4]
    ∧ win0_2.index t = ![t.val / 4, 0, 0, 0] :=
  (by decide +kernel : ∀ t : Fin grid0.N, win0_0.index t = ![t.val % 4, 0] ∧ win0_1.index t = ![0, t.val % 4, t.val / 4]
    ∧ win0_2.index t = ![t.val / 4, 0, 0, 0])

/-- Point `t` reads tile `t % 4` of the positions and block `t / 4` of the second array's channels. -/
theorem b0 (h : Args m c A G) (t : Fin cfg0.N) : iblk m c 0 t
    = ex2 2048 1024 fun r d => A ((t.val % 4 * 2048 + r) / 2048) ((t.val % 4 * 2048 + r) % 2048) d := by
  funext y; unfold iblk; idx_vars y; blk_simp; rw [show V m c (Pipeline.arrRef spec0 0) = _ from e0 h]
  exact flat_eq A (by blk_simp [(idx t).1]) (by blk_simp [(idx t).1])
theorem b1 (h : Args m c A G) (t : Fin cfg0.N) : iblk m c 1 t
    = ex3 1 2048 1280 fun _ r q => G ((t.val % 4 * 2048 + r) / 2048) ((t.val % 4 * 2048 + r) % 2048) (t.val / 4 * 1280 + q) := by
  funext y; unfold iblk; idx_vars y; blk_simp; rw [show V m c (Pipeline.arrRef spec0 1) = _ from e1 h]
  have := y0.isLt
  exact flat_eq G (by blk_simp [(idx t).2.1]) (by blk_simp [(idx t).2.1])

/-! ### The running sum -/

theorem outA (t : Fin cfg0.N) (h0 : t.val % 4 = 0) (e0 : iblk m c 0 t = ex2 2048 1024 f) (e1 : iblk m c 1 t = ex3 1 2048 1280 fun _ => g) :
    outsAt0 m c t.val t.isLt = blk (dot f g) := by
  rw [outsAt0_A m c t h0]
  frame_out
  simp (decide := true) only [e0, e1, ↓View.readCov_skip, ↓View.readCov_fill (s := S2x2x512x640) (off := ![0, 0, 0, 0]) _ _ _ _ _ (by decide), pay3, ld00, ld01, ld10, ld11, pay1, pay2, pay4, pay5, pay6, pay7, zero_add]
  exact canon4 (dot f g) [_]
theorem outB (t : Fin cfg0.N) (h0 : ¬t.val % 4 = 0) (e0 : iblk m c 0 t = ex2 2048 1024 f) (e1 : iblk m c 1 t = ex3 1 2048 1280 fun _ => g)
    (ep : outsAt0 m c (t.val - 1) (Nat.lt_of_le_of_lt (Nat.sub_le _ _) t.isLt) = blk O) :
    outsAt0 m c t.val t.isLt = blk fun d e => O d e + dot f g d e := by
  rw [outsAt0_B m c t h0]
  frame_out
  simp only [e0, e1, ep, ld00, ld01, ld10, ld11, pay1, pay2, pay4, pay5, pay6, pay7]
  exact canon4 (fun d e => O d e + dot f g d e) []

/-- The output block after a point: the sum over the tiles so far. -/
abbrev out (A G : ℕ → ℕ → ℕ → EReal) (n : ℕ) : S2x2x512x640.Idx → Elt Ideal .f32 :=
  blk fun d e => ∑ k ∈ range (n % 4 + 1), part 2048 (term A G d (n / 4 * 1280 + e)) k

theorem out_eq (h : Args m c A G) : ∀ (n : ℕ) (hn : n < cfg0.N), outsAt0 m c n hn = out A G n := by
  have first : ∀ (n : ℕ) (hn : n < cfg0.N), n % 4 = 0 → outsAt0 m c n hn = out A G n := by
    intro n hn h0
    refine (outA _ _ ⟨n, hn⟩ h0 (b0 h _) (b1 h _)).trans ?_
    simp only [out, h0, zero_add, Finset.sum_range_one]; rfl
  intro n
  induction n with
  | zero => exact fun hn => first 0 hn rfl
  | succ n ih =>
    intro hn
    have ih := ih (Nat.lt_of_succ_lt hn)
    rcases eq_or_ne ((n + 1) % 4) 0 with h4 | h4
    · exact first _ hn h4
    · refine (outB _ _ (fun d e => ∑ k ∈ range (n % 4 + 1), part 2048 (term A G d (n / 4 * 1280 + e)) k) ⟨n + 1, hn⟩ h4 (b0 h _) (b1 h _) ih).trans ?_
      have hq : (n + 1) % 4 = n % 4 + 1 := by omega
      have hb : (n + 1) / 4 = n / 4 := by omega
      simp only [out, hq, hb, sum_range_succ _ (n % 4 + 1)]; rfl

/-- The result array after the run. -/
theorem final (h : Args m c A G) :
    (dats m 0 c).arrAt 2 cfg0.N = ex4 4 2 512 640 fun i k p q => wg A G (k * 512 + p) (i * 640 + q) := by
  refine (dats m 0 c).arrAt_eq_of_covers 2 _ (by decide +kernel) fun t hf y => ?_
  have hf := (flush0_2 t).mp hf
  blk_simp
  rw [after0_2, out_eq h]
  idx_vars y
  refine Eq.trans (b := wg A G (y1.val * 512 + y2.val) (t.val / 4 * 1280 + (y0.val * 640 + y3.val))) ?_ ?_
  · rw [← sum_tiles4]; simp only [out, hf]; rfl
  · refine congrArg₂ (wg A G) ?_ ?_ <;> blk_simp [(idx t).2.2]
    omega

end Kernel

section Reference

open Cert.WgradInReferenceIdeal Cert.WgradInReferenceIdeal.Read

theorem ref (A G : ℕ → ℕ → ℕ → EReal) : val_main_v5 (F := Ideal) (ex3 4 2048 1024 A) (ex3 4 2048 2560 G)
    = ex4 4 2 512 640 fun i k p q => wg A G (k * 512 + p) (i * 640 + q) := by
  funext j; idx_vars j; pointwise [val_main_v5, val_main_v4, val_main_v3, val_main_v2]
  exact Finset.sum_congr rfl fun _ _ => Finset.sum_congr rfl fun _ _ => mul_comm _ _

end Reference

theorem algebraic : Cert.algebraic_WgradInIdeal_WgradInReferenceIdeal := by
  intro m g m' g' _ hargs
  choose A hA using fun c : Dev Cert.WgradInIdeal.nD => exists_ex3 (n0 := 4) (n1 := 2048) (n2 := 1024) (m (((c : Dev Cert.WgradInIdeal.nD).tc : Thread Cert.WgradInIdeal.nD Cert.WgradInIdeal.τ).loc Cert.WgradInIdeal.main_arg0))
  choose G hG using fun c : Dev Cert.WgradInIdeal.nD => exists_ex3 (n0 := 4) (n1 := 2048) (n2 := 2560) (m (((c : Dev Cert.WgradInIdeal.nD).tc : Thread Cert.WgradInIdeal.nD Cert.WgradInIdeal.τ).loc Cert.WgradInIdeal.main_arg1))
  refine ⟨fun c => ex4 4 2 512 640 fun i k p q => wg (A c) (G c) (k * 512 + p) (i * 640 + q),
    (θ_run Cert.WgradInIdeal.defs _ _).mono (fun r h c => ?_) (Cert.WgradInIdeal.Value.run_blocks (F := Ideal) m g),
    (θ_run Cert.WgradInReferenceIdeal.defs _ _).mono (fun r h c => ?_) (Cert.WgradInReferenceIdeal.Value.run (F := Ideal) m' g')⟩
  · obtain ⟨r0, hk⟩ := h c
    exact ⟨r0.trans (final ⟨hA c, hG c⟩), hk⟩
  · obtain ⟨r0, hk⟩ := h c
    refine ⟨r0.trans ?_, hk⟩
    rw [Cert.WgradInReferenceIdeal.Read.val_main_v5_eq, (hargs c).1, (hargs c).2, hA c, hG c]
    exact ref (A c) (G c)

end Cert.Proof.WgradIn

end
-- ==== Proof.WgradOut.Frames.lean ====
/- The frames of the weight gradient's three programs. -/
module

public import proofs.«01_k».proof.Defs
public import proofs.«01_k».proof.Proof.Gen.WgradOut.Frame
public import proofs.«01_k».proof.Proof.Gen.WgradOutIdeal.Frame
public import proofs.«01_k».proof.Proof.Gen.WgradOutIdeal.Value
public import proofs.«01_k».proof.Proof.Gen.WgradOutReferenceIdeal.Run
public import proofs.«01_k».proof.Proof.Gen.WgradOutReferenceIdeal.Read
public import proofs.«01_k».proof.Proof.Gen.WgradOutReferenceIdeal
public import Idealize.ShloMosaic.Adequacy
public import Idealize.ShloMosaic.Init

@[expose] public section

noncomputable section

namespace Cert.Proof.WgradOut

open Idealize.ShloMosaic Idealize.SL.Sem Idealize.ShloMosaic.TcCoe

theorem kernel_frame : Cert.quiescent_WgradOut := fun m ρ _ => Cert.WgradOut.Gen.frame m ρ
theorem kernelIdeal_frame : Cert.quiescent_WgradOutIdeal := fun m ρ _ => Cert.WgradOutIdeal.Gen.frame m ρ
theorem referenceIdeal_frame : Cert.quiescent_WgradOutReferenceIdeal := fun m ρ _ =>
  (θ_run Cert.WgradOutReferenceIdeal.defs _ _).mono (fun r h => ⟨fun c => (h c).2, sem_eq_zero_of_no_sems (by decide) r.2⟩)
    (Cert.WgradOutReferenceIdeal.Value.run (F := Ideal) m ρ)

end Cert.Proof.WgradOut

end
-- ==== Proof.WgradOut.Value.lean ====
/- The output projection's weight gradient: the kernel's result array and the reference's, index by index. -/
module

public import proofs.«01_k».proof.Proof.Ext
public import proofs.«01_k».proof.Proof.WgradOut.Frames

@[expose] public section

set_option maxRecDepth 16384

noncomputable section

namespace Cert.Proof.WgradOut

open Idealize.ShloMosaic Idealize.ShloMosaic.TcCoe Idealize.SL.Sem Cert.Ext
open Finset (range sum_range_succ)

section Kernel

open Cert.WgradOutIdeal Cert.WgradOutIdeal.Gen

theorem pay1 : k0_pay1 (F := Ideal) = ex3 1 1024 1024 fun _ _ _ => 0 := by
  funext j; idx_vars j; pointwise [k0_pay1]
theorem pay2 (f g acc : ℕ → ℕ → EReal) :
    k0_pay2 (F := Ideal) (ex2 2048 1024 f) (ex3 1 2048 1024 fun _ => g) (ex3 1 1024 1024 fun _ => acc)
      = ex3 1 1024 1024 fun _ p q => acc p q + ∑ r : Fin 2048, f r.val p * g r.val q := by
  funext j; idx_vars j; pointwise [k0_pay2]

variable (m : (ℓ : Loc nD τ sig) → Buf (Elt Ideal) ℓ) (c : Dev nD) (A G : ℕ → ℕ → ℕ → EReal)

/-- The argument arrays of device `c`. -/
structure Args : Prop where
  a0 : m ((c : Thread nD τ).loc main_arg0) = ex3 4 2048 1024 A
  a1 : m ((c : Thread nD τ).loc main_arg1) = ex3 4 2048 1024 G

variable {m c A G}

theorem e0 (h : Args m c A G) : V m c main_v1 = ex2 8192 1024 fun n d => A (n / 2048) (n % 2048) d := by
  entry_read; rw [show m (c, Proc.tc.devRef main_arg0) = _ from h.a0]; funext j; idx_vars j; pointwise []
theorem e1 (h : Args m c A G) : V m c main_v4 = ex3 1 8192 1024 fun _ n e => G (n / 2048) (n % 2048) e := by
  entry_read; rw [show m (c, Proc.tc.devRef main_arg1) = _ from h.a1]; funext j; idx_vars j; pointwise []

theorem idx : ∀ t : Fin cfg0.N, win0_0.index t = ![t.val % 4, t.val / 4] ∧ win0_1.index t = ![0, t.val % 4, 0]
    ∧ win0_2.index t = ![t.val / 4, 0, 0] :=
  (by decide +kernel : ∀ t : Fin grid0.N, win0_0.index t = ![t.val % 4, t.val / 4] ∧ win0_1.index t = ![0, t.val % 4, 0]
    ∧ win0_2.index t = ![t.val / 4, 0, 0])

theorem flat_eq (F : ℕ → ℕ → ℕ → EReal) {n n' e e' : ℕ} (hn : n = n') (he : e = e') :
    F (n / 2048) (n % 2048) e = F (n' / 2048) (n' % 2048) e' := by subst hn he; rfl

/-- Point `t` reads tile `t % 4` of the positions and block `t / 4` of the first array's channels. -/
theorem b0 (h : Args m c A G) (t : Fin cfg0.N) : iblk m c 0 t
    = ex2 2048 1024 fun r p => A ((t.val % 4 * 2048 + r) / 2048) ((t.val % 4 * 2048 + r) % 2048) (t.val / 4 * 1024 + p) := by
  funext y; unfold iblk; idx_vars y; blk_simp; rw [show V m c (Pipeline.arrRef spec0 0) = _ from e0 h]
  exact flat_eq A (by blk_simp [(idx t).1]) (by blk_simp [(idx t).1])
theorem b1 (h : Args m c A G) (t : Fin cfg0.N) : iblk m c 1 t
    = ex3 1 2048 1024 fun _ r q => G ((t.val % 4 * 2048 + r) / 2048) ((t.val % 4 * 2048 + r) % 2048) q := by
  funext y; unfold iblk; idx_vars y; blk_simp; rw [show V m c (Pipeline.arrRef spec0 1) = _ from e1 h]
  exact flat_eq G (by blk_simp [(idx t).2.1]) (by blk_simp [(idx t).2.1])

/-- The output block after a point: the sum over the tiles so far. -/
abbrev out (A G : ℕ → ℕ → ℕ → EReal) (n : ℕ) : S1x1024x1024.Idx → Elt Ideal .f32 :=
  ex3 1 1024 1024 fun _ p q => ∑ k ∈ range (n % 4 + 1), part 2048 (term A G (n / 4 * 1024 + p) q) k

theorem out_eq (h : Args m c A G) : ∀ (n : ℕ) (hn : n < cfg0.N), outsAt0 m c n hn = out A G n := by
  have first : ∀ (n : ℕ) (hn : n < cfg0.N), n % 4 = 0 → outsAt0 m c n hn = out A G n := by
    intro n hn h0
    rw [outsAt0_A m c ⟨n, hn⟩ h0, Value.out_A_2_eq, b0 h, b1 h, pay1]
    refine (pay2 _ _ (fun _ _ => 0)).trans ?_
    simp only [out, h0, zero_add, Finset.sum_range_one]; rfl
  intro n
  induction n with
  | zero => exact fun hn => first 0 hn rfl
  | succ n ih =>
    intro hn
    have ih := ih (Nat.lt_of_succ_lt hn)
    rcases eq_or_ne ((n + 1) % 4) 0 with h4 | h4
    · exact first _ hn h4
    · rw [outsAt0_B m c ⟨n + 1, hn⟩ h4, Value.out_B_2_eq, b0 h, b1 h]
      have ih' : outsAt0 m c (n + 1 - 1) (Nat.lt_of_le_of_lt (Nat.sub_le _ _) hn) = out A G n := ih
      rw [ih']
      refine (pay2 _ _ _).trans ?_
      have hq : (n + 1) % 4 = n % 4 + 1 := by omega
      have hb : (n + 1) / 4 = n / 4 := by omega
      simp only [out, hq, hb, sum_range_succ _ (n % 4 + 1)]; rfl

/-- The result array after the run. -/
theorem final (h : Args m c A G) :
    (dats m 0 c).arrAt 2 cfg0.N = ex3 1 1024 1024 fun i p q => wg A G (i * 1024 + p) q := by
  refine (dats m 0 c).arrAt_eq_of_covers 2 _ (by decide +kernel) fun t hf y => ?_
  have hf := (flush0_2 t).mp hf
  blk_simp
  rw [after0_2, out_eq h]
  idx_vars y
  refine Eq.trans (b := wg A G (t.val / 4 * 1024 + y1.val) y2.val) ?_ ?_
  · rw [← sum_tiles4]; simp only [out, hf]; rfl
  · refine congrArg₂ (wg A G) ?_ ?_ <;> have := y0.isLt <;> blk_simp [(idx t).2.2]

end Kernel

section Reference

open Cert.WgradOutReferenceIdeal Cert.WgradOutReferenceIdeal.Read

theorem ref (A G : ℕ → ℕ → ℕ → EReal) : val_main_v4 (F := Ideal) (ex3 4 2048 1024 A) (ex3 4 2048 1024 G)
    = ex3 1 1024 1024 fun i p q => wg A G (i * 1024 + p) q := by
  funext j; idx_vars j; pointwise [val_main_v4, val_main_v3, val_main_v2]

  exact Finset.sum_congr rfl fun _ _ => Finset.sum_congr rfl fun _ _ => mul_comm _ _

end Reference

theorem algebraic : Cert.algebraic_WgradOutIdeal_WgradOutReferenceIdeal := by
  intro m g m' g' _ hargs
  choose A hA using fun c : Dev Cert.WgradOutIdeal.nD => exists_ex3 (n0 := 4) (n1 := 2048) (n2 := 1024) (m (((c : Dev Cert.WgradOutIdeal.nD).tc : Thread Cert.WgradOutIdeal.nD Cert.WgradOutIdeal.τ).loc Cert.WgradOutIdeal.main_arg0))
  choose G hG using fun c : Dev Cert.WgradOutIdeal.nD => exists_ex3 (n0 := 4) (n1 := 2048) (n2 := 1024) (m (((c : Dev Cert.WgradOutIdeal.nD).tc : Thread Cert.WgradOutIdeal.nD Cert.WgradOutIdeal.τ).loc Cert.WgradOutIdeal.main_arg1))
  refine ⟨fun c => ex3 1 1024 1024 fun i p q => wg (A c) (G c) (i * 1024 + p) q,
    (θ_run Cert.WgradOutIdeal.defs _ _).mono (fun r h c => ?_) (Cert.WgradOutIdeal.Value.run_blocks (F := Ideal) m g),
    (θ_run Cert.WgradOutReferenceIdeal.defs _ _).mono (fun r h c => ?_) (Cert.WgradOutReferenceIdeal.Value.run (F := Ideal) m' g')⟩
  · obtain ⟨r0, hk⟩ := h c
    exact ⟨r0.trans (final ⟨hA c, hG c⟩), hk⟩
  · obtain ⟨r0, hk⟩ := h c
    refine ⟨r0.trans ?_, hk⟩
    rw [Cert.WgradOutReferenceIdeal.Read.val_main_v4_eq, (hargs c).1, (hargs c).2, hA c, hG c]
    exact ref (A c) (G c)

end Cert.Proof.WgradOut

end
-- ==== Proof.Fwd.lean ====
/- The forward half-step feed-forward on one position, over the extended reals: what each intermediate value is at a channel. -/
module

public import proofs.«01_k».proof.Proof.Ext

@[expose] public section

noncomputable section

namespace Cert.Fwd

open Idealize.ShloMosaic Cert.Ext

/-- The modulation of a sequence and the weights. -/
structure Par where
  /-- gain of the normalisation -/
  gn : ℕ → EReal
  /-- shift -/
  sh : ℕ → EReal
  /-- scale -/
  sc : ℕ → EReal
  /-- weights into the hidden layer: channel, hidden channel (2816 of the gate, then 2816 of the value) -/
  wu : ℕ → ℕ → EReal

/-- The gate times the value, the gate through silu. -/
def act (g u : EReal) : EReal := g * Ideal.div 1 (1 + Ideal.exp (-g)) * u
/-- The product with the weights out of the hidden layer. -/
def down (wd : ℕ → ℕ → EReal) (a : ℕ → EReal) (e : ℕ) : EReal := ∑ k : Fin 2816, a k.val * wd k.val e
/-- The residual step: half of the gated branch. -/
def step (x gt f : EReal) : EReal := x + Ideal.ofBits .f32 0x3F000000#32 * gt * f

namespace Par

variable (P : Par) (x : ℕ → EReal)

def r : EReal := Ideal.rsqrt (Ideal.div (∑ k : Fin 1024, x k.val * x k.val) (Ideal.ofBits .f32 0x44800000#32) + Ideal.ofBits .f32 0x358637BD#32)
def h (e : ℕ) : EReal := x e * r x * P.gn e * (1 + P.sc e) + P.sh e
def gu (f : ℕ) : EReal := ∑ k : Fin 1024, P.h x k.val * P.wu k.val f
def a (f : ℕ) : EReal := act (P.gu x f) (P.gu x (2816 + f))

end Par

/-- The arguments. -/
structure Inp where
  /-- input of the block: batch, position, channel -/
  X : ℕ → ℕ → ℕ → EReal
  /-- gain of the normalisation -/
  gn : ℕ → EReal
  /-- shift: batch, channel -/
  sh : ℕ → ℕ → EReal
  /-- scale: batch, channel -/
  sc : ℕ → ℕ → EReal
  /-- gate of the residual branch: batch, channel -/
  gt : ℕ → ℕ → EReal
  /-- weights into the hidden layer -/
  wu : ℕ → ℕ → EReal
  /-- weights out of the hidden layer -/
  wd : ℕ → ℕ → EReal

namespace Inp

variable (I : Inp)

/-- What sequence `b` is modulated by. -/
def par (b : ℕ) : Par := ⟨I.gn, I.sh b, I.sc b, I.wu⟩
def gu (b s f : ℕ) : EReal := (I.par b).gu (I.X b s) f
def a (b s f : ℕ) : EReal := (I.par b).a (I.X b s) f
def f (b s e : ℕ) : EReal := down I.wd (I.a b s) e
def xo (b s e : ℕ) : EReal := step (I.X b s e) (I.gt b e) (I.f b s e)

/-- The rows of tile `t`, of 512 positions. -/
def tile (t r : ℕ) : ℕ → EReal := I.X (t / 4) (t % 4 * 512 + r)

end Inp

/-- The batch and the position of row `r` of tile `t`. -/
theorem pos_eq (F : ℕ → ℕ → ℕ → EReal) (t r : ℕ) (hr : r < 512) {p e e' : ℕ} (hp : p = t * 512 + r) (he : e = e') :
    F (p / 2048) (p % 2048) e = F (t / 4) (t % 4 * 512 + r) e' := by
  subst hp he
  rw [show (t * 512 + r) / 2048 = t / 4 by omega, show (t * 512 + r) % 2048 = t % 4 * 512 + r by omega]
theorem mat_eq (F : ℕ → ℕ → EReal) {a a' b b' : ℕ} (ha : a = a') (hb : b = b') : F a b = F a' b' := by subst ha hb; rfl

end Cert.Fwd

end
-- ==== Proof.FfnFwd.Frames.lean ====
/- The frames of the three programs of the half-step feed-forward. -/
module

public import proofs.«01_k».proof.Defs
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdReferenceIdeal.Run
public import proofs.«01_k».proof.Proof.Gen.FfnFwdReferenceIdeal.Read
public import proofs.«01_k».proof.Proof.Gen.FfnFwdReferenceIdeal
public import Idealize.ShloMosaic.Adequacy
public import Idealize.ShloMosaic.Init

@[expose] public section

noncomputable section

namespace Cert.Proof.FfnFwd

open Idealize.ShloMosaic Idealize.SL.Sem Idealize.ShloMosaic.TcCoe

theorem kernel_frame : Cert.quiescent_FfnFwd := fun m ρ _ => Cert.FfnFwd.Gen.frame m ρ
theorem kernelIdeal_frame : Cert.quiescent_FfnFwdIdeal := fun m ρ _ => Cert.FfnFwdIdeal.Gen.frame m ρ
theorem referenceIdeal_frame : Cert.quiescent_FfnFwdReferenceIdeal := fun m ρ _ =>
  (θ_run Cert.FfnFwdReferenceIdeal.defs _ _).mono (fun r h => ⟨fun c => (h c).2.2.2.2, sem_eq_zero_of_no_sems (by decide) r.2⟩)
    (Cert.FfnFwdReferenceIdeal.Value.run (F := Ideal) m ρ)

end Cert.Proof.FfnFwd

end
-- ==== Proof.FfnFwd.Value.lean ====
/- The half-step feed-forward: the kernel's result arrays and the reference's, index by index. -/
module

public import Idealize.ShloMosaic.Lib.Pipeline.ReadBack
public import proofs.«01_k».proof.Proof.Fwd
public import proofs.«01_k».proof.Proof.FfnFwd.Frames

@[expose] public section

set_option maxRecDepth 16384

noncomputable section

namespace Cert.Proof.FfnFwd

open Idealize.ShloMosaic Idealize.ShloMosaic.TcCoe Idealize.SL.Sem Cert.Ext Cert.Fwd

section Kernel

open Cert.FfnFwdIdeal Cert.FfnFwdIdeal.Gen

/-! ### The body's values on one tile of 512 positions -/

/-- A tile, a single row, and a single row with two leading axes of length one. -/
abbrev tile (f : ℕ → ℕ → EReal) : S512x1024.Idx → Elt Ideal .f32 := ex2 512 1024 f
abbrev row (f : ℕ → EReal) : S1x1024.Idx → Elt Ideal .f32 := ex2 1 1024 fun _ => f
abbrev row3 (f : ℕ → EReal) : S1x1x1024.Idx → Elt Ideal .f32 := ex3 1 1 1024 fun _ _ => f
/-- The modulated norm of a tile. -/
abbrev hid (P : Par) (X : ℕ → ℕ → EReal) : S512x1024.Idx → Elt Ideal .bf16 := ex2 512 1024 fun r => P.h (X r)
/-- `n` columns of the weights into the hidden layer, and of the hidden layer, from column `o` on. -/
abbrev wcol (n : ℕ) (P : Par) (o : ℕ) : (⟨2, ![1024, n]⟩ : Shape).Idx → EReal := ex2 1024 n fun d f => P.wu d (o + f)
abbrev slab (n : ℕ) (P : Par) (X : ℕ → ℕ → EReal) (o : ℕ) : (⟨2, ![512, n]⟩ : Shape).Idx → EReal := ex2 512 n fun r f => P.gu (X r) (o + f)
abbrev slab3 (n : ℕ) (P : Par) (X : ℕ → ℕ → EReal) (o : ℕ) : (⟨3, ![1, 512, n]⟩ : Shape).Idx → EReal :=
  ex3 1 512 n fun _ r f => P.gu (X r) (o + f)
/-- The gate times the value in `n` columns. -/
abbrev aslab (n : ℕ) (P : Par) (X : ℕ → ℕ → EReal) (o o' : ℕ) : (⟨2, ![512, n]⟩ : Shape).Idx → EReal :=
  ex2 512 n fun r f => act (P.gu (X r) (o + f)) (P.gu (X r) (o' + f))

variable (P : Par) (X : ℕ → ℕ → EReal) (o o' : ℕ)

theorem pay2 : k0_pay2 (F := Ideal) (tile X)
    = tile X := by
  funext j; idx_vars j; pointwise [k0_pay2]
theorem pay3 : k0_pay3 (F := Ideal) (tile X) (row P.gn) (row3 P.sc) (row3 P.sh)
    = hid P X := by
  rw [k0_pay3, pay2]; funext j; idx_vars j; pointwise []; rfl
theorem pay7 : k0_pay7 (F := Ideal) (hid P X) (wcol 768 P o)
    = slab 768 P X o := by
  funext j; idx_vars j; pointwise [k0_pay7]; rfl
theorem pay11 : k0_pay11 (F := Ideal) (hid P X) (wcol 768 P o)
    = slab 768 P X o := by
  funext j; idx_vars j; pointwise [k0_pay11]; rfl
theorem pay12 : k0_pay12 (F := Ideal) (hid P X) (wcol 768 P o)
    = slab 768 P X o := by
  funext j; idx_vars j; pointwise [k0_pay12]; rfl
theorem pay17 : k0_pay17 (F := Ideal) (hid P X) (wcol 512 P o)
    = slab 512 P X o := by
  funext j; idx_vars j; pointwise [k0_pay17]; rfl
theorem pay18 : k0_pay18 (F := Ideal) (hid P X) (wcol 512 P o)
    = slab 512 P X o := by
  funext j; idx_vars j; pointwise [k0_pay18]; rfl
theorem pay14 : k0_pay14 (F := Ideal) (hid P X) (wcol 768 P o)
    = slab 768 P X o := by
  rw [k0_pay14, pay7]; funext j; idx_vars j; pointwise []
theorem pay4 : k0_pay4 (F := Ideal) (tile X) (row P.gn) (row3 P.sc) (row3 P.sh) (wcol 768 P o)
    = slab 768 P X o := by
  rw [k0_pay4, pay3]; funext j; idx_vars j; pointwise []; rfl
theorem pay5 : k0_pay5 (F := Ideal) (tile X) (row P.gn) (row3 P.sc) (row3 P.sh) (wcol 768 P o)
    = slab 768 P X o := by
  rw [k0_pay5, pay3]; funext j; idx_vars j; pointwise []; rfl
theorem pay6 : k0_pay6 (F := Ideal) (tile X) (row P.gn) (row3 P.sc) (row3 P.sh) (wcol 768 P o)
    = slab 768 P X o := by
  rw [k0_pay6, pay3]; funext j; idx_vars j; pointwise []; rfl
theorem pay8 : k0_pay8 (F := Ideal) (slab 768 P X o)
    = slab3 768 P X o := by
  funext j; idx_vars j; pointwise [k0_pay8]
theorem pay9 : k0_pay9 (F := Ideal) (slab 768 P X o)
    = slab3 768 P X o := by
  funext j; idx_vars j; pointwise [k0_pay9]
theorem pay13 : k0_pay13 (F := Ideal) (slab 768 P X o)
    = slab3 768 P X o := by
  funext j; idx_vars j; pointwise [k0_pay13]
theorem pay15 : k0_pay15 (F := Ideal) (slab 768 P X o)
    = slab3 768 P X o := by
  funext j; idx_vars j; pointwise [k0_pay15]
theorem pay19 : k0_pay19 (F := Ideal) (slab 768 P X o)
    = slab3 768 P X o := by
  funext j; idx_vars j; pointwise [k0_pay19]
theorem pay20 : k0_pay20 (F := Ideal) (slab 768 P X o)
    = slab3 768 P X o := by
  funext j; idx_vars j; pointwise [k0_pay20]
theorem pay23 : k0_pay23 (F := Ideal) (slab 512 P X o)
    = slab3 512 P X o := by
  funext j; idx_vars j; pointwise [k0_pay23]
theorem pay24 : k0_pay24 (F := Ideal) (slab 512 P X o)
    = slab3 512 P X o := by
  funext j; idx_vars j; pointwise [k0_pay24]
theorem pay10 : k0_pay10 (F := Ideal) (slab 768 P X o) (slab 768 P X o')
    = aslab 768 P X o o' := by
  funext j; idx_vars j; pointwise [k0_pay10]; rw [zero_sub]; rfl
theorem pay16 : k0_pay16 (F := Ideal) (slab 768 P X o) (slab 768 P X o')
    = aslab 768 P X o o' := by
  funext j; idx_vars j; pointwise [k0_pay16]; rw [zero_sub]; rfl
theorem pay25 : k0_pay25 (F := Ideal) (slab 512 P X o) (slab 512 P X o')
    = aslab 512 P X o o' := by
  funext j; idx_vars j; pointwise [k0_pay25]; rw [zero_sub]; rfl
theorem pay22 : k0_pay22 (F := Ideal) (slab 768 P X o) (slab 768 P X o') (k0_pay21 (slab 768 P X o)) (FloatOps.ofBits FTy.f32 1065353216#32)
    = aslab 768 P X o o' := by
  funext j; idx_vars j; pointwise [k0_pay22, k0_pay21]; rw [zero_sub]; rfl

variable (A : ℕ → ℕ → EReal) (wd : ℕ → ℕ → EReal) (gt : ℕ → EReal)

theorem pay26 : k0_pay26 (F := Ideal) (ex2 512 2816 A) (ex2 2816 1024 wd)
    = ex2 512 1024 fun r => down wd (A r) := by
  funext j; idx_vars j; pointwise [k0_pay26]; rfl
theorem pay27 : k0_pay27 (F := Ideal) (ex2 512 2816 A) (ex2 2816 1024 wd)
    = ex2 512 1024 fun r => down wd (A r) := by
  rw [k0_pay27, pay26]; funext j; idx_vars j; pointwise []
theorem pay1 : k0_pay1 (F := Ideal) (tile X) (tile A) (row3 gt)
    = tile fun r e => step (X r e) (gt e) (A r e) := by
  funext j; idx_vars j; pointwise [k0_pay1]; rfl

/-! ### Loads of the weights' columns, and the stores of the hidden layer put together -/

theorem ldw_0 : View.ld (Val := Elt Ideal) (S := S1024x5632) (e' := .bf16) (ex2 1024 5632 P.wu) (Rect.unit ![0, 0] ![1024, 768] inb_S1024x5632_S1024x768_0_0)
    = wcol 768 P 0 := by
  funext y; idx_vars y; pointwise
theorem ldw_768 : View.ld (Val := Elt Ideal) (S := S1024x5632) (e' := .bf16) (ex2 1024 5632 P.wu) (Rect.unit ![0, 768] ![1024, 768] inb_S1024x5632_S1024x768_0_768)
    = wcol 768 P 768 := by
  funext y; idx_vars y; pointwise
theorem ldw_1536 : View.ld (Val := Elt Ideal) (S := S1024x5632) (e' := .bf16) (ex2 1024 5632 P.wu) (Rect.unit ![0, 1536] ![1024, 768] inb_S1024x5632_S1024x768_0_1536)
    = wcol 768 P 1536 := by
  funext y; idx_vars y; pointwise
theorem ldw_2304 : View.ld (Val := Elt Ideal) (S := S1024x5632) (e' := .bf16) (ex2 1024 5632 P.wu) (Rect.unit ![0, 2304] ![1024, 512] inb_S1024x5632_S1024x512_0_2304)
    = wcol 512 P 2304 := by
  funext y; idx_vars y; pointwise
theorem ldw_2816 : View.ld (Val := Elt Ideal) (S := S1024x5632) (e' := .bf16) (ex2 1024 5632 P.wu) (Rect.unit ![0, 2816] ![1024, 768] inb_S1024x5632_S1024x768_0_2816)
    = wcol 768 P 2816 := by
  funext y; idx_vars y; pointwise
theorem ldw_3584 : View.ld (Val := Elt Ideal) (S := S1024x5632) (e' := .bf16) (ex2 1024 5632 P.wu) (Rect.unit ![0, 3584] ![1024, 768] inb_S1024x5632_S1024x768_0_3584)
    = wcol 768 P 3584 := by
  funext y; idx_vars y; pointwise
theorem ldw_4352 : View.ld (Val := Elt Ideal) (S := S1024x5632) (e' := .bf16) (ex2 1024 5632 P.wu) (Rect.unit ![0, 4352] ![1024, 768] inb_S1024x5632_S1024x768_0_4352)
    = wcol 768 P 4352 := by
  funext y; idx_vars y; pointwise
theorem ldw_5120 : View.ld (Val := Elt Ideal) (S := S1024x5632) (e' := .bf16) (ex2 1024 5632 P.wu) (Rect.unit ![0, 5120] ![1024, 512] inb_S1024x5632_S1024x512_0_5120)
    = wcol 512 P 5120 := by
  funext y; idx_vars y; pointwise

/-- The hidden layer of a tile: its two halves, and the gate times the value. -/
abbrev guT : S2x512x2816.Idx → Elt Ideal .bf16 := ex3 2 512 2816 fun k r f => P.gu (X r) (k * 2816 + f)
abbrev aT : S512x2816.Idx → Elt Ideal .bf16 := ex2 512 2816 fun r => P.a (X r)

/-- The eight stores of the hidden layer. -/
abbrev L8 : List (View.Piece (Elt Ideal) S2x512x2816 .bf16) :=
  [⟨Rect.unit ![1, 0, 2304] ![1, 512, 512] inb_S2x512x2816_S1x512x512_1_0_2304, slab3 512 P X 5120⟩,
   ⟨Rect.unit ![0, 0, 2304] ![1, 512, 512] inb_S2x512x2816_S1x512x512_0_0_2304, slab3 512 P X 2304⟩,
   ⟨Rect.unit ![1, 0, 1536] ![1, 512, 768] inb_S2x512x2816_S1x512x768_1_0_1536, slab3 768 P X 4352⟩,
   ⟨Rect.unit ![0, 0, 1536] ![1, 512, 768] inb_S2x512x2816_S1x512x768_0_0_1536, slab3 768 P X 1536⟩,
   ⟨Rect.unit ![1, 0, 768] ![1, 512, 768] inb_S2x512x2816_S1x512x768_1_0_768, slab3 768 P X 3584⟩,
   ⟨Rect.unit ![0, 0, 768] ![1, 512, 768] inb_S2x512x2816_S1x512x768_0_0_768, slab3 768 P X 768⟩,
   ⟨Rect.unit ![1, 0, 0] ![1, 512, 768] inb_S2x512x2816_S1x512x768_1_0_0, slab3 768 P X 2816⟩,
   ⟨Rect.unit ![0, 0, 0] ![1, 512, 768] inb_S2x512x2816_S1x512x768_0_0_0, slab3 768 P X 0⟩]

theorem cover8 (y : S2x512x2816.Idx) : ∃ p ∈ L8 P X, y ∈ p.1.set := by
  have h0 : (y 0).val < 2 := (y 0).isLt
  have h1 : (y 1).val < 512 := (y 1).isLt
  have h2 : (y 2).val < 2816 := (y 2).isLt
  simp only [L8, List.mem_cons, List.not_mem_nil, or_false, exists_eq_or_imp, exists_eq_left, Rect.mem_set_unit, Fin.forall_fin_succ]
  simp
  omega

theorem ldg_1_2304 : View.ld (Val := Elt Ideal) (S := S2x512x2816) (e' := .bf16) (guT P X) (Rect.unit ![1, 0, 2304] ![1, 512, 512] inb_S2x512x2816_S1x512x512_1_0_2304)
    = slab3 512 P X 5120 := by
  funext y; idx_vars y; pointwise <;> (refine congrArg (P.gu _) ?_; omega)
theorem ldg_0_2304 : View.ld (Val := Elt Ideal) (S := S2x512x2816) (e' := .bf16) (guT P X) (Rect.unit ![0, 0, 2304] ![1, 512, 512] inb_S2x512x2816_S1x512x512_0_0_2304)
    = slab3 512 P X 2304 := by
  funext y; idx_vars y; pointwise <;> (refine congrArg (P.gu _) ?_; omega)
theorem ldg_1_1536 : View.ld (Val := Elt Ideal) (S := S2x512x2816) (e' := .bf16) (guT P X) (Rect.unit ![1, 0, 1536] ![1, 512, 768] inb_S2x512x2816_S1x512x768_1_0_1536)
    = slab3 768 P X 4352 := by
  funext y; idx_vars y; pointwise <;> (refine congrArg (P.gu _) ?_; omega)
theorem ldg_0_1536 : View.ld (Val := Elt Ideal) (S := S2x512x2816) (e' := .bf16) (guT P X) (Rect.unit ![0, 0, 1536] ![1, 512, 768] inb_S2x512x2816_S1x512x768_0_0_1536)
    = slab3 768 P X 1536 := by
  funext y; idx_vars y; pointwise <;> (refine congrArg (P.gu _) ?_; omega)
theorem ldg_1_768 : View.ld (Val := Elt Ideal) (S := S2x512x2816) (e' := .bf16) (guT P X) (Rect.unit ![1, 0, 768] ![1, 512, 768] inb_S2x512x2816_S1x512x768_1_0_768)
    = slab3 768 P X 3584 := by
  funext y; idx_vars y; pointwise <;> (refine congrArg (P.gu _) ?_; omega)
theorem ldg_0_768 : View.ld (Val := Elt Ideal) (S := S2x512x2816) (e' := .bf16) (guT P X) (Rect.unit ![0, 0, 768] ![1, 512, 768] inb_S2x512x2816_S1x512x768_0_0_768)
    = slab3 768 P X 768 := by
  funext y; idx_vars y; pointwise <;> (refine congrArg (P.gu _) ?_; omega)
theorem ldg_1_0 : View.ld (Val := Elt Ideal) (S := S2x512x2816) (e' := .bf16) (guT P X) (Rect.unit ![1, 0, 0] ![1, 512, 768] inb_S2x512x2816_S1x512x768_1_0_0)
    = slab3 768 P X 2816 := by
  funext y; idx_vars y; pointwise <;> (refine congrArg (P.gu _) ?_; omega)
theorem ldg_0_0 : View.ld (Val := Elt Ideal) (S := S2x512x2816) (e' := .bf16) (guT P X) (Rect.unit ![0, 0, 0] ![1, 512, 768] inb_S2x512x2816_S1x512x768_0_0_0)
    = slab3 768 P X 0 := by
  funext y; idx_vars y; pointwise <;> (refine congrArg (P.gu _) ?_; omega)

theorem canon8 : View.canon (L8 P X) = guT P X := by
  funext y
  exact View.canon_append_of_piecesOf (guT P X) [] (L8 P X) ⟨fun x => (congrFun (ldg_1_2304 P X) x).symm, fun x => (congrFun (ldg_0_2304 P X) x).symm, fun x => (congrFun (ldg_1_1536 P X) x).symm, fun x => (congrFun (ldg_0_1536 P X) x).symm, fun x => (congrFun (ldg_1_768 P X) x).symm, fun x => (congrFun (ldg_0_768 P X) x).symm, fun x => (congrFun (ldg_1_0 P X) x).symm, fun x => (congrFun (ldg_0_0 P X) x).symm, trivial⟩ y (cover8 P X y)

/-- The four stores of the gate times the value. -/
abbrev L4 : List (View.Piece (Elt Ideal) S512x2816 .bf16) :=
  [⟨Rect.unit ![0, 2304] ![512, 512] inb_S512x2816_S512x512_0_2304, aslab 512 P X 2304 5120⟩,
   ⟨Rect.unit ![0, 1536] ![512, 768] inb_S512x2816_S512x768_0_1536, aslab 768 P X 1536 4352⟩,
   ⟨Rect.unit ![0, 768] ![512, 768] inb_S512x2816_S512x768_0_768, aslab 768 P X 768 3584⟩,
   ⟨Rect.unit ![0, 0] ![512, 768] inb_S512x2816_S512x768_0_0, aslab 768 P X 0 2816⟩]

theorem cover4 (y : S512x2816.Idx) : ∃ p ∈ L4 P X, y ∈ p.1.set := by
  have h0 : (y 0).val < 512 := (y 0).isLt
  have h1 : (y 1).val < 2816 := (y 1).isLt
  simp only [L4, List.mem_cons, List.not_mem_nil, or_false, exists_eq_or_imp, exists_eq_left, Rect.mem_set_unit, Fin.forall_fin_succ]
  simp
  omega

theorem lda_2304 : View.ld (Val := Elt Ideal) (S := S512x2816) (e' := .bf16) (aT P X) (Rect.unit ![0, 2304] ![512, 512] inb_S512x2816_S512x512_0_2304)
    = aslab 512 P X 2304 5120 := by
  funext y; idx_vars y; pointwise <;> (refine congrArg₂ (fun a b => act (P.gu _ a) (P.gu _ b)) ?_ ?_ <;> omega)
theorem lda_1536 : View.ld (Val := Elt Ideal) (S := S512x2816) (e' := .bf16) (aT P X) (Rect.unit ![0, 1536] ![512, 768] inb_S512x2816_S512x768_0_1536)
    = aslab 768 P X 1536 4352 := by
  funext y; idx_vars y; pointwise <;> (refine congrArg₂ (fun a b => act (P.gu _ a) (P.gu _ b)) ?_ ?_ <;> omega)
theorem lda_768 : View.ld (Val := Elt Ideal) (S := S512x2816) (e' := .bf16) (aT P X) (Rect.unit ![0, 768] ![512, 768] inb_S512x2816_S512x768_0_768)
    = aslab 768 P X 768 3584 := by
  funext y; idx_vars y; pointwise <;> (refine congrArg₂ (fun a b => act (P.gu _ a) (P.gu _ b)) ?_ ?_ <;> omega)
theorem lda_0 : View.ld (Val := Elt Ideal) (S := S512x2816) (e' := .bf16) (aT P X) (Rect.unit ![0, 0] ![512, 768] inb_S512x2816_S512x768_0_0)
    = aslab 768 P X 0 2816 := by
  funext y; idx_vars y; pointwise <;> (refine congrArg₂ (fun a b => act (P.gu _ a) (P.gu _ b)) ?_ ?_ <;> omega)

theorem canon4 : View.canon (L4 P X) = aT P X := by
  funext y
  exact View.canon_append_of_piecesOf (aT P X) [] (L4 P X) ⟨fun x => (congrFun (lda_2304 P X) x).symm, fun x => (congrFun (lda_1536 P X) x).symm, fun x => (congrFun (lda_768 P X) x).symm, fun x => (congrFun (lda_0 P X) x).symm, trivial⟩ y (cover4 P X y)

theorem rd4 (v : View sig .tc .vmem S512x2816 .bf16) :
    v.readCov (L4 P X) (Rect.unit ![0, 0] ![512, 2816] inb_S512x2816_S512x2816_0_0).toLoadRect = aT P X := by
  rw [View.readCov_eq_canon', canon4]; funext y; idx_vars y; pointwise

/-! ### The blocks that a grid point reads -/

variable (m : (ℓ : Loc nD τ sig) → Buf (Elt Ideal) ℓ) (c : Dev nD) (I : Inp)

/-- The argument arrays of device `c`. -/
structure Args : Prop where
  a0 : m ((c : Thread nD τ).loc main_arg0) = ex3 4 2048 1024 I.X
  a1 : m ((c : Thread nD τ).loc main_arg1) = ex1 1024 I.gn
  a2 : m ((c : Thread nD τ).loc main_arg2) = ex2 4 1024 I.sh
  a3 : m ((c : Thread nD τ).loc main_arg3) = ex2 4 1024 I.sc
  a4 : m ((c : Thread nD τ).loc main_arg4) = ex2 4 1024 I.gt
  a5 : m ((c : Thread nD τ).loc main_arg5) = ex2 1024 5632 I.wu
  a6 : m ((c : Thread nD τ).loc main_arg6) = ex2 2816 1024 I.wd

variable {m c I}

theorem e0 (h : Args m c I) : V m c main_v0 = ex2 8192 1024 fun n e => I.X (n / 2048) (n % 2048) e := by
  entry_read; rw [show m (c, Proc.tc.devRef main_arg0) = _ from h.a0]; funext j; idx_vars j; pointwise []
theorem e1 (h : Args m c I) : V m c main_v1 = ex2 1 1024 fun _ e => I.gn e := by
  entry_read; rw [show m (c, Proc.tc.devRef main_arg1) = _ from h.a1]; funext j; idx_vars j; pointwise []
theorem e2 (h : Args m c I) : V m c main_v2 = ex3 4 1 1024 fun b _ e => I.sh b e := by
  entry_read; rw [show m (c, Proc.tc.devRef main_arg2) = _ from h.a2]; funext j; idx_vars j; pointwise []
theorem e3 (h : Args m c I) : V m c main_v3 = ex3 4 1 1024 fun b _ e => I.sc b e := by
  entry_read; rw [show m (c, Proc.tc.devRef main_arg3) = _ from h.a3]; funext j; idx_vars j; pointwise []
theorem e4 (h : Args m c I) : V m c main_v4 = ex3 4 1 1024 fun b _ e => I.gt b e := by
  entry_read; rw [show m (c, Proc.tc.devRef main_arg4) = _ from h.a4]; funext j; idx_vars j; pointwise []
theorem e5 (h : Args m c I) : V m c main_v5 = ex2 1024 5632 I.wu := by
  entry_read; rw [show m (c, Proc.tc.devRef main_arg5) = _ from h.a5]; funext j; idx_vars j; pointwise []
theorem e6 (h : Args m c I) : V m c main_v6 = ex2 2816 1024 I.wd := by
  entry_read; rw [show m (c, Proc.tc.devRef main_arg6) = _ from h.a6]; funext j; idx_vars j; pointwise []

theorem i0 : ∀ t : Fin cfg0.N, win0_0.index t = ![t.val, 0] := (by decide +kernel : ∀ t : Fin grid0.N, win0_0.index t = ![t.val, 0])
theorem i1 : ∀ t : Fin cfg0.N, win0_1.index t = ![0, 0] := (by decide +kernel : ∀ t : Fin grid0.N, win0_1.index t = ![0, 0])
theorem i2 : ∀ t : Fin cfg0.N, win0_2.index t = ![t.val / 4, 0, 0] := (by decide +kernel : ∀ t : Fin grid0.N, win0_2.index t = ![t.val / 4, 0, 0])
theorem i3 : ∀ t : Fin cfg0.N, win0_3.index t = ![t.val / 4, 0, 0] := (by decide +kernel : ∀ t : Fin grid0.N, win0_3.index t = ![t.val / 4, 0, 0])
theorem i4 : ∀ t : Fin cfg0.N, win0_4.index t = ![t.val / 4, 0, 0] := (by decide +kernel : ∀ t : Fin grid0.N, win0_4.index t = ![t.val / 4, 0, 0])
theorem i5 : ∀ t : Fin cfg0.N, win0_5.index t = ![0, 0] := (by decide +kernel : ∀ t : Fin grid0.N, win0_5.index t = ![0, 0])
theorem i6 : ∀ t : Fin cfg0.N, win0_6.index t = ![0, 0] := (by decide +kernel : ∀ t : Fin grid0.N, win0_6.index t = ![0, 0])
theorem i7 : ∀ t : Fin cfg0.N, win0_7.index t = ![t.val, 0] := (by decide +kernel : ∀ t : Fin grid0.N, win0_7.index t = ![t.val, 0])
theorem i8 : ∀ t : Fin cfg0.N, win0_8.index t = ![0, t.val, 0] := (by decide +kernel : ∀ t : Fin grid0.N, win0_8.index t = ![0, t.val, 0])
theorem i9 : ∀ t : Fin cfg0.N, win0_9.index t = ![t.val, 0] := (by decide +kernel : ∀ t : Fin grid0.N, win0_9.index t = ![t.val, 0])
theorem i10 : ∀ t : Fin cfg0.N, win0_10.index t = ![t.val, 0] := (by decide +kernel : ∀ t : Fin grid0.N, win0_10.index t = ![t.val, 0])

theorem b0 (h : Args m c I) (t : Fin cfg0.N) : iblk m c 0 t = tile (I.tile t.val) := by
  funext y; unfold iblk; idx_vars y; blk_simp; rw [show V m c (Pipeline.arrRef spec0 0) = _ from e0 h]
  exact pos_eq I.X t.val y0.val y0.isLt (by blk_simp [i0 t]) (by blk_simp [i0 t])
theorem b1 (h : Args m c I) (t : Fin cfg0.N) : iblk m c 1 t = row (I.par (t.val / 4)).gn := by
  funext y; unfold iblk; idx_vars y; blk_simp; rw [show V m c (Pipeline.arrRef spec0 1) = _ from e1 h]
  exact mat_eq (fun _ e => I.gn e) (rfl : y0.val = y0.val) (by blk_simp [i1 t])
theorem b2 (h : Args m c I) (t : Fin cfg0.N) : iblk m c 2 t = row3 (I.par (t.val / 4)).sh := by
  funext y; unfold iblk; idx_vars y; blk_simp; rw [show V m c (Pipeline.arrRef spec0 2) = _ from e2 h]
  exact mat_eq I.sh (by have := y0.isLt; blk_simp [i2 t]) (by blk_simp [i2 t])
theorem b3 (h : Args m c I) (t : Fin cfg0.N) : iblk m c 3 t = row3 (I.par (t.val / 4)).sc := by
  funext y; unfold iblk; idx_vars y; blk_simp; rw [show V m c (Pipeline.arrRef spec0 3) = _ from e3 h]
  exact mat_eq I.sc (by have := y0.isLt; blk_simp [i3 t]) (by blk_simp [i3 t])
theorem b4 (h : Args m c I) (t : Fin cfg0.N) : iblk m c 4 t = row3 (I.gt (t.val / 4)) := by
  funext y; unfold iblk; idx_vars y; blk_simp; rw [show V m c (Pipeline.arrRef spec0 4) = _ from e4 h]
  exact mat_eq I.gt (by have := y0.isLt; blk_simp [i4 t]) (by blk_simp [i4 t])
theorem b5 (h : Args m c I) (t : Fin cfg0.N) : iblk m c 5 t = ex2 1024 5632 (I.par (t.val / 4)).wu := by
  funext y; unfold iblk; idx_vars y; blk_simp; rw [show V m c (Pipeline.arrRef spec0 5) = _ from e5 h]
  exact mat_eq I.wu (by blk_simp [i5 t]) (by blk_simp [i5 t])
theorem b6 (h : Args m c I) (t : Fin cfg0.N) : iblk m c 6 t = ex2 2816 1024 I.wd := by
  funext y; unfold iblk; idx_vars y; blk_simp; rw [show V m c (Pipeline.arrRef spec0 6) = _ from e6 h]
  exact mat_eq I.wd (by blk_simp [i6 t]) (by blk_simp [i6 t])

/-! ### The result arrays -/

/-- The four output blocks of tile `t`. -/
abbrev outs (I : Inp) (t : ℕ) :=
  ((tile fun r e => step (I.tile t r e) (I.gt (t / 4) e) (down I.wd ((I.par (t / 4)).a (I.tile t r)) e) : S512x1024.Idx → Elt Ideal .f32),
    guT (I.par (t / 4)) (I.tile t), aT (I.par (t / 4)) (I.tile t),
    (ex2 512 1024 fun r => down I.wd ((I.par (t / 4)).a (I.tile t r)) : S512x1024.Idx → Elt Ideal .bf16))

theorem outs_eq (h : Args m c I) (t : Fin cfg0.N) : outsAt0 m c t = outs I t.val := by
  unfold outsAt0
  refine Prod.ext ?_ (Prod.ext ?_ (Prod.ext ?_ ?_))
  all_goals
    dsimp only
    frame_out
    simp only [b0 h, b1 h, b2 h, b3 h, b4 h, b5 h, b6 h, ldw_0, ldw_768, ldw_1536, ldw_2304, ldw_2816, ldw_3584, ldw_4352, ldw_5120, canon8, canon4, rd4,
      pay2, pay3, pay4, pay5, pay6, pay7, pay11, pay12, pay14, pay17, pay18, pay8, pay9, pay13, pay15, pay19, pay20, pay23, pay24, pay10, pay16, pay22, pay25, pay26, pay27, pay1]

theorem a7 (h : Args m c I) : (dats m 0 c).arrAt 7 cfg0.N = ex2 8192 1024 fun n e => I.xo (n / 2048) (n % 2048) e := by
  refine (dats m 0 c).arrAt_eq_of_covers 7 _ (by decide +kernel) fun t hf y => ?_
  blk_simp
  rw [after0_7, outs_eq h]
  idx_vars y
  refine Eq.symm (pos_eq I.xo t.val y0.val y0.isLt ?_ ?_) <;> blk_simp [i7 t]
theorem a8 (h : Args m c I) : (dats m 0 c).arrAt 8 cfg0.N = ex3 2 8192 2816 fun k n f => I.gu (n / 2048) (n % 2048) (k * 2816 + f) := by
  refine (dats m 0 c).arrAt_eq_of_covers 8 _ (by decide +kernel) fun t hf y => ?_
  blk_simp
  rw [after0_8, outs_eq h]
  idx_vars y
  refine Eq.symm (pos_eq I.gu t.val y1.val y1.isLt (e' := y0.val * 2816 + y2.val) ?_ ?_) <;> blk_simp [i8 t]
theorem a9 (h : Args m c I) : (dats m 0 c).arrAt 9 cfg0.N = ex2 8192 2816 fun n e => I.a (n / 2048) (n % 2048) e := by
  refine (dats m 0 c).arrAt_eq_of_covers 9 _ (by decide +kernel) fun t hf y => ?_
  blk_simp
  rw [after0_9, outs_eq h]
  idx_vars y
  refine Eq.symm (pos_eq I.a t.val y0.val y0.isLt ?_ ?_) <;> blk_simp [i9 t]
theorem a10 (h : Args m c I) : (dats m 0 c).arrAt 10 cfg0.N = ex2 8192 1024 fun n e => I.f (n / 2048) (n % 2048) e := by
  refine (dats m 0 c).arrAt_eq_of_covers 10 _ (by decide +kernel) fun t hf y => ?_
  blk_simp
  rw [after0_10, outs_eq h]
  idx_vars y
  refine Eq.symm (pos_eq I.f t.val y0.val y0.isLt ?_ ?_) <;> blk_simp [i10 t]

end Kernel

end Cert.Proof.FfnFwd

end
-- ==== Proof.FfnFwd.RefValue.lean ====
/- The reference's result arrays, index by index. -/
module

public import proofs.«01_k».proof.Proof.Fwd
public import proofs.«01_k».proof.Proof.Gen.FfnFwdReferenceIdeal.Read

@[expose] public section

set_option maxRecDepth 16384

noncomputable section

namespace Cert.Proof.FfnFwd

open Idealize.ShloMosaic Idealize.ShloMosaic.TcCoe Idealize.SL.Sem Cert.Ext Cert.Fwd

open Cert.FfnFwdReferenceIdeal Cert.FfnFwdReferenceIdeal.Read

variable (I : Inp)

theorem v20 : val_main_v20 (F := Ideal) (ex3 4 2048 1024 I.X) (ex1 1024 I.gn) (ex2 4 1024 I.sh) (ex2 4 1024 I.sc) = ex3 4 2048 1024 fun b s => (I.par b).h (I.X b s) := by
  funext j; idx_vars j; pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]; rfl
theorem v21 : val_main_v21 (F := Ideal) (ex3 4 2048 1024 I.X) (ex1 1024 I.gn) (ex2 4 1024 I.sh) (ex2 4 1024 I.sc) (ex2 1024 5632 I.wu) = ex3 4 2048 5632 I.gu := by
  rw [val_main_v21, v20]; funext j; idx_vars j; pointwise []; rfl
theorem v25 : val_main_v25 (F := Ideal) (ex3 4 2048 1024 I.X) (ex1 1024 I.gn) (ex2 4 1024 I.sh) (ex2 4 1024 I.sc) (ex2 1024 5632 I.wu) = ex3 4 2048 2816 I.a := by
  rw [val_main_v25, val_main_v24, val_main_v23, val_main_call0_v5, val_main_call0_v3, val_main_call0_v1, val_main_call0_v0, val_main_v22, v21]
  funext j; idx_vars j; pointwise [val_main_call0_v4, val_main_call0_cst_0, val_main_call0_v2, val_main_call0_cst]; rfl
theorem v26 : val_main_v26 (F := Ideal) (ex3 4 2048 1024 I.X) (ex1 1024 I.gn) (ex2 4 1024 I.sh) (ex2 4 1024 I.sc) (ex2 1024 5632 I.wu) (ex2 2816 1024 I.wd) = ex3 4 2048 1024 I.f := by
  rw [val_main_v26, v25]; funext j; idx_vars j; pointwise []; rfl
theorem r0 : val_main_v33 (F := Ideal) (ex3 4 2048 1024 I.X) (ex1 1024 I.gn) (ex2 4 1024 I.sh) (ex2 4 1024 I.sc) (ex2 4 1024 I.gt) (ex2 1024 5632 I.wu) (ex2 2816 1024 I.wd) = ex2 8192 1024 fun n e => I.xo (n / 2048) (n % 2048) e := by
  rw [val_main_v33, val_main_v32, val_main_v31, v26]
  funext j; idx_vars j; pointwise [val_main_v30, val_main_v29, val_main_v28, val_main_v27, val_main_cst_3]; rfl
theorem v36 : val_main_v36 (F := Ideal) (ex3 4 2048 1024 I.X) (ex1 1024 I.gn) (ex2 4 1024 I.sh) (ex2 4 1024 I.sc) (ex2 1024 5632 I.wu) = ex4 2 4 2048 2816 fun k b s f => I.gu b s (k * 2816 + f) := by
  rw [val_main_v36, val_main_v35, val_main_v34, val_main_v22, val_main_v23, v21]; funext j; idx_vars j; pointwise []
  rcases (by have := j0.isLt; omega : j0.val = 0 ∨ j0.val = 1) with h | h <;> simp [h]
theorem r1 : val_main_v38 (F := Ideal) (ex3 4 2048 1024 I.X) (ex1 1024 I.gn) (ex2 4 1024 I.sh) (ex2 4 1024 I.sc) (ex2 1024 5632 I.wu) = ex3 2 8192 2816 fun k n f => I.gu (n / 2048) (n % 2048) (k * 2816 + f) := by
  rw [val_main_v38, val_main_v37, v36]; funext j; idx_vars j; pointwise []
theorem r2 : val_main_v40 (F := Ideal) (ex3 4 2048 1024 I.X) (ex1 1024 I.gn) (ex2 4 1024 I.sh) (ex2 4 1024 I.sc) (ex2 1024 5632 I.wu) = ex2 8192 2816 fun n f => I.a (n / 2048) (n % 2048) f := by
  rw [val_main_v40, val_main_v39, v25]; funext j; idx_vars j; pointwise []
theorem r3 : val_main_v42 (F := Ideal) (ex3 4 2048 1024 I.X) (ex1 1024 I.gn) (ex2 4 1024 I.sh) (ex2 4 1024 I.sc) (ex2 1024 5632 I.wu) (ex2 2816 1024 I.wd) = ex2 8192 1024 fun n e => I.f (n / 2048) (n % 2048) e := by
  rw [val_main_v42, val_main_v41, v26]; funext j; idx_vars j; pointwise []

end Cert.Proof.FfnFwd

end
-- ==== Proof.FfnFwd.Algebraic.lean ====
/- The kernel's results are the reference's, on the extended reals, whatever the arguments. -/
module

public import proofs.«01_k».proof.Proof.FfnFwd.Value
public import proofs.«01_k».proof.Proof.FfnFwd.RefValue
public import proofs.«01_k».proof.Proof.Gen.FfnFwdReferenceIdeal

@[expose] public section

set_option maxRecDepth 16384

noncomputable section

namespace Cert.Proof.FfnFwd

open Idealize.ShloMosaic Idealize.ShloMosaic.TcCoe Idealize.SL.Sem Cert.Ext Cert.Fwd

theorem algebraic : Cert.algebraic_FfnFwdIdeal_FfnFwdReferenceIdeal := by
  intro m g m' g' _ hargs
  choose X h0 using fun c : Dev Cert.FfnFwdIdeal.nD => exists_ex3 (n0 := 4) (n1 := 2048) (n2 := 1024) (m (((c : Dev Cert.FfnFwdIdeal.nD).tc : Thread Cert.FfnFwdIdeal.nD Cert.FfnFwdIdeal.τ).loc Cert.FfnFwdIdeal.main_arg0))
  choose gn h1 using fun c : Dev Cert.FfnFwdIdeal.nD => exists_ex1 (n0 := 1024) (m (((c : Dev Cert.FfnFwdIdeal.nD).tc : Thread Cert.FfnFwdIdeal.nD Cert.FfnFwdIdeal.τ).loc Cert.FfnFwdIdeal.main_arg1))
  choose sh h2 using fun c : Dev Cert.FfnFwdIdeal.nD => exists_ex2 (n0 := 4) (n1 := 1024) (m (((c : Dev Cert.FfnFwdIdeal.nD).tc : Thread Cert.FfnFwdIdeal.nD Cert.FfnFwdIdeal.τ).loc Cert.FfnFwdIdeal.main_arg2))
  choose sc h3 using fun c : Dev Cert.FfnFwdIdeal.nD => exists_ex2 (n0 := 4) (n1 := 1024) (m (((c : Dev Cert.FfnFwdIdeal.nD).tc : Thread Cert.FfnFwdIdeal.nD Cert.FfnFwdIdeal.τ).loc Cert.FfnFwdIdeal.main_arg3))
  choose gt h4 using fun c : Dev Cert.FfnFwdIdeal.nD => exists_ex2 (n0 := 4) (n1 := 1024) (m (((c : Dev Cert.FfnFwdIdeal.nD).tc : Thread Cert.FfnFwdIdeal.nD Cert.FfnFwdIdeal.τ).loc Cert.FfnFwdIdeal.main_arg4))
  choose wu h5 using fun c : Dev Cert.FfnFwdIdeal.nD => exists_ex2 (n0 := 1024) (n1 := 5632) (m (((c : Dev Cert.FfnFwdIdeal.nD).tc : Thread Cert.FfnFwdIdeal.nD Cert.FfnFwdIdeal.τ).loc Cert.FfnFwdIdeal.main_arg5))
  choose wd h6 using fun c : Dev Cert.FfnFwdIdeal.nD => exists_ex2 (n0 := 2816) (n1 := 1024) (m (((c : Dev Cert.FfnFwdIdeal.nD).tc : Thread Cert.FfnFwdIdeal.nD Cert.FfnFwdIdeal.τ).loc Cert.FfnFwdIdeal.main_arg6))
  let I : Dev Cert.FfnFwdIdeal.nD → Inp := fun c => ⟨X c, gn c, sh c, sc c, gt c, wu c, wd c⟩
  have hA : ∀ c, Args m c (I c) := fun c => ⟨h0 c, h1 c, h2 c, h3 c, h4 c, h5 c, h6 c⟩
  refine ⟨fun c => ex2 8192 1024 fun n e => (I c).xo (n / 2048) (n % 2048) e, fun c => ex3 2 8192 2816 fun k n f => (I c).gu (n / 2048) (n % 2048) (k * 2816 + f), fun c => ex2 8192 2816 fun n f => (I c).a (n / 2048) (n % 2048) f, fun c => ex2 8192 1024 fun n e => (I c).f (n / 2048) (n % 2048) e,
    (θ_run Cert.FfnFwdIdeal.defs _ _).mono (fun r h c => ?_) (Cert.FfnFwdIdeal.Value.run_blocks (F := Ideal) m g),
    (θ_run Cert.FfnFwdReferenceIdeal.defs _ _).mono (fun r h c => ?_) (Cert.FfnFwdReferenceIdeal.Value.run (F := Ideal) m' g')⟩
  · obtain ⟨r0, r1, r2, r3, hk⟩ := h c
    exact ⟨r0.trans (a7 (hA c)), r1.trans (a8 (hA c)), r2.trans (a9 (hA c)), r3.trans (a10 (hA c)), hk⟩
  · obtain ⟨r0, r1, r2, r3, hk⟩ := h c
    have q := hargs c
    refine ⟨r0.trans ?_, r1.trans ?_, r2.trans ?_, r3.trans ?_, hk⟩
    · rw [Cert.FfnFwdReferenceIdeal.Read.val_main_v33_eq, q.1, h0, q.2.1, h1, q.2.2.1, h2, q.2.2.2.1, h3, q.2.2.2.2.1, h4, q.2.2.2.2.2.1, h5, q.2.2.2.2.2.2, h6]
      exact FfnFwd.r0 (I c)
    · rw [q.1, h0, q.2.1, h1, q.2.2.1, h2, q.2.2.2.1, h3, q.2.2.2.2.2.1, h5]
      exact (Cert.FfnFwdReferenceIdeal.Read.val_main_v38_eq _ _ _ _ _).trans (FfnFwd.r1 (I c))
    · rw [Cert.FfnFwdReferenceIdeal.Read.val_main_v40_eq, q.1, h0, q.2.1, h1, q.2.2.1, h2, q.2.2.2.1, h3, q.2.2.2.2.2.1, h5]
      exact FfnFwd.r2 (I c)
    · rw [Cert.FfnFwdReferenceIdeal.Read.val_main_v42_eq, q.1, h0, q.2.1, h1, q.2.2.1, h2, q.2.2.2.1, h3, q.2.2.2.2.2.1, h5, q.2.2.2.2.2.2, h6]
      exact FfnFwd.r3 (I c)

end Cert.Proof.FfnFwd

end
-- ==== Proof.FfnUp.Frames.lean ====
/- The frames of the three programs of the first half of the feed-forward. -/
module

public import proofs.«01_k».proof.Defs
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpReferenceIdeal.Run
public import proofs.«01_k».proof.Proof.Gen.FfnUpReferenceIdeal.Read
public import proofs.«01_k».proof.Proof.Gen.FfnUpReferenceIdeal
public import Idealize.ShloMosaic.Adequacy
public import Idealize.ShloMosaic.Init

@[expose] public section

noncomputable section

namespace Cert.Proof.FfnUp

open Idealize.ShloMosaic Idealize.SL.Sem Idealize.ShloMosaic.TcCoe

theorem kernel_frame : Cert.quiescent_FfnUp := fun m ρ _ => Cert.FfnUp.Gen.frame m ρ
theorem kernelIdeal_frame : Cert.quiescent_FfnUpIdeal := fun m ρ _ => Cert.FfnUpIdeal.Gen.frame m ρ
theorem referenceIdeal_frame : Cert.quiescent_FfnUpReferenceIdeal := fun m ρ _ =>
  (θ_run Cert.FfnUpReferenceIdeal.defs _ _).mono (fun r h => ⟨fun c => (h c).2.2, sem_eq_zero_of_no_sems (by decide) r.2⟩)
    (Cert.FfnUpReferenceIdeal.Value.run (F := Ideal) m ρ)

end Cert.Proof.FfnUp

end
-- ==== Proof.FfnUp.Value.lean ====
/- The first half of the feed-forward (normalisation, hidden layer): the kernel's result arrays and the reference's, index by index. -/
module

public import Idealize.ShloMosaic.Lib.Pipeline.ReadBack
public import proofs.«01_k».proof.Proof.Fwd
public import proofs.«01_k».proof.Proof.FfnUp.Frames

@[expose] public section

set_option maxRecDepth 16384

noncomputable section

namespace Cert.Proof.FfnUp

open Idealize.ShloMosaic Idealize.ShloMosaic.TcCoe Idealize.SL.Sem Cert.Ext Cert.Fwd

section Kernel

open Cert.FfnUpIdeal Cert.FfnUpIdeal.Gen

/-! ### The body's values on one tile of 512 positions -/

/-- A tile, a single row, and a single row with two leading axes of length one. -/
abbrev tile (f : ℕ → ℕ → EReal) : S512x1024.Idx → Elt Ideal .f32 := ex2 512 1024 f
abbrev row (f : ℕ → EReal) : S1x1024.Idx → Elt Ideal .f32 := ex2 1 1024 fun _ => f
abbrev row3 (f : ℕ → EReal) : S1x1x1024.Idx → Elt Ideal .f32 := ex3 1 1 1024 fun _ _ => f
/-- The modulated norm of a tile. -/
abbrev hid (P : Par) (X : ℕ → ℕ → EReal) : S512x1024.Idx → Elt Ideal .bf16 := ex2 512 1024 fun r => P.h (X r)
/-- `n` columns of the weights into the hidden layer, and of the hidden layer, from column `o` on. -/
abbrev wcol (n : ℕ) (P : Par) (o : ℕ) : (⟨2, ![1024, n]⟩ : Shape).Idx → EReal := ex2 1024 n fun d f => P.wu d (o + f)
abbrev slab (n : ℕ) (P : Par) (X : ℕ → ℕ → EReal) (o : ℕ) : (⟨2, ![512, n]⟩ : Shape).Idx → EReal := ex2 512 n fun r f => P.gu (X r) (o + f)
abbrev slab3 (n : ℕ) (P : Par) (X : ℕ → ℕ → EReal) (o : ℕ) : (⟨3, ![1, 512, n]⟩ : Shape).Idx → EReal :=
  ex3 1 512 n fun _ r f => P.gu (X r) (o + f)
/-- The gate times the value in `n` columns. -/
abbrev aslab (n : ℕ) (P : Par) (X : ℕ → ℕ → EReal) (o o' : ℕ) : (⟨2, ![512, n]⟩ : Shape).Idx → EReal :=
  ex2 512 n fun r f => act (P.gu (X r) (o + f)) (P.gu (X r) (o' + f))

variable (P : Par) (X : ℕ → ℕ → EReal) (o o' : ℕ)

theorem pay5 : k0_pay5 (F := Ideal) (tile X) (row P.gn) (row3 P.sc) (row3 P.sh)
    = hid P X := by
  funext j; idx_vars j; pointwise [k0_pay5]; rfl
theorem pay9 : k0_pay9 (F := Ideal) (hid P X) (wcol 768 P o)
    = slab 768 P X o := by
  funext j; idx_vars j; pointwise [k0_pay9]; rfl
theorem pay13 : k0_pay13 (F := Ideal) (hid P X) (wcol 768 P o)
    = slab 768 P X o := by
  funext j; idx_vars j; pointwise [k0_pay13]; rfl
theorem pay14 : k0_pay14 (F := Ideal) (hid P X) (wcol 768 P o)
    = slab 768 P X o := by
  funext j; idx_vars j; pointwise [k0_pay14]; rfl
theorem pay19 : k0_pay19 (F := Ideal) (hid P X) (wcol 512 P o)
    = slab 512 P X o := by
  funext j; idx_vars j; pointwise [k0_pay19]; rfl
theorem pay20 : k0_pay20 (F := Ideal) (hid P X) (wcol 512 P o)
    = slab 512 P X o := by
  funext j; idx_vars j; pointwise [k0_pay20]; rfl
theorem pay16 : k0_pay16 (F := Ideal) (hid P X) (wcol 768 P o)
    = slab 768 P X o := by
  rw [k0_pay16, pay9]; funext j; idx_vars j; pointwise []
theorem pay6 : k0_pay6 (F := Ideal) (tile X) (row P.gn) (row3 P.sc) (row3 P.sh) (wcol 768 P o)
    = slab 768 P X o := by
  rw [k0_pay6, pay5]; funext j; idx_vars j; pointwise []; rfl
theorem pay7 : k0_pay7 (F := Ideal) (tile X) (row P.gn) (row3 P.sc) (row3 P.sh) (wcol 768 P o)
    = slab 768 P X o := by
  rw [k0_pay7, pay5]; funext j; idx_vars j; pointwise []; rfl
theorem pay8 : k0_pay8 (F := Ideal) (tile X) (row P.gn) (row3 P.sc) (row3 P.sh) (wcol 768 P o)
    = slab 768 P X o := by
  rw [k0_pay8, pay5]; funext j; idx_vars j; pointwise []; rfl
theorem pay10 : k0_pay10 (F := Ideal) (slab 768 P X o)
    = slab3 768 P X o := by
  funext j; idx_vars j; pointwise [k0_pay10]
theorem pay11 : k0_pay11 (F := Ideal) (slab 768 P X o)
    = slab3 768 P X o := by
  funext j; idx_vars j; pointwise [k0_pay11]
theorem pay15 : k0_pay15 (F := Ideal) (slab 768 P X o)
    = slab3 768 P X o := by
  funext j; idx_vars j; pointwise [k0_pay15]
theorem pay17 : k0_pay17 (F := Ideal) (slab 768 P X o)
    = slab3 768 P X o := by
  funext j; idx_vars j; pointwise [k0_pay17]
theorem pay21 : k0_pay21 (F := Ideal) (slab 768 P X o)
    = slab3 768 P X o := by
  funext j; idx_vars j; pointwise [k0_pay21]
theorem pay22 : k0_pay22 (F := Ideal) (slab 768 P X o)
    = slab3 768 P X o := by
  funext j; idx_vars j; pointwise [k0_pay22]
theorem pay2 : k0_pay2 (F := Ideal) (slab 512 P X o)
    = slab3 512 P X o := by
  funext j; idx_vars j; pointwise [k0_pay2]
theorem pay3 : k0_pay3 (F := Ideal) (slab 512 P X o)
    = slab3 512 P X o := by
  funext j; idx_vars j; pointwise [k0_pay3]
theorem pay12 : k0_pay12 (F := Ideal) (slab 768 P X o) (slab 768 P X o')
    = aslab 768 P X o o' := by
  funext j; idx_vars j; pointwise [k0_pay12]; rw [zero_sub]; rfl
theorem pay18 : k0_pay18 (F := Ideal) (slab 768 P X o) (slab 768 P X o')
    = aslab 768 P X o o' := by
  funext j; idx_vars j; pointwise [k0_pay18]; rw [zero_sub]; rfl
theorem pay4 : k0_pay4 (F := Ideal) (slab 512 P X o) (slab 512 P X o')
    = aslab 512 P X o o' := by
  funext j; idx_vars j; pointwise [k0_pay4]; rw [zero_sub]; rfl
theorem pay1 : k0_pay1 (F := Ideal) (slab 768 P X o) (slab 768 P X o') (k0_pay23 (slab 768 P X o)) (FloatOps.ofBits FTy.f32 1065353216#32)
    = aslab 768 P X o o' := by
  funext j; idx_vars j; pointwise [k0_pay1, k0_pay23]; rw [zero_sub]; rfl

/-! ### Loads of the weights' columns, and the stores of the hidden layer put together -/

theorem ldw_0 : View.ld (Val := Elt Ideal) (S := S1024x5632) (e' := .bf16) (ex2 1024 5632 P.wu) (Rect.unit ![0, 0] ![1024, 768] inb_S1024x5632_S1024x768_0_0)
    = wcol 768 P 0 := by
  funext y; idx_vars y; pointwise
theorem ldw_768 : View.ld (Val := Elt Ideal) (S := S1024x5632) (e' := .bf16) (ex2 1024 5632 P.wu) (Rect.unit ![0, 768] ![1024, 768] inb_S1024x5632_S1024x768_0_768)
    = wcol 768 P 768 := by
  funext y; idx_vars y; pointwise
theorem ldw_1536 : View.ld (Val := Elt Ideal) (S := S1024x5632) (e' := .bf16) (ex2 1024 5632 P.wu) (Rect.unit ![0, 1536] ![1024, 768] inb_S1024x5632_S1024x768_0_1536)
    = wcol 768 P 1536 := by
  funext y; idx_vars y; pointwise
theorem ldw_2304 : View.ld (Val := Elt Ideal) (S := S1024x5632) (e' := .bf16) (ex2 1024 5632 P.wu) (Rect.unit ![0, 2304] ![1024, 512] inb_S1024x5632_S1024x512_0_2304)
    = wcol 512 P 2304 := by
  funext y; idx_vars y; pointwise
theorem ldw_2816 : View.ld (Val := Elt Ideal) (S := S1024x5632) (e' := .bf16) (ex2 1024 5632 P.wu) (Rect.unit ![0, 2816] ![1024, 768] inb_S1024x5632_S1024x768_0_2816)
    = wcol 768 P 2816 := by
  funext y; idx_vars y; pointwise
theorem ldw_3584 : View.ld (Val := Elt Ideal) (S := S1024x5632) (e' := .bf16) (ex2 1024 5632 P.wu) (Rect.unit ![0, 3584] ![1024, 768] inb_S1024x5632_S1024x768_0_3584)
    = wcol 768 P 3584 := by
  funext y; idx_vars y; pointwise
theorem ldw_4352 : View.ld (Val := Elt Ideal) (S := S1024x5632) (e' := .bf16) (ex2 1024 5632 P.wu) (Rect.unit ![0, 4352] ![1024, 768] inb_S1024x5632_S1024x768_0_4352)
    = wcol 768 P 4352 := by
  funext y; idx_vars y; pointwise
theorem ldw_5120 : View.ld (Val := Elt Ideal) (S := S1024x5632) (e' := .bf16) (ex2 1024 5632 P.wu) (Rect.unit ![0, 5120] ![1024, 512] inb_S1024x5632_S1024x512_0_5120)
    = wcol 512 P 5120 := by
  funext y; idx_vars y; pointwise

/-- The hidden layer of a tile: its two halves, and the gate times the value. -/
abbrev guT : S2x512x2816.Idx → Elt Ideal .bf16 := ex3 2 512 2816 fun k r f => P.gu (X r) (k * 2816 + f)
abbrev aT : S512x2816.Idx → Elt Ideal .bf16 := ex2 512 2816 fun r => P.a (X r)

/-- The eight stores of the hidden layer. -/
abbrev L8 : List (View.Piece (Elt Ideal) S2x512x2816 .bf16) :=
  [⟨Rect.unit ![1, 0, 2304] ![1, 512, 512] inb_S2x512x2816_S1x512x512_1_0_2304, slab3 512 P X 5120⟩,
   ⟨Rect.unit ![0, 0, 2304] ![1, 512, 512] inb_S2x512x2816_S1x512x512_0_0_2304, slab3 512 P X 2304⟩,
   ⟨Rect.unit ![1, 0, 1536] ![1, 512, 768] inb_S2x512x2816_S1x512x768_1_0_1536, slab3 768 P X 4352⟩,
   ⟨Rect.unit ![0, 0, 1536] ![1, 512, 768] inb_S2x512x2816_S1x512x768_0_0_1536, slab3 768 P X 1536⟩,
   ⟨Rect.unit ![1, 0, 768] ![1, 512, 768] inb_S2x512x2816_S1x512x768_1_0_768, slab3 768 P X 3584⟩,
   ⟨Rect.unit ![0, 0, 768] ![1, 512, 768] inb_S2x512x2816_S1x512x768_0_0_768, slab3 768 P X 768⟩,
   ⟨Rect.unit ![1, 0, 0] ![1, 512, 768] inb_S2x512x2816_S1x512x768_1_0_0, slab3 768 P X 2816⟩,
   ⟨Rect.unit ![0, 0, 0] ![1, 512, 768] inb_S2x512x2816_S1x512x768_0_0_0, slab3 768 P X 0⟩]

theorem cover8 (y : S2x512x2816.Idx) : ∃ p ∈ L8 P X, y ∈ p.1.set := by
  have h0 : (y 0).val < 2 := (y 0).isLt
  have h1 : (y 1).val < 512 := (y 1).isLt
  have h2 : (y 2).val < 2816 := (y 2).isLt
  simp only [L8, List.mem_cons, List.not_mem_nil, or_false, exists_eq_or_imp, exists_eq_left, Rect.mem_set_unit, Fin.forall_fin_succ]
  simp
  omega

theorem ldg_1_2304 : View.ld (Val := Elt Ideal) (S := S2x512x2816) (e' := .bf16) (guT P X) (Rect.unit ![1, 0, 2304] ![1, 512, 512] inb_S2x512x2816_S1x512x512_1_0_2304)
    = slab3 512 P X 5120 := by
  funext y; idx_vars y; pointwise <;> (refine congrArg (P.gu _) ?_; omega)
theorem ldg_0_2304 : View.ld (Val := Elt Ideal) (S := S2x512x2816) (e' := .bf16) (guT P X) (Rect.unit ![0, 0, 2304] ![1, 512, 512] inb_S2x512x2816_S1x512x512_0_0_2304)
    = slab3 512 P X 2304 := by
  funext y; idx_vars y; pointwise <;> (refine congrArg (P.gu _) ?_; omega)
theorem ldg_1_1536 : View.ld (Val := Elt Ideal) (S := S2x512x2816) (e' := .bf16) (guT P X) (Rect.unit ![1, 0, 1536] ![1, 512, 768] inb_S2x512x2816_S1x512x768_1_0_1536)
    = slab3 768 P X 4352 := by
  funext y; idx_vars y; pointwise <;> (refine congrArg (P.gu _) ?_; omega)
theorem ldg_0_1536 : View.ld (Val := Elt Ideal) (S := S2x512x2816) (e' := .bf16) (guT P X) (Rect.unit ![0, 0, 1536] ![1, 512, 768] inb_S2x512x2816_S1x512x768_0_0_1536)
    = slab3 768 P X 1536 := by
  funext y; idx_vars y; pointwise <;> (refine congrArg (P.gu _) ?_; omega)
theorem ldg_1_768 : View.ld (Val := Elt Ideal) (S := S2x512x2816) (e' := .bf16) (guT P X) (Rect.unit ![1, 0, 768] ![1, 512, 768] inb_S2x512x2816_S1x512x768_1_0_768)
    = slab3 768 P X 3584 := by
  funext y; idx_vars y; pointwise <;> (refine congrArg (P.gu _) ?_; omega)
theorem ldg_0_768 : View.ld (Val := Elt Ideal) (S := S2x512x2816) (e' := .bf16) (guT P X) (Rect.unit ![0, 0, 768] ![1, 512, 768] inb_S2x512x2816_S1x512x768_0_0_768)
    = slab3 768 P X 768 := by
  funext y; idx_vars y; pointwise <;> (refine congrArg (P.gu _) ?_; omega)
theorem ldg_1_0 : View.ld (Val := Elt Ideal) (S := S2x512x2816) (e' := .bf16) (guT P X) (Rect.unit ![1, 0, 0] ![1, 512, 768] inb_S2x512x2816_S1x512x768_1_0_0)
    = slab3 768 P X 2816 := by
  funext y; idx_vars y; pointwise <;> (refine congrArg (P.gu _) ?_; omega)
theorem ldg_0_0 : View.ld (Val := Elt Ideal) (S := S2x512x2816) (e' := .bf16) (guT P X) (Rect.unit ![0, 0, 0] ![1, 512, 768] inb_S2x512x2816_S1x512x768_0_0_0)
    = slab3 768 P X 0 := by
  funext y; idx_vars y; pointwise <;> (refine congrArg (P.gu _) ?_; omega)

theorem canon8 : View.canon (L8 P X) = guT P X := by
  funext y
  exact View.canon_append_of_piecesOf (guT P X) [] (L8 P X) ⟨fun x => (congrFun (ldg_1_2304 P X) x).symm, fun x => (congrFun (ldg_0_2304 P X) x).symm, fun x => (congrFun (ldg_1_1536 P X) x).symm, fun x => (congrFun (ldg_0_1536 P X) x).symm, fun x => (congrFun (ldg_1_768 P X) x).symm, fun x => (congrFun (ldg_0_768 P X) x).symm, fun x => (congrFun (ldg_1_0 P X) x).symm, fun x => (congrFun (ldg_0_0 P X) x).symm, trivial⟩ y (cover8 P X y)

/-- The four stores of the gate times the value. -/
abbrev L4 : List (View.Piece (Elt Ideal) S512x2816 .bf16) :=
  [⟨Rect.unit ![0, 2304] ![512, 512] inb_S512x2816_S512x512_0_2304, aslab 512 P X 2304 5120⟩,
   ⟨Rect.unit ![0, 1536] ![512, 768] inb_S512x2816_S512x768_0_1536, aslab 768 P X 1536 4352⟩,
   ⟨Rect.unit ![0, 768] ![512, 768] inb_S512x2816_S512x768_0_768, aslab 768 P X 768 3584⟩,
   ⟨Rect.unit ![0, 0] ![512, 768] inb_S512x2816_S512x768_0_0, aslab 768 P X 0 2816⟩]

theorem cover4 (y : S512x2816.Idx) : ∃ p ∈ L4 P X, y ∈ p.1.set := by
  have h0 : (y 0).val < 512 := (y 0).isLt
  have h1 : (y 1).val < 2816 := (y 1).isLt
  simp only [L4, List.mem_cons, List.not_mem_nil, or_false, exists_eq_or_imp, exists_eq_left, Rect.mem_set_unit, Fin.forall_fin_succ]
  simp
  omega

theorem lda_2304 : View.ld (Val := Elt Ideal) (S := S512x2816) (e' := .bf16) (aT P X) (Rect.unit ![0, 2304] ![512, 512] inb_S512x2816_S512x512_0_2304)
    = aslab 512 P X 2304 5120 := by
  funext y; idx_vars y; pointwise <;> (refine congrArg₂ (fun a b => act (P.gu _ a) (P.gu _ b)) ?_ ?_ <;> omega)
theorem lda_1536 : View.ld (Val := Elt Ideal) (S := S512x2816) (e' := .bf16) (aT P X) (Rect.unit ![0, 1536] ![512, 768] inb_S512x2816_S512x768_0_1536)
    = aslab 768 P X 1536 4352 := by
  funext y; idx_vars y; pointwise <;> (refine congrArg₂ (fun a b => act (P.gu _ a) (P.gu _ b)) ?_ ?_ <;> omega)
theorem lda_768 : View.ld (Val := Elt Ideal) (S := S512x2816) (e' := .bf16) (aT P X) (Rect.unit ![0, 768] ![512, 768] inb_S512x2816_S512x768_0_768)
    = aslab 768 P X 768 3584 := by
  funext y; idx_vars y; pointwise <;> (refine congrArg₂ (fun a b => act (P.gu _ a) (P.gu _ b)) ?_ ?_ <;> omega)
theorem lda_0 : View.ld (Val := Elt Ideal) (S := S512x2816) (e' := .bf16) (aT P X) (Rect.unit ![0, 0] ![512, 768] inb_S512x2816_S512x768_0_0)
    = aslab 768 P X 0 2816 := by
  funext y; idx_vars y; pointwise <;> (refine congrArg₂ (fun a b => act (P.gu _ a) (P.gu _ b)) ?_ ?_ <;> omega)

theorem canon4 : View.canon (L4 P X) = aT P X := by
  funext y
  exact View.canon_append_of_piecesOf (aT P X) [] (L4 P X) ⟨fun x => (congrFun (lda_2304 P X) x).symm, fun x => (congrFun (lda_1536 P X) x).symm, fun x => (congrFun (lda_768 P X) x).symm, fun x => (congrFun (lda_0 P X) x).symm, trivial⟩ y (cover4 P X y)

/-! ### The blocks that a grid point reads -/

variable (m : (ℓ : Loc nD τ sig) → Buf (Elt Ideal) ℓ) (c : Dev nD) (I : Inp)

/-- The argument arrays of device `c`. -/
structure Args : Prop where
  a0 : m ((c : Thread nD τ).loc main_arg0) = ex3 4 2048 1024 I.X
  a1 : m ((c : Thread nD τ).loc main_arg1) = ex1 1024 I.gn
  a2 : m ((c : Thread nD τ).loc main_arg2) = ex2 4 1024 I.sh
  a3 : m ((c : Thread nD τ).loc main_arg3) = ex2 4 1024 I.sc
  a4 : m ((c : Thread nD τ).loc main_arg4) = ex2 1024 5632 I.wu

variable {m c I}

theorem e0 (h : Args m c I) : V m c main_v0 = ex2 8192 1024 fun n e => I.X (n / 2048) (n % 2048) e := by
  entry_read; rw [show m (c, Proc.tc.devRef main_arg0) = _ from h.a0]; funext j; idx_vars j; pointwise []
theorem e1 (h : Args m c I) : V m c main_v1 = ex2 1 1024 fun _ e => I.gn e := by
  entry_read; rw [show m (c, Proc.tc.devRef main_arg1) = _ from h.a1]; funext j; idx_vars j; pointwise []
theorem e2 (h : Args m c I) : V m c main_v2 = ex3 4 1 1024 fun b _ e => I.sh b e := by
  entry_read; rw [show m (c, Proc.tc.devRef main_arg2) = _ from h.a2]; funext j; idx_vars j; pointwise []
theorem e3 (h : Args m c I) : V m c main_v3 = ex3 4 1 1024 fun b _ e => I.sc b e := by
  entry_read; rw [show m (c, Proc.tc.devRef main_arg3) = _ from h.a3]; funext j; idx_vars j; pointwise []
theorem e4 (h : Args m c I) : V m c main_v4 = ex2 1024 5632 I.wu := by
  entry_read; rw [show m (c, Proc.tc.devRef main_arg4) = _ from h.a4]; funext j; idx_vars j; pointwise []

theorem i0 : ∀ t : Fin cfg0.N, win0_0.index t = ![t.val, 0] := (by decide +kernel : ∀ t : Fin grid0.N, win0_0.index t = ![t.val, 0])
theorem i1 : ∀ t : Fin cfg0.N, win0_1.index t = ![0, 0] := (by decide +kernel : ∀ t : Fin grid0.N, win0_1.index t = ![0, 0])
theorem i2 : ∀ t : Fin cfg0.N, win0_2.index t = ![t.val / 4, 0, 0] := (by decide +kernel : ∀ t : Fin grid0.N, win0_2.index t = ![t.val / 4, 0, 0])
theorem i3 : ∀ t : Fin cfg0.N, win0_3.index t = ![t.val / 4, 0, 0] := (by decide +kernel : ∀ t : Fin grid0.N, win0_3.index t = ![t.val / 4, 0, 0])
theorem i4 : ∀ t : Fin cfg0.N, win0_4.index t = ![0, 0] := (by decide +kernel : ∀ t : Fin grid0.N, win0_4.index t = ![0, 0])
theorem i5 : ∀ t : Fin cfg0.N, win0_5.index t = ![0, t.val, 0] := (by decide +kernel : ∀ t : Fin grid0.N, win0_5.index t = ![0, t.val, 0])
theorem i6 : ∀ t : Fin cfg0.N, win0_6.index t = ![t.val, 0] := (by decide +kernel : ∀ t : Fin grid0.N, win0_6.index t = ![t.val, 0])

theorem b0 (h : Args m c I) (t : Fin cfg0.N) : iblk m c 0 t = tile (I.tile t.val) := by
  funext y; unfold iblk; idx_vars y; blk_simp; rw [show V m c (Pipeline.arrRef spec0 0) = _ from e0 h]
  exact pos_eq I.X t.val y0.val y0.isLt (by blk_simp [i0 t]) (by blk_simp [i0 t])
theorem b1 (h : Args m c I) (t : Fin cfg0.N) : iblk m c 1 t = row (I.par (t.val / 4)).gn := by
  funext y; unfold iblk; idx_vars y; blk_simp; rw [show V m c (Pipeline.arrRef spec0 1) = _ from e1 h]
  exact mat_eq (fun _ e => I.gn e) (rfl : y0.val = y0.val) (by blk_simp [i1 t])
theorem b2 (h : Args m c I) (t : Fin cfg0.N) : iblk m c 2 t = row3 (I.par (t.val / 4)).sh := by
  funext y; unfold iblk; idx_vars y; blk_simp; rw [show V m c (Pipeline.arrRef spec0 2) = _ from e2 h]
  exact mat_eq I.sh (by have := y0.isLt; blk_simp [i2 t]) (by blk_simp [i2 t])
theorem b3 (h : Args m c I) (t : Fin cfg0.N) : iblk m c 3 t = row3 (I.par (t.val / 4)).sc := by
  funext y; unfold iblk; idx_vars y; blk_simp; rw [show V m c (Pipeline.arrRef spec0 3) = _ from e3 h]
  exact mat_eq I.sc (by have := y0.isLt; blk_simp [i3 t]) (by blk_simp [i3 t])
theorem b4 (h : Args m c I) (t : Fin cfg0.N) : iblk m c 4 t = ex2 1024 5632 (I.par (t.val / 4)).wu := by
  funext y; unfold iblk; idx_vars y; blk_simp; rw [show V m c (Pipeline.arrRef spec0 4) = _ from e4 h]
  exact mat_eq I.wu (by blk_simp [i4 t]) (by blk_simp [i4 t])

/-! ### The result arrays -/

/-- The two output blocks of tile `t`. -/
abbrev outs (I : Inp) (t : ℕ) := (guT (I.par (t / 4)) (I.tile t), aT (I.par (t / 4)) (I.tile t))

theorem outs_eq (h : Args m c I) (t : Fin cfg0.N) : outsAt0 m c t = outs I t.val := by
  unfold outsAt0
  refine Prod.ext ?_ ?_
  all_goals
    dsimp only
    frame_out
    simp only [b0 h, b1 h, b2 h, b3 h, b4 h, ldw_0, ldw_768, ldw_1536, ldw_2304, ldw_2816, ldw_3584, ldw_4352, ldw_5120, canon8, canon4,
      pay5, pay6, pay7, pay8, pay9, pay13, pay14, pay16, pay19, pay20, pay10, pay11, pay15, pay17, pay21, pay22, pay2, pay3, pay12, pay18, pay1, pay4]

theorem a5 (h : Args m c I) : (dats m 0 c).arrAt 5 cfg0.N = ex3 2 8192 2816 fun k n f => I.gu (n / 2048) (n % 2048) (k * 2816 + f) := by
  refine (dats m 0 c).arrAt_eq_of_covers 5 _ (by decide +kernel) fun t hf y => ?_
  blk_simp
  rw [after0_5, outs_eq h]
  idx_vars y
  refine Eq.symm (pos_eq I.gu t.val y1.val y1.isLt (e' := y0.val * 2816 + y2.val) ?_ ?_) <;> blk_simp [i5 t]
theorem a6 (h : Args m c I) : (dats m 0 c).arrAt 6 cfg0.N = ex2 8192 2816 fun n e => I.a (n / 2048) (n % 2048) e := by
  refine (dats m 0 c).arrAt_eq_of_covers 6 _ (by decide +kernel) fun t hf y => ?_
  blk_simp
  rw [after0_6, outs_eq h]
  idx_vars y
  refine Eq.symm (pos_eq I.a t.val y0.val y0.isLt ?_ ?_) <;> blk_simp [i6 t]

end Kernel

end Cert.Proof.FfnUp

end
-- ==== Proof.FfnUp.RefValue.lean ====
/- The reference's result arrays, index by index. -/
module

public import proofs.«01_k».proof.Proof.Fwd
public import proofs.«01_k».proof.Proof.Gen.FfnUpReferenceIdeal.Read

@[expose] public section

set_option maxRecDepth 16384

noncomputable section

namespace Cert.Proof.FfnUp

open Idealize.ShloMosaic Idealize.ShloMosaic.TcCoe Idealize.SL.Sem Cert.Ext Cert.Fwd

open Cert.FfnUpReferenceIdeal Cert.FfnUpReferenceIdeal.Read

variable (I : Inp)

theorem v20 : val_main_v20 (F := Ideal) (ex3 4 2048 1024 I.X) (ex1 1024 I.gn) (ex2 4 1024 I.sh) (ex2 4 1024 I.sc) = ex3 4 2048 1024 fun b s => (I.par b).h (I.X b s) := by
  funext j; idx_vars j; pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]; rfl
theorem v21 : val_main_v21 (F := Ideal) (ex3 4 2048 1024 I.X) (ex1 1024 I.gn) (ex2 4 1024 I.sh) (ex2 4 1024 I.sc) (ex2 1024 5632 I.wu) = ex3 4 2048 5632 I.gu := by
  rw [val_main_v21, v20]; funext j; idx_vars j; pointwise []; rfl
theorem v25 : val_main_v25 (F := Ideal) (ex3 4 2048 1024 I.X) (ex1 1024 I.gn) (ex2 4 1024 I.sh) (ex2 4 1024 I.sc) (ex2 1024 5632 I.wu) = ex3 4 2048 2816 I.a := by
  rw [val_main_v25, val_main_v24, val_main_v23, val_main_call0_v5, val_main_call0_v3, val_main_call0_v1, val_main_call0_v0, val_main_v22, v21]
  funext j; idx_vars j; pointwise [val_main_call0_v4, val_main_call0_cst_0, val_main_call0_v2, val_main_call0_cst]; rfl
theorem v28 : val_main_v28 (F := Ideal) (ex3 4 2048 1024 I.X) (ex1 1024 I.gn) (ex2 4 1024 I.sh) (ex2 4 1024 I.sc) (ex2 1024 5632 I.wu) = ex4 2 4 2048 2816 fun k b s f => I.gu b s (k * 2816 + f) := by
  rw [val_main_v28, val_main_v27, val_main_v26, val_main_v22, val_main_v23, v21]; funext j; idx_vars j; pointwise []
  rcases (by have := j0.isLt; omega : j0.val = 0 ∨ j0.val = 1) with h | h <;> simp [h]
theorem r0 : val_main_v30 (F := Ideal) (ex3 4 2048 1024 I.X) (ex1 1024 I.gn) (ex2 4 1024 I.sh) (ex2 4 1024 I.sc) (ex2 1024 5632 I.wu) = ex3 2 8192 2816 fun k n f => I.gu (n / 2048) (n % 2048) (k * 2816 + f) := by
  rw [val_main_v30, val_main_v29, v28]; funext j; idx_vars j; pointwise []
theorem r1 : val_main_v32 (F := Ideal) (ex3 4 2048 1024 I.X) (ex1 1024 I.gn) (ex2 4 1024 I.sh) (ex2 4 1024 I.sc) (ex2 1024 5632 I.wu) = ex2 8192 2816 fun n f => I.a (n / 2048) (n % 2048) f := by
  rw [val_main_v32, val_main_v31, v25]; funext j; idx_vars j; pointwise []

end Cert.Proof.FfnUp

end
-- ==== Proof.FfnUp.Algebraic.lean ====
/- The kernel's results are the reference's, on the extended reals, whatever the arguments. -/
module

public import proofs.«01_k».proof.Proof.FfnUp.Value
public import proofs.«01_k».proof.Proof.FfnUp.RefValue
public import proofs.«01_k».proof.Proof.Gen.FfnUpReferenceIdeal

@[expose] public section

set_option maxRecDepth 16384

noncomputable section

namespace Cert.Proof.FfnUp

open Idealize.ShloMosaic Idealize.ShloMosaic.TcCoe Idealize.SL.Sem Cert.Ext Cert.Fwd

theorem algebraic : Cert.algebraic_FfnUpIdeal_FfnUpReferenceIdeal := by
  intro m g m' g' _ hargs
  choose X h0 using fun c : Dev Cert.FfnUpIdeal.nD => exists_ex3 (n0 := 4) (n1 := 2048) (n2 := 1024) (m (((c : Dev Cert.FfnUpIdeal.nD).tc : Thread Cert.FfnUpIdeal.nD Cert.FfnUpIdeal.τ).loc Cert.FfnUpIdeal.main_arg0))
  choose gn h1 using fun c : Dev Cert.FfnUpIdeal.nD => exists_ex1 (n0 := 1024) (m (((c : Dev Cert.FfnUpIdeal.nD).tc : Thread Cert.FfnUpIdeal.nD Cert.FfnUpIdeal.τ).loc Cert.FfnUpIdeal.main_arg1))
  choose sh h2 using fun c : Dev Cert.FfnUpIdeal.nD => exists_ex2 (n0 := 4) (n1 := 1024) (m (((c : Dev Cert.FfnUpIdeal.nD).tc : Thread Cert.FfnUpIdeal.nD Cert.FfnUpIdeal.τ).loc Cert.FfnUpIdeal.main_arg2))
  choose sc h3 using fun c : Dev Cert.FfnUpIdeal.nD => exists_ex2 (n0 := 4) (n1 := 1024) (m (((c : Dev Cert.FfnUpIdeal.nD).tc : Thread Cert.FfnUpIdeal.nD Cert.FfnUpIdeal.τ).loc Cert.FfnUpIdeal.main_arg3))
  choose wu h4 using fun c : Dev Cert.FfnUpIdeal.nD => exists_ex2 (n0 := 1024) (n1 := 5632) (m (((c : Dev Cert.FfnUpIdeal.nD).tc : Thread Cert.FfnUpIdeal.nD Cert.FfnUpIdeal.τ).loc Cert.FfnUpIdeal.main_arg4))
  let I : Dev Cert.FfnUpIdeal.nD → Inp := fun c => ⟨X c, gn c, sh c, sc c, fun _ _ => 0, wu c, fun _ _ => 0⟩
  have hA : ∀ c, Args m c (I c) := fun c => ⟨h0 c, h1 c, h2 c, h3 c, h4 c⟩
  refine ⟨fun c => ex3 2 8192 2816 fun k n f => (I c).gu (n / 2048) (n % 2048) (k * 2816 + f), fun c => ex2 8192 2816 fun n f => (I c).a (n / 2048) (n % 2048) f,
    (θ_run Cert.FfnUpIdeal.defs _ _).mono (fun r h c => ?_) (Cert.FfnUpIdeal.Value.run_blocks (F := Ideal) m g),
    (θ_run Cert.FfnUpReferenceIdeal.defs _ _).mono (fun r h c => ?_) (Cert.FfnUpReferenceIdeal.Value.run (F := Ideal) m' g')⟩
  · obtain ⟨r0, r1, hk⟩ := h c
    exact ⟨r0.trans (a5 (hA c)), r1.trans (a6 (hA c)), hk⟩
  · obtain ⟨r0, r1, hk⟩ := h c
    have q := hargs c
    refine ⟨r0.trans ?_, r1.trans ?_, hk⟩
    · rw [q.1, h0, q.2.1, h1, q.2.2.1, h2, q.2.2.2.1, h3, q.2.2.2.2, h4]
      exact (Cert.FfnUpReferenceIdeal.Read.val_main_v30_eq _ _ _ _ _).trans (FfnUp.r0 (I c))
    · rw [Cert.FfnUpReferenceIdeal.Read.val_main_v32_eq, q.1, h0, q.2.1, h1, q.2.2.1, h2, q.2.2.2.1, h3, q.2.2.2.2, h4]
      exact FfnUp.r1 (I c)

end Cert.Proof.FfnUp

end
-- ==== Proof.FfnDown.Frames.lean ====
/- The frames of the three programs of the second half of the feed-forward. -/
module

public import proofs.«01_k».proof.Defs
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownReferenceIdeal.Run
public import proofs.«01_k».proof.Proof.Gen.FfnDownReferenceIdeal.Read
public import proofs.«01_k».proof.Proof.Gen.FfnDownReferenceIdeal
public import Idealize.ShloMosaic.Adequacy
public import Idealize.ShloMosaic.Init

@[expose] public section

noncomputable section

namespace Cert.Proof.FfnDown

open Idealize.ShloMosaic Idealize.SL.Sem Idealize.ShloMosaic.TcCoe

theorem kernel_frame : Cert.quiescent_FfnDown := fun m ρ _ => Cert.FfnDown.Gen.frame m ρ
theorem kernelIdeal_frame : Cert.quiescent_FfnDownIdeal := fun m ρ _ => Cert.FfnDownIdeal.Gen.frame m ρ
theorem referenceIdeal_frame : Cert.quiescent_FfnDownReferenceIdeal := fun m ρ _ =>
  (θ_run Cert.FfnDownReferenceIdeal.defs _ _).mono (fun r h => ⟨fun c => (h c).2.2, sem_eq_zero_of_no_sems (by decide) r.2⟩)
    (Cert.FfnDownReferenceIdeal.Value.run (F := Ideal) m ρ)

end Cert.Proof.FfnDown

end
-- ==== Proof.FfnDown.Value.lean ====
/- The second half of the feed-forward (output projection, gated residual): the kernel's result arrays, index by index. -/
module

public import Idealize.ShloMosaic.Lib.Pipeline.ReadBack
public import proofs.«01_k».proof.Proof.Fwd
public import proofs.«01_k».proof.Proof.FfnDown.Frames

@[expose] public section

set_option maxRecDepth 16384

noncomputable section

namespace Cert.Proof.FfnDown

open Idealize.ShloMosaic Idealize.ShloMosaic.TcCoe Idealize.SL.Sem Cert.Ext Cert.Fwd

open Cert.FfnDownIdeal Cert.FfnDownIdeal.Gen

/-- The arguments: the hidden layer, the residual branch's input, its gate and the weights. -/
structure In where
  A : ℕ → ℕ → ℕ → EReal
  X : ℕ → ℕ → ℕ → EReal
  gt : ℕ → ℕ → EReal
  wd : ℕ → ℕ → EReal

/-- The projection, and the residual branch's output. -/
def In.f (I : In) (b s e : ℕ) : EReal := down I.wd (I.A b s) e
def In.xo (I : In) (b s e : ℕ) : EReal := step (I.X b s e) (I.gt b e) (I.f b s e)

/-! ### The body's values on one tile of 1024 positions -/

variable (A : ℕ → ℕ → EReal) (X : ℕ → ℕ → EReal) (wd : ℕ → ℕ → EReal) (gt : ℕ → EReal)

abbrev tile (f : ℕ → ℕ → EReal) : S1024x1024.Idx → EReal := ex2 1024 1024 f

theorem pay1 : k0_pay1 (F := Ideal) (ex2 1024 2816 A) (ex2 2816 1024 wd) = tile fun r => down wd (A r) := by
  funext j; idx_vars j; pointwise [k0_pay1]; rfl
theorem pay2 : k0_pay2 (F := Ideal) (ex2 1024 2816 A) (ex2 2816 1024 wd) = tile fun r => down wd (A r) := by
  rw [k0_pay2, pay1]; funext j; idx_vars j; pointwise []
theorem pay3 : k0_pay3 (F := Ideal) (ex2 1024 2816 A) (ex2 2816 1024 wd) (tile X) (ex3 1 1 1024 fun _ _ => gt)
    = tile fun r e => step (X r e) (gt e) (down wd (A r) e) := by
  rw [k0_pay3, pay1]; funext j; idx_vars j; pointwise []; rfl

/-! ### The blocks that a grid point reads -/

variable {m : (ℓ : Loc nD τ sig) → Buf (Elt Ideal) ℓ} {c : Dev nD} {I : In}

/-- The argument arrays of device `c`. -/
structure Args (m : (ℓ : Loc nD τ sig) → Buf (Elt Ideal) ℓ) (c : Dev nD) (I : In) : Prop where
  a0 : m ((c : Thread nD τ).loc main_arg0) = ex3 4 2048 2816 I.A
  a1 : m ((c : Thread nD τ).loc main_arg1) = ex3 4 2048 1024 I.X
  a2 : m ((c : Thread nD τ).loc main_arg2) = ex2 4 1024 I.gt
  a3 : m ((c : Thread nD τ).loc main_arg3) = ex2 2816 1024 I.wd

/-- The batch and the position of row `r` of tile `t`. -/
theorem row_eq (F : ℕ → ℕ → ℕ → EReal) (t r : ℕ) (hr : r < 1024) {p e e' : ℕ} (hp : p = t * 1024 + r) (he : e = e') :
    F (p / 2048) (p % 2048) e = F (t / 2) (t % 2 * 1024 + r) e' := by
  subst hp he
  rw [show (t * 1024 + r) / 2048 = t / 2 by omega, show (t * 1024 + r) % 2048 = t % 2 * 1024 + r by omega]

theorem e0 (h : Args m c I) : V m c main_v1 = ex2 8192 2816 fun n e => I.A (n / 2048) (n % 2048) e := by
  entry_read; rw [show m (c, Proc.tc.devRef main_arg0) = _ from h.a0]; funext j; idx_vars j; pointwise []
theorem e1 (h : Args m c I) : V m c main_v2 = ex2 8192 1024 fun n e => I.X (n / 2048) (n % 2048) e := by
  entry_read; rw [show m (c, Proc.tc.devRef main_arg1) = _ from h.a1]; funext j; idx_vars j; pointwise []
theorem e2 (h : Args m c I) : V m c main_v3 = ex3 4 1 1024 fun b _ e => I.gt b e := by
  entry_read; rw [show m (c, Proc.tc.devRef main_arg2) = _ from h.a2]; funext j; idx_vars j; pointwise []
theorem e3 (h : Args m c I) : V m c main_v4 = ex2 2816 1024 I.wd := by
  entry_read; rw [show m (c, Proc.tc.devRef main_arg3) = _ from h.a3]; funext j; idx_vars j; pointwise []

theorem i0 : ∀ t : Fin cfg0.N, win0_0.index t = ![t.val, 0] := (by decide +kernel : ∀ t : Fin grid0.N, win0_0.index t = ![t.val, 0])
theorem i1 : ∀ t : Fin cfg0.N, win0_1.index t = ![t.val, 0] := (by decide +kernel : ∀ t : Fin grid0.N, win0_1.index t = ![t.val, 0])
theorem i2 : ∀ t : Fin cfg0.N, win0_2.index t = ![t.val / 2, 0, 0] := (by decide +kernel : ∀ t : Fin grid0.N, win0_2.index t = ![t.val / 2, 0, 0])
theorem i3 : ∀ t : Fin cfg0.N, win0_3.index t = ![0, 0] := (by decide +kernel : ∀ t : Fin grid0.N, win0_3.index t = ![0, 0])
theorem i4 : ∀ t : Fin cfg0.N, win0_4.index t = ![t.val, 0] := (by decide +kernel : ∀ t : Fin grid0.N, win0_4.index t = ![t.val, 0])
theorem i5 : ∀ t : Fin cfg0.N, win0_5.index t = ![t.val, 0] := (by decide +kernel : ∀ t : Fin grid0.N, win0_5.index t = ![t.val, 0])

theorem b0 (h : Args m c I) (t : Fin cfg0.N) : iblk m c 0 t = ex2 1024 2816 fun r => I.A (t.val / 2) (t.val % 2 * 1024 + r) := by
  funext y; unfold iblk; idx_vars y; blk_simp; rw [show V m c (Pipeline.arrRef spec0 0) = _ from e0 h]
  exact row_eq I.A t.val y0.val y0.isLt (by blk_simp [i0 t]) (by blk_simp [i0 t])
theorem b1 (h : Args m c I) (t : Fin cfg0.N) : iblk m c 1 t = ex2 1024 1024 fun r => I.X (t.val / 2) (t.val % 2 * 1024 + r) := by
  funext y; unfold iblk; idx_vars y; blk_simp; rw [show V m c (Pipeline.arrRef spec0 1) = _ from e1 h]
  exact row_eq I.X t.val y0.val y0.isLt (by blk_simp [i1 t]) (by blk_simp [i1 t])
theorem b2 (h : Args m c I) (t : Fin cfg0.N) : iblk m c 2 t = ex3 1 1 1024 fun _ _ => I.gt (t.val / 2) := by
  funext y; unfold iblk; idx_vars y; blk_simp; rw [show V m c (Pipeline.arrRef spec0 2) = _ from e2 h]
  exact mat_eq I.gt (by have := y0.isLt; blk_simp [i2 t]) (by blk_simp [i2 t])
theorem b3 (h : Args m c I) (t : Fin cfg0.N) : iblk m c 3 t = ex2 2816 1024 I.wd := by
  funext y; unfold iblk; idx_vars y; blk_simp; rw [show V m c (Pipeline.arrRef spec0 3) = _ from e3 h]
  exact mat_eq I.wd (by blk_simp [i3 t]) (by blk_simp [i3 t])

/-! ### The result arrays -/

/-- The two output blocks of tile `t`. -/
abbrev outs (I : In) (t : ℕ) :=
  ((tile fun r => I.xo (t / 2) (t % 2 * 1024 + r) : S1024x1024.Idx → Elt Ideal .f32),
    (tile fun r => I.f (t / 2) (t % 2 * 1024 + r) : S1024x1024.Idx → Elt Ideal .bf16))

theorem out4 (h : Args m c I) (t : Fin cfg0.N) : out0_4 (iblk m c 0 t) (iblk m c 1 t) (iblk m c 2 t) (iblk m c 3 t) = (outs I t.val).1 := by
  rw [b0 h, b1 h, b2 h, b3 h]
  frame_out
  simp only [pay3]
  rfl
theorem out5 (h : Args m c I) (t : Fin cfg0.N) : out0_5 (iblk m c 0 t) (iblk m c 1 t) (iblk m c 2 t) (iblk m c 3 t) = (outs I t.val).2 := by
  rw [b0 h, b1 h, b2 h, b3 h]
  frame_out
  simp only [pay2]
  rfl

theorem a4 (h : Args m c I) : (dats m 0 c).arrAt 4 cfg0.N = ex2 8192 1024 fun n e => I.xo (n / 2048) (n % 2048) e := by
  refine (dats m 0 c).arrAt_eq_of_covers 4 _ (by decide +kernel) fun t hf y => ?_
  blk_simp
  rw [after0_4, out4 h]
  idx_vars y
  refine Eq.symm (row_eq I.xo t.val y0.val y0.isLt ?_ ?_) <;> blk_simp [i4 t]
theorem a5 (h : Args m c I) : (dats m 0 c).arrAt 5 cfg0.N = ex2 8192 1024 fun n e => I.f (n / 2048) (n % 2048) e := by
  refine (dats m 0 c).arrAt_eq_of_covers 5 _ (by decide +kernel) fun t hf y => ?_
  blk_simp
  rw [after0_5, out5 h]
  idx_vars y
  refine Eq.symm (row_eq I.f t.val y0.val y0.isLt ?_ ?_) <;> blk_simp [i5 t]

end Cert.Proof.FfnDown

end
-- ==== Proof.FfnDown.Algebraic.lean ====
/- The kernel's results are the reference's, on the extended reals, whatever the arguments. -/
module

public import proofs.«01_k».proof.Proof.FfnDown.Value
public import proofs.«01_k».proof.Proof.Gen.FfnDownReferenceIdeal
public import proofs.«01_k».proof.Proof.Gen.FfnDownReferenceIdeal.Read

@[expose] public section

set_option maxRecDepth 16384

noncomputable section

namespace Cert.Proof.FfnDown

open Idealize.ShloMosaic Idealize.ShloMosaic.TcCoe Idealize.SL.Sem Cert.Ext Cert.Fwd

section Reference

open Cert.FfnDownReferenceIdeal Cert.FfnDownReferenceIdeal.Read

variable (I : In)

theorem v0 : val_main_v0 (F := Ideal) (ex3 4 2048 2816 I.A) (ex2 2816 1024 I.wd) = ex3 4 2048 1024 I.f := by
  funext j; idx_vars j; pointwise [val_main_v0]; rfl
theorem r0 : val_main_v7 (F := Ideal) (ex3 4 2048 2816 I.A) (ex3 4 2048 1024 I.X) (ex2 4 1024 I.gt) (ex2 2816 1024 I.wd)
    = ex2 8192 1024 fun n e => I.xo (n / 2048) (n % 2048) e := by
  rw [val_main_v7, val_main_v6, val_main_v5, v0]
  funext j; idx_vars j; pointwise [val_main_v4, val_main_v3, val_main_v2, val_main_v1, val_main_cst]; rfl
theorem r1 : val_main_v9 (F := Ideal) (ex3 4 2048 2816 I.A) (ex2 2816 1024 I.wd) = ex2 8192 1024 fun n e => I.f (n / 2048) (n % 2048) e := by
  rw [val_main_v9, val_main_v8, v0]; funext j; idx_vars j; pointwise []

end Reference

theorem algebraic : Cert.algebraic_FfnDownIdeal_FfnDownReferenceIdeal := by
  intro m g m' g' _ hargs
  choose A h0 using fun c : Dev Cert.FfnDownIdeal.nD => exists_ex3 (n0 := 4) (n1 := 2048) (n2 := 2816) (m (((c : Dev Cert.FfnDownIdeal.nD).tc : Thread Cert.FfnDownIdeal.nD Cert.FfnDownIdeal.τ).loc Cert.FfnDownIdeal.main_arg0))
  choose X h1 using fun c : Dev Cert.FfnDownIdeal.nD => exists_ex3 (n0 := 4) (n1 := 2048) (n2 := 1024) (m (((c : Dev Cert.FfnDownIdeal.nD).tc : Thread Cert.FfnDownIdeal.nD Cert.FfnDownIdeal.τ).loc Cert.FfnDownIdeal.main_arg1))
  choose gt h2 using fun c : Dev Cert.FfnDownIdeal.nD => exists_ex2 (n0 := 4) (n1 := 1024) (m (((c : Dev Cert.FfnDownIdeal.nD).tc : Thread Cert.FfnDownIdeal.nD Cert.FfnDownIdeal.τ).loc Cert.FfnDownIdeal.main_arg2))
  choose wd h3 using fun c : Dev Cert.FfnDownIdeal.nD => exists_ex2 (n0 := 2816) (n1 := 1024) (m (((c : Dev Cert.FfnDownIdeal.nD).tc : Thread Cert.FfnDownIdeal.nD Cert.FfnDownIdeal.τ).loc Cert.FfnDownIdeal.main_arg3))
  let I : Dev Cert.FfnDownIdeal.nD → In := fun c => ⟨A c, X c, gt c, wd c⟩
  have hA : ∀ c, Args m c (I c) := fun c => ⟨h0 c, h1 c, h2 c, h3 c⟩
  refine ⟨fun c => ex2 8192 1024 fun n e => (I c).xo (n / 2048) (n % 2048) e, fun c => ex2 8192 1024 fun n e => (I c).f (n / 2048) (n % 2048) e,
    (θ_run Cert.FfnDownIdeal.defs _ _).mono (fun r h c => ?_) (Cert.FfnDownIdeal.Value.run_blocks (F := Ideal) m g),
    (θ_run Cert.FfnDownReferenceIdeal.defs _ _).mono (fun r h c => ?_) (Cert.FfnDownReferenceIdeal.Value.run (F := Ideal) m' g')⟩
  · obtain ⟨r0, r1, hk⟩ := h c
    exact ⟨r0.trans (a4 (hA c)), r1.trans (a5 (hA c)), hk⟩
  · obtain ⟨r0, r1, hk⟩ := h c
    have q := hargs c
    refine ⟨r0.trans ?_, r1.trans ?_, hk⟩
    · rw [q.1, h0, q.2.1, h1, q.2.2.1, h2, q.2.2.2, h3]
      exact FfnDown.r0 (I c)
    · rw [q.1, h0, q.2.2.2, h3]
      exact FfnDown.r1 (I c)

end Cert.Proof.FfnDown

end
-- ==== Proof.NormBwd.lean ====
/- The backward pass of a normalisation by the root of the mean square, on one row, over the extended reals: what the kernels
   compute and what the derivative is agree whatever the row. Sums of tiles are in this file too. -/
module

public import proofs.«01_k».proof.Proof.Fwd

@[expose] public section

noncomputable section

namespace Cert.Norm

open Idealize.ShloMosaic Cert.Ext
open Finset (range)

/-! ### The literals -/

/-- The literals of both programs: the number of channels, the small constant, one half, its negative, one and two. -/
abbrev c1024 : EReal := Ideal.ofBits .f32 0x44800000#32
abbrev ceps : EReal := Ideal.ofBits .f32 0x358637BD#32
abbrev chalf : EReal := Ideal.ofBits .f32 0x3F000000#32
abbrev cmhalf : EReal := Ideal.ofBits .f32 0xBF000000#32
abbrev cinv : EReal := Ideal.ofBits .f32 0x3A800000#32
abbrev ctwo : EReal := Ideal.ofBits .f32 0x40000000#32

theorem c1024_eq : c1024 = ((1024 : ℝ) : EReal) := by
  simp [Ideal.ofBits, Ideal.ieee, -EReal.coe_mul]; norm_num
theorem ceps_eq : ceps = ((8796093 / 8796093022208 : ℝ) : EReal) := by
  simp [Ideal.ofBits, Ideal.ieee, -EReal.coe_mul]; norm_num
theorem chalf_eq : chalf = ((1 / 2 : ℝ) : EReal) := by
  simp [Ideal.ofBits, Ideal.ieee, -EReal.coe_mul]; norm_num
theorem cmhalf_eq : cmhalf = ((-(1 / 2) : ℝ) : EReal) := by
  simp [Ideal.ofBits, Ideal.ieee, -EReal.coe_mul]; norm_num
theorem cinv_eq : cinv = ((1 / 1024 : ℝ) : EReal) := by
  simp [Ideal.ofBits, Ideal.ieee, -EReal.coe_mul]; norm_num
theorem ctwo_eq : ctwo = ((2 : ℝ) : EReal) := by
  simp [Ideal.ofBits, Ideal.ieee, -EReal.coe_mul]; norm_num

/-- Division by the number of channels is a product. -/
theorem div_c1024 (x : EReal) : Ideal.div x c1024 = x * ((1 / 1024 : ℝ) : EReal) := by
  rw [c1024_eq, Ideal.div_coe (by norm_num)]

/-! ### Products of a sum with a nonnegative real number -/

theorem sum_mul {ι : Type*} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ### One row -/

/-- The mean square of a row, plus the small constant. -/
def M (x : ℕ → EReal) : EReal := Ideal.div (∑ k : Fin 1024, x k.val * x k.val) c1024 + ceps
/-- The reciprocal of its root. -/
def r (x : ℕ → EReal) : EReal := Ideal.rsqrt (M x)
/-- The row's normalisation. -/
def xh (x : ℕ → EReal) (e : ℕ) : EReal := x e * r x
/-- The gradient with respect to the row, `y` the gradient with respect to its normalisation. -/
def dx (x y : ℕ → EReal) (e : ℕ) : EReal := r x * (y e - xh x e * Ideal.div (∑ k : Fin 1024, y k.val * xh x k.val) c1024)
/-- The derivative of the mean square, through the root. -/
def dms (x y : ℕ → EReal) : EReal := Ideal.div ((∑ k : Fin 1024, x k.val * y k.val) * (cmhalf * Ideal.div (r x) (M x))) c1024

theorem mul_self_nonneg' (x : EReal) : 0 ≤ x * x := by
  rcases le_total 0 x with h | h
  · exact mul_nonneg h h
  · have h' : 0 ≤ -x := by rw [EReal.le_neg, neg_zero]; exact h
    have := mul_nonneg h' h'
    rwa [EReal.neg_mul, mul_comm, EReal.neg_mul, neg_neg] at this

theorem M_pos (x : ℕ → EReal) : 0 < M x := by
  have h1 : 0 ≤ Ideal.div (∑ k : Fin 1024, x k.val * x k.val) c1024 := by
    rw [div_c1024]
    exact mul_nonneg (Finset.sum_nonneg fun _ _ => mul_self_nonneg' _) (EReal.coe_nonneg.mpr (by norm_num))
  have h2 : 0 < ceps := by rw [ceps_eq]; exact EReal.coe_pos.mpr (by norm_num)
  exact lt_of_lt_of_le h2 (le_add_of_nonneg_left h1)

/-- The reciprocal root is a nonnegative real number; over its argument it is its own cube. With an infinite argument both are
    zero. -/
theorem r_real (x : ℕ → EReal) : ∃ ρ : ℝ, 0 ≤ ρ ∧ r x = (ρ : EReal) ∧ Ideal.div (r x) (M x) = ((ρ * ρ * ρ : ℝ) : EReal) := by
  have h := M_pos x
  rw [r]
  induction hM : M x using EReal.rec with
  | bot => rw [hM] at h; simp at h
  | top => exact ⟨0, le_rfl, by simp, by simp [Ideal.div]⟩
  | coe m =>
    rw [hM] at h
    have hm : 0 < m := EReal.coe_pos.mp h
    refine ⟨(Real.sqrt m)⁻¹, inv_nonneg.mpr (Real.sqrt_nonneg m), ?_, ?_⟩
    · rw [Ideal.rsqrt_coe, if_neg (not_lt.mpr hm.le), if_neg hm.ne']
    · rw [Ideal.rsqrt_coe, if_neg (not_lt.mpr hm.le), if_neg hm.ne', Ideal.div_coe hm.ne', ← EReal.coe_mul]
      have h2 : (Real.sqrt m)⁻¹ * (Real.sqrt m)⁻¹ = m⁻¹ := by rw [← mul_inv, Real.mul_self_sqrt hm.le]
      rw [h2, one_div, mul_comm]

/-- The reference differentiates the mean square; the kernels subtract the mean of the products. -/
theorem dx_eq (x y : ℕ → EReal) (e : ℕ) : y e * r x + x e * dms x y + dms x y * x e = dx x y e := by
  obtain ⟨ρ, h0, hr, hd⟩ := r_real x
  have hS : ∑ k : Fin 1024, y k.val * xh x k.val = (∑ k : Fin 1024, x k.val * y k.val) * (ρ : EReal) := by
    rw [sum_mul _ _ h0]
    exact Finset.sum_congr rfl fun k _ => by rw [xh, hr, ← mul_assoc, mul_comm (y _)]
  rw [dx, dms, hS, hd, xh, hr, div_c1024, div_c1024, cmhalf_eq, ← EReal.coe_mul]
  generalize (∑ k : Fin 1024, x k.val * y k.val) = S
  have hl : 0 ≤ ρ * ρ * ρ / 2048 := by positivity
  have hw : x e * (S * ((-(1 / 2) * (ρ * ρ * ρ) : ℝ) : EReal) * ((1 / 1024 : ℝ) : EReal)) = -(x e * S) * ((ρ * ρ * ρ / 2048 : ℝ) : EReal) := by
    rw [mul_assoc S, ← EReal.coe_mul, show -(1 / 2) * (ρ * ρ * ρ) * (1 / 1024) = -(ρ * ρ * ρ / 2048) by ring, EReal.coe_neg,
      mul_comm S, EReal.neg_mul, mul_comm (x e), EReal.neg_mul, EReal.neg_mul, mul_comm (x e) S, mul_right_comm, mul_comm S]
    ac_rfl
  have hz : x e * (ρ : EReal) * (S * (ρ : EReal) * ((1 / 1024 : ℝ) : EReal)) * (ρ : EReal) = x e * S * ((ρ * ρ * ρ / 2048 + ρ * ρ * ρ / 2048 : ℝ) : EReal) := by
    rw [show ρ * ρ * ρ / 2048 + ρ * ρ * ρ / 2048 = ρ * ρ * (1 / 1024) * ρ by ring, EReal.coe_mul, EReal.coe_mul, EReal.coe_mul]
    ac_rfl
  rw [mul_comm _ (x e), hw, add_assoc, ← EReal.left_distrib_of_nonneg (EReal.coe_nonneg.mpr hl) (EReal.coe_nonneg.mpr hl), ← EReal.coe_add,
    sub_eq_add_neg, mul_comm (ρ : EReal) (_ + _), EReal.right_distrib_of_nonneg_of_ne_top (EReal.coe_nonneg.mpr h0) (EReal.coe_ne_top ρ),
    EReal.neg_mul, EReal.neg_mul, hz]

/-! ### Sums of tiles -/

/-- The part of a sum over the positions of a sequence that belongs to tile `q` of `w` positions. -/
def part (w : ℕ) (f : ℕ → ℕ → ℕ → EReal) (b q e : ℕ) : EReal := ∑ r : Fin w, f b (q * w + r.val) e

/-- A sum over the four tiles of a batch and their rows is the sum over its positions. -/
theorem sum_part (f : ℕ → ℕ → ℕ → EReal) (b e : ℕ) : ∑ k ∈ range 4, part 512 f b k e = ∑ s : Fin 2048, f b s.val e := by
  rw [← Fin.sum_univ_eq_sum_range (fun k => part 512 f b k e)]
  exact Fin.sum_univ_univ_mul_add 4 512 fun s => f b s e

/-- The same over all tiles of all batches. -/
theorem sum_parts (f : ℕ → ℕ → ℕ → EReal) (e : ℕ) :
    ∑ j ∈ range 16, part 512 f (j / 4) (j % 4) e = ∑ b : Fin 4, ∑ s : Fin 2048, f b.val s.val e := by
  rw [show (16 : ℕ) = 4 * 4 from rfl, Finset.sum_range_mul_divmod 4 4 (fun a k => part 512 f a k e),
    ← Fin.sum_univ_eq_sum_range (fun a => ∑ k ∈ range 4, part 512 f a k e)]
  exact Finset.sum_congr rfl fun b _ => sum_part f b.val e

/-- A sum along the two leading axes of three. -/
@[pointwise] theorem hostReduceAdd_01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  have hf : ∀ i : (⟨3, ![n0, n1, n2]⟩ : Shape).Idx, h.drop i = ix1 j ↔ ∃ k : Fin n0 × Fin n1, ix3 k.1 k.2 j = i := by
    intro i
    constructor
    · intro e
      have e2 : i 2 = j := Fin.ext (congrArg Fin.val (congrFun e 0))
      exact ⟨(i 0, i 1), by rw [← e2]; exact ix3_eta i⟩
    · rintro ⟨k, rfl⟩
      funext c
      match c with
      | ⟨0, _⟩ => rfl
  refine congrArg (init + ·) ?_
  refine (Finset.sum_filter_eq_sum_of_fiber _ (fun k : Fin n0 × Fin n1 => ix3 k.1 k.2 j)
    (fun _ _ e => Prod.ext (congrFun e 0) (congrFun e 1)) hf v).trans ?_
  simp only [Fintype.sum_prod_type]

end Cert.Norm

end
-- ==== Proof.MixinBwd.Spec.lean ====
/- The backward pass of the mixer's input projection and modulated norm as functions over the extended reals: what each
   intermediate value of both programs is at an index (batch `b`, position `s`, channel `e`). -/
module

public import proofs.«01_k».proof.Proof.NormBwd

@[expose] public section

noncomputable section

namespace Cert.Mix

open Idealize.ShloMosaic Cert.Ext Cert.Norm

/-- The argument arrays as functions of indices. -/
structure Inp where
  /-- input of the block: batch, position, channel -/
  X : ℕ → ℕ → ℕ → EReal
  /-- gain of the normalisation -/
  gn : ℕ → EReal
  /-- scale: batch, channel -/
  sc : ℕ → ℕ → EReal
  /-- weights of the projection: channel, projected channel -/
  wi : ℕ → ℕ → EReal
  /-- cotangent of the projection: batch, position, projected channel -/
  dp : ℕ → ℕ → ℕ → EReal
  /-- cotangent that reaches the block's input past the projection: batch, position, channel -/
  ct : ℕ → ℕ → ℕ → EReal

namespace Inp

variable (I : Inp)

/-- mean square of a row -/
def ms (b s : ℕ) : EReal := Ideal.div (∑ k : Fin 1024, I.X b s k.val * I.X b s k.val) c1024
def r (b s : ℕ) : EReal := Norm.r (I.X b s)
def xh (b s e : ℕ) : EReal := Norm.xh (I.X b s) e
def dh (b s e : ℕ) : EReal := ∑ k : Fin 2560, I.dp b s k.val * I.wi e k.val
/-- a row's share of the scale's gradient -/
def tsc (b s e : ℕ) : EReal := I.dh b s e * (I.xh b s e * I.gn e)
def dn (b s e : ℕ) : EReal := I.dh b s e * (1 + I.sc b e)
/-- a row's share of the gain's gradient -/
def tgn (b s e : ℕ) : EReal := I.dn b s e * I.xh b s e
def dy (b s e : ℕ) : EReal := I.dn b s e * I.gn e
def dx (b s e : ℕ) : EReal := I.ct b s e + Norm.dx (I.X b s) (I.dy b s) e

end Inp

/-! ### The blocks that the body works on -/

/-- A block of 256 positions, number `q` of batch `b`. -/
def tile (n : ℕ) (f : ℕ → ℕ → ℕ → EReal) (b q : ℕ) : (⟨2, ![256, n]⟩ : Shape).Idx → EReal := ex2 256 n fun r e => f b (q * 256 + r) e
/-- The same for one number per row. -/
def col (f : ℕ → ℕ → EReal) (b q : ℕ) : (⟨2, ![256, 1]⟩ : Shape).Idx → EReal := ex2 256 1 fun r _ => f b (q * 256 + r)
/-- A single row. -/
def row (n : ℕ) (f : ℕ → EReal) : (⟨2, ![1, n]⟩ : Shape).Idx → EReal := ex2 1 n fun _ e => f e
/-- A single row with two leading axes of length one. -/
def row3 (n : ℕ) (f : ℕ → EReal) : (⟨3, ![1, 1, n]⟩ : Shape).Idx → EReal := ex3 1 1 n fun _ _ e => f e
/-- The sum of a block's rows. -/
def part (f : ℕ → ℕ → ℕ → EReal) (b q e : ℕ) : EReal := ∑ r : Fin 256, f b (q * 256 + r.val) e

@[pointwise] theorem tile_apply (n : ℕ) (f : ℕ → ℕ → ℕ → EReal) (b q : ℕ) (r : Fin 256) (e : Fin n) :
    tile n f b q (ix2 r e) = f b (q * 256 + r.val) e.val := rfl
@[pointwise] theorem col_apply (f : ℕ → ℕ → EReal) (b q : ℕ) (r : Fin 256) (e : Fin 1) : col f b q (ix2 r e) = f b (q * 256 + r.val) := rfl
@[pointwise] theorem row_apply (n : ℕ) (f : ℕ → EReal) (r : Fin 1) (e : Fin n) : row n f (ix2 r e) = f e.val := rfl
@[pointwise] theorem row3_apply (n : ℕ) (f : ℕ → EReal) (y z : Fin 1) (e : Fin n) : row3 n f (ix3 y z e) = f e.val := rfl

/-- The sum of the rows of the two halves of a tile of 512 positions, number `q` of batch `b`. -/
def part2 (f : ℕ → ℕ → ℕ → EReal) (b q e : ℕ) : EReal := part f b (2 * q) e + part f b (2 * q + 1) e

open Finset (range)

/-- A sum over the tiles of a batch and their rows is the sum over its positions. -/
theorem sum_part2 (f : ℕ → ℕ → ℕ → EReal) (b e : ℕ) : ∑ k ∈ range 4, part2 f b k e = ∑ s : Fin 2048, f b s.val e := by
  have h : ∑ k ∈ range 4, part2 f b k e = ∑ k ∈ range 8, part f b k e := by
    simp only [part2, Finset.sum_range_succ, Finset.sum_range_zero, zero_add, add_assoc]
  rw [h, ← Fin.sum_univ_eq_sum_range (fun k => part f b k e)]
  exact Fin.sum_univ_univ_mul_add 8 256 fun s => f b s e

/-- The same over all tiles of all batches. -/
theorem sum_parts2 (f : ℕ → ℕ → ℕ → EReal) (e : ℕ) :
    ∑ j ∈ range 16, part2 f (j / 4) (j % 4) e = ∑ b : Fin 4, ∑ s : Fin 2048, f b.val s.val e := by
  rw [show (16 : ℕ) = 4 * 4 from rfl, Finset.sum_range_mul_divmod 4 4 (fun a k => part2 f a k e),
    ← Fin.sum_univ_eq_sum_range (fun a => ∑ k ∈ range 4, part2 f a k e)]
  exact Finset.sum_congr rfl fun b _ => sum_part2 f b.val e

end Cert.Mix

end
-- ==== Proof.MixinBwd.Value.lean ====
/- The backward pass of the mixer's input: the kernel's result arrays, index by index. -/
module

public import Idealize.ShloMosaic.Lib.Pipeline.ReadBack
public import proofs.«01_k».proof.Proof.MixinBwd.Spec
public import proofs.«01_k».proof.Proof.Gen.MixinBwdIdeal.Value

@[expose] public section

set_option maxRecDepth 16384

noncomputable section

namespace Cert.Mix

open Idealize.ShloMosaic Idealize.ShloMosaic.TcCoe Idealize.SL.Sem Cert.MixinBwdIdeal Cert.MixinBwdIdeal.Gen

open Cert.Ext hiding part sum_part

variable (I : Inp) (b q : ℕ)

/-! ### The body's values on one half, of 256 positions, of a tile -/

/-- The small constant, as the body carries it from one part to the next. -/
abbrev eps : Ideal .f32 := FloatOps.ofBits FTy.f32 897988541#32
/-- The squares of a row's entries. -/
def sq (b s e : ℕ) : EReal := I.X b s e * I.X b s e

theorem pay6 : k0_pay6 (F := Ideal) (tile 2560 I.dp b q) (ex2 1024 2560 I.wi) = tile 1024 I.dh b q := by
  funext j; idx_vars j; pointwise [k0_pay6]; rfl
theorem pay7 : k0_pay7 (F := Ideal) (tile 2560 I.dp b q) (ex2 1024 2560 I.wi) = tile 1024 I.dh b q := by
  funext j; idx_vars j; pointwise [k0_pay7]; rfl
theorem pay8 (f : ℕ → ℕ → ℕ → EReal) : k0_pay8 (F := Ideal) (tile 1024 f b q) = tile 1024 f b q := by
  funext j; idx_vars j; pointwise [k0_pay8]
theorem pay19 (f : ℕ → ℕ → ℕ → EReal) : k0_pay19 (F := Ideal) (tile 1024 f b q) = tile 1024 f b q := by
  funext j; idx_vars j; pointwise [k0_pay19]
theorem pay9 (f : ℕ → EReal) : k0_pay9 (F := Ideal) (row 1024 f) = row 1024 f := by
  funext j; idx_vars j; pointwise [k0_pay9]
theorem pay20 (f : ℕ → EReal) : k0_pay20 (F := Ideal) (row 1024 f) = row 1024 f := by
  funext j; idx_vars j; pointwise [k0_pay20]
theorem pay10 (f : ℕ → EReal) : k0_pay10 (F := Ideal) (row3 1024 f) = row 1024 f := by
  funext j; idx_vars j; pointwise [k0_pay10]
theorem pay21 (f : ℕ → EReal) : k0_pay21 (F := Ideal) (row3 1024 f) = row 1024 f := by
  funext j; idx_vars j; pointwise [k0_pay21]
theorem pay11 : k0_pay11 (F := Ideal) (tile 1024 I.X b q) = col I.ms b q := by
  rw [k0_pay11, pay8]; funext j; idx_vars j; pointwise []; rfl
theorem pay12 : k0_pay12 (F := Ideal) (col I.ms b q) eps = col I.r b q := by
  funext j; idx_vars j; pointwise [k0_pay12]; rfl
theorem pay13 : k0_pay13 (F := Ideal) (tile 1024 I.X b q) (col I.ms b q) eps = tile 1024 I.xh b q := by
  rw [k0_pay13, pay12]; funext j; idx_vars j; pointwise []; rfl
theorem pay14 : k0_pay14 (F := Ideal) (tile 1024 I.dh b q) (tile 1024 I.X b q) (row 1024 I.gn) (col I.ms b q) eps = row 1024 (part I.tsc b q) := by
  rw [k0_pay14, pay13]; funext j; idx_vars j; pointwise []; rfl
theorem pay15 : k0_pay15 (F := Ideal) (tile 1024 I.dh b q) = row 1024 (part I.dh b q) := by
  funext j; idx_vars j; pointwise [k0_pay15]; rfl
theorem pay16 : k0_pay16 (F := Ideal) (tile 1024 I.dh b q) (row 1024 (I.sc b)) = tile 1024 I.dn b q := by
  funext j; idx_vars j; pointwise [k0_pay16]; rfl
theorem pay17 : k0_pay17 (F := Ideal) (tile 1024 I.dh b q) (tile 1024 I.X b q) (row 1024 (I.sc b)) (col I.ms b q) eps = row 1024 (part I.tgn b q) := by
  rw [k0_pay17, pay16, pay13]; funext j; idx_vars j; pointwise []; rfl
theorem pay18 : k0_pay18 (F := Ideal) (tile 1024 I.dh b q) (tile 1024 I.X b q) (row 1024 I.gn) (row 1024 (I.sc b)) (col I.ms b q) eps (tile 1024 I.ct b q) = tile 1024 I.dx b q := by
  rw [k0_pay18, pay16, pay13, pay12]; funext j; idx_vars j; pointwise []; rfl
theorem pay22 : k0_pay22 (F := Ideal) (tile 1024 I.X b q) = tile 1024 (sq I) b q := by
  rw [k0_pay22, pay19]; funext j; idx_vars j; pointwise []; rfl
theorem pay23 : k0_pay23 (F := Ideal) (tile 1024 (sq I) b q) = col I.r b q := by
  funext j; idx_vars j; pointwise [k0_pay23]; rfl
theorem pay24 : k0_pay24 (F := Ideal) (tile 1024 I.X b q) (tile 1024 (sq I) b q) = tile 1024 I.xh b q := by
  rw [k0_pay24, pay23]; funext j; idx_vars j; pointwise []; rfl
theorem pay25 : k0_pay25 (F := Ideal) (tile 1024 I.dh b q) (row 1024 (I.sc b)) = tile 1024 I.dn b q := by
  funext j; idx_vars j; pointwise [k0_pay25]; rfl
theorem pay26 : k0_pay26 (F := Ideal) (tile 1024 I.dh b q) (tile 1024 I.X b q) (row 1024 I.gn) (row 1024 (I.sc b)) (tile 1024 (sq I) b q) (tile 1024 I.ct b q) = tile 1024 I.dx b q := by
  rw [k0_pay26, pay25, pay24, pay23]; funext j; idx_vars j; pointwise []; rfl
theorem pay27 (f : ℕ → EReal) : k0_pay27 (F := Ideal) (tile 1024 I.dh b q) (row 1024 f) (tile 1024 I.X b q) (row 1024 I.gn) (tile 1024 (sq I) b q) = row 1024 fun e => f e + part I.tsc b q e := by
  rw [k0_pay27, pay24]; funext j; idx_vars j; pointwise []; rfl
theorem pay28 (f : ℕ → EReal) : k0_pay28 (F := Ideal) (tile 1024 I.dh b q) (row 1024 f) = row 1024 fun e => f e + part I.dh b q e := by
  funext j; idx_vars j; pointwise [k0_pay28]; rfl
theorem pay29 (f : ℕ → EReal) : k0_pay29 (F := Ideal) (tile 1024 I.dh b q) (row 1024 f) (tile 1024 I.X b q) (row 1024 (I.sc b)) (tile 1024 (sq I) b q) = row 1024 fun e => f e + part I.tgn b q e := by
  rw [k0_pay29, pay25, pay24]; funext j; idx_vars j; pointwise []; rfl

/-! ### The running sums over tiles -/

theorem pay1 (f : ℕ → EReal) : k0_pay1 (F := Ideal) (row 1024 f) = row3 1024 f := by
  funext j; idx_vars j; pointwise [k0_pay1]
theorem pay3 (f : ℕ → EReal) : k0_pay3 (F := Ideal) (row 1024 f) = row3 1024 f := by
  funext j; idx_vars j; pointwise [k0_pay3]
theorem pay2 (f p : ℕ → EReal) : k0_pay2 (F := Ideal) (row 1024 f) (row3 1024 p) = row3 1024 fun e => p e + f e := by
  funext j; idx_vars j; pointwise [k0_pay2]
theorem pay4 (f p : ℕ → EReal) : k0_pay4 (F := Ideal) (row 1024 f) (row3 1024 p) = row3 1024 fun e => p e + f e := by
  funext j; idx_vars j; pointwise [k0_pay4]
theorem pay5 (f p : ℕ → EReal) : k0_pay5 (F := Ideal) (row 1024 f) (row 1024 p) = row 1024 fun e => p e + f e := by
  funext j; idx_vars j; pointwise [k0_pay5]

/-! ### The blocks that a grid point reads: point `t` has tile `t % 4` of batch `t / 4` -/

/-- A tile of 512 positions, number `q` of batch `b`. -/
abbrev big (n : ℕ) (f : ℕ → ℕ → ℕ → EReal) (b q : ℕ) : (⟨2, ![512, n]⟩ : Shape).Idx → EReal := ex2 512 n fun r e => f b (q * 512 + r) e

theorem tile_eq (f : ℕ → ℕ → ℕ → EReal) (b : ℕ) {p p' e : ℕ} (h : p = p') : f b p e = f b p' e := by
  subst h; rfl

theorem ld1024_0 (f : ℕ → ℕ → ℕ → EReal) : View.ld (Val := Elt Ideal) (S := S512x1024) (e' := .f32) (big 1024 f b q) (Rect.unit ![0, 0] ![256, 1024] inb_S512x1024_S256x1024_0_0)
    = tile 1024 f b (2 * q) := by
  funext y; idx_vars y; pointwise; exact tile_eq f b (by omega)
theorem ld1024_1 (f : ℕ → ℕ → ℕ → EReal) : View.ld (Val := Elt Ideal) (S := S512x1024) (e' := .f32) (big 1024 f b q) (Rect.unit ![256, 0] ![256, 1024] inb_S512x1024_S256x1024_256_0)
    = tile 1024 f b (2 * q + 1) := by
  funext y; idx_vars y; pointwise; exact tile_eq f b (by omega)
theorem ld2560_0 (f : ℕ → ℕ → ℕ → EReal) : View.ld (Val := Elt Ideal) (S := S512x2560) (e' := .bf16) (big 2560 f b q) (Rect.unit ![0, 0] ![256, 2560] inb_S512x2560_S256x2560_0_0)
    = tile 2560 f b (2 * q) := by
  funext y; idx_vars y; pointwise; exact tile_eq f b (by omega)
theorem ld2560_1 (f : ℕ → ℕ → ℕ → EReal) : View.ld (Val := Elt Ideal) (S := S512x2560) (e' := .bf16) (big 2560 f b q) (Rect.unit ![256, 0] ![256, 2560] inb_S512x2560_S256x2560_256_0)
    = tile 2560 f b (2 * q + 1) := by
  funext y; idx_vars y; pointwise; exact tile_eq f b (by omega)

/-- The two stores of the input's gradient. -/
abbrev L2 : List (View.Piece (Elt Ideal) S512x1024 .f32) :=
  [⟨Rect.unit ![256, 0] ![256, 1024] inb_S512x1024_S256x1024_256_0, tile 1024 I.dx b (2 * q + 1)⟩,
   ⟨Rect.unit ![0, 0] ![256, 1024] inb_S512x1024_S256x1024_0_0, tile 1024 I.dx b (2 * q)⟩]

theorem cover2 (y : S512x1024.Idx) : ∃ p ∈ L2 I b q, y ∈ p.1.set := by
  have h0 : (y 0).val < 512 := (y 0).isLt
  have h1 : (y 1).val < 1024 := (y 1).isLt
  simp only [L2, List.mem_cons, List.not_mem_nil, or_false, exists_eq_or_imp, exists_eq_left, Rect.mem_set_unit, Fin.forall_fin_succ]
  simp
  omega

theorem canon2 : View.canon (L2 I b q) = big 1024 I.dx b q := by
  funext y
  exact View.canon_append_of_piecesOf (big 1024 I.dx b q) [] (L2 I b q)
    ⟨fun x => (congrFun (ld1024_1 b q I.dx) x).symm, fun x => (congrFun (ld1024_0 b q I.dx) x).symm, trivial⟩ y (cover2 I b q y)

variable (m : (ℓ : Loc nD τ sig) → Buf (Elt Ideal) ℓ) (c : Dev nD)

/-- The argument arrays of device `c` hold `I`. -/
structure Args : Prop where
  a0 : m ((c : Thread nD τ).loc main_arg0) = ex3 4 2048 1024 I.X
  a1 : m ((c : Thread nD τ).loc main_arg1) = ex1 1024 I.gn
  a3 : m ((c : Thread nD τ).loc main_arg3) = ex2 4 1024 I.sc
  a4 : m ((c : Thread nD τ).loc main_arg4) = ex2 1024 2560 I.wi
  a5 : m ((c : Thread nD τ).loc main_arg5) = ex3 4 2048 2560 I.dp
  a6 : m ((c : Thread nD τ).loc main_arg6) = ex3 4 2048 1024 I.ct

variable {m c I}

theorem e0 (h : Args I m c) : V m c main_v0 = ex2 8192 1024 fun n e => I.ct (n / 2048) (n % 2048) e := by
  entry_read; rw [show m (c, Proc.tc.devRef main_arg6) = _ from h.a6]; funext j; idx_vars j; pointwise []
theorem e1 (h : Args I m c) : V m c main_v1 = ex2 8192 1024 fun n e => I.X (n / 2048) (n % 2048) e := by
  entry_read; rw [show m (c, Proc.tc.devRef main_arg0) = _ from h.a0]; funext j; idx_vars j; pointwise []
theorem e2 (h : Args I m c) : V m c main_v3 = ex2 8192 2560 fun n e => I.dp (n / 2048) (n % 2048) e := by
  entry_read; rw [show m (c, Proc.tc.devRef main_arg5) = _ from h.a5]; funext j; idx_vars j; pointwise []
theorem e3 (h : Args I m c) : V m c main_v4 = ex2 1 1024 fun _ e => I.gn e := by
  entry_read; rw [show m (c, Proc.tc.devRef main_arg1) = _ from h.a1]; funext j; idx_vars j; pointwise []
theorem e4 (h : Args I m c) : V m c main_v5 = ex3 4 1 1024 fun b _ e => I.sc b e := by
  entry_read; rw [show m (c, Proc.tc.devRef main_arg3) = _ from h.a3]; funext j; idx_vars j; pointwise []
theorem e5 (h : Args I m c) : V m c main_v6 = ex2 1024 2560 I.wi := by
  entry_read; rw [show m (c, Proc.tc.devRef main_arg4) = _ from h.a4]; funext j; idx_vars j; pointwise []

theorem i0 : ∀ t : Fin cfg0.N, win0_0.index t = ![t.val, 0] := (by decide +kernel : ∀ t : Fin grid0.N, win0_0.index t = ![t.val, 0])
theorem i1 : ∀ t : Fin cfg0.N, win0_1.index t = ![t.val, 0] := (by decide +kernel : ∀ t : Fin grid0.N, win0_1.index t = ![t.val, 0])
theorem i2 : ∀ t : Fin cfg0.N, win0_2.index t = ![t.val, 0] := (by decide +kernel : ∀ t : Fin grid0.N, win0_2.index t = ![t.val, 0])
theorem i3 : ∀ t : Fin cfg0.N, win0_3.index t = ![0, 0] := (by decide +kernel : ∀ t : Fin grid0.N, win0_3.index t = ![0, 0])
theorem i4 : ∀ t : Fin cfg0.N, win0_4.index t = ![t.val / 4, 0, 0] := (by decide +kernel : ∀ t : Fin grid0.N, win0_4.index t = ![t.val / 4, 0, 0])
theorem i5 : ∀ t : Fin cfg0.N, win0_5.index t = ![0, 0] := (by decide +kernel : ∀ t : Fin grid0.N, win0_5.index t = ![0, 0])
theorem i6 : ∀ t : Fin cfg0.N, win0_6.index t = ![t.val, 0] := (by decide +kernel : ∀ t : Fin grid0.N, win0_6.index t = ![t.val, 0])
theorem i7 : ∀ t : Fin cfg0.N, win0_7.index t = ![t.val / 4, 0, 0] := (by decide +kernel : ∀ t : Fin grid0.N, win0_7.index t = ![t.val / 4, 0, 0])
theorem i8 : ∀ t : Fin cfg0.N, win0_8.index t = ![t.val / 4, 0, 0] := (by decide +kernel : ∀ t : Fin grid0.N, win0_8.index t = ![t.val / 4, 0, 0])
theorem i9 : ∀ t : Fin cfg0.N, win0_9.index t = ![0, 0] := (by decide +kernel : ∀ t : Fin grid0.N, win0_9.index t = ![0, 0])

/-- The batch and the position of row `r` of tile `t`. -/
theorem pos_eq (F : ℕ → ℕ → ℕ → EReal) (t r : ℕ) (hr : r < 512) {p e e' : ℕ} (hp : p = t * 512 + r) (he : e = e') :
    F (p / 2048) (p % 2048) e = F (t / 4) (t % 4 * 512 + r) e' := by
  subst hp he
  rw [show (t * 512 + r) / 2048 = t / 4 by omega, show (t * 512 + r) % 2048 = t % 4 * 512 + r by omega]
theorem whole_eq (F : ℕ → ℕ → EReal) {a a' b b' : ℕ} (ha : a = a') (hb : b = b') : F a b = F a' b' := by
  subst ha hb; rfl

theorem b0 (h : Args I m c) (t : Fin cfg0.N) : iblk m c 0 t = big 1024 I.ct (t.val / 4) (t.val % 4) := by
  funext y; unfold iblk; idx_vars y; blk_simp; rw [show V m c (Pipeline.arrRef spec0 0) = _ from e0 h]
  exact pos_eq I.ct t.val y0.val y0.isLt (by blk_simp [i0 t]) (by blk_simp [i0 t])
theorem b1 (h : Args I m c) (t : Fin cfg0.N) : iblk m c 1 t = big 1024 I.X (t.val / 4) (t.val % 4) := by
  funext y; unfold iblk; idx_vars y; blk_simp; rw [show V m c (Pipeline.arrRef spec0 1) = _ from e1 h]
  exact pos_eq I.X t.val y0.val y0.isLt (by blk_simp [i1 t]) (by blk_simp [i1 t])
theorem b2 (h : Args I m c) (t : Fin cfg0.N) : iblk m c 2 t = big 2560 I.dp (t.val / 4) (t.val % 4) := by
  funext y; unfold iblk; idx_vars y; blk_simp; rw [show V m c (Pipeline.arrRef spec0 2) = _ from e2 h]
  exact pos_eq I.dp t.val y0.val y0.isLt (by blk_simp [i2 t]) (by blk_simp [i2 t])
theorem b3 (h : Args I m c) (t : Fin cfg0.N) : iblk m c 3 t = row 1024 I.gn := by
  funext y; unfold iblk; idx_vars y; blk_simp; rw [show V m c (Pipeline.arrRef spec0 3) = _ from e3 h]
  exact whole_eq (fun _ e => I.gn e) (rfl : y0.val = y0.val) (by blk_simp [i3 t])
theorem b4 (h : Args I m c) (t : Fin cfg0.N) : iblk m c 4 t = row3 1024 (I.sc (t.val / 4)) := by
  funext y; unfold iblk; idx_vars y; blk_simp; rw [show V m c (Pipeline.arrRef spec0 4) = _ from e4 h]
  exact whole_eq I.sc (by have := y0.isLt; blk_simp [i4 t]) (by blk_simp [i4 t])
theorem b5 (h : Args I m c) (t : Fin cfg0.N) : iblk m c 5 t = ex2 1024 2560 I.wi := by
  funext y; unfold iblk; idx_vars y; blk_simp; rw [show V m c (Pipeline.arrRef spec0 5) = _ from e5 h]
  exact whole_eq I.wi (by blk_simp [i5 t]) (by blk_simp [i5 t])

/-! ### The output blocks at each grid point: the running sums restart at the first tile of a batch, the gain's at the first point alone -/

/-- The four output blocks of tile `q` of batch `b`, the running sums given. -/
abbrev outs (I : Inp) (b q : ℕ) (ps pt pg : ℕ → EReal) :=
  ((big 1024 I.dx b q : S512x1024.Idx → Elt Ideal .f32), (row3 1024 ps : S1x1x1024.Idx → Elt Ideal .f32),
    (row3 1024 pt : S1x1x1024.Idx → Elt Ideal .f32), (row 1024 pg : S1x1024.Idx → Elt Ideal .f32))

theorem outA (h : Args I m c) (t : Fin cfg0.N) (h0 : t.val % 4 = 0) (h1 : ¬¬(t.val % 4 = 0)) (h2 : t.val % 4 = 0) (h3 : ¬¬(t.val % 4 = 0)) (h4 : t.val % 16 = 0) (h5 : ¬1 ≤ t.val) :
    outsAt0 m c t.val t.isLt = outs I (t.val / 4) (t.val % 4) (part2 I.tsc (t.val / 4) (t.val % 4)) (part2 I.dh (t.val / 4) (t.val % 4)) (part2 I.tgn (t.val / 4) (t.val % 4)) := by
  rw [outsAt0_A m c t h0 h1 h2 h3 h4 h5]
  refine Prod.ext ?_ (Prod.ext ?_ (Prod.ext ?_ ?_))
  all_goals
    dsimp only
    frame_out
    simp only [b0 h, b1 h, b2 h, b3 h, b4 h, b5 h, ld1024_0, ld1024_1, ld2560_0, ld2560_1, canon2, pay6, pay7, pay8, pay19, pay9, pay20, pay10, pay21, pay11, pay12, pay13, pay14, pay15, pay16, pay17, pay18, pay22, pay23, pay24, pay25, pay26, pay27, pay28, pay29, pay1, pay3, pay2, pay4, pay5]
    try rfl

theorem outB (h : Args I m c) (t : Fin cfg0.N) (h0 : ¬t.val % 4 = 0) (h1 : ¬(t.val % 4 = 0)) (h2 : ¬t.val % 4 = 0) (h3 : ¬(t.val % 4 = 0)) (h4 : ¬t.val % 16 = 0) (h5 : 1 ≤ t.val) {ps pt pg : ℕ → EReal}
    (eps' : (outsAt0 m c (t.val - 1) (Nat.lt_of_le_of_lt (Nat.sub_le _ _) t.isLt)).2.1 = row3 1024 ps)
    (ept : (outsAt0 m c (t.val - 1) (Nat.lt_of_le_of_lt (Nat.sub_le _ _) t.isLt)).2.2.1 = row3 1024 pt)
    (epg : (outsAt0 m c (t.val - 1) (Nat.lt_of_le_of_lt (Nat.sub_le _ _) t.isLt)).2.2.2 = row 1024 pg) :
    outsAt0 m c t.val t.isLt = outs I (t.val / 4) (t.val % 4) (fun e => ps e + part2 I.tsc (t.val / 4) (t.val % 4) e) (fun e => pt e + part2 I.dh (t.val / 4) (t.val % 4) e) (fun e => pg e + part2 I.tgn (t.val / 4) (t.val % 4) e) := by
  rw [outsAt0_B m c t h0 h1 h2 h3 h4 h5]
  refine Prod.ext ?_ (Prod.ext ?_ (Prod.ext ?_ ?_))
  all_goals
    dsimp only
    frame_out
    simp only [eps', ept, epg, b0 h, b1 h, b2 h, b3 h, b4 h, b5 h, ld1024_0, ld1024_1, ld2560_0, ld2560_1, canon2, pay6, pay7, pay8, pay19, pay9, pay20, pay10, pay21, pay11, pay12, pay13, pay14, pay15, pay16, pay17, pay18, pay22, pay23, pay24, pay25, pay26, pay27, pay28, pay29, pay1, pay3, pay2, pay4, pay5]
    try rfl

theorem outC (h : Args I m c) (t : Fin cfg0.N) (h0 : t.val % 4 = 0) (h1 : ¬¬(t.val % 4 = 0)) (h2 : t.val % 4 = 0) (h3 : ¬¬(t.val % 4 = 0)) (h4 : ¬t.val % 16 = 0) (h5 : 1 ≤ t.val) {pg : ℕ → EReal}
    (epg : (outsAt0 m c (t.val - 1) (Nat.lt_of_le_of_lt (Nat.sub_le _ _) t.isLt)).2.2.2 = row 1024 pg) :
    outsAt0 m c t.val t.isLt = outs I (t.val / 4) (t.val % 4) (part2 I.tsc (t.val / 4) (t.val % 4)) (part2 I.dh (t.val / 4) (t.val % 4)) (fun e => pg e + part2 I.tgn (t.val / 4) (t.val % 4) e) := by
  rw [outsAt0_C m c t h0 h1 h2 h3 h4 h5]
  refine Prod.ext ?_ (Prod.ext ?_ (Prod.ext ?_ ?_))
  all_goals
    dsimp only
    frame_out
    simp only [epg, b0 h, b1 h, b2 h, b3 h, b4 h, b5 h, ld1024_0, ld1024_1, ld2560_0, ld2560_1, canon2, pay6, pay7, pay8, pay19, pay9, pay20, pay10, pay21, pay11, pay12, pay13, pay14, pay15, pay16, pay17, pay18, pay22, pay23, pay24, pay25, pay26, pay27, pay28, pay29, pay1, pay3, pay2, pay4, pay5]
    try rfl

open Finset (range sum_range_succ)

/-- The output blocks at a point: each running sum goes over the tiles so far. -/
abbrev outsT (I : Inp) (n : ℕ) :=
  outs I (n / 4) (n % 4) (fun e => ∑ k ∈ range (n % 4 + 1), part2 I.tsc (n / 4) k e) (fun e => ∑ k ∈ range (n % 4 + 1), part2 I.dh (n / 4) k e)
    (fun e => ∑ j ∈ range (n + 1), part2 I.tgn (j / 4) (j % 4) e)

theorem outs_eq (h : Args I m c) : ∀ (n : ℕ) (hn : n < cfg0.N), outsAt0 m c n hn = outsT I n := by
  intro n
  induction n with
  | zero =>
    intro hn
    refine (outA h ⟨0, hn⟩ (Nat.zero_mod 4) (not_not.mpr (Nat.zero_mod 4)) (Nat.zero_mod 4) (not_not.mpr (Nat.zero_mod 4))
      (Nat.zero_mod 16) (by simp)).trans ?_
    simp
  | succ n ih =>
    intro hn
    have ih := ih (Nat.lt_of_succ_lt hn)
    have hN : n + 1 < 16 := hn
    rcases eq_or_ne ((n + 1) % 4) 0 with h8 | h8
    · refine (outC h ⟨n + 1, hn⟩ h8 (not_not.mpr h8) h8 (not_not.mpr h8) (show ¬(n + 1) % 16 = 0 by omega) (Nat.le_add_left 1 n)
        (pg := fun e => ∑ j ∈ range (n + 1), part2 I.tgn (j / 4) (j % 4) e) (congrArg (fun x => x.2.2.2) ih)).trans ?_
      simp [h8, sum_range_succ _ (n + 1)]
    · refine (outB h ⟨n + 1, hn⟩ h8 h8 h8 h8 (show ¬(n + 1) % 16 = 0 by omega) (Nat.le_add_left 1 n)
        (ps := fun e => ∑ k ∈ range (n % 4 + 1), part2 I.tsc (n / 4) k e) (pt := fun e => ∑ k ∈ range (n % 4 + 1), part2 I.dh (n / 4) k e)
        (pg := fun e => ∑ j ∈ range (n + 1), part2 I.tgn (j / 4) (j % 4) e)
        (congrArg (fun x => x.2.1) ih) (congrArg (fun x => x.2.2.1) ih) (congrArg (fun x => x.2.2.2) ih)).trans ?_
      have hq : (n + 1) % 4 = n % 4 + 1 := by omega
      have hb : (n + 1) / 4 = n / 4 := by omega
      simp only [outsT, hq, hb, sum_range_succ _ (n % 4 + 1), sum_range_succ _ (n + 1)]

/-! ### The result arrays -/

theorem a6 (h : Args I m c) : (dats m 0 c).arrAt 6 cfg0.N = ex2 8192 1024 fun n e => I.dx (n / 2048) (n % 2048) e := by
  refine (dats m 0 c).arrAt_eq_of_covers 6 _ (by decide +kernel) fun t hf y => ?_
  blk_simp
  rw [after0_6, outs_eq h]
  idx_vars y
  refine Eq.symm (pos_eq I.dx t.val y0.val y0.isLt ?_ ?_) <;> blk_simp [i6 t]
theorem a7 (h : Args I m c) : (dats m 0 c).arrAt 7 cfg0.N = ex3 4 1 1024 fun b _ e => ∑ s : Fin 2048, I.tsc b s.val e := by
  refine (dats m 0 c).arrAt_eq_of_covers 7 _ (by decide +kernel) fun t hf y => ?_
  have hf := (flush0_7 t).mp hf
  blk_simp
  rw [after0_7, outs_eq h]
  idx_vars y
  refine Eq.symm (Eq.trans (whole_eq (fun b e => ∑ s : Fin 2048, I.tsc b s.val e) (a' := t.val / 4) (b' := y2.val) ?_ ?_) ?_)
  · have := y0.isLt; blk_simp [i7 t]
  · blk_simp [i7 t]
  · rw [row3_apply, hf]; exact (sum_part2 _ _ _).symm
theorem a8 (h : Args I m c) : (dats m 0 c).arrAt 8 cfg0.N = ex3 4 1 1024 fun b _ e => ∑ s : Fin 2048, I.dh b s.val e := by
  refine (dats m 0 c).arrAt_eq_of_covers 8 _ (by decide +kernel) fun t hf y => ?_
  have hf := (flush0_8 t).mp hf
  blk_simp
  rw [after0_8, outs_eq h]
  idx_vars y
  refine Eq.symm (Eq.trans (whole_eq (fun b e => ∑ s : Fin 2048, I.dh b s.val e) (a' := t.val / 4) (b' := y2.val) ?_ ?_) ?_)
  · have := y0.isLt; blk_simp [i8 t]
  · blk_simp [i8 t]
  · rw [row3_apply, hf]; exact (sum_part2 _ _ _).symm
theorem a9 (h : Args I m c) : (dats m 0 c).arrAt 9 cfg0.N = ex2 1 1024 fun _ e => ∑ b : Fin 4, ∑ s : Fin 2048, I.tgn b.val s.val e := by
  refine (dats m 0 c).arrAt_eq_of_covers 9 _ (by decide +kernel) fun t hf y => ?_
  have hf := (flush0_9 t).mp hf
  have ht : t.val = 15 := by have : t.val < 16 := t.isLt; omega
  blk_simp
  rw [after0_9, outs_eq h]
  idx_vars y
  refine Eq.symm (Eq.trans (whole_eq (fun _ e => ∑ b : Fin 4, ∑ s : Fin 2048, I.tgn b.val s.val e) (rfl : 0 = 0) (b' := y1.val) ?_) ?_)
  · blk_simp [i9 t]
  · rw [row_apply, ht]; exact (sum_parts2 _ _).symm

end Cert.Mix

end
-- ==== Proof.MixinBwd.RefValue.lean ====
/- The reference of the mixer's input backward, array by array. -/
module

public import proofs.«01_k».proof.Proof.MixinBwd.Spec
public import proofs.«01_k».proof.Proof.Gen.MixinBwdReferenceIdeal.Read

@[expose] public section

set_option maxRecDepth 16384

noncomputable section

namespace Cert.Mix.Ref

open Idealize.ShloMosaic Cert.Ext Cert.Norm Cert.MixinBwdReferenceIdeal Cert.MixinBwdReferenceIdeal.Read

variable (I : Inp)

theorem v6 : val_main_v6 (F := Ideal) (ex3 4 2048 1024 I.X) = ex3 4 2048 1 fun b s _ => M (I.X b s) := by
  funext j; idx_vars j; pointwise [val_main_v6, val_main_v5, val_main_v4, val_main_v3, val_main_v2, val_main_v1, val_main_v0, val_main_cst, val_main_cst_0, val_main_cst_1]; rfl
theorem v7 : val_main_v7 (F := Ideal) (ex3 4 2048 1024 I.X) = ex3 4 2048 1 fun b s _ => I.r b s := by
  rw [val_main_v7, v6]; funext j; idx_vars j; pointwise []; rfl
theorem v12 : val_main_v12 (F := Ideal) (ex3 4 2048 1024 I.X) = ex3 4 2048 1024 I.xh := by
  rw [val_main_v12, val_main_v11, v7]; funext j; idx_vars j; pointwise []; rfl
theorem v15 : val_main_v15 (F := Ideal) (ex3 4 2048 1024 I.X) (ex1 1024 I.gn) = ex3 4 2048 1024 fun b s e => I.xh b s e * I.gn e := by
  rw [val_main_v15, v12]; funext j; idx_vars j; pointwise [val_main_v14, val_main_v13]
theorem v18 : val_main_v18 (F := Ideal) (ex2 4 1024 I.sc) = ex3 4 1 1024 fun b _ e => 1 + I.sc b e := by
  funext j; idx_vars j; pointwise [val_main_v18, val_main_v17, val_main_v16, val_main_cst_3]
theorem v25 : val_main_v25 (F := Ideal) (ex2 1024 2560 I.wi) (ex3 4 2048 2560 I.dp) = ex3 4 2048 1024 I.dh := by
  funext j; idx_vars j; pointwise [val_main_v25]; rfl
theorem v28 : val_main_v28 (F := Ideal) (ex2 1024 2560 I.wi) (ex3 4 2048 2560 I.dp) = ex2 4 1024 fun b e => ∑ s : Fin 2048, I.dh b s.val e := by
  rw [val_main_v28, val_main_v27, val_main_v26, v25]; funext j; idx_vars j; pointwise [val_main_cst_4, val_main_cst_5]; simp
theorem v34 : val_main_v34 (F := Ideal) (ex3 4 2048 1024 I.X) (ex1 1024 I.gn) (ex2 1024 2560 I.wi) (ex3 4 2048 2560 I.dp) = ex2 4 1024 fun b e => ∑ s : Fin 2048, I.tsc b s.val e := by
  rw [val_main_v34, val_main_v31, val_main_v30, val_main_v29, v25, v15]; funext j; idx_vars j; pointwise [val_main_cst_6, val_main_cst_7]
  simp [Inp.tsc, mul_comm]
theorem v33 : val_main_v33 (F := Ideal) (ex2 4 1024 I.sc) (ex2 1024 2560 I.wi) (ex3 4 2048 2560 I.dp) = ex3 4 2048 1024 I.dn := by
  rw [val_main_v33, val_main_v32, v25, v18]; funext j; idx_vars j; pointwise []; rfl
theorem v40 : val_main_v40 (F := Ideal) (ex3 4 2048 1024 I.X) (ex2 4 1024 I.sc) (ex2 1024 2560 I.wi) (ex3 4 2048 2560 I.dp) = ex1 1024 fun e => ∑ b : Fin 4, ∑ s : Fin 2048, I.tgn b.val s.val e := by
  rw [val_main_v40, val_main_v37, val_main_v36, val_main_v35, v33, v12]; funext j; idx_vars j; pointwise [val_main_cst_8, val_main_cst_9]
  simp [Inp.tgn, mul_comm]
theorem v39 : val_main_v39 (F := Ideal) (ex1 1024 I.gn) (ex2 4 1024 I.sc) (ex2 1024 2560 I.wi) (ex3 4 2048 2560 I.dp) = ex3 4 2048 1024 I.dy := by
  rw [val_main_v39, v33]; funext j; idx_vars j; pointwise [val_main_v38, val_main_v13]; rfl
theorem v54 : val_main_v54 (F := Ideal) (ex3 4 2048 1024 I.X) (ex1 1024 I.gn) (ex2 4 1024 I.sc) (ex2 1024 2560 I.wi) (ex3 4 2048 2560 I.dp) = ex3 4 2048 1024 fun b s e => dx (I.X b s) (I.dy b s) e := by
  rw [val_main_v54, val_main_v53, val_main_v52, val_main_v51, val_main_v45, val_main_v50, val_main_v49, val_main_v48, val_main_v46, val_main_v43, val_main_v42, val_main_v41, val_main_v44, val_main_v10, val_main_v8, v39, v7, v6]
  funext j; idx_vars j; pointwise [val_main_v9, val_main_cst_2, val_main_v47, val_main_cst_10, val_main_cst_11, val_main_cst_12]
  rw [Fin.sum_univ_one]; exact dx_eq _ _ _
theorem r0 : val_main_v56 (F := Ideal) (ex3 4 2048 1024 I.X) (ex1 1024 I.gn) (ex2 4 1024 I.sc) (ex2 1024 2560 I.wi) (ex3 4 2048 2560 I.dp) (ex3 4 2048 1024 I.ct) = ex2 8192 1024 fun n e => I.dx (n / 2048) (n % 2048) e := by
  rw [val_main_v56, val_main_v55, v54]; funext j; idx_vars j; pointwise []; rfl
theorem r1 : val_main_v57 (F := Ideal) (ex3 4 2048 1024 I.X) (ex1 1024 I.gn) (ex2 1024 2560 I.wi) (ex3 4 2048 2560 I.dp) = ex3 4 1 1024 fun b _ e => ∑ s : Fin 2048, I.tsc b s.val e := by
  rw [val_main_v57, v34]; funext j; idx_vars j; pointwise []
theorem r2 : val_main_v58 (F := Ideal) (ex2 1024 2560 I.wi) (ex3 4 2048 2560 I.dp) = ex3 4 1 1024 fun b _ e => ∑ s : Fin 2048, I.dh b s.val e := by
  rw [val_main_v58, v28]; funext j; idx_vars j; pointwise []
theorem r3 : val_main_v59 (F := Ideal) (ex3 4 2048 1024 I.X) (ex2 4 1024 I.sc) (ex2 1024 2560 I.wi) (ex3 4 2048 2560 I.dp) = ex2 1 1024 fun _ e => ∑ b : Fin 4, ∑ s : Fin 2048, I.tgn b.val s.val e := by
  rw [val_main_v59, v40]; funext j; idx_vars j; pointwise []

end Cert.Mix.Ref

end
-- ==== Proof.MixinBwd.Frames.lean ====
/- The frames of the three programs of the backward pass of the mixer's input. -/
module

public import proofs.«01_k».proof.Defs
public import proofs.«01_k».proof.Proof.Gen.MixinBwd.Frame
public import proofs.«01_k».proof.Proof.Gen.MixinBwdIdeal.Frame
public import proofs.«01_k».proof.Proof.Gen.MixinBwdIdeal.Value
public import proofs.«01_k».proof.Proof.Gen.MixinBwdReferenceIdeal.Run
public import proofs.«01_k».proof.Proof.Gen.MixinBwdReferenceIdeal.Read
public import proofs.«01_k».proof.Proof.Gen.MixinBwdReferenceIdeal
public import Idealize.ShloMosaic.Adequacy
public import Idealize.ShloMosaic.Init

@[expose] public section

noncomputable section

namespace Cert.Proof.MixinBwd

open Idealize.ShloMosaic Idealize.SL.Sem Idealize.ShloMosaic.TcCoe

theorem kernel_frame : Cert.quiescent_MixinBwd := fun m ρ _ => Cert.MixinBwd.Gen.frame m ρ
theorem kernelIdeal_frame : Cert.quiescent_MixinBwdIdeal := fun m ρ _ => Cert.MixinBwdIdeal.Gen.frame m ρ
theorem referenceIdeal_frame : Cert.quiescent_MixinBwdReferenceIdeal := fun m ρ _ =>
  (θ_run Cert.MixinBwdReferenceIdeal.defs _ _).mono (fun r h => ⟨fun c => (h c).2.2.2.2, sem_eq_zero_of_no_sems (by decide) r.2⟩)
    (Cert.MixinBwdReferenceIdeal.Value.run (F := Ideal) m ρ)

end Cert.Proof.MixinBwd

end
-- ==== Proof.MixinBwd.Algebraic.lean ====
/- The kernel's results are the reference's, on the extended reals, whatever the arguments. -/
module

public import proofs.«01_k».proof.Proof.MixinBwd.Value
public import proofs.«01_k».proof.Proof.MixinBwd.RefValue
public import proofs.«01_k».proof.Proof.MixinBwd.Frames

@[expose] public section

set_option maxRecDepth 16384

noncomputable section

namespace Cert.Proof.MixinBwd

open Idealize.ShloMosaic Idealize.ShloMosaic.TcCoe Idealize.SL.Sem Cert.Ext Cert.Mix

theorem algebraic : Cert.algebraic_MixinBwdIdeal_MixinBwdReferenceIdeal := by
  intro m g m' g' _ hargs
  choose X h0 using fun c : Dev Cert.MixinBwdIdeal.nD => exists_ex3 (n0 := 4) (n1 := 2048) (n2 := 1024) (m (((c : Dev Cert.MixinBwdIdeal.nD).tc : Thread Cert.MixinBwdIdeal.nD Cert.MixinBwdIdeal.τ).loc Cert.MixinBwdIdeal.main_arg0))
  choose gn h1 using fun c : Dev Cert.MixinBwdIdeal.nD => exists_ex1 (n0 := 1024) (m (((c : Dev Cert.MixinBwdIdeal.nD).tc : Thread Cert.MixinBwdIdeal.nD Cert.MixinBwdIdeal.τ).loc Cert.MixinBwdIdeal.main_arg1))
  choose sc h3 using fun c : Dev Cert.MixinBwdIdeal.nD => exists_ex2 (n0 := 4) (n1 := 1024) (m (((c : Dev Cert.MixinBwdIdeal.nD).tc : Thread Cert.MixinBwdIdeal.nD Cert.MixinBwdIdeal.τ).loc Cert.MixinBwdIdeal.main_arg3))
  choose wi h4 using fun c : Dev Cert.MixinBwdIdeal.nD => exists_ex2 (n0 := 1024) (n1 := 2560) (m (((c : Dev Cert.MixinBwdIdeal.nD).tc : Thread Cert.MixinBwdIdeal.nD Cert.MixinBwdIdeal.τ).loc Cert.MixinBwdIdeal.main_arg4))
  choose dp h5 using fun c : Dev Cert.MixinBwdIdeal.nD => exists_ex3 (n0 := 4) (n1 := 2048) (n2 := 2560) (m (((c : Dev Cert.MixinBwdIdeal.nD).tc : Thread Cert.MixinBwdIdeal.nD Cert.MixinBwdIdeal.τ).loc Cert.MixinBwdIdeal.main_arg5))
  choose ct h6 using fun c : Dev Cert.MixinBwdIdeal.nD => exists_ex3 (n0 := 4) (n1 := 2048) (n2 := 1024) (m (((c : Dev Cert.MixinBwdIdeal.nD).tc : Thread Cert.MixinBwdIdeal.nD Cert.MixinBwdIdeal.τ).loc Cert.MixinBwdIdeal.main_arg6))
  let I : Dev Cert.MixinBwdIdeal.nD → Inp := fun c => ⟨X c, gn c, sc c, wi c, dp c, ct c⟩
  have hA : ∀ c, Args (I c) m c := fun c => ⟨h0 c, h1 c, h3 c, h4 c, h5 c, h6 c⟩
  refine ⟨fun c => ex2 8192 1024 fun n e => (I c).dx (n / 2048) (n % 2048) e,
    fun c => ex3 4 1 1024 fun b _ e => ∑ s : Fin 2048, (I c).tsc b s.val e,
    fun c => ex3 4 1 1024 fun b _ e => ∑ s : Fin 2048, (I c).dh b s.val e,
    fun c => ex2 1 1024 fun _ e => ∑ b : Fin 4, ∑ s : Fin 2048, (I c).tgn b.val s.val e,
    (θ_run Cert.MixinBwdIdeal.defs _ _).mono (fun r h c => ?_) (Cert.MixinBwdIdeal.Value.run_blocks (F := Ideal) m g),
    (θ_run Cert.MixinBwdReferenceIdeal.defs _ _).mono (fun r h c => ?_) (Cert.MixinBwdReferenceIdeal.Value.run (F := Ideal) m' g')⟩
  · obtain ⟨r0, r1, r2, r3, hk⟩ := h c
    exact ⟨r0.trans (a6 (hA c)), r1.trans (a7 (hA c)), r2.trans (a8 (hA c)), r3.trans (a9 (hA c)), hk⟩
  · obtain ⟨r0, r1, r2, r3, hk⟩ := h c
    obtain ⟨q0, q1, q2, q3, q4, q5, q6⟩ := hargs c
    refine ⟨r0.trans ?_, r1.trans ?_, r2.trans ?_, r3.trans ?_, hk⟩
    · rw [Cert.MixinBwdReferenceIdeal.Read.val_main_v56_eq, q0, h0, q1, h1, q3, h3, q4, h4, q5, h5, q6, h6]
      exact Ref.r0 (I c)
    · rw [q0, h0, q1, h1, q4, h4, q5, h5]
      exact (Cert.MixinBwdReferenceIdeal.Read.val_main_v57_eq _ _ _ _).trans (Ref.r1 (I c))
    · rw [q4, h4, q5, h5]
      exact (Cert.MixinBwdReferenceIdeal.Read.val_main_v58_eq _ _).trans (Ref.r2 (I c))
    · rw [q0, h0, q3, h3, q4, h4, q5, h5]
      exact (Cert.MixinBwdReferenceIdeal.Read.val_main_v59_eq _ _ _ _).trans (Ref.r3 (I c))

end Cert.Proof.MixinBwd

end
-- ==== Proof.FfnHead.Forward.lean ====
/- The forward part of the last half-step: what the kernel's body computes on a tile, and the blocks that a grid point reads. -/
module

public import Idealize.ShloMosaic.Lib.Pipeline.ReadBack
public import proofs.«01_k».proof.Proof.Fwd
public import proofs.«01_k».proof.Proof.Gen.FfnHeadIdeal.Frame

@[expose] public section

set_option maxRecDepth 16384

noncomputable section

namespace Cert.Proof.FfnHead

open Idealize.ShloMosaic Idealize.ShloMosaic.TcCoe Idealize.SL.Sem Cert.Ext Cert.Fwd

section Kernel

open Cert.FfnHeadIdeal Cert.FfnHeadIdeal.Gen

/-! ### The body's values on one tile of 512 positions -/

/-- A tile, a single row, and a single row with two leading axes of length one. -/
abbrev tile (f : ℕ → ℕ → EReal) : S512x1024.Idx → Elt Ideal .f32 := ex2 512 1024 f
abbrev row (f : ℕ → EReal) : S1x1024.Idx → Elt Ideal .f32 := ex2 1 1024 fun _ => f
abbrev row3 (f : ℕ → EReal) : S1x1x1024.Idx → Elt Ideal .f32 := ex3 1 1 1024 fun _ _ => f
/-- The modulated norm of a tile. -/
abbrev hid (P : Par) (X : ℕ → ℕ → EReal) : S512x1024.Idx → Elt Ideal .bf16 := ex2 512 1024 fun r => P.h (X r)
/-- `n` columns of the weights into the hidden layer, and of the hidden layer, from column `o` on. -/
abbrev wcol (n : ℕ) (P : Par) (o : ℕ) : (⟨2, ![1024, n]⟩ : Shape).Idx → EReal := ex2 1024 n fun d f => P.wu d (o + f)
abbrev slab (n : ℕ) (P : Par) (X : ℕ → ℕ → EReal) (o : ℕ) : (⟨2, ![512, n]⟩ : Shape).Idx → EReal := ex2 512 n fun r f => P.gu (X r) (o + f)
abbrev slab3 (n : ℕ) (P : Par) (X : ℕ → ℕ → EReal) (o : ℕ) : (⟨3, ![1, 512, n]⟩ : Shape).Idx → EReal :=
  ex3 1 512 n fun _ r f => P.gu (X r) (o + f)
/-- The gate times the value in `n` columns. -/
abbrev aslab (n : ℕ) (P : Par) (X : ℕ → ℕ → EReal) (o o' : ℕ) : (⟨2, ![512, n]⟩ : Shape).Idx → EReal :=
  ex2 512 n fun r f => act (P.gu (X r) (o + f)) (P.gu (X r) (o' + f))

variable (P : Par) (X : ℕ → ℕ → EReal) (o o' : ℕ)

theorem pay5 : k0_pay5 (F := Ideal) (tile X)
    = tile X := by
  funext j; idx_vars j; pointwise [k0_pay5]
theorem pay6 : k0_pay6 (F := Ideal) (tile X) (row P.gn) (row3 P.sc) (row3 P.sh)
    = hid P X := by
  rw [k0_pay6, pay5]; funext j; idx_vars j; pointwise []; rfl
theorem pay10 : k0_pay10 (F := Ideal) (hid P X) (wcol 768 P o)
    = slab 768 P X o := by
  funext j; idx_vars j; pointwise [k0_pay10]; rfl
theorem pay14 : k0_pay14 (F := Ideal) (hid P X) (wcol 768 P o)
    = slab 768 P X o := by
  funext j; idx_vars j; pointwise [k0_pay14]; rfl
theorem pay15 : k0_pay15 (F := Ideal) (hid P X) (wcol 768 P o)
    = slab 768 P X o := by
  funext j; idx_vars j; pointwise [k0_pay15]; rfl
theorem pay20 : k0_pay20 (F := Ideal) (hid P X) (wcol 512 P o)
    = slab 512 P X o := by
  funext j; idx_vars j; pointwise [k0_pay20]; rfl
theorem pay21 : k0_pay21 (F := Ideal) (hid P X) (wcol 512 P o)
    = slab 512 P X o := by
  funext j; idx_vars j; pointwise [k0_pay21]; rfl
theorem pay17 : k0_pay17 (F := Ideal) (hid P X) (wcol 768 P o)
    = slab 768 P X o := by
  rw [k0_pay17, pay10]; funext j; idx_vars j; pointwise []
theorem pay7 : k0_pay7 (F := Ideal) (tile X) (row P.gn) (row3 P.sc) (row3 P.sh) (wcol 768 P o)
    = slab 768 P X o := by
  rw [k0_pay7, pay6]; funext j; idx_vars j; pointwise []; rfl
theorem pay8 : k0_pay8 (F := Ideal) (tile X) (row P.gn) (row3 P.sc) (row3 P.sh) (wcol 768 P o)
    = slab 768 P X o := by
  rw [k0_pay8, pay6]; funext j; idx_vars j; pointwise []; rfl
theorem pay9 : k0_pay9 (F := Ideal) (tile X) (row P.gn) (row3 P.sc) (row3 P.sh) (wcol 768 P o)
    = slab 768 P X o := by
  rw [k0_pay9, pay6]; funext j; idx_vars j; pointwise []; rfl
theorem pay11 : k0_pay11 (F := Ideal) (slab 768 P X o)
    = slab3 768 P X o := by
  funext j; idx_vars j; pointwise [k0_pay11]
theorem pay12 : k0_pay12 (F := Ideal) (slab 768 P X o)
    = slab3 768 P X o := by
  funext j; idx_vars j; pointwise [k0_pay12]
theorem pay16 : k0_pay16 (F := Ideal) (slab 768 P X o)
    = slab3 768 P X o := by
  funext j; idx_vars j; pointwise [k0_pay16]
theorem pay18 : k0_pay18 (F := Ideal) (slab 768 P X o)
    = slab3 768 P X o := by
  funext j; idx_vars j; pointwise [k0_pay18]
theorem pay22 : k0_pay22 (F := Ideal) (slab 768 P X o)
    = slab3 768 P X o := by
  funext j; idx_vars j; pointwise [k0_pay22]
theorem pay23 : k0_pay23 (F := Ideal) (slab 768 P X o)
    = slab3 768 P X o := by
  funext j; idx_vars j; pointwise [k0_pay23]
theorem pay26 : k0_pay26 (F := Ideal) (slab 512 P X o)
    = slab3 512 P X o := by
  funext j; idx_vars j; pointwise [k0_pay26]
theorem pay27 : k0_pay27 (F := Ideal) (slab 512 P X o)
    = slab3 512 P X o := by
  funext j; idx_vars j; pointwise [k0_pay27]
theorem pay13 : k0_pay13 (F := Ideal) (slab 768 P X o) (slab 768 P X o')
    = aslab 768 P X o o' := by
  funext j; idx_vars j; pointwise [k0_pay13]; rw [zero_sub]; rfl
theorem pay19 : k0_pay19 (F := Ideal) (slab 768 P X o) (slab 768 P X o')
    = aslab 768 P X o o' := by
  funext j; idx_vars j; pointwise [k0_pay19]; rw [zero_sub]; rfl
theorem pay28 : k0_pay28 (F := Ideal) (slab 512 P X o) (slab 512 P X o')
    = aslab 512 P X o o' := by
  funext j; idx_vars j; pointwise [k0_pay28]; rw [zero_sub]; rfl
theorem pay25 : k0_pay25 (F := Ideal) (slab 768 P X o) (slab 768 P X o') (k0_pay24 (slab 768 P X o)) (FloatOps.ofBits FTy.f32 1065353216#32)
    = aslab 768 P X o o' := by
  funext j; idx_vars j; pointwise [k0_pay25, k0_pay24]; rw [zero_sub]; rfl

variable (A : ℕ → ℕ → EReal) (wd : ℕ → ℕ → EReal) (gt : ℕ → EReal)

theorem pay29 : k0_pay29 (F := Ideal) (ex2 512 2816 A) (ex2 2816 1024 wd)
    = ex2 512 1024 fun r => down wd (A r) := by
  funext j; idx_vars j; pointwise [k0_pay29]; rfl
theorem pay30 : k0_pay30 (F := Ideal) (ex2 512 2816 A) (ex2 2816 1024 wd)
    = ex2 512 1024 fun r => down wd (A r) := by
  rw [k0_pay30, pay29]; funext j; idx_vars j; pointwise []
theorem pay31 : k0_pay31 (F := Ideal) (tile X) (tile A) (row3 gt)
    = tile fun r e => step (X r e) (gt e) (A r e) := by
  funext j; idx_vars j; pointwise [k0_pay31]; rfl

/-! ### Loads of the weights' columns, and the stores of the hidden layer put together -/

theorem ldw_0 : View.ld (Val := Elt Ideal) (S := S1024x5632) (e' := .bf16) (ex2 1024 5632 P.wu) (Rect.unit ![0, 0] ![1024, 768] inb_S1024x5632_S1024x768_0_0)
    = wcol 768 P 0 := by
  funext y; idx_vars y; pointwise
theorem ldw_768 : View.ld (Val := Elt Ideal) (S := S1024x5632) (e' := .bf16) (ex2 1024 5632 P.wu) (Rect.unit ![0, 768] ![1024, 768] inb_S1024x5632_S1024x768_0_768)
    = wcol 768 P 768 := by
  funext y; idx_vars y; pointwise
theorem ldw_1536 : View.ld (Val := Elt Ideal) (S := S1024x5632) (e' := .bf16) (ex2 1024 5632 P.wu) (Rect.unit ![0, 1536] ![1024, 768] inb_S1024x5632_S1024x768_0_1536)
    = wcol 768 P 1536 := by
  funext y; idx_vars y; pointwise
theorem ldw_2304 : View.ld (Val := Elt Ideal) (S := S1024x5632) (e' := .bf16) (ex2 1024 5632 P.wu) (Rect.unit ![0, 2304] ![1024, 512] inb_S1024x5632_S1024x512_0_2304)
    = wcol 512 P 2304 := by
  funext y; idx_vars y; pointwise
theorem ldw_2816 : View.ld (Val := Elt Ideal) (S := S1024x5632) (e' := .bf16) (ex2 1024 5632 P.wu) (Rect.unit ![0, 2816] ![1024, 768] inb_S1024x5632_S1024x768_0_2816)
    = wcol 768 P 2816 := by
  funext y; idx_vars y; pointwise
theorem ldw_3584 : View.ld (Val := Elt Ideal) (S := S1024x5632) (e' := .bf16) (ex2 1024 5632 P.wu) (Rect.unit ![0, 3584] ![1024, 768] inb_S1024x5632_S1024x768_0_3584)
    = wcol 768 P 3584 := by
  funext y; idx_vars y; pointwise
theorem ldw_4352 : View.ld (Val := Elt Ideal) (S := S1024x5632) (e' := .bf16) (ex2 1024 5632 P.wu) (Rect.unit ![0, 4352] ![1024, 768] inb_S1024x5632_S1024x768_0_4352)
    = wcol 768 P 4352 := by
  funext y; idx_vars y; pointwise
theorem ldw_5120 : View.ld (Val := Elt Ideal) (S := S1024x5632) (e' := .bf16) (ex2 1024 5632 P.wu) (Rect.unit ![0, 5120] ![1024, 512] inb_S1024x5632_S1024x512_0_5120)
    = wcol 512 P 5120 := by
  funext y; idx_vars y; pointwise

/-- The hidden layer of a tile: its two halves, and the gate times the value. -/
abbrev guT : S2x512x2816.Idx → Elt Ideal .bf16 := ex3 2 512 2816 fun k r f => P.gu (X r) (k * 2816 + f)
abbrev aT : S512x2816.Idx → Elt Ideal .bf16 := ex2 512 2816 fun r => P.a (X r)

/-- The eight stores of the hidden layer. -/
abbrev L8 : List (View.Piece (Elt Ideal) S2x512x2816 .bf16) :=
  [⟨Rect.unit ![1, 0, 2304] ![1, 512, 512] inb_S2x512x2816_S1x512x512_1_0_2304, slab3 512 P X 5120⟩,
   ⟨Rect.unit ![0, 0, 2304] ![1, 512, 512] inb_S2x512x2816_S1x512x512_0_0_2304, slab3 512 P X 2304⟩,
   ⟨Rect.unit ![1, 0, 1536] ![1, 512, 768] inb_S2x512x2816_S1x512x768_1_0_1536, slab3 768 P X 4352⟩,
   ⟨Rect.unit ![0, 0, 1536] ![1, 512, 768] inb_S2x512x2816_S1x512x768_0_0_1536, slab3 768 P X 1536⟩,
   ⟨Rect.unit ![1, 0, 768] ![1, 512, 768] inb_S2x512x2816_S1x512x768_1_0_768, slab3 768 P X 3584⟩,
   ⟨Rect.unit ![0, 0, 768] ![1, 512, 768] inb_S2x512x2816_S1x512x768_0_0_768, slab3 768 P X 768⟩,
   ⟨Rect.unit ![1, 0, 0] ![1, 512, 768] inb_S2x512x2816_S1x512x768_1_0_0, slab3 768 P X 2816⟩,
   ⟨Rect.unit ![0, 0, 0] ![1, 512, 768] inb_S2x512x2816_S1x512x768_0_0_0, slab3 768 P X 0⟩]

theorem cover8 (y : S2x512x2816.Idx) : ∃ p ∈ L8 P X, y ∈ p.1.set := by
  have h0 : (y 0).val < 2 := (y 0).isLt
  have h1 : (y 1).val < 512 := (y 1).isLt
  have h2 : (y 2).val < 2816 := (y 2).isLt
  simp only [L8, List.mem_cons, List.not_mem_nil, or_false, exists_eq_or_imp, exists_eq_left, Rect.mem_set_unit, Fin.forall_fin_succ]
  simp
  omega

theorem ldg_1_2304 : View.ld (Val := Elt Ideal) (S := S2x512x2816) (e' := .bf16) (guT P X) (Rect.unit ![1, 0, 2304] ![1, 512, 512] inb_S2x512x2816_S1x512x512_1_0_2304)
    = slab3 512 P X 5120 := by
  funext y; idx_vars y; pointwise <;> (refine congrArg (P.gu _) ?_; omega)
theorem ldg_0_2304 : View.ld (Val := Elt Ideal) (S := S2x512x2816) (e' := .bf16) (guT P X) (Rect.unit ![0, 0, 2304] ![1, 512, 512] inb_S2x512x2816_S1x512x512_0_0_2304)
    = slab3 512 P X 2304 := by
  funext y; idx_vars y; pointwise <;> (refine congrArg (P.gu _) ?_; omega)
theorem ldg_1_1536 : View.ld (Val := Elt Ideal) (S := S2x512x2816) (e' := .bf16) (guT P X) (Rect.unit ![1, 0, 1536] ![1, 512, 768] inb_S2x512x2816_S1x512x768_1_0_1536)
    = slab3 768 P X 4352 := by
  funext y; idx_vars y; pointwise <;> (refine congrArg (P.gu _) ?_; omega)
theorem ldg_0_1536 : View.ld (Val := Elt Ideal) (S := S2x512x2816) (e' := .bf16) (guT P X) (Rect.unit ![0, 0, 1536] ![1, 512, 768] inb_S2x512x2816_S1x512x768_0_0_1536)
    = slab3 768 P X 1536 := by
  funext y; idx_vars y; pointwise <;> (refine congrArg (P.gu _) ?_; omega)
theorem ldg_1_768 : View.ld (Val := Elt Ideal) (S := S2x512x2816) (e' := .bf16) (guT P X) (Rect.unit ![1, 0, 768] ![1, 512, 768] inb_S2x512x2816_S1x512x768_1_0_768)
    = slab3 768 P X 3584 := by
  funext y; idx_vars y; pointwise <;> (refine congrArg (P.gu _) ?_; omega)
theorem ldg_0_768 : View.ld (Val := Elt Ideal) (S := S2x512x2816) (e' := .bf16) (guT P X) (Rect.unit ![0, 0, 768] ![1, 512, 768] inb_S2x512x2816_S1x512x768_0_0_768)
    = slab3 768 P X 768 := by
  funext y; idx_vars y; pointwise <;> (refine congrArg (P.gu _) ?_; omega)
theorem ldg_1_0 : View.ld (Val := Elt Ideal) (S := S2x512x2816) (e' := .bf16) (guT P X) (Rect.unit ![1, 0, 0] ![1, 512, 768] inb_S2x512x2816_S1x512x768_1_0_0)
    = slab3 768 P X 2816 := by
  funext y; idx_vars y; pointwise <;> (refine congrArg (P.gu _) ?_; omega)
theorem ldg_0_0 : View.ld (Val := Elt Ideal) (S := S2x512x2816) (e' := .bf16) (guT P X) (Rect.unit ![0, 0, 0] ![1, 512, 768] inb_S2x512x2816_S1x512x768_0_0_0)
    = slab3 768 P X 0 := by
  funext y; idx_vars y; pointwise <;> (refine congrArg (P.gu _) ?_; omega)

theorem canon8 : View.canon (L8 P X) = guT P X := by
  funext y
  exact View.canon_append_of_piecesOf (guT P X) [] (L8 P X) ⟨fun x => (congrFun (ldg_1_2304 P X) x).symm, fun x => (congrFun (ldg_0_2304 P X) x).symm, fun x => (congrFun (ldg_1_1536 P X) x).symm, fun x => (congrFun (ldg_0_1536 P X) x).symm, fun x => (congrFun (ldg_1_768 P X) x).symm, fun x => (congrFun (ldg_0_768 P X) x).symm, fun x => (congrFun (ldg_1_0 P X) x).symm, fun x => (congrFun (ldg_0_0 P X) x).symm, trivial⟩ y (cover8 P X y)

/-- The four stores of the gate times the value. -/
abbrev L4 : List (View.Piece (Elt Ideal) S512x2816 .bf16) :=
  [⟨Rect.unit ![0, 2304] ![512, 512] inb_S512x2816_S512x512_0_2304, aslab 512 P X 2304 5120⟩,
   ⟨Rect.unit ![0, 1536] ![512, 768] inb_S512x2816_S512x768_0_1536, aslab 768 P X 1536 4352⟩,
   ⟨Rect.unit ![0, 768] ![512, 768] inb_S512x2816_S512x768_0_768, aslab 768 P X 768 3584⟩,
   ⟨Rect.unit ![0, 0] ![512, 768] inb_S512x2816_S512x768_0_0, aslab 768 P X 0 2816⟩]

theorem cover4 (y : S512x2816.Idx) : ∃ p ∈ L4 P X, y ∈ p.1.set := by
  have h0 : (y 0).val < 512 := (y 0).isLt
  have h1 : (y 1).val < 2816 := (y 1).isLt
  simp only [L4, List.mem_cons, List.not_mem_nil, or_false, exists_eq_or_imp, exists_eq_left, Rect.mem_set_unit, Fin.forall_fin_succ]
  simp
  omega

theorem lda_2304 : View.ld (Val := Elt Ideal) (S := S512x2816) (e' := .bf16) (aT P X) (Rect.unit ![0, 2304] ![512, 512] inb_S512x2816_S512x512_0_2304)
    = aslab 512 P X 2304 5120 := by
  funext y; idx_vars y; pointwise <;> (refine congrArg₂ (fun a b => act (P.gu _ a) (P.gu _ b)) ?_ ?_ <;> omega)
theorem lda_1536 : View.ld (Val := Elt Ideal) (S := S512x2816) (e' := .bf16) (aT P X) (Rect.unit ![0, 1536] ![512, 768] inb_S512x2816_S512x768_0_1536)
    = aslab 768 P X 1536 4352 := by
  funext y; idx_vars y; pointwise <;> (refine congrArg₂ (fun a b => act (P.gu _ a) (P.gu _ b)) ?_ ?_ <;> omega)
theorem lda_768 : View.ld (Val := Elt Ideal) (S := S512x2816) (e' := .bf16) (aT P X) (Rect.unit ![0, 768] ![512, 768] inb_S512x2816_S512x768_0_768)
    = aslab 768 P X 768 3584 := by
  funext y; idx_vars y; pointwise <;> (refine congrArg₂ (fun a b => act (P.gu _ a) (P.gu _ b)) ?_ ?_ <;> omega)
theorem lda_0 : View.ld (Val := Elt Ideal) (S := S512x2816) (e' := .bf16) (aT P X) (Rect.unit ![0, 0] ![512, 768] inb_S512x2816_S512x768_0_0)
    = aslab 768 P X 0 2816 := by
  funext y; idx_vars y; pointwise <;> (refine congrArg₂ (fun a b => act (P.gu _ a) (P.gu _ b)) ?_ ?_ <;> omega)

theorem canon4 : View.canon (L4 P X) = aT P X := by
  funext y
  exact View.canon_append_of_piecesOf (aT P X) [] (L4 P X) ⟨fun x => (congrFun (lda_2304 P X) x).symm, fun x => (congrFun (lda_1536 P X) x).symm, fun x => (congrFun (lda_768 P X) x).symm, fun x => (congrFun (lda_0 P X) x).symm, trivial⟩ y (cover4 P X y)

theorem rd4 (v : View sig .tc .vmem S512x2816 .bf16) :
    v.readCov (L4 P X) (Rect.unit ![0, 0] ![512, 2816] inb_S512x2816_S512x2816_0_0).toLoadRect = aT P X := by
  rw [View.readCov_eq_canon', canon4]; funext y; idx_vars y; pointwise

/-! ### The blocks that a grid point reads -/

variable (m : (ℓ : Loc nD τ sig) → Buf (Elt Ideal) ℓ) (c : Dev nD) (I : Inp) (T : ℕ → ℕ → ℕ → EReal) (fg : ℕ → EReal)

/-- The argument arrays of device `c`: those of the half-step, the target, and the gain of the final normalisation. -/
structure Args : Prop where
  a0 : m ((c : Thread nD τ).loc main_arg0) = ex3 4 2048 1024 I.X
  a1 : m ((c : Thread nD τ).loc main_arg1) = ex1 1024 I.gn
  a2 : m ((c : Thread nD τ).loc main_arg2) = ex2 4 1024 I.sh
  a3 : m ((c : Thread nD τ).loc main_arg3) = ex2 4 1024 I.sc
  a4 : m ((c : Thread nD τ).loc main_arg4) = ex2 4 1024 I.gt
  a5 : m ((c : Thread nD τ).loc main_arg5) = ex2 1024 5632 I.wu
  a6 : m ((c : Thread nD τ).loc main_arg6) = ex2 2816 1024 I.wd
  a7 : m ((c : Thread nD τ).loc main_arg7) = ex3 4 2048 1024 T
  a8 : m ((c : Thread nD τ).loc main_arg8) = ex1 1024 fg

variable {m c I T fg}

theorem e0 (h : Args m c I T fg) : V m c main_v0 = ex2 8192 1024 fun n e => I.X (n / 2048) (n % 2048) e := by
  entry_read; rw [show m (c, Proc.tc.devRef main_arg0) = _ from h.a0]; funext j; idx_vars j; pointwise []
theorem e1 (h : Args m c I T fg) : V m c main_v1 = ex2 1 1024 fun _ e => I.gn e := by
  entry_read; rw [show m (c, Proc.tc.devRef main_arg1) = _ from h.a1]; funext j; idx_vars j; pointwise []
theorem e2 (h : Args m c I T fg) : V m c main_v2 = ex3 4 1 1024 fun b _ e => I.sh b e := by
  entry_read; rw [show m (c, Proc.tc.devRef main_arg2) = _ from h.a2]; funext j; idx_vars j; pointwise []
theorem e3 (h : Args m c I T fg) : V m c main_v3 = ex3 4 1 1024 fun b _ e => I.sc b e := by
  entry_read; rw [show m (c, Proc.tc.devRef main_arg3) = _ from h.a3]; funext j; idx_vars j; pointwise []
theorem e4 (h : Args m c I T fg) : V m c main_v4 = ex3 4 1 1024 fun b _ e => I.gt b e := by
  entry_read; rw [show m (c, Proc.tc.devRef main_arg4) = _ from h.a4]; funext j; idx_vars j; pointwise []
theorem e5 (h : Args m c I T fg) : V m c main_v5 = ex2 1024 5632 I.wu := by
  entry_read; rw [show m (c, Proc.tc.devRef main_arg5) = _ from h.a5]; funext j; idx_vars j; pointwise []
theorem e6 (h : Args m c I T fg) : V m c main_v6 = ex2 2816 1024 I.wd := by
  entry_read; rw [show m (c, Proc.tc.devRef main_arg6) = _ from h.a6]; funext j; idx_vars j; pointwise []
theorem e7 (h : Args m c I T fg) : V m c main_v7 = ex2 8192 1024 fun n e => T (n / 2048) (n % 2048) e := by
  entry_read; rw [show m (c, Proc.tc.devRef main_arg7) = _ from h.a7]; funext j; idx_vars j; pointwise []
theorem e8 (h : Args m c I T fg) : V m c main_v8 = ex2 1 1024 fun _ e => fg e := by
  entry_read; rw [show m (c, Proc.tc.devRef main_arg8) = _ from h.a8]; funext j; idx_vars j; pointwise []

theorem i0 : ∀ t : Fin cfg0.N, win0_0.index t = ![t.val, 0] := (by decide +kernel : ∀ t : Fin grid0.N, win0_0.index t = ![t.val, 0])
theorem i1 : ∀ t : Fin cfg0.N, win0_1.index t = ![0, 0] := (by decide +kernel : ∀ t : Fin grid0.N, win0_1.index t = ![0, 0])
theorem i2 : ∀ t : Fin cfg0.N, win0_2.index t = ![t.val / 4, 0, 0] := (by decide +kernel : ∀ t : Fin grid0.N, win0_2.index t = ![t.val / 4, 0, 0])
theorem i3 : ∀ t : Fin cfg0.N, win0_3.index t = ![t.val / 4, 0, 0] := (by decide +kernel : ∀ t : Fin grid0.N, win0_3.index t = ![t.val / 4, 0, 0])
theorem i4 : ∀ t : Fin cfg0.N, win0_4.index t = ![t.val / 4, 0, 0] := (by decide +kernel : ∀ t : Fin grid0.N, win0_4.index t = ![t.val / 4, 0, 0])
theorem i5 : ∀ t : Fin cfg0.N, win0_5.index t = ![0, 0] := (by decide +kernel : ∀ t : Fin grid0.N, win0_5.index t = ![0, 0])
theorem i6 : ∀ t : Fin cfg0.N, win0_6.index t = ![0, 0] := (by decide +kernel : ∀ t : Fin grid0.N, win0_6.index t = ![0, 0])
theorem i7 : ∀ t : Fin cfg0.N, win0_7.index t = ![t.val, 0] := (by decide +kernel : ∀ t : Fin grid0.N, win0_7.index t = ![t.val, 0])
theorem i8 : ∀ t : Fin cfg0.N, win0_8.index t = ![0, 0] := (by decide +kernel : ∀ t : Fin grid0.N, win0_8.index t = ![0, 0])
theorem i9 : ∀ t : Fin cfg0.N, win0_9.index t = ![t.val, 0] := (by decide +kernel : ∀ t : Fin grid0.N, win0_9.index t = ![t.val, 0])
theorem i10 : ∀ t : Fin cfg0.N, win0_10.index t = ![0, t.val, 0] := (by decide +kernel : ∀ t : Fin grid0.N, win0_10.index t = ![0, t.val, 0])
theorem i11 : ∀ t : Fin cfg0.N, win0_11.index t = ![t.val, 0] := (by decide +kernel : ∀ t : Fin grid0.N, win0_11.index t = ![t.val, 0])
theorem i12 : ∀ t : Fin cfg0.N, win0_12.index t = ![t.val, 0] := (by decide +kernel : ∀ t : Fin grid0.N, win0_12.index t = ![t.val, 0])
theorem i13 : ∀ t : Fin cfg0.N, win0_13.index t = ![0, 0] := (by decide +kernel : ∀ t : Fin grid0.N, win0_13.index t = ![0, 0])
theorem i14 : ∀ t : Fin cfg0.N, win0_14.index t = ![0, 0] := (by decide +kernel : ∀ t : Fin grid0.N, win0_14.index t = ![0, 0])

theorem b0 (h : Args m c I T fg) (t : Fin cfg0.N) : iblk m c 0 t = tile (I.tile t.val) := by
  funext y; unfold iblk; idx_vars y; blk_simp; rw [show V m c (Pipeline.arrRef spec0 0) = _ from e0 h]
  exact pos_eq I.X t.val y0.val y0.isLt (by blk_simp [i0 t]) (by blk_simp [i0 t])
theorem b1 (h : Args m c I T fg) (t : Fin cfg0.N) : iblk m c 1 t = row (I.par (t.val / 4)).gn := by
  funext y; unfold iblk; idx_vars y; blk_simp; rw [show V m c (Pipeline.arrRef spec0 1) = _ from e1 h]
  exact mat_eq (fun _ e => I.gn e) (rfl : y0.val = y0.val) (by blk_simp [i1 t])
theorem b2 (h : Args m c I T fg) (t : Fin cfg0.N) : iblk m c 2 t = row3 (I.par (t.val / 4)).sh := by
  funext y; unfold iblk; idx_vars y; blk_simp; rw [show V m c (Pipeline.arrRef spec0 2) = _ from e2 h]
  exact mat_eq I.sh (by have := y0.isLt; blk_simp [i2 t]) (by blk_simp [i2 t])
theorem b3 (h : Args m c I T fg) (t : Fin cfg0.N) : iblk m c 3 t = row3 (I.par (t.val / 4)).sc := by
  funext y; unfold iblk; idx_vars y; blk_simp; rw [show V m c (Pipeline.arrRef spec0 3) = _ from e3 h]
  exact mat_eq I.sc (by have := y0.isLt; blk_simp [i3 t]) (by blk_simp [i3 t])
theorem b4 (h : Args m c I T fg) (t : Fin cfg0.N) : iblk m c 4 t = row3 (I.gt (t.val / 4)) := by
  funext y; unfold iblk; idx_vars y; blk_simp; rw [show V m c (Pipeline.arrRef spec0 4) = _ from e4 h]
  exact mat_eq I.gt (by have := y0.isLt; blk_simp [i4 t]) (by blk_simp [i4 t])
theorem b5 (h : Args m c I T fg) (t : Fin cfg0.N) : iblk m c 5 t = ex2 1024 5632 (I.par (t.val / 4)).wu := by
  funext y; unfold iblk; idx_vars y; blk_simp; rw [show V m c (Pipeline.arrRef spec0 5) = _ from e5 h]
  exact mat_eq I.wu (by blk_simp [i5 t]) (by blk_simp [i5 t])
theorem b6 (h : Args m c I T fg) (t : Fin cfg0.N) : iblk m c 6 t = ex2 2816 1024 I.wd := by
  funext y; unfold iblk; idx_vars y; blk_simp; rw [show V m c (Pipeline.arrRef spec0 6) = _ from e6 h]
  exact mat_eq I.wd (by blk_simp [i6 t]) (by blk_simp [i6 t])
theorem b7 (h : Args m c I T fg) (t : Fin cfg0.N) : iblk m c 7 t = tile fun r e => T (t.val / 4) (t.val % 4 * 512 + r) e := by
  funext y; unfold iblk; idx_vars y; blk_simp; rw [show V m c (Pipeline.arrRef spec0 7) = _ from e7 h]
  exact pos_eq T t.val y0.val y0.isLt (by blk_simp [i7 t]) (by blk_simp [i7 t])
theorem b8 (h : Args m c I T fg) (t : Fin cfg0.N) : iblk m c 8 t = row fg := by
  funext y; unfold iblk; idx_vars y; blk_simp; rw [show V m c (Pipeline.arrRef spec0 8) = _ from e8 h]
  exact mat_eq (fun _ e => fg e) (rfl : y0.val = y0.val) (by blk_simp [i8 t])

end Kernel

end Cert.Proof.FfnHead

end
-- ==== Proof.FfnHead.Spec.lean ====
/- The final norm and the loss after the last half-step as functions over the extended reals: what each intermediate value of
   both programs is at an index (batch `b`, position `s`, channel `e`). -/
module

public import proofs.«01_k».proof.Proof.NormBwd

@[expose] public section

noncomputable section

namespace Cert.Head

open Idealize.ShloMosaic Cert.Ext Cert.Norm

/-- The output of the last half-step, and the two arguments of the head. -/
structure Inp where
  /-- output of the last half-step: batch, position, channel -/
  x : ℕ → ℕ → ℕ → EReal
  /-- target: batch, position, channel -/
  tg : ℕ → ℕ → ℕ → EReal
  /-- gain of the final normalisation -/
  fg : ℕ → EReal

namespace Inp

variable (H : Inp)

def r (b s : ℕ) : EReal := Norm.r (H.x b s)
def xh (b s e : ℕ) : EReal := Norm.xh (H.x b s) e
def err (b s e : ℕ) : EReal := H.xh b s e * H.fg e - H.tg b s e
/-- a position's share of the loss: half of the mean of the squared errors -/
def loss (b s _e : ℕ) : EReal := chalf * Ideal.div (∑ k : Fin 1024, H.err b s k.val * H.err b s k.val) c1024
/-- gradient of the loss with respect to the output of the final normalisation -/
def dout (b s e : ℕ) : EReal := H.err b s e * cinv
/-- a position's share of the gain's gradient -/
def tfg (b s e : ℕ) : EReal := H.dout b s e * H.xh b s e
def dy (b s e : ℕ) : EReal := H.dout b s e * H.fg e
/-- gradient of the loss with respect to the output of the last half-step -/
def dx (b s e : ℕ) : EReal := Norm.dx (H.x b s) (H.dy b s) e

end Inp

/-- A half of a sum, divided by the number of channels, term by term. -/
theorem loss_tile {n : ℕ} (f : Fin n → EReal) : Ideal.div (chalf * ∑ r, f r) c1024 = ∑ r, chalf * Ideal.div (f r) c1024 := by
  rw [div_c1024, chalf_eq, mul_comm _ (∑ r, f r), Norm.sum_mul _ _ (by norm_num), Norm.sum_mul _ _ (by norm_num)]
  exact Finset.sum_congr rfl fun r _ => by rw [div_c1024]; ac_rfl

/-- A half of a sum, term by term. -/
theorem half_sum {n : ℕ} (f : Fin n → EReal) : chalf * ∑ r, f r = ∑ r, chalf * f r := by
  rw [chalf_eq, mul_comm _ (∑ r, f r), Norm.sum_mul _ _ (by norm_num)]
  exact Finset.sum_congr rfl fun r _ => mul_comm _ _

/-- The derivative of half of the mean square is the error over the number of channels. -/
theorem dout_eq (x : EReal) : Ideal.div chalf c1024 * (ctwo * x) = x * cinv := by
  rw [div_c1024, chalf_eq, ctwo_eq, cinv_eq, ← mul_assoc, ← EReal.coe_mul, ← EReal.coe_mul, mul_comm]
  norm_num

/-- A tile of 512 positions, number `q` of batch `b`. -/
abbrev big (f : ℕ → ℕ → ℕ → EReal) (b q : ℕ) : (⟨2, ![512, 1024]⟩ : Shape).Idx → EReal := ex2 512 1024 fun r e => f b (q * 512 + r) e

end Cert.Head

end
-- ==== Proof.FfnHead.Value.lean ====
/- The last half-step with the final norm and the loss: the kernel's result arrays, index by index. -/
module

public import proofs.«01_k».proof.Proof.FfnHead.Forward
public import proofs.«01_k».proof.Proof.FfnHead.Spec

@[expose] public section

set_option maxRecDepth 16384

noncomputable section

namespace Cert.Proof.FfnHead

open Idealize.ShloMosaic Idealize.ShloMosaic.TcCoe Idealize.SL.Sem Cert.Fwd Cert.FfnHeadIdeal Cert.FfnHeadIdeal.Gen
open Cert.Ext hiding part
open Cert.Norm (part sum_parts chalf cinv)
open Cert.Head (big loss_tile)

/-! ### The body's values of the head on one tile whose half-step has the output `H.x` -/

variable (H : Cert.Head.Inp) (b q : ℕ)

/-- A single row, and the block of the loss. -/
abbrev rowR (f : ℕ → EReal) : S1x1024.Idx → Elt Ideal .f32 := ex2 1 1024 fun _ => f
abbrev lossB (l : EReal) : S8x128.Idx → Elt Ideal .f32 := ex2 8 128 fun _ _ => l
/-- One over the number of channels, everywhere. -/
abbrev cst : S512x1024.Idx → Elt Ideal .f32 := ex2 512 1024 fun _ _ => cinv

section

variable {H b q} {v1 v131 : FVec Ideal S512x1024 .f32} {v134 : FVec Ideal S1x1x1024 .f32}

theorem pay32 (hx : k0_pay31 (F := Ideal) v1 v131 v134 = big H.x b q) :
    k0_pay32 (F := Ideal) v1 v131 v134 = ex2 512 1 fun r _ => H.r b (q * 512 + r) := by
  rw [k0_pay32, hx]; funext j; idx_vars j; pointwise []; rfl
theorem pay33 (hx : k0_pay31 (F := Ideal) v1 v131 v134 = big H.x b q) :
    k0_pay33 (F := Ideal) v1 v131 v134 = big H.xh b q := by
  rw [k0_pay33, pay32 hx, hx]; funext j; idx_vars j; pointwise []; rfl
theorem pay34 (f : ℕ → EReal) : k0_pay34 (F := Ideal) (rowR f) = rowR f := by
  funext j; idx_vars j; pointwise [k0_pay34]
theorem pay35 (hx : k0_pay31 (F := Ideal) v1 v131 v134 = big H.x b q) :
    k0_pay35 (F := Ideal) v1 v131 v134 (rowR H.fg) (big H.tg b q) = big H.err b q := by
  rw [k0_pay35, pay33 hx, pay34]; funext j; idx_vars j; pointwise []; rfl
theorem pay36 (hx : k0_pay31 (F := Ideal) v1 v131 v134 = big H.x b q) :
    k0_pay36 (F := Ideal) v1 v131 v134 (rowR H.fg) (big H.tg b q) = lossB (part 512 H.loss b q 0) := by
  rw [k0_pay36, pay35 hx]; funext j; idx_vars j; pointwise []
  exact loss_tile fun r : Fin 512 => ∑ k : Fin 1024, H.err b (q * 512 + r.val) k.val * H.err b (q * 512 + r.val) k.val
theorem pay37 (hx : k0_pay31 (F := Ideal) v1 v131 v134 = big H.x b q) (l : EReal) :
    k0_pay37 (F := Ideal) v1 v131 v134 (rowR H.fg) (big H.tg b q) (lossB l) = lossB (l + part 512 H.loss b q 0) := by
  rw [k0_pay37, pay36 hx]; funext j; idx_vars j; pointwise []

end

theorem pay38 : k0_pay38 (F := Ideal) = cst := by
  funext j; idx_vars j; pointwise [k0_pay38]
theorem pay1 : k0_pay1 (F := Ideal) (big H.err b q) cst = big H.dout b q := by
  funext j; idx_vars j; pointwise [k0_pay1]; rfl
theorem pay2 : k0_pay2 (F := Ideal) (big H.xh b q) (big H.err b q) cst = rowR (part 512 H.tfg b q) := by
  rw [k0_pay2, pay1]; funext j; idx_vars j; pointwise []; rfl
theorem pay3 (p : ℕ → EReal) : k0_pay3 (F := Ideal) (big H.xh b q) (big H.err b q) cst (rowR p) = rowR fun e => p e + part 512 H.tfg b q e := by
  rw [k0_pay3, pay2]; funext j; idx_vars j; pointwise []
theorem pay4 : k0_pay4 (F := Ideal) (ex2 512 1 fun r _ => H.r b (q * 512 + r)) (big H.xh b q) (rowR H.fg) (big H.err b q) cst = big H.dx b q := by
  rw [k0_pay4, pay1]; funext j; idx_vars j; pointwise []; rfl

/-! ### The output blocks at each grid point: the loss and the gain's gradient are running sums over all points -/

variable {H} {m : (ℓ : Loc nD τ sig) → Buf (Elt Ideal) ℓ} {c : Dev nD} {I : Inp}

/-- The arguments, whose half-step has the output `H.x`. -/
structure HArgs (m : (ℓ : Loc nD τ sig) → Buf (Elt Ideal) ℓ) (c : Dev nD) (I : Inp) (H : Cert.Head.Inp) : Prop where
  args : Args m c I H.tg H.fg
  xo : ∀ b s e, I.xo b s e = H.x b s e

theorem HArgs.b7 (h : HArgs m c I H) (t : Fin cfg0.N) : iblk m c 7 t = big H.tg (t.val / 4) (t.val % 4) := FfnHead.b7 h.args t
theorem HArgs.b8 (h : HArgs m c I H) (t : Fin cfg0.N) : iblk m c 8 t = rowR H.fg := FfnHead.b8 h.args t
theorem HArgs.xo_eq (h : HArgs m c I H) (t : ℕ) :
    k0_pay31 (F := Ideal) (tile (I.tile t)) (ex2 512 1024 fun r => down I.wd ((I.par (t / 4)).a (I.tile t r))) (row3 (I.gt (t / 4)))
      = big H.x (t / 4) (t % 4) := by
  rw [pay31 (I.tile t) (fun r => down I.wd ((I.par (t / 4)).a (I.tile t r)))]
  funext j
  exact h.xo _ _ _

/-- The six output blocks of tile `t`, the running sums given. -/
abbrev outs (I : Inp) (H : Cert.Head.Inp) (t : ℕ) (l : EReal) (g : ℕ → EReal) :=
  ((big H.dx (t / 4) (t % 4) : S512x1024.Idx → Elt Ideal .f32), guT (I.par (t / 4)) (I.tile t), aT (I.par (t / 4)) (I.tile t),
    (ex2 512 1024 fun r => down I.wd ((I.par (t / 4)).a (I.tile t r)) : S512x1024.Idx → Elt Ideal .bf16), lossB l, rowR g)

theorem outA (h : HArgs m c I H) (t : Fin cfg0.N) (h0 : t.val % 16 = 0) (h1 : ¬1 ≤ t.val) :
    outsAt0 m c t.val t.isLt = outs I H t.val (part 512 H.loss (t.val / 4) (t.val % 4) 0) (part 512 H.tfg (t.val / 4) (t.val % 4)) := by
  rw [outsAt0_A m c t h0 h1 h0 h1]
  refine Prod.ext ?_ (Prod.ext ?_ (Prod.ext ?_ (Prod.ext ?_ (Prod.ext ?_ ?_))))
  all_goals
    dsimp only
    frame_out
    simp only [b0 h.args, b1 h.args, b2 h.args, b3 h.args, b4 h.args, b5 h.args, b6 h.args, h.b7, h.b8, ldw_0, ldw_768, ldw_1536, ldw_2304,
      ldw_2816, ldw_3584, ldw_4352, ldw_5120, canon8, canon4, rd4, pay5, pay6, pay7, pay8, pay9, pay10, pay14, pay15, pay17, pay20, pay21,
      pay11, pay12, pay16, pay18, pay22, pay23, pay26, pay27, pay13, pay19, pay25, pay28, pay29, pay30,
      pay32 (h.xo_eq t.val), pay33 (h.xo_eq t.val), pay34, pay35 (h.xo_eq t.val), pay36 (h.xo_eq t.val), pay38, pay1, pay2, pay4]

theorem outB (h : HArgs m c I H) (t : Fin cfg0.N) (h0 : ¬t.val % 16 = 0) (h1 : 1 ≤ t.val) {l : EReal} {g : ℕ → EReal}
    (el : (outsAt0 m c (t.val - 1) (Nat.lt_of_le_of_lt (Nat.sub_le _ _) t.isLt)).2.2.2.2.1 = lossB l)
    (eg : (outsAt0 m c (t.val - 1) (Nat.lt_of_le_of_lt (Nat.sub_le _ _) t.isLt)).2.2.2.2.2 = rowR g) :
    outsAt0 m c t.val t.isLt = outs I H t.val (l + part 512 H.loss (t.val / 4) (t.val % 4) 0) (fun e => g e + part 512 H.tfg (t.val / 4) (t.val % 4) e) := by
  rw [outsAt0_B m c t h0 h1 h0 h1]
  refine Prod.ext ?_ (Prod.ext ?_ (Prod.ext ?_ (Prod.ext ?_ (Prod.ext ?_ ?_))))
  all_goals
    dsimp only
    frame_out
    simp only [el, eg, b0 h.args, b1 h.args, b2 h.args, b3 h.args, b4 h.args, b5 h.args, b6 h.args, h.b7, h.b8, ldw_0, ldw_768, ldw_1536, ldw_2304,
      ldw_2816, ldw_3584, ldw_4352, ldw_5120, canon8, canon4, rd4, pay5, pay6, pay7, pay8, pay9, pay10, pay14, pay15, pay17, pay20, pay21,
      pay11, pay12, pay16, pay18, pay22, pay23, pay26, pay27, pay13, pay19, pay25, pay28, pay29, pay30,
      pay32 (h.xo_eq t.val), pay33 (h.xo_eq t.val), pay34, pay35 (h.xo_eq t.val), pay37 (h.xo_eq t.val), pay38, pay1, pay3, pay4]

open Finset (range sum_range_succ)

theorem outs_eq (h : HArgs m c I H) : ∀ (n : ℕ) (hn : n < cfg0.N), outsAt0 m c n hn
    = outs I H n (∑ j ∈ range (n + 1), part 512 H.loss (j / 4) (j % 4) 0) (fun e => ∑ j ∈ range (n + 1), part 512 H.tfg (j / 4) (j % 4) e) := by
  intro n
  induction n with
  | zero =>
    intro hn
    refine (outA h ⟨0, hn⟩ (Nat.zero_mod 16) (by simp)).trans ?_
    simp
  | succ n ih =>
    intro hn
    have ih := ih (Nat.lt_of_succ_lt hn)
    have hN : n + 1 < 16 := hn
    refine (outB h ⟨n + 1, hn⟩ (show ¬(n + 1) % 16 = 0 by omega) (Nat.le_add_left 1 n) (l := ∑ j ∈ range (n + 1), part 512 H.loss (j / 4) (j % 4) 0)
      (g := fun e => ∑ j ∈ range (n + 1), part 512 H.tfg (j / 4) (j % 4) e) (congrArg (fun x => x.2.2.2.2.1) ih)
      (congrArg (fun x => x.2.2.2.2.2) ih)).trans ?_
    simp only [sum_range_succ _ (n + 1)]

/-! ### The result arrays -/

theorem a9 (h : HArgs m c I H) : (dats m 0 c).arrAt 9 cfg0.N = ex2 8192 1024 fun n e => H.dx (n / 2048) (n % 2048) e := by
  refine (dats m 0 c).arrAt_eq_of_covers 9 _ (by decide +kernel) fun t hf y => ?_
  blk_simp
  rw [after0_9, outs_eq h]
  idx_vars y
  refine Eq.symm (pos_eq H.dx t.val y0.val y0.isLt ?_ ?_) <;> blk_simp [i9 t]
theorem a10 (h : HArgs m c I H) : (dats m 0 c).arrAt 10 cfg0.N = ex3 2 8192 2816 fun k n f => I.gu (n / 2048) (n % 2048) (k * 2816 + f) := by
  refine (dats m 0 c).arrAt_eq_of_covers 10 _ (by decide +kernel) fun t hf y => ?_
  blk_simp
  rw [after0_10, outs_eq h]
  idx_vars y
  refine Eq.symm (pos_eq I.gu t.val y1.val y1.isLt (e' := y0.val * 2816 + y2.val) ?_ ?_) <;> blk_simp [i10 t]
theorem a11 (h : HArgs m c I H) : (dats m 0 c).arrAt 11 cfg0.N = ex2 8192 2816 fun n e => I.a (n / 2048) (n % 2048) e := by
  refine (dats m 0 c).arrAt_eq_of_covers 11 _ (by decide +kernel) fun t hf y => ?_
  blk_simp
  rw [after0_11, outs_eq h]
  idx_vars y
  refine Eq.symm (pos_eq I.a t.val y0.val y0.isLt ?_ ?_) <;> blk_simp [i11 t]
theorem a12 (h : HArgs m c I H) : (dats m 0 c).arrAt 12 cfg0.N = ex2 8192 1024 fun n e => I.f (n / 2048) (n % 2048) e := by
  refine (dats m 0 c).arrAt_eq_of_covers 12 _ (by decide +kernel) fun t hf y => ?_
  blk_simp
  rw [after0_12, outs_eq h]
  idx_vars y
  refine Eq.symm (pos_eq I.f t.val y0.val y0.isLt ?_ ?_) <;> blk_simp [i12 t]
theorem a13 (h : HArgs m c I H) : (dats m 0 c).arrAt 13 cfg0.N = lossB (∑ b : Fin 4, ∑ s : Fin 2048, H.loss b.val s.val 0) := by
  refine (dats m 0 c).arrAt_eq_of_covers 13 _ (by decide +kernel) fun t hf y => ?_
  have hf := (flush0_13 t).mp hf
  have ht : t.val = 15 := by have : t.val < 16 := t.isLt; omega
  blk_simp
  rw [after0_13, outs_eq h]
  idx_vars y
  rw [ht]; exact sum_parts _ _
theorem a14 (h : HArgs m c I H) : (dats m 0 c).arrAt 14 cfg0.N = rowR fun e => ∑ b : Fin 4, ∑ s : Fin 2048, H.tfg b.val s.val e := by
  refine (dats m 0 c).arrAt_eq_of_covers 14 _ (by decide +kernel) fun t hf y => ?_
  have hf := (flush0_14 t).mp hf
  have ht : t.val = 15 := by have : t.val < 16 := t.isLt; omega
  blk_simp
  rw [after0_14, outs_eq h]
  idx_vars y
  refine Eq.symm (Eq.trans (mat_eq (fun _ e => ∑ b : Fin 4, ∑ s : Fin 2048, H.tfg b.val s.val e) (rfl : 0 = 0) (b' := y1.val) ?_) ?_)
  · blk_simp [i14 t]
  · rw [ht]; exact (sum_parts _ _).symm

end Cert.Proof.FfnHead

end
-- ==== Proof.FfnHead.RefForward.lean ====
/- The forward part of the reference, index by index: the three arrays that are kept for the backward pass, and the output
   of the half-step. -/
module

public import proofs.«01_k».proof.Proof.Fwd
public import proofs.«01_k».proof.Proof.Gen.FfnHeadReferenceIdeal.Read

@[expose] public section

set_option maxRecDepth 16384

noncomputable section

namespace Cert.Proof.FfnHead

open Idealize.ShloMosaic Idealize.ShloMosaic.TcCoe Idealize.SL.Sem Cert.Ext Cert.Fwd

open Cert.FfnHeadReferenceIdeal Cert.FfnHeadReferenceIdeal.Read

variable (I : Inp)

theorem v20 : val_main_v20 (F := Ideal) (ex3 4 2048 1024 I.X) (ex1 1024 I.gn) (ex2 4 1024 I.sh) (ex2 4 1024 I.sc) = ex3 4 2048 1024 fun b s => (I.par b).h (I.X b s) := by
  funext j; idx_vars j; pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]; rfl
theorem v21 : val_main_v21 (F := Ideal) (ex3 4 2048 1024 I.X) (ex1 1024 I.gn) (ex2 4 1024 I.sh) (ex2 4 1024 I.sc) (ex2 1024 5632 I.wu) = ex3 4 2048 5632 I.gu := by
  rw [val_main_v21, v20]; funext j; idx_vars j; pointwise []; rfl
theorem v25 : val_main_v25 (F := Ideal) (ex3 4 2048 1024 I.X) (ex1 1024 I.gn) (ex2 4 1024 I.sh) (ex2 4 1024 I.sc) (ex2 1024 5632 I.wu) = ex3 4 2048 2816 I.a := by
  rw [val_main_v25, val_main_v24, val_main_v23, val_main_call0_v5, val_main_call0_v3, val_main_call0_v1, val_main_call0_v0, val_main_v22, v21]
  funext j; idx_vars j; pointwise [val_main_call0_v4, val_main_call0_cst_0, val_main_call0_v2, val_main_call0_cst]; rfl
theorem v26 : val_main_v26 (F := Ideal) (ex3 4 2048 1024 I.X) (ex1 1024 I.gn) (ex2 4 1024 I.sh) (ex2 4 1024 I.sc) (ex2 1024 5632 I.wu) (ex2 2816 1024 I.wd) = ex3 4 2048 1024 I.f := by
  rw [val_main_v26, v25]; funext j; idx_vars j; pointwise []; rfl
theorem v32 : val_main_v32 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1024 I.xo := by
  rw [val_main_v32, val_main_v31, v26]
  funext j; idx_vars j; pointwise [val_main_v30, val_main_v29, val_main_v28, val_main_v27, val_main_cst_3]; rfl
theorem v87 : val_main_v87 (F := Ideal) (ex3 4 2048 1024 I.X) (ex1 1024 I.gn) (ex2 4 1024 I.sh) (ex2 4 1024 I.sc) (ex2 1024 5632 I.wu) = ex4 2 4 2048 2816 fun k b s f => I.gu b s (k * 2816 + f) := by
  rw [val_main_v87, val_main_v86, val_main_v85, val_main_v22, val_main_v23, v21]; funext j; idx_vars j; pointwise []
  rcases (by have := j0.isLt; omega : j0.val = 0 ∨ j0.val = 1) with h | h <;> simp [h]
theorem r1 : val_main_v89 (F := Ideal) (ex3 4 2048 1024 I.X) (ex1 1024 I.gn) (ex2 4 1024 I.sh) (ex2 4 1024 I.sc) (ex2 1024 5632 I.wu) = ex3 2 8192 2816 fun k n f => I.gu (n / 2048) (n % 2048) (k * 2816 + f) := by
  rw [val_main_v89, val_main_v88, v87]; funext j; idx_vars j; pointwise []
theorem r2 : val_main_v91 (F := Ideal) (ex3 4 2048 1024 I.X) (ex1 1024 I.gn) (ex2 4 1024 I.sh) (ex2 4 1024 I.sc) (ex2 1024 5632 I.wu) = ex2 8192 2816 fun n f => I.a (n / 2048) (n % 2048) f := by
  rw [val_main_v91, val_main_v90, v25]; funext j; idx_vars j; pointwise []
theorem r3 : val_main_v93 (F := Ideal) (ex3 4 2048 1024 I.X) (ex1 1024 I.gn) (ex2 4 1024 I.sh) (ex2 4 1024 I.sc) (ex2 1024 5632 I.wu) (ex2 2816 1024 I.wd) = ex2 8192 1024 fun n e => I.f (n / 2048) (n % 2048) e := by
  rw [val_main_v93, val_main_v92, v26]; funext j; idx_vars j; pointwise []

end Cert.Proof.FfnHead

end
-- ==== Proof.FfnHead.RefValue.lean ====
/- The final norm, the loss and their derivatives in the reference, array by array. -/
module

public import proofs.«01_k».proof.Proof.FfnHead.Spec
public import proofs.«01_k».proof.Proof.FfnHead.RefForward

@[expose] public section

set_option maxRecDepth 16384

noncomputable section

namespace Cert.Proof.FfnHead

open Idealize.ShloMosaic Cert.Ext Cert.Norm Cert.FfnHeadReferenceIdeal Cert.FfnHeadReferenceIdeal.Read

variable {I : Cert.Fwd.Inp} {H : Cert.Head.Inp}

section

variable (hx : ∀ b s e, I.xo b s e = H.x b s e)
include hx

theorem v32' : val_main_v32 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1024 H.x :=
  (v32 I).trans (funext fun _ => hx _ _ _)
theorem v39 : val_main_v39 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1 fun b s _ => M (H.x b s) := by
  rw [val_main_v39, val_main_v37, val_main_v35, val_main_v34, val_main_v33, v32' hx]
  funext j; idx_vars j; pointwise [val_main_v38, val_main_v36, val_main_cst_4, val_main_cst_5, val_main_cst_6]; rfl
theorem v40 : val_main_v40 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1 fun b s _ => H.r b s := by
  rw [val_main_v40, v39 hx]; funext j; idx_vars j; pointwise []; rfl
theorem v43 : val_main_v43 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1 fun b s _ => cmhalf * Ideal.div (H.r b s) (M (H.x b s)) := by
  rw [val_main_v43, val_main_v41, v40 hx, v39 hx]; funext j; idx_vars j; pointwise [val_main_v42, val_main_cst_7]
theorem v45 : val_main_v45 (F := Ideal) (ex3 4 2048 1024 I.X) (ex1 1024 I.gn) (ex2 4 1024 I.sh) (ex2 4 1024 I.sc) (ex2 4 1024 I.gt) (ex2 1024 5632 I.wu) (ex2 2816 1024 I.wd) = ex3 4 2048 1024 H.xh := by
  rw [val_main_v45, val_main_v44, v40 hx, v32' hx]; funext j; idx_vars j; pointwise []; rfl
theorem v49 : val_main_v49 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex3 4 2048 1024 H.err := by
  rw [val_main_v49, val_main_v48, v45 hx]; funext j; idx_vars j; pointwise [val_main_v47, val_main_v46]; rfl
theorem v57 : val_main_v57 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = fun _ => ∑ b : Fin 4, ∑ s : Fin 2048, H.loss b.val s.val 0 := by
  rw [val_main_v57, val_main_v56, val_main_v55, val_main_v53, val_main_v50, v49 hx]
  funext j; rw [show j = ix0 from funext fun i => i.elim0]; pointwise [val_main_cst_12, val_main_cst_11, val_main_v54, val_main_cst_10, val_main_cst_9]
  exact (Cert.Head.half_sum _).trans (Finset.sum_congr rfl fun b _ => Cert.Head.half_sum _)
theorem v63 : val_main_v63 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex3 4 2048 1024 H.dout := by
  rw [val_main_v63, val_main_v52, v49 hx]
  funext j; idx_vars j; pointwise [val_main_v62, val_main_v61, val_main_v60, val_main_cst_15, val_main_v59, val_main_v58, val_main_cst_14, val_main_cst_13, val_main_v51, val_main_cst_8]
  exact Cert.Head.dout_eq _
theorem v69 : val_main_v69 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex1 1024 fun e => ∑ b : Fin 4, ∑ s : Fin 2048, H.tfg b.val s.val e := by
  rw [val_main_v69, val_main_v66, val_main_v65, val_main_v64, v63 hx, v45 hx]; funext j; idx_vars j; pointwise [val_main_cst_16, val_main_cst_17]
  simp [Cert.Head.Inp.tfg, mul_comm]
theorem v68 : val_main_v68 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex3 4 2048 1024 H.dy := by
  rw [val_main_v68, v63 hx]; funext j; idx_vars j; pointwise [val_main_v67, val_main_v46]; rfl
theorem v83 : val_main_v83 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex3 4 2048 1024 H.dx := by
  rw [val_main_v83, val_main_v82, val_main_v81, val_main_v80, val_main_v74, val_main_v79, val_main_v78, val_main_v77, val_main_v75, val_main_v72, val_main_v71, val_main_v70, val_main_v73, v68 hx, v43 hx, v40 hx, v32' hx]
  funext j; idx_vars j; pointwise [val_main_v76, val_main_cst_18, val_main_cst_19, val_main_cst_20]
  rw [Fin.sum_univ_one]; exact dx_eq _ _ _
theorem r0 : val_main_v84 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex2 8192 1024 fun n e => H.dx (n / 2048) (n % 2048) e := by
  rw [val_main_v84, v83 hx]; funext j; idx_vars j; pointwise []
theorem r4 : val_main_v94 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex2 8 128 fun _ _ => ∑ b : Fin 4, ∑ s : Fin 2048, H.loss b.val s.val 0 := by
  rw [val_main_v94, v57 hx]; funext j; idx_vars j; pointwise []
theorem r5 : val_main_v95 (F := Ideal) (ex3 4 2048 1024 I.X) (ex1 1024 I.gn) (ex2 4 1024 I.sh) (ex2 4 1024 I.sc) (ex2 4 1024 I.gt) (ex2 1024 5632 I.wu) (ex2 2816 1024 I.wd) (ex3 4 2048 1024 H.tg) (ex1 1024 H.fg) = ex2 1 1024 fun _ e => ∑ b : Fin 4, ∑ s : Fin 2048, H.tfg b.val s.val e := by
  rw [val_main_v95, v69 hx]; funext j; idx_vars j; pointwise []

end

end Cert.Proof.FfnHead

end
-- ==== Proof.FfnHead.Frames.lean ====
/- The frames of the three programs of the last half-step with the final norm and the loss. -/
module

public import proofs.«01_k».proof.Defs
public import proofs.«01_k».proof.Proof.Gen.FfnHead.Frame
public import proofs.«01_k».proof.Proof.Gen.FfnHeadIdeal.Frame
public import proofs.«01_k».proof.Proof.Gen.FfnHeadIdeal.Value
public import proofs.«01_k».proof.Proof.Gen.FfnHeadReferenceIdeal.Run
public import proofs.«01_k».proof.Proof.Gen.FfnHeadReferenceIdeal.Read
public import proofs.«01_k».proof.Proof.Gen.FfnHeadReferenceIdeal
public import Idealize.ShloMosaic.Adequacy
public import Idealize.ShloMosaic.Init

@[expose] public section

noncomputable section

namespace Cert.Proof.FfnHead

open Idealize.ShloMosaic Idealize.SL.Sem Idealize.ShloMosaic.TcCoe

theorem kernel_frame : Cert.quiescent_FfnHead := fun m ρ _ => Cert.FfnHead.Gen.frame m ρ
theorem kernelIdeal_frame : Cert.quiescent_FfnHeadIdeal := fun m ρ _ => Cert.FfnHeadIdeal.Gen.frame m ρ
theorem referenceIdeal_frame : Cert.quiescent_FfnHeadReferenceIdeal := fun m ρ _ =>
  (θ_run Cert.FfnHeadReferenceIdeal.defs _ _).mono (fun r h => ⟨fun c => (h c).2.2.2.2.2.2, sem_eq_zero_of_no_sems (by decide) r.2⟩)
    (Cert.FfnHeadReferenceIdeal.Value.run (F := Ideal) m ρ)

end Cert.Proof.FfnHead

end
-- ==== Proof.FfnHead.Algebraic.lean ====
/- The kernel's results are the reference's, on the extended reals, whatever the arguments. -/
module

public import proofs.«01_k».proof.Proof.FfnHead.Value
public import proofs.«01_k».proof.Proof.FfnHead.RefValue
public import proofs.«01_k».proof.Proof.FfnHead.Frames

@[expose] public section

set_option maxRecDepth 16384

noncomputable section

namespace Cert.Proof.FfnHead

open Idealize.ShloMosaic Idealize.ShloMosaic.TcCoe Idealize.SL.Sem Cert.Ext

theorem algebraic : Cert.algebraic_FfnHeadIdeal_FfnHeadReferenceIdeal := by
  intro m g m' g' _ hargs
  choose X h0 using fun c : Dev Cert.FfnHeadIdeal.nD => exists_ex3 (n0 := 4) (n1 := 2048) (n2 := 1024) (m (((c : Dev Cert.FfnHeadIdeal.nD).tc : Thread Cert.FfnHeadIdeal.nD Cert.FfnHeadIdeal.τ).loc Cert.FfnHeadIdeal.main_arg0))
  choose gn h1 using fun c : Dev Cert.FfnHeadIdeal.nD => exists_ex1 (n0 := 1024) (m (((c : Dev Cert.FfnHeadIdeal.nD).tc : Thread Cert.FfnHeadIdeal.nD Cert.FfnHeadIdeal.τ).loc Cert.FfnHeadIdeal.main_arg1))
  choose sh h2 using fun c : Dev Cert.FfnHeadIdeal.nD => exists_ex2 (n0 := 4) (n1 := 1024) (m (((c : Dev Cert.FfnHeadIdeal.nD).tc : Thread Cert.FfnHeadIdeal.nD Cert.FfnHeadIdeal.τ).loc Cert.FfnHeadIdeal.main_arg2))
  choose sc h3 using fun c : Dev Cert.FfnHeadIdeal.nD => exists_ex2 (n0 := 4) (n1 := 1024) (m (((c : Dev Cert.FfnHeadIdeal.nD).tc : Thread Cert.FfnHeadIdeal.nD Cert.FfnHeadIdeal.τ).loc Cert.FfnHeadIdeal.main_arg3))
  choose gt h4 using fun c : Dev Cert.FfnHeadIdeal.nD => exists_ex2 (n0 := 4) (n1 := 1024) (m (((c : Dev Cert.FfnHeadIdeal.nD).tc : Thread Cert.FfnHeadIdeal.nD Cert.FfnHeadIdeal.τ).loc Cert.FfnHeadIdeal.main_arg4))
  choose wu h5 using fun c : Dev Cert.FfnHeadIdeal.nD => exists_ex2 (n0 := 1024) (n1 := 5632) (m (((c : Dev Cert.FfnHeadIdeal.nD).tc : Thread Cert.FfnHeadIdeal.nD Cert.FfnHeadIdeal.τ).loc Cert.FfnHeadIdeal.main_arg5))
  choose wd h6 using fun c : Dev Cert.FfnHeadIdeal.nD => exists_ex2 (n0 := 2816) (n1 := 1024) (m (((c : Dev Cert.FfnHeadIdeal.nD).tc : Thread Cert.FfnHeadIdeal.nD Cert.FfnHeadIdeal.τ).loc Cert.FfnHeadIdeal.main_arg6))
  choose T h7 using fun c : Dev Cert.FfnHeadIdeal.nD => exists_ex3 (n0 := 4) (n1 := 2048) (n2 := 1024) (m (((c : Dev Cert.FfnHeadIdeal.nD).tc : Thread Cert.FfnHeadIdeal.nD Cert.FfnHeadIdeal.τ).loc Cert.FfnHeadIdeal.main_arg7))
  choose fg h8 using fun c : Dev Cert.FfnHeadIdeal.nD => exists_ex1 (n0 := 1024) (m (((c : Dev Cert.FfnHeadIdeal.nD).tc : Thread Cert.FfnHeadIdeal.nD Cert.FfnHeadIdeal.τ).loc Cert.FfnHeadIdeal.main_arg8))
  let I : Dev Cert.FfnHeadIdeal.nD → Cert.Fwd.Inp := fun c => ⟨X c, gn c, sh c, sc c, gt c, wu c, wd c⟩
  let H : Dev Cert.FfnHeadIdeal.nD → Cert.Head.Inp := fun c => ⟨(I c).xo, T c, fg c⟩
  have hx : ∀ c b s e, (I c).xo b s e = (H c).x b s e := fun _ _ _ _ => rfl
  have hA : ∀ c, HArgs m c (I c) (H c) := fun c => ⟨⟨h0 c, h1 c, h2 c, h3 c, h4 c, h5 c, h6 c, h7 c, h8 c⟩, hx c⟩
  refine ⟨fun c => ex2 8192 1024 fun n e => (H c).dx (n / 2048) (n % 2048) e,
    fun c => ex3 2 8192 2816 fun k n f => (I c).gu (n / 2048) (n % 2048) (k * 2816 + f),
    fun c => ex2 8192 2816 fun n f => (I c).a (n / 2048) (n % 2048) f,
    fun c => ex2 8192 1024 fun n e => (I c).f (n / 2048) (n % 2048) e,
    fun c => lossB (∑ b : Fin 4, ∑ s : Fin 2048, (H c).loss b.val s.val 0),
    fun c => rowR fun e => ∑ b : Fin 4, ∑ s : Fin 2048, (H c).tfg b.val s.val e,
    (θ_run Cert.FfnHeadIdeal.defs _ _).mono (fun r h c => ?_) (Cert.FfnHeadIdeal.Value.run_blocks (F := Ideal) m g),
    (θ_run Cert.FfnHeadReferenceIdeal.defs _ _).mono (fun r h c => ?_) (Cert.FfnHeadReferenceIdeal.Value.run (F := Ideal) m' g')⟩
  · obtain ⟨r0, r1, r2, r3, r4, r5, hk⟩ := h c
    exact ⟨r0.trans (a9 (hA c)), r1.trans (a10 (hA c)), r2.trans (a11 (hA c)), r3.trans (a12 (hA c)), r4.trans (a13 (hA c)), r5.trans (a14 (hA c)), hk⟩
  · obtain ⟨r0, r1, r2, r3, r4, r5, hk⟩ := h c
    obtain ⟨q0, q1, q2, q3, q4, q5, q6, q7, q8⟩ := hargs c
    have e0 : StableHlo.launchContents m' c (Proc.tc.devRef Cert.FfnHeadReferenceIdeal.main_arg0) = ex3 4 2048 1024 (I c).X := q0.trans (h0 c)
    have e1 : StableHlo.launchContents m' c (Proc.tc.devRef Cert.FfnHeadReferenceIdeal.main_arg1) = ex1 1024 (I c).gn := q1.trans (h1 c)
    have e2 : StableHlo.launchContents m' c (Proc.tc.devRef Cert.FfnHeadReferenceIdeal.main_arg2) = ex2 4 1024 (I c).sh := q2.trans (h2 c)
    have e3 : StableHlo.launchContents m' c (Proc.tc.devRef Cert.FfnHeadReferenceIdeal.main_arg3) = ex2 4 1024 (I c).sc := q3.trans (h3 c)
    have e4 : StableHlo.launchContents m' c (Proc.tc.devRef Cert.FfnHeadReferenceIdeal.main_arg4) = ex2 4 1024 (I c).gt := q4.trans (h4 c)
    have e5 : StableHlo.launchContents m' c (Proc.tc.devRef Cert.FfnHeadReferenceIdeal.main_arg5) = ex2 1024 5632 (I c).wu := q5.trans (h5 c)
    have e6 : StableHlo.launchContents m' c (Proc.tc.devRef Cert.FfnHeadReferenceIdeal.main_arg6) = ex2 2816 1024 (I c).wd := q6.trans (h6 c)
    have e7 : StableHlo.launchContents m' c (Proc.tc.devRef Cert.FfnHeadReferenceIdeal.main_arg7) = ex3 4 2048 1024 (H c).tg := q7.trans (h7 c)
    have e8 : StableHlo.launchContents m' c (Proc.tc.devRef Cert.FfnHeadReferenceIdeal.main_arg8) = ex1 1024 (H c).fg := q8.trans (h8 c)
    refine ⟨r0.trans ?_, r1.trans ?_, r2.trans ?_, r3.trans ?_, r4.trans ?_, r5.trans ?_, hk⟩
    · rw [Cert.FfnHeadReferenceIdeal.Read.val_main_v84_eq, e0, e1, e2, e3, e4, e5, e6, e7, e8]
      exact FfnHead.r0 (hx c)
    · rw [Cert.FfnHeadReferenceIdeal.Read.val_main_v89_eq, e0, e1, e2, e3, e5]
      exact FfnHead.r1 (I c)
    · rw [Cert.FfnHeadReferenceIdeal.Read.val_main_v91_eq, e0, e1, e2, e3, e5]
      exact FfnHead.r2 (I c)
    · rw [Cert.FfnHeadReferenceIdeal.Read.val_main_v93_eq, e0, e1, e2, e3, e5, e6]
      exact FfnHead.r3 (I c)
    · rw [Cert.FfnHeadReferenceIdeal.Read.val_main_v94_eq, e0, e1, e2, e3, e4, e5, e6, e7, e8]
      exact FfnHead.r4 (hx c)
    · rw [Cert.FfnHeadReferenceIdeal.Read.val_main_v95_eq, e0, e1, e2, e3, e4, e5, e6, e7, e8]
      exact FfnHead.r5 (hx c)

end Cert.Proof.FfnHead

end
-- ==== Proof.AdaFwd.Frames.lean ====
/- The frames of the three programs of the conditioning's projection (the AdaLN parameters). -/
module

public import proofs.«01_k».proof.Defs
public import proofs.«01_k».proof.Proof.Gen.AdaFwd.Frame
public import proofs.«01_k».proof.Proof.Gen.AdaFwdIdeal.Frame
public import proofs.«01_k».proof.Proof.Gen.AdaFwdIdeal.Value
public import proofs.«01_k».proof.Proof.Gen.AdaFwdReferenceIdeal.Run
public import proofs.«01_k».proof.Proof.Gen.AdaFwdReferenceIdeal.Read
public import proofs.«01_k».proof.Proof.Gen.AdaFwdReferenceIdeal
public import Idealize.ShloMosaic.Adequacy
public import Idealize.ShloMosaic.Init

@[expose] public section

noncomputable section

namespace Cert.Proof.AdaFwd

open Idealize.ShloMosaic Idealize.SL.Sem Idealize.ShloMosaic.TcCoe

theorem kernel_frame : Cert.quiescent_AdaFwd := fun m ρ _ => Cert.AdaFwd.Gen.frame m ρ
theorem kernelIdeal_frame : Cert.quiescent_AdaFwdIdeal := fun m ρ _ => Cert.AdaFwdIdeal.Gen.frame m ρ
theorem referenceIdeal_frame : Cert.quiescent_AdaFwdReferenceIdeal := fun m ρ _ =>
  (θ_run Cert.AdaFwdReferenceIdeal.defs _ _).mono (fun r h => ⟨fun c => (h c).2.2, sem_eq_zero_of_no_sems (by decide) r.2⟩)
    (Cert.AdaFwdReferenceIdeal.Value.run (F := Ideal) m ρ)

end Cert.Proof.AdaFwd

end
-- ==== Proof.AdaFwd.Value.lean ====
/- The conditioning's projection to the AdaLN parameters: the kernel's result arrays and the reference's, index by index. -/
module

public import Idealize.ShloMosaic.Lib.Pipeline.ReadBack
public import proofs.«01_k».proof.Proof.Fwd
public import proofs.«01_k».proof.Proof.AdaFwd.Frames

@[expose] public section

set_option maxRecDepth 16384

noncomputable section

namespace Cert.Proof.AdaFwd

open Idealize.ShloMosaic Idealize.ShloMosaic.TcCoe Idealize.SL.Sem Cert.Ext Cert.Fwd

/-- The activated conditioning. -/
def silu (x : EReal) : EReal := x * Ideal.div 1 (1 + Ideal.exp (-x))
/-- Its product with the weights of layer `l`, plus the bias. -/
def ada (C : ℕ → ℕ → EReal) (W : ℕ → ℕ → ℕ → EReal) (B : ℕ → ℕ → EReal) (l b e : ℕ) : EReal :=
  ∑ k : Fin 1024, silu (C b k.val) * W l k.val e + B l e

section Kernel

open Cert.AdaFwdIdeal Cert.AdaFwdIdeal.Gen

/-! ### The body's values on one block of 768 columns -/

theorem pay1 (C : ℕ → ℕ → EReal) : k0_pay1 (F := Ideal) (ex2 32 1024 C) = ex2 32 1024 fun b d => silu (C b d) := by
  funext j; idx_vars j; pointwise [k0_pay1]; rw [zero_sub]; rfl
theorem pay2 (C W : ℕ → ℕ → EReal) (B : ℕ → EReal) :
    k0_pay2 (F := Ideal) (ex2 32 1024 C) (ex3 1 1024 768 fun _ => W) (ex3 1 1 768 fun _ _ => B)
      = ex3 1 32 768 fun _ b e => ∑ k : Fin 1024, silu (C b k.val) * W k.val e + B e := by
  unfold k0_pay2; rw [pay1]; funext j; idx_vars j; pointwise []

/-! ### The blocks that a grid point reads -/

variable {m : (ℓ : Loc nD τ sig) → Buf (Elt Ideal) ℓ} {c : Dev nD} {C : ℕ → ℕ → EReal} {W : ℕ → ℕ → ℕ → EReal} {B : ℕ → ℕ → EReal}

/-- The argument arrays of device `c`. -/
structure Args (m : (ℓ : Loc nD τ sig) → Buf (Elt Ideal) ℓ) (c : Dev nD) (C : ℕ → ℕ → EReal) (W : ℕ → ℕ → ℕ → EReal)
    (B : ℕ → ℕ → EReal) : Prop where
  a0 : m ((c : Thread nD τ).loc main_arg0) = ex2 32 1024 C
  a1 : m ((c : Thread nD τ).loc main_arg1) = ex3 2 1024 2304 W
  a2 : m ((c : Thread nD τ).loc main_arg2) = ex2 2 2304 B

theorem cube_eq (F : ℕ → ℕ → ℕ → EReal) {a a' b b' c c' : ℕ} (ha : a = a') (hb : b = b') (hc : c = c') : F a b c = F a' b' c' := by
  subst ha hb hc; rfl

theorem e0 (h : Args m c C W B) : V m c main_arg0 = ex2 32 1024 C := by
  entry_read; exact h.a0
theorem e1 (h : Args m c C W B) : V m c main_arg1 = ex3 2 1024 2304 W := by
  entry_read; exact h.a1
theorem e2 (h : Args m c C W B) : V m c main_v0 = ex3 2 1 2304 fun l _ e => B l e := by
  entry_read; rw [show m (c, Proc.tc.devRef main_arg2) = _ from h.a2]; funext j; idx_vars j; pointwise []

theorem i0 : ∀ t : Fin cfg0.N, win0_0.index t = ![0, 0] := (by decide +kernel : ∀ t : Fin grid0.N, win0_0.index t = ![0, 0])
theorem i1 : ∀ t : Fin cfg0.N, win0_1.index t = ![t.val / 3, 0, t.val % 3] := (by decide +kernel : ∀ t : Fin grid0.N, win0_1.index t = ![t.val / 3, 0, t.val % 3])
theorem i2 : ∀ t : Fin cfg0.N, win0_2.index t = ![t.val / 3, 0, t.val % 3] := (by decide +kernel : ∀ t : Fin grid0.N, win0_2.index t = ![t.val / 3, 0, t.val % 3])
theorem i3 : ∀ t : Fin cfg0.N, win0_3.index t = ![0, 0] := (by decide +kernel : ∀ t : Fin grid0.N, win0_3.index t = ![0, 0])
theorem i4 : ∀ t : Fin cfg0.N, win0_4.index t = ![t.val / 3, 0, t.val % 3] := (by decide +kernel : ∀ t : Fin grid0.N, win0_4.index t = ![t.val / 3, 0, t.val % 3])

theorem b0 (h : Args m c C W B) (t : Fin cfg0.N) : iblk m c 0 t = ex2 32 1024 C := by
  funext y; unfold iblk; idx_vars y; blk_simp; rw [show V m c (Pipeline.arrRef spec0 0) = _ from e0 h]
  exact mat_eq C (by blk_simp [i0 t]) (by blk_simp [i0 t])
theorem b1 (h : Args m c C W B) (t : Fin cfg0.N) : iblk m c 1 t = ex3 1 1024 768 fun _ d e => W (t.val / 3) d (t.val % 3 * 768 + e) := by
  funext y; unfold iblk; idx_vars y; blk_simp; rw [show V m c (Pipeline.arrRef spec0 1) = _ from e1 h]
  exact cube_eq W (by have := y0.isLt; blk_simp [i1 t]) (by blk_simp [i1 t]) (by blk_simp [i1 t])
theorem b2 (h : Args m c C W B) (t : Fin cfg0.N) : iblk m c 2 t = ex3 1 1 768 fun _ _ e => B (t.val / 3) (t.val % 3 * 768 + e) := by
  funext y; unfold iblk; idx_vars y; blk_simp; rw [show V m c (Pipeline.arrRef spec0 2) = _ from e2 h]
  exact mat_eq B (by have := y0.isLt; blk_simp [i2 t]) (by blk_simp [i2 t])

/-! ### The result arrays -/

/-- The output block of layer `t / 3` and columns `t % 3`. -/
abbrev out (C : ℕ → ℕ → EReal) (W : ℕ → ℕ → ℕ → EReal) (B : ℕ → ℕ → EReal) (t : ℕ) : S1x32x768.Idx → Elt Ideal .f32 :=
  ex3 1 32 768 fun _ b e => ada C W B (t / 3) b (t % 3 * 768 + e)

theorem out3 (h : Args m c C W B) (t : Fin cfg0.N) :
    out0_3 (iblk m c 0 t) (iblk m c 1 t) (iblk m c 2 t) = (ex2 32 1024 fun b d => silu (C b d) : S32x1024.Idx → Elt Ideal .bf16) := by
  rw [b0 h]
  frame_out
  simp only [pay1]
theorem out4 (h : Args m c C W B) (t : Fin cfg0.N) : out0_4 (iblk m c 0 t) (iblk m c 1 t) (iblk m c 2 t) = out C W B t.val := by
  rw [b0 h, b1 h, b2 h]
  frame_out
  exact pay2 C (fun d e => W (t.val / 3) d (t.val % 3 * 768 + e)) (fun e => B (t.val / 3) (t.val % 3 * 768 + e))

theorem a3 (h : Args m c C W B) : (dats m 0 c).arrAt 3 cfg0.N = ex2 32 1024 fun b d => silu (C b d) := by
  refine (dats m 0 c).arrAt_eq_of_covers 3 _ (by decide +kernel) fun t hf y => ?_
  blk_simp
  rw [after0_3, out3 h]
  idx_vars y
  refine mat_eq (fun b d => silu (C b d)) ?_ ?_ <;> blk_simp [i3 t]
theorem a4 (h : Args m c C W B) : (dats m 0 c).arrAt 4 cfg0.N = ex3 2 32 2304 (ada C W B) := by
  refine (dats m 0 c).arrAt_eq_of_covers 4 _ (by decide +kernel) fun t hf y => ?_
  blk_simp
  rw [after0_4, out4 h]
  idx_vars y
  refine cube_eq (ada C W B) ?_ ?_ ?_ <;> have := y0.isLt <;> blk_simp [i4 t]

end Kernel

section Reference

open Cert.AdaFwdReferenceIdeal Cert.AdaFwdReferenceIdeal.Read

theorem v0 (C : ℕ → ℕ → EReal) : val_main_v0 (F := Ideal) (ex2 32 1024 C) = ex2 32 1024 fun b d => silu (C b d) := by
  funext j; idx_vars j
  pointwise [val_main_v0, val_main_call0_v5, val_main_call0_v4, val_main_call0_v3, val_main_call0_v2, val_main_call0_v1, val_main_call0_v0,
    val_main_call0_cst, val_main_call0_cst_0]
  rfl
theorem r0 (C : ℕ → ℕ → EReal) : val_main_v1 (F := Ideal) (ex2 32 1024 C) = ex2 32 1024 fun b d => silu (C b d) := by
  rw [val_main_v1, v0]; funext j; idx_vars j; pointwise []
theorem r1 (C : ℕ → ℕ → EReal) (W : ℕ → ℕ → ℕ → EReal) (B : ℕ → ℕ → EReal) :
    val_main_v6 (F := Ideal) (ex2 32 1024 C) (ex3 2 1024 2304 W) (ex2 2 2304 B) = ex3 2 32 2304 (ada C W B) := by
  rw [val_main_v6, val_main_v3, val_main_v2, v0]
  funext j; idx_vars j; pointwise [val_main_v5, val_main_v4]
  exact congrArg (· + _) (Finset.sum_congr rfl fun _ _ => mul_comm _ _)

end Reference

theorem algebraic : Cert.algebraic_AdaFwdIdeal_AdaFwdReferenceIdeal := by
  intro m g m' g' _ hargs
  choose C h0 using fun c : Dev Cert.AdaFwdIdeal.nD => exists_ex2 (n0 := 32) (n1 := 1024) (m (((c : Dev Cert.AdaFwdIdeal.nD).tc : Thread Cert.AdaFwdIdeal.nD Cert.AdaFwdIdeal.τ).loc Cert.AdaFwdIdeal.main_arg0))
  choose W h1 using fun c : Dev Cert.AdaFwdIdeal.nD => exists_ex3 (n0 := 2) (n1 := 1024) (n2 := 2304) (m (((c : Dev Cert.AdaFwdIdeal.nD).tc : Thread Cert.AdaFwdIdeal.nD Cert.AdaFwdIdeal.τ).loc Cert.AdaFwdIdeal.main_arg1))
  choose B h2 using fun c : Dev Cert.AdaFwdIdeal.nD => exists_ex2 (n0 := 2) (n1 := 2304) (m (((c : Dev Cert.AdaFwdIdeal.nD).tc : Thread Cert.AdaFwdIdeal.nD Cert.AdaFwdIdeal.τ).loc Cert.AdaFwdIdeal.main_arg2))
  have hA : ∀ c, Args m c (C c) (W c) (B c) := fun c => ⟨h0 c, h1 c, h2 c⟩
  refine ⟨fun c => ex2 32 1024 fun b d => silu (C c b d), fun c => ex3 2 32 2304 (ada (C c) (W c) (B c)),
    (θ_run Cert.AdaFwdIdeal.defs _ _).mono (fun r h c => ?_) (Cert.AdaFwdIdeal.Value.run_blocks (F := Ideal) m g),
    (θ_run Cert.AdaFwdReferenceIdeal.defs _ _).mono (fun r h c => ?_) (Cert.AdaFwdReferenceIdeal.Value.run (F := Ideal) m' g')⟩
  · obtain ⟨r0, r1, hk⟩ := h c
    exact ⟨r0.trans (a3 (hA c)), r1.trans (a4 (hA c)), hk⟩
  · obtain ⟨r0, r1, hk⟩ := h c
    have q := hargs c
    refine ⟨r0.trans ?_, r1.trans ?_, hk⟩
    · rw [Cert.AdaFwdReferenceIdeal.Read.val_main_v1_eq, q.1, h0]
      exact AdaFwd.r0 (C c)
    · rw [Cert.AdaFwdReferenceIdeal.Read.val_main_v6_eq, q.1, h0, q.2.1, h1, q.2.2, h2]
      exact AdaFwd.r1 (C c) (W c) (B c)

end Cert.Proof.AdaFwd

end
-- ==== Proof.AdaBwd.Frames.lean ====
/- The frames of the three programs of the gradient of the conditioning's weights. -/
module

public import proofs.«01_k».proof.Defs
public import proofs.«01_k».proof.Proof.Gen.AdaBwd.Frame
public import proofs.«01_k».proof.Proof.Gen.AdaBwdIdeal.Frame
public import proofs.«01_k».proof.Proof.Gen.AdaBwdIdeal.Value
public import proofs.«01_k».proof.Proof.Gen.AdaBwdReferenceIdeal.Run
public import proofs.«01_k».proof.Proof.Gen.AdaBwdReferenceIdeal.Read
public import proofs.«01_k».proof.Proof.Gen.AdaBwdReferenceIdeal
public import Idealize.ShloMosaic.Adequacy
public import Idealize.ShloMosaic.Init

@[expose] public section

noncomputable section

namespace Cert.Proof.AdaBwd

open Idealize.ShloMosaic Idealize.SL.Sem Idealize.ShloMosaic.TcCoe

theorem kernel_frame : Cert.quiescent_AdaBwd := fun m ρ _ => Cert.AdaBwd.Gen.frame m ρ
theorem kernelIdeal_frame : Cert.quiescent_AdaBwdIdeal := fun m ρ _ => Cert.AdaBwdIdeal.Gen.frame m ρ
theorem referenceIdeal_frame : Cert.quiescent_AdaBwdReferenceIdeal := fun m ρ _ =>
  (θ_run Cert.AdaBwdReferenceIdeal.defs _ _).mono (fun r h => ⟨fun c => (h c).2, sem_eq_zero_of_no_sems (by decide) r.2⟩)
    (Cert.AdaBwdReferenceIdeal.Value.run (F := Ideal) m ρ)

end Cert.Proof.AdaBwd

end
-- ==== Proof.AdaBwd.Value.lean ====
/- The gradient of the conditioning's weights: the kernel's result array and the reference's, index by index. -/
module

public import Idealize.ShloMosaic.Lib.Pipeline.ReadBack
public import proofs.«01_k».proof.Proof.Fwd
public import proofs.«01_k».proof.Proof.AdaBwd.Frames

@[expose] public section

set_option maxRecDepth 16384

noncomputable section

namespace Cert.Proof.AdaBwd

open Idealize.ShloMosaic Idealize.ShloMosaic.TcCoe Idealize.SL.Sem Cert.Ext Cert.Fwd

/-- The gradient of a weight of layer `l`: the products, added up over the batch. -/
def grad (C : ℕ → ℕ → EReal) (G : ℕ → ℕ → ℕ → EReal) (l d e : ℕ) : EReal := ∑ b : Fin 32, C b.val d * G l b.val e

section Kernel

open Cert.AdaBwdIdeal Cert.AdaBwdIdeal.Gen

theorem pay1 (C G : ℕ → ℕ → EReal) : k0_pay1 (F := Ideal) (ex2 32 1024 C) (ex3 1 32 768 fun _ => G)
    = ex3 1 1024 768 fun _ d e => ∑ b : Fin 32, C b.val d * G b.val e := by
  funext j; idx_vars j; pointwise [k0_pay1]

variable {m : (ℓ : Loc nD τ sig) → Buf (Elt Ideal) ℓ} {c : Dev nD} {C : ℕ → ℕ → EReal} {G : ℕ → ℕ → ℕ → EReal}

/-- The argument arrays of device `c`. -/
structure Args (m : (ℓ : Loc nD τ sig) → Buf (Elt Ideal) ℓ) (c : Dev nD) (C : ℕ → ℕ → EReal) (G : ℕ → ℕ → ℕ → EReal) : Prop where
  a0 : m ((c : Thread nD τ).loc main_arg0) = ex2 32 1024 C
  a1 : m ((c : Thread nD τ).loc main_arg1) = ex3 2 32 2304 G

theorem cube_eq (F : ℕ → ℕ → ℕ → EReal) {a a' b b' c c' : ℕ} (ha : a = a') (hb : b = b') (hc : c = c') : F a b c = F a' b' c' := by
  subst ha hb hc; rfl

theorem e0 (h : Args m c C G) : V m c main_v0 = ex2 32 1024 C := by
  entry_read; rw [show m (c, Proc.tc.devRef main_arg0) = _ from h.a0]; funext j; idx_vars j; pointwise []
theorem e1 (h : Args m c C G) : V m c main_v1 = ex3 2 32 2304 G := by
  entry_read; rw [show m (c, Proc.tc.devRef main_arg1) = _ from h.a1]; funext j; idx_vars j; pointwise []

theorem i0 : ∀ t : Fin cfg0.N, win0_0.index t = ![0, 0] := (by decide +kernel : ∀ t : Fin grid0.N, win0_0.index t = ![0, 0])
theorem i1 : ∀ t : Fin cfg0.N, win0_1.index t = ![t.val / 3, 0, t.val % 3] := (by decide +kernel : ∀ t : Fin grid0.N, win0_1.index t = ![t.val / 3, 0, t.val % 3])
theorem i2 : ∀ t : Fin cfg0.N, win0_2.index t = ![t.val / 3, 0, t.val % 3] := (by decide +kernel : ∀ t : Fin grid0.N, win0_2.index t = ![t.val / 3, 0, t.val % 3])

theorem b0 (h : Args m c C G) (t : Fin cfg0.N) : iblk m c 0 t = ex2 32 1024 C := by
  funext y; unfold iblk; idx_vars y; blk_simp; rw [show V m c (Pipeline.arrRef spec0 0) = _ from e0 h]
  exact mat_eq C (by blk_simp [i0 t]) (by blk_simp [i0 t])
theorem b1 (h : Args m c C G) (t : Fin cfg0.N) : iblk m c 1 t = ex3 1 32 768 fun _ b e => G (t.val / 3) b (t.val % 3 * 768 + e) := by
  funext y; unfold iblk; idx_vars y; blk_simp; rw [show V m c (Pipeline.arrRef spec0 1) = _ from e1 h]
  exact cube_eq G (by have := y0.isLt; blk_simp [i1 t]) (by blk_simp [i1 t]) (by blk_simp [i1 t])

/-- The output block of layer `t / 3` and columns `t % 3`. -/
abbrev out (C : ℕ → ℕ → EReal) (G : ℕ → ℕ → ℕ → EReal) (t : ℕ) : S1x1024x768.Idx → Elt Ideal .f32 :=
  ex3 1 1024 768 fun _ d e => grad C G (t / 3) d (t % 3 * 768 + e)

theorem out2 (h : Args m c C G) (t : Fin cfg0.N) : out0_2 (iblk m c 0 t) (iblk m c 1 t) = out C G t.val := by
  rw [b0 h, b1 h]
  frame_out
  exact pay1 C fun b e => G (t.val / 3) b (t.val % 3 * 768 + e)

/-- The result array after the run. -/
theorem a2 (h : Args m c C G) : (dats m 0 c).arrAt 2 cfg0.N = ex3 2 1024 2304 (grad C G) := by
  refine (dats m 0 c).arrAt_eq_of_covers 2 _ (by decide +kernel) fun t hf y => ?_
  blk_simp
  rw [after0_2, out2 h]
  idx_vars y
  refine cube_eq (grad C G) ?_ ?_ ?_ <;> have := y0.isLt <;> blk_simp [i2 t]

end Kernel

section Reference

open Cert.AdaBwdReferenceIdeal Cert.AdaBwdReferenceIdeal.Read

theorem ref (C : ℕ → ℕ → EReal) (G : ℕ → ℕ → ℕ → EReal) :
    val_main_v5 (F := Ideal) (ex2 32 1024 C) (ex3 2 32 2304 G) = ex3 2 1024 2304 (grad C G) := by
  funext j; idx_vars j; pointwise [val_main_v5, val_main_v4, val_main_v3]
  exact Finset.sum_congr rfl fun _ _ => mul_comm _ _

end Reference

theorem algebraic : Cert.algebraic_AdaBwdIdeal_AdaBwdReferenceIdeal := by
  intro m g m' g' _ hargs
  choose C h0 using fun c : Dev Cert.AdaBwdIdeal.nD => exists_ex2 (n0 := 32) (n1 := 1024) (m (((c : Dev Cert.AdaBwdIdeal.nD).tc : Thread Cert.AdaBwdIdeal.nD Cert.AdaBwdIdeal.τ).loc Cert.AdaBwdIdeal.main_arg0))
  choose G h1 using fun c : Dev Cert.AdaBwdIdeal.nD => exists_ex3 (n0 := 2) (n1 := 32) (n2 := 2304) (m (((c : Dev Cert.AdaBwdIdeal.nD).tc : Thread Cert.AdaBwdIdeal.nD Cert.AdaBwdIdeal.τ).loc Cert.AdaBwdIdeal.main_arg1))
  refine ⟨fun c => ex3 2 1024 2304 (grad (C c) (G c)),
    (θ_run Cert.AdaBwdIdeal.defs _ _).mono (fun r h c => ?_) (Cert.AdaBwdIdeal.Value.run_blocks (F := Ideal) m g),
    (θ_run Cert.AdaBwdReferenceIdeal.defs _ _).mono (fun r h c => ?_) (Cert.AdaBwdReferenceIdeal.Value.run (F := Ideal) m' g')⟩
  · obtain ⟨r0, hk⟩ := h c
    exact ⟨r0.trans (a2 ⟨h0 c, h1 c⟩), hk⟩
  · obtain ⟨r0, hk⟩ := h c
    refine ⟨r0.trans ?_, hk⟩
    rw [Cert.AdaBwdReferenceIdeal.Read.val_main_v5_eq, (hargs c).1, (hargs c).2, h0, h1]
    exact ref (C c) (G c)

end Cert.Proof.AdaBwd

end
-- ==== Proof.Colsum.Frames.lean ====
/- The frames of the three programs of the gradient of the conditioning's bias. -/
module

public import proofs.«01_k».proof.Defs
public import proofs.«01_k».proof.Proof.Gen.Colsum.Frame
public import proofs.«01_k».proof.Proof.Gen.ColsumIdeal.Frame
public import proofs.«01_k».proof.Proof.Gen.ColsumIdeal.Value
public import proofs.«01_k».proof.Proof.Gen.ColsumReferenceIdeal.Run
public import proofs.«01_k».proof.Proof.Gen.ColsumReferenceIdeal.Read
public import proofs.«01_k».proof.Proof.Gen.ColsumReferenceIdeal
public import Idealize.ShloMosaic.Adequacy
public import Idealize.ShloMosaic.Init

@[expose] public section

noncomputable section

namespace Cert.Proof.Colsum

open Idealize.ShloMosaic Idealize.SL.Sem Idealize.ShloMosaic.TcCoe

theorem kernel_frame : Cert.quiescent_Colsum := fun m ρ _ => Cert.Colsum.Gen.frame m ρ
theorem kernelIdeal_frame : Cert.quiescent_ColsumIdeal := fun m ρ _ => Cert.ColsumIdeal.Gen.frame m ρ
theorem referenceIdeal_frame : Cert.quiescent_ColsumReferenceIdeal := fun m ρ _ =>
  (θ_run Cert.ColsumReferenceIdeal.defs _ _).mono (fun r h => ⟨fun c => (h c).2, sem_eq_zero_of_no_sems (by decide) r.2⟩)
    (Cert.ColsumReferenceIdeal.Value.run (F := Ideal) m ρ)

end Cert.Proof.Colsum

end
-- ==== Proof.Colsum.Value.lean ====
/- The gradient of the conditioning's bias: the kernel's result array and the reference's, index by index. -/
module

public import Idealize.ShloMosaic.Lib.Pipeline.ReadBack
public import proofs.«01_k».proof.Proof.Fwd
public import proofs.«01_k».proof.Proof.Colsum.Frames

@[expose] public section

set_option maxRecDepth 16384

noncomputable section

namespace Cert.Proof.Colsum

open Idealize.ShloMosaic Idealize.ShloMosaic.TcCoe Idealize.SL.Sem Cert.Ext Cert.Fwd

/-- The gradient of a bias of layer `l`: the sum over the batch. -/
def grad (G : ℕ → ℕ → ℕ → EReal) (l e : ℕ) : EReal := ∑ b : Fin 32, G l b.val e

section Kernel

open Cert.ColsumIdeal Cert.ColsumIdeal.Gen

theorem pay1 (G : ℕ → ℕ → EReal) : k0_pay1 (F := Ideal) (ex3 1 32 9216 fun _ => G) = ex3 1 1 9216 fun _ _ e => ∑ b : Fin 32, G b.val e := by
  funext j; idx_vars j; pointwise [k0_pay1]

variable {m : (ℓ : Loc nD τ sig) → Buf (Elt Ideal) ℓ} {c : Dev nD} {G : ℕ → ℕ → ℕ → EReal}

theorem cube_eq (F : ℕ → ℕ → ℕ → EReal) {a a' b b' c c' : ℕ} (ha : a = a') (hb : b = b') (hc : c = c') : F a b c = F a' b' c' := by
  subst ha hb hc; rfl

theorem i0 : ∀ t : Fin cfg0.N, win0_0.index t = ![t.val, 0, 0] := (by decide +kernel : ∀ t : Fin grid0.N, win0_0.index t = ![t.val, 0, 0])
theorem i1 : ∀ t : Fin cfg0.N, win0_1.index t = ![t.val, 0, 0] := (by decide +kernel : ∀ t : Fin grid0.N, win0_1.index t = ![t.val, 0, 0])

theorem b0 (h : m ((c : Thread nD τ).loc main_arg0) = ex3 2 32 9216 G) (t : Fin cfg0.N) : iblk m c 0 t = ex3 1 32 9216 fun _ b e => G t.val b e := by
  funext y; unfold iblk; idx_vars y; blk_simp; rw [show V m c (Pipeline.arrRef spec0 0) = _ from h]
  exact cube_eq G (by have := y0.isLt; blk_simp [i0 t]) (by blk_simp [i0 t]) (by blk_simp [i0 t])

/-- The output block of layer `t`. -/
abbrev out (G : ℕ → ℕ → ℕ → EReal) (t : ℕ) : S1x1x9216.Idx → Elt Ideal .f32 := ex3 1 1 9216 fun _ _ e => grad G t e

theorem out1 (h : m ((c : Thread nD τ).loc main_arg0) = ex3 2 32 9216 G) (t : Fin cfg0.N) : out0_1 (iblk m c 0 t) = out G t.val := by
  rw [b0 h]
  frame_out
  exact pay1 fun b e => G t.val b e

/-- The result array after the run. -/
theorem a1 (h : m ((c : Thread nD τ).loc main_arg0) = ex3 2 32 9216 G) :
    (dats m 0 c).arrAt 1 cfg0.N = ex3 2 1 9216 fun l _ e => grad G l e := by
  refine (dats m 0 c).arrAt_eq_of_covers 1 _ (by decide +kernel) fun t hf y => ?_
  blk_simp
  rw [after0_1, out1 h]
  idx_vars y
  refine mat_eq (grad G) ?_ ?_ <;> have := y0.isLt <;> blk_simp [i1 t]

end Kernel

section Reference

open Cert.ColsumReferenceIdeal Cert.ColsumReferenceIdeal.Read

theorem ref (G : ℕ → ℕ → ℕ → EReal) : val_main_v3 (F := Ideal) (ex3 2 32 9216 G) = ex3 2 1 9216 fun l _ e => grad G l e := by
  funext j; idx_vars j; pointwise [val_main_v3, val_main_v2, val_main_cst_0]; rfl

end Reference

theorem algebraic : Cert.algebraic_ColsumIdeal_ColsumReferenceIdeal := by
  intro m g m' g' _ hargs
  choose G h0 using fun c : Dev Cert.ColsumIdeal.nD => exists_ex3 (n0 := 2) (n1 := 32) (n2 := 9216) (m (((c : Dev Cert.ColsumIdeal.nD).tc : Thread Cert.ColsumIdeal.nD Cert.ColsumIdeal.τ).loc Cert.ColsumIdeal.main_arg0))
  refine ⟨fun c => ex3 2 1 9216 fun l _ e => grad (G c) l e,
    (θ_run Cert.ColsumIdeal.defs _ _).mono (fun r h c => ?_) (Cert.ColsumIdeal.Value.run_blocks (F := Ideal) m g),
    (θ_run Cert.ColsumReferenceIdeal.defs _ _).mono (fun r h c => ?_) (Cert.ColsumReferenceIdeal.Value.run (F := Ideal) m' g')⟩
  · obtain ⟨r0, hk⟩ := h c
    exact ⟨r0.trans (a1 (h0 c)), hk⟩
  · obtain ⟨r0, hk⟩ := h c
    refine ⟨r0.trans ?_, hk⟩
    rw [Cert.ColsumReferenceIdeal.Read.val_main_v3_eq, hargs c, h0]
    exact ref (G c)

end Cert.Proof.Colsum

end
-- ==== Proof.Adamw.Frames.lean ====
/- The frames of the three programs of the weight update. -/
module

public import proofs.«01_k».proof.Defs
public import proofs.«01_k».proof.Proof.Gen.Adamw.Frame
public import proofs.«01_k».proof.Proof.Gen.AdamwIdeal.Frame
public import proofs.«01_k».proof.Proof.Gen.AdamwIdeal.Value
public import proofs.«01_k».proof.Proof.Gen.AdamwReferenceIdeal.Run
public import proofs.«01_k».proof.Proof.Gen.AdamwReferenceIdeal.Read
public import proofs.«01_k».proof.Proof.Gen.AdamwReferenceIdeal
public import Idealize.ShloMosaic.Adequacy
public import Idealize.ShloMosaic.Init

@[expose] public section

noncomputable section

namespace Cert.Proof.Adamw

open Idealize.ShloMosaic Idealize.SL.Sem Idealize.ShloMosaic.TcCoe

theorem kernel_frame : Cert.quiescent_Adamw := fun m ρ _ => Cert.Adamw.Gen.frame m ρ
theorem kernelIdeal_frame : Cert.quiescent_AdamwIdeal := fun m ρ _ => Cert.AdamwIdeal.Gen.frame m ρ
theorem referenceIdeal_frame : Cert.quiescent_AdamwReferenceIdeal := fun m ρ _ =>
  (θ_run Cert.AdamwReferenceIdeal.defs _ _).mono (fun r h => ⟨fun c => (h c).2.2.2.2, sem_eq_zero_of_no_sems (by decide) r.2⟩)
    (Cert.AdamwReferenceIdeal.Value.run (F := Ideal) m ρ)

end Cert.Proof.Adamw

end
-- ==== Proof.Adamw.Value.lean ====
/- The weight update (AdamW): the kernel's result arrays and the reference's, index by index. -/
module

public import Idealize.ShloMosaic.Lib.Pipeline.ReadBack
public import proofs.«01_k».proof.Proof.Fwd
public import proofs.«01_k».proof.Proof.Adamw.Frames

@[expose] public section

set_option maxRecDepth 16384

noncomputable section

namespace Cert.Proof.Adamw

open Idealize.ShloMosaic Idealize.ShloMosaic.TcCoe Idealize.SL.Sem Cert.Ext Cert.Fwd

/-- The first moment: 0.9 of the old one, 0.1 of the gradient. -/
def mom (g m : EReal) : EReal := Ideal.ofBits .f32 0x3F666666#32 * m + Ideal.ofBits .f32 0x3DCCCCCD#32 * g
/-- The second moment: 0.999 of the old one, 0.001 of the gradient's square. -/
def sqm (g v : EReal) : EReal := Ideal.ofBits .f32 0x3F7FBE77#32 * v + Ideal.ofBits .f32 0x3A83126F#32 * (g * g)
/-- The update: the moments without their bias, the weight decay, and the rate. -/
def upd (w g m v : EReal) : EReal :=
  Ideal.ofBits .f32 0xBA83126F#32 *
    (Ideal.div (Ideal.div (mom g m) (Ideal.ofBits .f32 0x3F26BD02#32))
        (Ideal.sqrt (Ideal.div (sqm g v) (Ideal.ofBits .f32 0x3C231ACC#32)) + Ideal.ofBits .f32 0x322BCC77#32)
      + Ideal.ofBits .f32 0x3C23D70A#32 * w)

/-- A weight, its gradient and its moments: row, column. -/
structure In where
  w : ℕ → ℕ → EReal
  g : ℕ → ℕ → EReal
  m : ℕ → ℕ → EReal
  v : ℕ → ℕ → EReal

def In.d (I : In) (r e : ℕ) : EReal := upd (I.w r e) (I.g r e) (I.m r e) (I.v r e)
def In.nm (I : In) (r e : ℕ) : EReal := mom (I.g r e) (I.m r e)
def In.nv (I : In) (r e : ℕ) : EReal := sqm (I.g r e) (I.v r e)

section Kernel

open Cert.AdamwIdeal Cert.AdamwIdeal.Gen

/-! ### The body's values on one tile of 128 rows -/

variable (w g p q : ℕ → ℕ → EReal)

theorem pay1 : k0_pay1 (F := Ideal) (ex2 128 1408 g) (ex2 128 1408 p) = ex2 128 1408 fun r e => mom (g r e) (p r e) := by
  funext j; idx_vars j; pointwise [k0_pay1]; rfl
theorem pay2 : k0_pay2 (F := Ideal) (ex2 128 1408 g) (ex2 128 1408 q) = ex2 128 1408 fun r e => sqm (g r e) (q r e) := by
  funext j; idx_vars j; pointwise [k0_pay2]; rfl
theorem pay3 : k0_pay3 (F := Ideal) (ex2 128 1408 g) (ex2 128 1408 p) (ex2 128 1408 q) (ex2 128 1408 w)
    = ex2 128 1408 fun r e => upd (w r e) (g r e) (p r e) (q r e) := by
  unfold k0_pay3; rw [pay1, pay2]; funext j; idx_vars j; pointwise []; rfl

/-! ### The blocks that a grid point reads -/

variable {m : (ℓ : Loc nD τ sig) → Buf (Elt Ideal) ℓ} {c : Dev nD} {I : In}

/-- The argument arrays of device `c`. -/
structure Args (m : (ℓ : Loc nD τ sig) → Buf (Elt Ideal) ℓ) (c : Dev nD) (I : In) : Prop where
  a0 : m ((c : Thread nD τ).loc main_arg0) = ex2 2048 1408 I.w
  a1 : m ((c : Thread nD τ).loc main_arg1) = ex2 2048 1408 I.g
  a2 : m ((c : Thread nD τ).loc main_arg2) = ex2 2048 1408 I.m
  a3 : m ((c : Thread nD τ).loc main_arg3) = ex2 2048 1408 I.v

theorem i0 : ∀ t : Fin cfg0.N, win0_0.index t = ![t.val, 0] := (by decide +kernel : ∀ t : Fin grid0.N, win0_0.index t = ![t.val, 0])
theorem i1 : ∀ t : Fin cfg0.N, win0_1.index t = ![t.val, 0] := (by decide +kernel : ∀ t : Fin grid0.N, win0_1.index t = ![t.val, 0])
theorem i2 : ∀ t : Fin cfg0.N, win0_2.index t = ![t.val, 0] := (by decide +kernel : ∀ t : Fin grid0.N, win0_2.index t = ![t.val, 0])
theorem i3 : ∀ t : Fin cfg0.N, win0_3.index t = ![t.val, 0] := (by decide +kernel : ∀ t : Fin grid0.N, win0_3.index t = ![t.val, 0])
theorem i4 : ∀ t : Fin cfg0.N, win0_4.index t = ![t.val, 0] := (by decide +kernel : ∀ t : Fin grid0.N, win0_4.index t = ![t.val, 0])
theorem i5 : ∀ t : Fin cfg0.N, win0_5.index t = ![t.val, 0] := (by decide +kernel : ∀ t : Fin grid0.N, win0_5.index t = ![t.val, 0])
theorem i6 : ∀ t : Fin cfg0.N, win0_6.index t = ![t.val, 0] := (by decide +kernel : ∀ t : Fin grid0.N, win0_6.index t = ![t.val, 0])
theorem i7 : ∀ t : Fin cfg0.N, win0_7.index t = ![t.val, 0] := (by decide +kernel : ∀ t : Fin grid0.N, win0_7.index t = ![t.val, 0])

theorem b0 (h : Args m c I) (t : Fin cfg0.N) : iblk m c 0 t = ex2 128 1408 fun r => I.w (t.val * 128 + r) := by
  funext y; unfold iblk; idx_vars y; blk_simp; rw [show V m c (Pipeline.arrRef spec0 0) = _ from h.a0]
  exact mat_eq I.w (by blk_simp [i0 t]) (by blk_simp [i0 t])
theorem b1 (h : Args m c I) (t : Fin cfg0.N) : iblk m c 1 t = ex2 128 1408 fun r => I.g (t.val * 128 + r) := by
  funext y; unfold iblk; idx_vars y; blk_simp; rw [show V m c (Pipeline.arrRef spec0 1) = _ from h.a1]
  exact mat_eq I.g (by blk_simp [i1 t]) (by blk_simp [i1 t])
theorem b2 (h : Args m c I) (t : Fin cfg0.N) : iblk m c 2 t = ex2 128 1408 fun r => I.m (t.val * 128 + r) := by
  funext y; unfold iblk; idx_vars y; blk_simp; rw [show V m c (Pipeline.arrRef spec0 2) = _ from h.a2]
  exact mat_eq I.m (by blk_simp [i2 t]) (by blk_simp [i2 t])
theorem b3 (h : Args m c I) (t : Fin cfg0.N) : iblk m c 3 t = ex2 128 1408 fun r => I.v (t.val * 128 + r) := by
  funext y; unfold iblk; idx_vars y; blk_simp; rw [show V m c (Pipeline.arrRef spec0 3) = _ from h.a3]
  exact mat_eq I.v (by blk_simp [i3 t]) (by blk_simp [i3 t])

/-! ### The result arrays -/

/-- The tile `t` of a result. -/
abbrev out (f : ℕ → ℕ → EReal) (t : ℕ) : S128x1408.Idx → Elt Ideal .f32 := ex2 128 1408 fun r => f (t * 128 + r)

theorem out4 (h : Args m c I) (t : Fin cfg0.N) : out0_4 (iblk m c 0 t) (iblk m c 1 t) (iblk m c 2 t) (iblk m c 3 t) = out I.d t.val := by
  rw [b0 h, b1 h, b2 h, b3 h]
  frame_out
  simp only [pay3]
  rfl
theorem out5 (h : Args m c I) (t : Fin cfg0.N) : out0_5 (iblk m c 0 t) (iblk m c 1 t) (iblk m c 2 t) (iblk m c 3 t) = out I.nm t.val := by
  rw [b0 h, b1 h, b2 h, b3 h]
  frame_out
  simp only [pay1]
  rfl
theorem out6 (h : Args m c I) (t : Fin cfg0.N) : out0_6 (iblk m c 0 t) (iblk m c 1 t) (iblk m c 2 t) (iblk m c 3 t) = out I.nv t.val := by
  rw [b0 h, b1 h, b2 h, b3 h]
  frame_out
  simp only [pay2]
  rfl
theorem out7 (h : Args m c I) (t : Fin cfg0.N) : out0_7 (iblk m c 0 t) (iblk m c 1 t) (iblk m c 2 t) (iblk m c 3 t) = out I.g t.val := by
  rw [b0 h, b1 h, b2 h, b3 h]
  frame_out

theorem a4 (h : Args m c I) : (dats m 0 c).arrAt 4 cfg0.N = ex2 2048 1408 I.d := by
  refine (dats m 0 c).arrAt_eq_of_covers 4 _ (by decide +kernel) fun t hf y => ?_
  blk_simp
  rw [after0_4, out4 h]
  idx_vars y
  refine mat_eq I.d ?_ ?_ <;> blk_simp [i4 t]
theorem a5 (h : Args m c I) : (dats m 0 c).arrAt 5 cfg0.N = ex2 2048 1408 I.nm := by
  refine (dats m 0 c).arrAt_eq_of_covers 5 _ (by decide +kernel) fun t hf y => ?_
  blk_simp
  rw [after0_5, out5 h]
  idx_vars y
  refine mat_eq I.nm ?_ ?_ <;> blk_simp [i5 t]
theorem a6 (h : Args m c I) : (dats m 0 c).arrAt 6 cfg0.N = ex2 2048 1408 I.nv := by
  refine (dats m 0 c).arrAt_eq_of_covers 6 _ (by decide +kernel) fun t hf y => ?_
  blk_simp
  rw [after0_6, out6 h]
  idx_vars y
  refine mat_eq I.nv ?_ ?_ <;> blk_simp [i6 t]
theorem a7 (h : Args m c I) : (dats m 0 c).arrAt 7 cfg0.N = ex2 2048 1408 I.g := by
  refine (dats m 0 c).arrAt_eq_of_covers 7 _ (by decide +kernel) fun t hf y => ?_
  blk_simp
  rw [after0_7, out7 h]
  idx_vars y
  refine mat_eq I.g ?_ ?_ <;> blk_simp [i7 t]

end Kernel

section Reference

open Cert.AdamwReferenceIdeal Cert.AdamwReferenceIdeal.Read

variable (I : In)

theorem r1 : val_main_v4 (F := Ideal) (ex2 2048 1408 I.g) (ex2 2048 1408 I.m) = ex2 2048 1408 I.nm := by
  funext j; idx_vars j; pointwise [val_main_v4, val_main_v3, val_main_v2, val_main_v1, val_main_v0, val_main_cst, val_main_cst_0]; rfl
theorem r2 : val_main_v10 (F := Ideal) (ex2 2048 1408 I.g) (ex2 2048 1408 I.v) = ex2 2048 1408 I.nv := by
  funext j; idx_vars j
  pointwise [val_main_v10, val_main_v9, val_main_v8, val_main_v7, val_main_v6, val_main_v5, val_main_cst_1, val_main_cst_2]; rfl
theorem r0 : val_main_v23 (F := Ideal) (ex2 2048 1408 I.w) (ex2 2048 1408 I.g) (ex2 2048 1408 I.m) (ex2 2048 1408 I.v) = ex2 2048 1408 I.d := by
  rw [val_main_v23, val_main_v21, val_main_v18, val_main_v17, val_main_v15, val_main_v14, val_main_v12, r1, r2]
  funext j; idx_vars j
  pointwise [val_main_v22, val_main_v20, val_main_v19, val_main_v16, val_main_v13, val_main_v11, val_main_cst_3, val_main_cst_4, val_main_cst_5,
    val_main_cst_6, val_main_cst_7]
  rfl

end Reference

theorem algebraic : Cert.algebraic_AdamwIdeal_AdamwReferenceIdeal := by
  intro m g m' g' _ hargs
  choose w h0 using fun c : Dev Cert.AdamwIdeal.nD => exists_ex2 (n0 := 2048) (n1 := 1408) (m (((c : Dev Cert.AdamwIdeal.nD).tc : Thread Cert.AdamwIdeal.nD Cert.AdamwIdeal.τ).loc Cert.AdamwIdeal.main_arg0))
  choose gr h1 using fun c : Dev Cert.AdamwIdeal.nD => exists_ex2 (n0 := 2048) (n1 := 1408) (m (((c : Dev Cert.AdamwIdeal.nD).tc : Thread Cert.AdamwIdeal.nD Cert.AdamwIdeal.τ).loc Cert.AdamwIdeal.main_arg1))
  choose p h2 using fun c : Dev Cert.AdamwIdeal.nD => exists_ex2 (n0 := 2048) (n1 := 1408) (m (((c : Dev Cert.AdamwIdeal.nD).tc : Thread Cert.AdamwIdeal.nD Cert.AdamwIdeal.τ).loc Cert.AdamwIdeal.main_arg2))
  choose q h3 using fun c : Dev Cert.AdamwIdeal.nD => exists_ex2 (n0 := 2048) (n1 := 1408) (m (((c : Dev Cert.AdamwIdeal.nD).tc : Thread Cert.AdamwIdeal.nD Cert.AdamwIdeal.τ).loc Cert.AdamwIdeal.main_arg3))
  let I : Dev Cert.AdamwIdeal.nD → In := fun c => ⟨w c, gr c, p c, q c⟩
  have hA : ∀ c, Args m c (I c) := fun c => ⟨h0 c, h1 c, h2 c, h3 c⟩
  refine ⟨fun c => ex2 2048 1408 (I c).d, fun c => ex2 2048 1408 (I c).nm, fun c => ex2 2048 1408 (I c).nv, fun c => ex2 2048 1408 (I c).g,
    (θ_run Cert.AdamwIdeal.defs _ _).mono (fun r h c => ?_) (Cert.AdamwIdeal.Value.run_blocks (F := Ideal) m g),
    (θ_run Cert.AdamwReferenceIdeal.defs _ _).mono (fun r h c => ?_) (Cert.AdamwReferenceIdeal.Value.run (F := Ideal) m' g')⟩
  · obtain ⟨r0, r1, r2, r3, hk⟩ := h c
    exact ⟨r0.trans (a4 (hA c)), r1.trans (a5 (hA c)), r2.trans (a6 (hA c)), r3.trans (a7 (hA c)), hk⟩
  · obtain ⟨r0, r1, r2, r3, hk⟩ := h c
    have e := hargs c
    refine ⟨r0.trans ?_, r1.trans ?_, r2.trans ?_, r3.trans (e.2.1.trans (h1 c)), hk⟩
    · rw [Cert.AdamwReferenceIdeal.Read.val_main_v23_eq, e.1, h0, e.2.1, h1, e.2.2.1, h2, e.2.2.2, h3]
      exact Adamw.r0 (I c)
    · rw [Cert.AdamwReferenceIdeal.Read.val_main_v4_eq, e.2.1, h1, e.2.2.1, h2]
      exact Adamw.r1 (I c)
    · rw [Cert.AdamwReferenceIdeal.Read.val_main_v10_eq, e.2.1, h1, e.2.2.2, h3]
      exact Adamw.r2 (I c)

end Cert.Proof.Adamw

end
-- ==== Proof.lean ====
/- The claims of this directory, put together. -/
module

public import proofs.«01_k».proof.Proof.Algebraic
public import proofs.«01_k».proof.Proof.WgradGu.Value
public import proofs.«01_k».proof.Proof.WgradDown.Value
public import proofs.«01_k».proof.Proof.WgradIn.Value
public import proofs.«01_k».proof.Proof.WgradOut.Value
public import proofs.«01_k».proof.Proof.FfnFwd.Algebraic
public import proofs.«01_k».proof.Proof.FfnUp.Algebraic
public import proofs.«01_k».proof.Proof.FfnDown.Algebraic
public import proofs.«01_k».proof.Proof.MixinBwd.Algebraic
public import proofs.«01_k».proof.Proof.FfnHead.Algebraic
public import proofs.«01_k».proof.Proof.AdaFwd.Value
public import proofs.«01_k».proof.Proof.AdaBwd.Value
public import proofs.«01_k».proof.Proof.Colsum.Value
public import proofs.«01_k».proof.Proof.Adamw.Value

@[expose] public section

noncomputable section

namespace Cert.Proof

theorem claim : Cert.Claim :=
  ⟨Cert.Kernel.Gen.facts, Cert.KernelIdeal.Gen.facts, Cert.ReferenceIdeal.Gen.facts,
    Cert.WgradGu.Gen.facts, Cert.WgradGuIdeal.Gen.facts, Cert.WgradGuReferenceIdeal.Gen.facts,
    Cert.WgradDown.Gen.facts, Cert.WgradDownIdeal.Gen.facts, Cert.WgradDownReferenceIdeal.Gen.facts,
    Cert.WgradIn.Gen.facts, Cert.WgradInIdeal.Gen.facts, Cert.WgradInReferenceIdeal.Gen.facts,
    Cert.WgradOut.Gen.facts, Cert.WgradOutIdeal.Gen.facts, Cert.WgradOutReferenceIdeal.Gen.facts,
    Cert.FfnFwd.Gen.facts, Cert.FfnFwdIdeal.Gen.facts, Cert.FfnFwdReferenceIdeal.Gen.facts,
    Cert.FfnUp.Gen.facts, Cert.FfnUpIdeal.Gen.facts, Cert.FfnUpReferenceIdeal.Gen.facts,
    Cert.FfnDown.Gen.facts, Cert.FfnDownIdeal.Gen.facts, Cert.FfnDownReferenceIdeal.Gen.facts,
    Cert.MixinBwd.Gen.facts, Cert.MixinBwdIdeal.Gen.facts, Cert.MixinBwdReferenceIdeal.Gen.facts,
    Cert.FfnHead.Gen.facts, Cert.FfnHeadIdeal.Gen.facts, Cert.FfnHeadReferenceIdeal.Gen.facts,
    Cert.AdaFwd.Gen.facts, Cert.AdaFwdIdeal.Gen.facts, Cert.AdaFwdReferenceIdeal.Gen.facts,
    Cert.AdaBwd.Gen.facts, Cert.AdaBwdIdeal.Gen.facts, Cert.AdaBwdReferenceIdeal.Gen.facts,
    Cert.Colsum.Gen.facts, Cert.ColsumIdeal.Gen.facts, Cert.ColsumReferenceIdeal.Gen.facts,
    Cert.Adamw.Gen.facts, Cert.AdamwIdeal.Gen.facts, Cert.AdamwReferenceIdeal.Gen.facts,
    Cert.Finite.facts,
    kernel_frame, kernelIdeal_frame, kernelIdeal_frame_finite, referenceIdeal_frame, referenceIdeal_frame_finite,
    WgradGu.kernel_frame, WgradGu.kernelIdeal_frame, WgradGu.referenceIdeal_frame,
    WgradDown.kernel_frame, WgradDown.kernelIdeal_frame, WgradDown.referenceIdeal_frame,
    WgradIn.kernel_frame, WgradIn.kernelIdeal_frame, WgradIn.referenceIdeal_frame,
    WgradOut.kernel_frame, WgradOut.kernelIdeal_frame, WgradOut.referenceIdeal_frame,
    FfnFwd.kernel_frame, FfnFwd.kernelIdeal_frame, FfnFwd.referenceIdeal_frame,
    FfnUp.kernel_frame, FfnUp.kernelIdeal_frame, FfnUp.referenceIdeal_frame,
    FfnDown.kernel_frame, FfnDown.kernelIdeal_frame, FfnDown.referenceIdeal_frame,
    MixinBwd.kernel_frame, MixinBwd.kernelIdeal_frame, MixinBwd.referenceIdeal_frame,
    FfnHead.kernel_frame, FfnHead.kernelIdeal_frame, FfnHead.referenceIdeal_frame,
    AdaFwd.kernel_frame, AdaFwd.kernelIdeal_frame, AdaFwd.referenceIdeal_frame,
    AdaBwd.kernel_frame, AdaBwd.kernelIdeal_frame, AdaBwd.referenceIdeal_frame,
    Colsum.kernel_frame, Colsum.kernelIdeal_frame, Colsum.referenceIdeal_frame,
    Adamw.kernel_frame, Adamw.kernelIdeal_frame, Adamw.referenceIdeal_frame,
    trivial, algebraic,
    trivial, WgradGu.algebraic,
    trivial, WgradDown.algebraic,
    trivial, WgradIn.algebraic,
    trivial, WgradOut.algebraic,
    trivial, FfnFwd.algebraic,
    trivial, FfnUp.algebraic,
    trivial, FfnDown.algebraic,
    trivial, MixinBwd.algebraic,
    trivial, FfnHead.algebraic,
    trivial, AdaFwd.algebraic,
    trivial, AdaBwd.algebraic,
    trivial, Colsum.algebraic,
    trivial, Adamw.algebraic⟩

end Cert.Proof

end
